-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0_0) = v0 c
          ∧ r.2.mem ((c.tc : Thread Cert.UpReferenceIdeal.nD Cert.UpReferenceIdeal.τ).loc Cert.UpReferenceIdeal.main_v0_1) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal (hUpIdeal := hUpIdeal) (hUpReferenceIdeal := hUpReferenceIdeal)
-- ==== Kernel.lean ====
abbrev S2x128x7680 : Shape := ⟨3, ![2, 128, 7680]⟩
abbrev S2x128 : Shape := ⟨2, ![2, 128]⟩
abbrev S2x128x2880 : Shape := ⟨3, ![2, 128, 2880]⟩
abbrev S7680x2880 : Shape := ⟨2, ![7680, 2880]⟩
abbrev S2880 : Shape := ⟨1, ![2880]⟩
abbrev S256x7680 : Shape := ⟨2, ![256, 7680]⟩
abbrev S256x2880 : Shape := ⟨2, ![256, 2880]⟩
abbrev S2880x256 : Shape := ⟨2, ![2880, 256]⟩
abbrev S2880x7680 : Shape := ⟨2, ![2880, 7680]⟩
abbrev S2x2880x128 : Shape := ⟨3, ![2, 2880, 128]⟩
abbrev S161280x256 : Shape := ⟨2, ![161280, 256]⟩
abbrev S4x2x128 : Shape := ⟨3, ![4, 2, 128]⟩
abbrev S15 : Shape := ⟨1, ![15]⟩
abbrev S84 : Shape := ⟨1, ![84]⟩
abbrev S14 : Shape := ⟨1, ![14]⟩
abbrev S1 : Shape := ⟨1, ![1]⟩
abbrev S_ : Shape := ⟨0, ![]⟩
abbrev S1x2x128 : Shape := ⟨3, ![1, 2, 128]⟩
abbrev S1x128 : Shape := ⟨2, ![1, 128]⟩
abbrev S256x256 : Shape := ⟨2, ![256, 256]⟩
abbrev S64x256 : Shape := ⟨2, ![64, 256]⟩
abbrev S768x256 : Shape := ⟨2, ![768, 256]⟩
abbrev S128 : Shape := ⟨1, ![128]⟩
abbrev S128x128 : Shape := ⟨2, ![128, 128]⟩
abbrev S1x1x128 : Shape := ⟨3, ![1, 1, 128]⟩
abbrev S576x256 : Shape := ⟨2, ![576, 256]⟩
abbrev S64 : Shape := ⟨1, ![64]⟩
abbrev S1x64 : Shape := ⟨2, ![1, 64]⟩
abbrev S128x64 : Shape := ⟨2, ![128, 64]⟩
abbrev S64x128 : Shape := ⟨2, ![64, 128]⟩
abbrev S1x2880x128 : Shape := ⟨3, ![1, 2880, 128]⟩
abbrev S2880x128 : Shape := ⟨2, ![2880, 128]⟩

abbrev nBuf : Space → Nat
  | .hbm => 12
  | .vmem => 10
  | .smem => 0
  | _ => 0

abbrev bufTy : (tb : Table) → Fin (tcTables nBuf tb) → BufTy
  | .hbm, ⟨0, _⟩ => ⟨S2x128x7680, .fp8e4m3⟩
  | .hbm, ⟨1, _⟩ => ⟨S2x128, .f32⟩
  | .hbm, ⟨2, _⟩ => ⟨S2x128x2880, .f32⟩
  | .hbm, ⟨3, _⟩ => ⟨S2x128, .i32⟩
  | .hbm, ⟨4, _⟩ => ⟨S7680x2880, .fp8e4m3⟩
  | .hbm, ⟨5, _⟩ => ⟨S2880, .f32⟩
  | .hbm, ⟨6, _⟩ => ⟨S2880, .f32⟩
  | .hbm, ⟨7, _⟩ => ⟨S256x7680, .fp8e4m3⟩
  | .hbm, ⟨8, _⟩ => ⟨S256x2880, .f32⟩
  | .hbm, ⟨9, _⟩ => ⟨S2880x256, .f32⟩
  | .hbm, ⟨10, _⟩ => ⟨S2880x7680, .fp8e4m3⟩
  | .hbm, ⟨11, _⟩ => ⟨S2x2880x128, .bf16⟩
  | .local _ .vmem, ⟨0, _⟩ => ⟨S256x7680, .fp8e4m3⟩
  | .local _ .vmem, ⟨1, _⟩ => ⟨S2x128, .f32⟩
  | .local _ .vmem, ⟨2, _⟩ => ⟨S2880x256, .f32⟩
  | .local _ .vmem, ⟨3, _⟩ => ⟨S2880x256, .bf16⟩
  | .local _ .vmem, ⟨4, _⟩ => ⟨S2x128, .i32⟩
  | .local _ .vmem, ⟨5, _⟩ => ⟨S2880, .f32⟩
  | .local _ .vmem, ⟨6, _⟩ => ⟨S2880, .f32⟩
  | .local _ .vmem, ⟨7, _⟩ => ⟨S161280x256, .fp8e4m3⟩
  | .local _ .vmem, ⟨8, _⟩ => ⟨S2880x256, .f32⟩
  | .local _ .vmem, ⟨9, _⟩ => ⟨S4x2x128, .f32⟩
  | _, _ => ⟨S2x128x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_r0 : BitVec 32 := 0#32
  let c30_i32_r0 : BitVec 32 := 30#32
  let v9_r0 : BitVec 32 := Scalar.addi c0_i32_r0 c30_i32_r0
  let c1_i32_r0 : BitVec 32 := 1#32
  ⟨c0_i32_r0, v9_r0, c1_i32_r0⟩
def k0_mult1 (k0_t1 : Fin k0_t1_loop.trips) : BitVec 32 :=
  let c0_i32_165_r0 : BitVec 32 := 0#32
  let c0_i32_r0 : BitVec 32 := 0#32
  let c1_i32_r0 : BitVec 32 := 1#32
  let arg15_r0 : BitVec 32 := Scf.iv c0_i32_r0 c1_i32_r0 k0_t1
  let c1_i32_164_r0 : BitVec 32 := 1#32
  let v373_r0 : BitVec 32 := Scalar.muli arg15_r0 c1_i32_164_r0
  let v374_r0 : BitVec 32 := Scalar.addi c0_i32_165_r0 v373_r0
  let c256_i32_r0 : BitVec 32 := 256#32
  let v376_r0 : BitVec 32 := Scalar.muli v374_r0 c256_i32_r0
  v376_r0
def k0_mult2 (k0_t1 : Fin k0_t1_loop.trips) : BitVec 32 :=
  let c0_i32_165_r0 : BitVec 32 := 0#32
  let c0_i32_r0 : BitVec 32 := 0#32
  let c1_i32_r0 : BitVec 32 := 1#32
  let arg15_r0 : BitVec 32 := Scf.iv c0_i32_r0 c1_i32_r0 k0_t1
  let c1_i32_164_r0 : BitVec 32 := 1#32
  let v373_r0 : BitVec 32 := Scalar.muli arg15_r0 c1_i32_164_r0
  let v374_r0 : BitVec 32 := Scalar.addi c0_i32_165_r0 v373_r0
  let c2880_i32_r0 : BitVec 32 := 2880#32
  let v378_r0 : BitVec 32 := Scalar.muli v374_r0 c2880_i32_r0
  let c0_i32_166_r0 : BitVec 32 := 0#32
  let v379_r0 : BitVec 32 := Scalar.addi v378_r0 c0_i32_166_r0
  v379_r0
def k0_off1 (k0_t1 : Fin k0_t1_loop.trips) : Fin 1 → Nat :=
  let c54_i32_r0 : BitVec 32 := 54#32
  let c0_i32_165_r0 : BitVec 32 := 0#32
  let c0_i32_r0 : BitVec 32 := 0#32
  let c1_i32_r0 : BitVec 32 := 1#32
  let arg15_r0 : BitVec 32 := Scf.iv c0_i32_r0 c1_i32_r0 k0_t1
  let c1_i32_164_r0 : BitVec 32 := 1#32
  let v373_r0 : BitVec 32 := Scalar.muli arg15_r0 c1_i32_164_r0
  let v374_r0 : BitVec 32 := Scalar.addi c0_i32_165_r0 v373_r0
  let v375_r0 : BitVec 32 := Scalar.addi c54_i32_r0 v374_r0
  ![v375_r0.toNat]
def k0_off2 (k0_t1 : Fin k0_t1_loop.trips) : Fin 2 → Nat :=
  let c0_i32_165_r0 : BitVec 32 := 0#32
  let c0_i32_r0 : BitVec 32 := 0#32
  let c1_i32_r0 : BitVec 32 := 1#32
  let arg15_r0 : BitVec 32 := Scf.iv c0_i32_r0 c1_i32_r0 k0_t1
  let c1_i32_164_r0 : BitVec 32 := 1#32
  let v373_r0 : BitVec 32 := Scalar.muli arg15_r0 c1_i32_164_r0
  let v374_r0 : BitVec 32 := Scalar.addi c0_i32_165_r0 v373_r0
  let c2880_i32_r0 : BitVec 32 := 2880#32
  let v378_r0 : BitVec 32 := Scalar.muli v374_r0 c2880_i32_r0
  let c0_i32_166_r0 : BitVec 32 := 0#32
  let v379_r0 : BitVec 32 := Scalar.addi v378_r0 c0_i32_166_r0
  let v380_r0 : BitVec 32 := v379_r0
  let c0_i32_167_r0 : BitVec 32 := 0#32
  ![v380_r0.toNat, 0]
def k0_off3 (k0_t1 : Fin k0_t1_loop.trips) : Fin 2 → Nat :=
  let c0_i32_168_r0 : BitVec 32 := 0#32
  let c0_i32_165_r0 : BitVec 32 := 0#32
  let c0_i32_r0 : BitVec 32 := 0#32
  let c1_i32_r0 : BitVec 32 := 1#32
  let arg15_r0 : BitVec 32 := Scf.iv c0_i32_r0 c1_i32_r0 k0_t1
  let c1_i32_164_r0 : BitVec 32 := 1#32
  let v373_r0 : BitVec 32 := Scalar.muli arg15_r0 c1_i32_164_r0
  let v374_r0 : BitVec 32 := Scalar.addi c0_i32_165_r0 v373_r0
  let c256_i32_r0 : BitVec 32 := 256#32
  let v376_r0 : BitVec 32 := Scalar.muli v374_r0 c256_i32_r0
  let v377_r0 : BitVec 32 := v376_r0
  ![0, v377_r0.toNat]
@[reducible] def k0_t2_loop : Scf.Loop 32 :=
  let c0_i32_13_r0 : BitVec 32 := 0#32
  let c4_i32_r0 : BitVec 32 := 4#32
  let v30_r0 : BitVec 32 := Scalar.addi c0_i32_13_r0 c4_i32_r0
  let c1_i32_14_r0 : BitVec 32 := 1#32
  ⟨c0_i32_13_r0, v30_r0, c1_i32_14_r0⟩
def k0_mult3 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_167_r0 : BitVec 32 := 0#32
  let v376_r0 : BitVec 32 := Scalar.addi v375_r0 c0_i32_167_r0
  let c256_i32_r0 : BitVec 32 := 256#32
  let v378_r0 : BitVec 32 := Scalar.muli v376_r0 c256_i32_r0
  v378_r0
def k0_mult4 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_167_r0 : BitVec 32 := 0#32
  let v376_r0 : BitVec 32 := Scalar.addi v375_r0 c0_i32_167_r0
  let c2880_i32_r0 : BitVec 32 := 2880#32
  let v380_r0 : BitVec 32 := Scalar.muli v376_r0 c2880_i32_r0
  let c0_i32_168_r0 : BitVec 32 := 0#32
  let v381_r0 : BitVec 32 := Scalar.addi v380_r0 c0_i32_168_r0
  v381_r0
def k0_off4 (k0_t2 : Fin k0_t2_loop.trips) (c0_i32_167_r0 : BitVec 32) : Fin 1 → Nat :=
  let c54_i32_r0 : BitVec 32 := 54#32
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let v376_r0 : BitVec 32 := Scalar.addi v375_r0 c0_i32_167_r0
  let v377_r0 : BitVec 32 := Scalar.addi c54_i32_r0 v376_r0
  ![v377_r0.toNat]
def k0_off5 (k0_t2 : Fin k0_t2_loop.trips) (c0_i32_167_r0 : BitVec 32) : Fin 2 → Nat :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let v376_r0 : BitVec 32 := Scalar.addi v375_r0 c0_i32_167_r0
  let c2880_i32_r0 : BitVec 32 := 2880#32
  let v380_r0 : BitVec 32 := Scalar.muli v376_r0 c2880_i32_r0
  let c0_i32_168_r0 : BitVec 32 := 0#32
  let v381_r0 : BitVec 32 := Scalar.addi v380_r0 c0_i32_168_r0
  let v382_r0 : BitVec 32 := v381_r0
  let c0_i32_169_r0 : BitVec 32 := 0#32
  ![v382_r0.toNat, 0]
def k0_off6 (k0_t2 : Fin k0_t2_loop.trips) (c0_i32_167_r0 : BitVec 32) : Fin 2 → Nat :=
  let c0_i32_170_r0 : BitVec 32 := 0#32
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let v376_r0 : BitVec 32 := Scalar.addi v375_r0 c0_i32_167_r0
  let c256_i32_r0 : BitVec 32 := 256#32
  let v378_r0 : BitVec 32 := Scalar.muli v376_r0 c256_i32_r0
  let v379_r0 : BitVec 32 := v378_r0
  ![0, v379_r0.toNat]
def k0_mult5 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_171_r0 : BitVec 32 := 1#32
  let v387_r0 : BitVec 32 := Scalar.addi v375_r0 c1_i32_171_r0
  let c256_i32_173_r0 : BitVec 32 := 256#32
  let v389_r0 : BitVec 32 := Scalar.muli v387_r0 c256_i32_173_r0
  v389_r0
def k0_mult6 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_171_r0 : BitVec 32 := 1#32
  let v387_r0 : BitVec 32 := Scalar.addi v375_r0 c1_i32_171_r0
  let c2880_i32_174_r0 : BitVec 32 := 2880#32
  let v391_r0 : BitVec 32 := Scalar.muli v387_r0 c2880_i32_174_r0
  let c0_i32_175_r0 : BitVec 32 := 0#32
  let v392_r0 : BitVec 32 := Scalar.addi v391_r0 c0_i32_175_r0
  v392_r0
def k0_mult7 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_r0 : BitVec 32 := 2#32
  let v398_r0 : BitVec 32 := Scalar.addi v375_r0 c2_i32_r0
  let c256_i32_179_r0 : BitVec 32 := 256#32
  let v400_r0 : BitVec 32 := Scalar.muli v398_r0 c256_i32_179_r0
  v400_r0
def k0_mult8 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_r0 : BitVec 32 := 2#32
  let v398_r0 : BitVec 32 := Scalar.addi v375_r0 c2_i32_r0
  let c2880_i32_180_r0 : BitVec 32 := 2880#32
  let v402_r0 : BitVec 32 := Scalar.muli v398_r0 c2880_i32_180_r0
  let c0_i32_181_r0 : BitVec 32 := 0#32
  let v403_r0 : BitVec 32 := Scalar.addi v402_r0 c0_i32_181_r0
  v403_r0
def k0_mult9 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_184_r0 : BitVec 32 := 3#32
  let v409_r0 : BitVec 32 := Scalar.addi v375_r0 c3_i32_184_r0
  let c256_i32_186_r0 : BitVec 32 := 256#32
  let v411_r0 : BitVec 32 := Scalar.muli v409_r0 c256_i32_186_r0
  v411_r0
def k0_mult10 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_184_r0 : BitVec 32 := 3#32
  let v409_r0 : BitVec 32 := Scalar.addi v375_r0 c3_i32_184_r0
  let c2880_i32_187_r0 : BitVec 32 := 2880#32
  let v413_r0 : BitVec 32 := Scalar.muli v409_r0 c2880_i32_187_r0
  let c0_i32_188_r0 : BitVec 32 := 0#32
  let v414_r0 : BitVec 32 := Scalar.addi v413_r0 c0_i32_188_r0
  v414_r0
def k0_mult11 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_191_r0 : BitVec 32 := 4#32
  let v420_r0 : BitVec 32 := Scalar.addi v375_r0 c4_i32_191_r0
  let c256_i32_193_r0 : BitVec 32 := 256#32
  let v422_r0 : BitVec 32 := Scalar.muli v420_r0 c256_i32_193_r0
  v422_r0
def k0_mult12 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_191_r0 : BitVec 32 := 4#32
  let v420_r0 : BitVec 32 := Scalar.addi v375_r0 c4_i32_191_r0
  let c2880_i32_194_r0 : BitVec 32 := 2880#32
  let v424_r0 : BitVec 32 := Scalar.muli v420_r0 c2880_i32_194_r0
  let c0_i32_195_r0 : BitVec 32 := 0#32
  let v425_r0 : BitVec 32 := Scalar.addi v424_r0 c0_i32_195_r0
  v425_r0
def k0_mult13 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_r0 : BitVec 32 := 5#32
  let v431_r0 : BitVec 32 := Scalar.addi v375_r0 c5_i32_r0
  let c256_i32_199_r0 : BitVec 32 := 256#32
  let v433_r0 : BitVec 32 := Scalar.muli v431_r0 c256_i32_199_r0
  v433_r0
def k0_mult14 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_r0 : BitVec 32 := 5#32
  let v431_r0 : BitVec 32 := Scalar.addi v375_r0 c5_i32_r0
  let c2880_i32_200_r0 : BitVec 32 := 2880#32
  let v435_r0 : BitVec 32 := Scalar.muli v431_r0 c2880_i32_200_r0
  let c0_i32_201_r0 : BitVec 32 := 0#32
  let v436_r0 : BitVec 32 := Scalar.addi v435_r0 c0_i32_201_r0
  v436_r0
def k0_mult15 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_206_r0 : BitVec 32 := 0#32
  let v443_r0 : BitVec 32 := Scalar.addi v375_r0 c0_i32_206_r0
  let c2880_i32_207_r0 : BitVec 32 := 2880#32
  let v444_r0 : BitVec 32 := Scalar.muli v443_r0 c2880_i32_207_r0
  let c0_i32_208_r0 : BitVec 32 := 0#32
  let v445_r0 : BitVec 32 := Scalar.addi v444_r0 c0_i32_208_r0
  v445_r0
def k0_off7 (k0_t2 : Fin k0_t2_loop.trips) (c0_i32_206_r0 : BitVec 32) (c0_i32_208_r0 : BitVec 32) : Fin 2 → Nat :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let v443_r0 : BitVec 32 := Scalar.addi v375_r0 c0_i32_206_r0
  let c2880_i32_207_r0 : BitVec 32 := 2880#32
  let v444_r0 : BitVec 32 := Scalar.muli v443_r0 c2880_i32_207_r0
  let v445_r0 : BitVec 32 := Scalar.addi v444_r0 c0_i32_208_r0
  let v446_r0 : BitVec 32 := v445_r0
  let v447_r0 : Index := Scalar.indexCast v446_r0
  let c0_209_r0 : Index := 0#32
  ![v447_r0.toNat, 0]
def k0_mult16 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_210_r0 : BitVec 32 := 0#32
  let v449_r0 : BitVec 32 := Scalar.addi v375_r0 c0_i32_210_r0
  let c256_i32_211_r0 : BitVec 32 := 256#32
  let v450_r0 : BitVec 32 := Scalar.muli v449_r0 c256_i32_211_r0
  v450_r0
def k0_off8 (k0_t2 : Fin k0_t2_loop.trips) (c0_i32_210_r0 : BitVec 32) : Fin 2 → Nat :=
  let c0_212_r0 : Index := 0#32
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let v449_r0 : BitVec 32 := Scalar.addi v375_r0 c0_i32_210_r0
  let c256_i32_211_r0 : BitVec 32 := 256#32
  let v450_r0 : BitVec 32 := Scalar.muli v449_r0 c256_i32_211_r0
  let v451_r0 : BitVec 32 := v450_r0
  let v452_r0 : Index := Scalar.indexCast v451_r0
  ![0, v452_r0.toNat]
def k0_mult17 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_214_r0 : BitVec 32 := 1#32
  let v456_r0 : BitVec 32 := Scalar.addi v375_r0 c1_i32_214_r0
  let c2880_i32_215_r0 : BitVec 32 := 2880#32
  let v457_r0 : BitVec 32 := Scalar.muli v456_r0 c2880_i32_215_r0
  let c0_i32_216_r0 : BitVec 32 := 0#32
  let v458_r0 : BitVec 32 := Scalar.addi v457_r0 c0_i32_216_r0
  v458_r0
def k0_mult18 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_218_r0 : BitVec 32 := 1#32
  let v462_r0 : BitVec 32 := Scalar.addi v375_r0 c1_i32_218_r0
  let c256_i32_219_r0 : BitVec 32 := 256#32
  let v463_r0 : BitVec 32 := Scalar.muli v462_r0 c256_i32_219_r0
  v463_r0
def k0_mult19 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_222_r0 : BitVec 32 := 2#32
  let v470_r0 : BitVec 32 := Scalar.addi v375_r0 c2_i32_222_r0
  let c2880_i32_223_r0 : BitVec 32 := 2880#32
  let v471_r0 : BitVec 32 := Scalar.muli v470_r0 c2880_i32_223_r0
  let c0_i32_224_r0 : BitVec 32 := 0#32
  let v472_r0 : BitVec 32 := Scalar.addi v471_r0 c0_i32_224_r0
  v472_r0
def k0_mult20 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_226_r0 : BitVec 32 := 2#32
  let v476_r0 : BitVec 32 := Scalar.addi v375_r0 c2_i32_226_r0
  let c256_i32_227_r0 : BitVec 32 := 256#32
  let v477_r0 : BitVec 32 := Scalar.muli v476_r0 c256_i32_227_r0
  v477_r0
def k0_mult21 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_230_r0 : BitVec 32 := 3#32
  let v484_r0 : BitVec 32 := Scalar.addi v375_r0 c3_i32_230_r0
  let c2880_i32_231_r0 : BitVec 32 := 2880#32
  let v485_r0 : BitVec 32 := Scalar.muli v484_r0 c2880_i32_231_r0
  let c0_i32_232_r0 : BitVec 32 := 0#32
  let v486_r0 : BitVec 32 := Scalar.addi v485_r0 c0_i32_232_r0
  v486_r0
def k0_mult22 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_234_r0 : BitVec 32 := 3#32
  let v490_r0 : BitVec 32 := Scalar.addi v375_r0 c3_i32_234_r0
  let c256_i32_235_r0 : BitVec 32 := 256#32
  let v491_r0 : BitVec 32 := Scalar.muli v490_r0 c256_i32_235_r0
  v491_r0
def k0_mult23 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_238_r0 : BitVec 32 := 4#32
  let v498_r0 : BitVec 32 := Scalar.addi v375_r0 c4_i32_238_r0
  let c2880_i32_239_r0 : BitVec 32 := 2880#32
  let v499_r0 : BitVec 32 := Scalar.muli v498_r0 c2880_i32_239_r0
  let c0_i32_240_r0 : BitVec 32 := 0#32
  let v500_r0 : BitVec 32 := Scalar.addi v499_r0 c0_i32_240_r0
  v500_r0
def k0_mult24 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_242_r0 : BitVec 32 := 4#32
  let v504_r0 : BitVec 32 := Scalar.addi v375_r0 c4_i32_242_r0
  let c256_i32_243_r0 : BitVec 32 := 256#32
  let v505_r0 : BitVec 32 := Scalar.muli v504_r0 c256_i32_243_r0
  v505_r0
def k0_mult25 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_246_r0 : BitVec 32 := 5#32
  let v512_r0 : BitVec 32 := Scalar.addi v375_r0 c5_i32_246_r0
  let c2880_i32_247_r0 : BitVec 32 := 2880#32
  let v513_r0 : BitVec 32 := Scalar.muli v512_r0 c2880_i32_247_r0
  let c0_i32_248_r0 : BitVec 32 := 0#32
  let v514_r0 : BitVec 32 := Scalar.addi v513_r0 c0_i32_248_r0
  v514_r0
def k0_mult26 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_250_r0 : BitVec 32 := 5#32
  let v518_r0 : BitVec 32 := Scalar.addi v375_r0 c5_i32_250_r0
  let c256_i32_251_r0 : BitVec 32 := 256#32
  let v519_r0 : BitVec 32 := Scalar.muli v518_r0 c256_i32_251_r0
  v519_r0
def k0_mult27 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_257_r0 : BitVec 32 := 0#32
  let v531_r0 : BitVec 32 := Scalar.addi v375_r0 c0_i32_257_r0
  let c2880_i32_258_r0 : BitVec 32 := 2880#32
  let v532_r0 : BitVec 32 := Scalar.muli v531_r0 c2880_i32_258_r0
  let c256_i32_259_r0 : BitVec 32 := 256#32
  let v533_r0 : BitVec 32 := Scalar.addi v532_r0 c256_i32_259_r0
  v533_r0
def k0_mult28 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_261_r0 : BitVec 32 := 0#32
  let v537_r0 : BitVec 32 := Scalar.addi v375_r0 c0_i32_261_r0
  let c256_i32_262_r0 : BitVec 32 := 256#32
  let v538_r0 : BitVec 32 := Scalar.muli v537_r0 c256_i32_262_r0
  v538_r0
def k0_mult29 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_265_r0 : BitVec 32 := 1#32
  let v544_r0 : BitVec 32 := Scalar.addi v375_r0 c1_i32_265_r0
  let c2880_i32_266_r0 : BitVec 32 := 2880#32
  let v545_r0 : BitVec 32 := Scalar.muli v544_r0 c2880_i32_266_r0
  let c256_i32_267_r0 : BitVec 32 := 256#32
  let v546_r0 : BitVec 32 := Scalar.addi v545_r0 c256_i32_267_r0
  v546_r0
def k0_mult30 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_269_r0 : BitVec 32 := 1#32
  let v550_r0 : BitVec 32 := Scalar.addi v375_r0 c1_i32_269_r0
  let c256_i32_270_r0 : BitVec 32 := 256#32
  let v551_r0 : BitVec 32 := Scalar.muli v550_r0 c256_i32_270_r0
  v551_r0
def k0_mult31 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_273_r0 : BitVec 32 := 2#32
  let v558_r0 : BitVec 32 := Scalar.addi v375_r0 c2_i32_273_r0
  let c2880_i32_274_r0 : BitVec 32 := 2880#32
  let v559_r0 : BitVec 32 := Scalar.muli v558_r0 c2880_i32_274_r0
  let c256_i32_275_r0 : BitVec 32 := 256#32
  let v560_r0 : BitVec 32 := Scalar.addi v559_r0 c256_i32_275_r0
  v560_r0
def k0_mult32 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_277_r0 : BitVec 32 := 2#32
  let v564_r0 : BitVec 32 := Scalar.addi v375_r0 c2_i32_277_r0
  let c256_i32_278_r0 : BitVec 32 := 256#32
  let v565_r0 : BitVec 32 := Scalar.muli v564_r0 c256_i32_278_r0
  v565_r0
def k0_mult33 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_281_r0 : BitVec 32 := 3#32
  let v572_r0 : BitVec 32 := Scalar.addi v375_r0 c3_i32_281_r0
  let c2880_i32_282_r0 : BitVec 32 := 2880#32
  let v573_r0 : BitVec 32 := Scalar.muli v572_r0 c2880_i32_282_r0
  let c256_i32_283_r0 : BitVec 32 := 256#32
  let v574_r0 : BitVec 32 := Scalar.addi v573_r0 c256_i32_283_r0
  v574_r0
def k0_mult34 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_285_r0 : BitVec 32 := 3#32
  let v578_r0 : BitVec 32 := Scalar.addi v375_r0 c3_i32_285_r0
  let c256_i32_286_r0 : BitVec 32 := 256#32
  let v579_r0 : BitVec 32 := Scalar.muli v578_r0 c256_i32_286_r0
  v579_r0
def k0_mult35 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_289_r0 : BitVec 32 := 4#32
  let v586_r0 : BitVec 32 := Scalar.addi v375_r0 c4_i32_289_r0
  let c2880_i32_290_r0 : BitVec 32 := 2880#32
  let v587_r0 : BitVec 32 := Scalar.muli v586_r0 c2880_i32_290_r0
  let c256_i32_291_r0 : BitVec 32 := 256#32
  let v588_r0 : BitVec 32 := Scalar.addi v587_r0 c256_i32_291_r0
  v588_r0
def k0_mult36 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_293_r0 : BitVec 32 := 4#32
  let v592_r0 : BitVec 32 := Scalar.addi v375_r0 c4_i32_293_r0
  let c256_i32_294_r0 : BitVec 32 := 256#32
  let v593_r0 : BitVec 32 := Scalar.muli v592_r0 c256_i32_294_r0
  v593_r0
def k0_mult37 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_297_r0 : BitVec 32 := 5#32
  let v600_r0 : BitVec 32 := Scalar.addi v375_r0 c5_i32_297_r0
  let c2880_i32_298_r0 : BitVec 32 := 2880#32
  let v601_r0 : BitVec 32 := Scalar.muli v600_r0 c2880_i32_298_r0
  let c256_i32_299_r0 : BitVec 32 := 256#32
  let v602_r0 : BitVec 32 := Scalar.addi v601_r0 c256_i32_299_r0
  v602_r0
def k0_mult38 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_301_r0 : BitVec 32 := 5#32
  let v606_r0 : BitVec 32 := Scalar.addi v375_r0 c5_i32_301_r0
  let c256_i32_302_r0 : BitVec 32 := 256#32
  let v607_r0 : BitVec 32 := Scalar.muli v606_r0 c256_i32_302_r0
  v607_r0
def k0_mult39 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_308_r0 : BitVec 32 := 0#32
  let v619_r0 : BitVec 32 := Scalar.addi v375_r0 c0_i32_308_r0
  let c2880_i32_309_r0 : BitVec 32 := 2880#32
  let v620_r0 : BitVec 32 := Scalar.muli v619_r0 c2880_i32_309_r0
  let c512_i32_r0 : BitVec 32 := 512#32
  let v621_r0 : BitVec 32 := Scalar.addi v620_r0 c512_i32_r0
  v621_r0
def k0_mult40 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_311_r0 : BitVec 32 := 0#32
  let v625_r0 : BitVec 32 := Scalar.addi v375_r0 c0_i32_311_r0
  let c256_i32_312_r0 : BitVec 32 := 256#32
  let v626_r0 : BitVec 32 := Scalar.muli v625_r0 c256_i32_312_r0
  v626_r0
def k0_mult41 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_315_r0 : BitVec 32 := 1#32
  let v632_r0 : BitVec 32 := Scalar.addi v375_r0 c1_i32_315_r0
  let c2880_i32_316_r0 : BitVec 32 := 2880#32
  let v633_r0 : BitVec 32 := Scalar.muli v632_r0 c2880_i32_316_r0
  let c512_i32_317_r0 : BitVec 32 := 512#32
  let v634_r0 : BitVec 32 := Scalar.addi v633_r0 c512_i32_317_r0
  v634_r0
def k0_mult42 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_319_r0 : BitVec 32 := 1#32
  let v638_r0 : BitVec 32 := Scalar.addi v375_r0 c1_i32_319_r0
  let c256_i32_320_r0 : BitVec 32 := 256#32
  let v639_r0 : BitVec 32 := Scalar.muli v638_r0 c256_i32_320_r0
  v639_r0
def k0_mult43 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_323_r0 : BitVec 32 := 2#32
  let v646_r0 : BitVec 32 := Scalar.addi v375_r0 c2_i32_323_r0
  let c2880_i32_324_r0 : BitVec 32 := 2880#32
  let v647_r0 : BitVec 32 := Scalar.muli v646_r0 c2880_i32_324_r0
  let c512_i32_325_r0 : BitVec 32 := 512#32
  let v648_r0 : BitVec 32 := Scalar.addi v647_r0 c512_i32_325_r0
  v648_r0
def k0_mult44 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_327_r0 : BitVec 32 := 2#32
  let v652_r0 : BitVec 32 := Scalar.addi v375_r0 c2_i32_327_r0
  let c256_i32_328_r0 : BitVec 32 := 256#32
  let v653_r0 : BitVec 32 := Scalar.muli v652_r0 c256_i32_328_r0
  v653_r0
def k0_mult45 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_331_r0 : BitVec 32 := 3#32
  let v660_r0 : BitVec 32 := Scalar.addi v375_r0 c3_i32_331_r0
  let c2880_i32_332_r0 : BitVec 32 := 2880#32
  let v661_r0 : BitVec 32 := Scalar.muli v660_r0 c2880_i32_332_r0
  let c512_i32_333_r0 : BitVec 32 := 512#32
  let v662_r0 : BitVec 32 := Scalar.addi v661_r0 c512_i32_333_r0
  v662_r0
def k0_mult46 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_335_r0 : BitVec 32 := 3#32
  let v666_r0 : BitVec 32 := Scalar.addi v375_r0 c3_i32_335_r0
  let c256_i32_336_r0 : BitVec 32 := 256#32
  let v667_r0 : BitVec 32 := Scalar.muli v666_r0 c256_i32_336_r0
  v667_r0
def k0_mult47 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_339_r0 : BitVec 32 := 4#32
  let v674_r0 : BitVec 32 := Scalar.addi v375_r0 c4_i32_339_r0
  let c2880_i32_340_r0 : BitVec 32 := 2880#32
  let v675_r0 : BitVec 32 := Scalar.muli v674_r0 c2880_i32_340_r0
  let c512_i32_341_r0 : BitVec 32 := 512#32
  let v676_r0 : BitVec 32 := Scalar.addi v675_r0 c512_i32_341_r0
  v676_r0
def k0_mult48 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_343_r0 : BitVec 32 := 4#32
  let v680_r0 : BitVec 32 := Scalar.addi v375_r0 c4_i32_343_r0
  let c256_i32_344_r0 : BitVec 32 := 256#32
  let v681_r0 : BitVec 32 := Scalar.muli v680_r0 c256_i32_344_r0
  v681_r0
def k0_mult49 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_347_r0 : BitVec 32 := 5#32
  let v688_r0 : BitVec 32 := Scalar.addi v375_r0 c5_i32_347_r0
  let c2880_i32_348_r0 : BitVec 32 := 2880#32
  let v689_r0 : BitVec 32 := Scalar.muli v688_r0 c2880_i32_348_r0
  let c512_i32_349_r0 : BitVec 32 := 512#32
  let v690_r0 : BitVec 32 := Scalar.addi v689_r0 c512_i32_349_r0
  v690_r0
def k0_mult50 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_351_r0 : BitVec 32 := 5#32
  let v694_r0 : BitVec 32 := Scalar.addi v375_r0 c5_i32_351_r0
  let c256_i32_352_r0 : BitVec 32 := 256#32
  let v695_r0 : BitVec 32 := Scalar.muli v694_r0 c256_i32_352_r0
  v695_r0
def k0_mult51 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_358_r0 : BitVec 32 := 0#32
  let v707_r0 : BitVec 32 := Scalar.addi v375_r0 c0_i32_358_r0
  let c2880_i32_359_r0 : BitVec 32 := 2880#32
  let v708_r0 : BitVec 32 := Scalar.muli v707_r0 c2880_i32_359_r0
  let c768_i32_r0 : BitVec 32 := 768#32
  let v709_r0 : BitVec 32 := Scalar.addi v708_r0 c768_i32_r0
  v709_r0
def k0_mult52 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_361_r0 : BitVec 32 := 0#32
  let v713_r0 : BitVec 32 := Scalar.addi v375_r0 c0_i32_361_r0
  let c256_i32_362_r0 : BitVec 32 := 256#32
  let v714_r0 : BitVec 32 := Scalar.muli v713_r0 c256_i32_362_r0
  v714_r0
def k0_mult53 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_365_r0 : BitVec 32 := 1#32
  let v720_r0 : BitVec 32 := Scalar.addi v375_r0 c1_i32_365_r0
  let c2880_i32_366_r0 : BitVec 32 := 2880#32
  let v721_r0 : BitVec 32 := Scalar.muli v720_r0 c2880_i32_366_r0
  let c768_i32_367_r0 : BitVec 32 := 768#32
  let v722_r0 : BitVec 32 := Scalar.addi v721_r0 c768_i32_367_r0
  v722_r0
def k0_mult54 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_369_r0 : BitVec 32 := 1#32
  let v726_r0 : BitVec 32 := Scalar.addi v375_r0 c1_i32_369_r0
  let c256_i32_370_r0 : BitVec 32 := 256#32
  let v727_r0 : BitVec 32 := Scalar.muli v726_r0 c256_i32_370_r0
  v727_r0
def k0_mult55 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_373_r0 : BitVec 32 := 2#32
  let v734_r0 : BitVec 32 := Scalar.addi v375_r0 c2_i32_373_r0
  let c2880_i32_374_r0 : BitVec 32 := 2880#32
  let v735_r0 : BitVec 32 := Scalar.muli v734_r0 c2880_i32_374_r0
  let c768_i32_375_r0 : BitVec 32 := 768#32
  let v736_r0 : BitVec 32 := Scalar.addi v735_r0 c768_i32_375_r0
  v736_r0
def k0_mult56 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_377_r0 : BitVec 32 := 2#32
  let v740_r0 : BitVec 32 := Scalar.addi v375_r0 c2_i32_377_r0
  let c256_i32_378_r0 : BitVec 32 := 256#32
  let v741_r0 : BitVec 32 := Scalar.muli v740_r0 c256_i32_378_r0
  v741_r0
def k0_mult57 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_381_r0 : BitVec 32 := 3#32
  let v748_r0 : BitVec 32 := Scalar.addi v375_r0 c3_i32_381_r0
  let c2880_i32_382_r0 : BitVec 32 := 2880#32
  let v749_r0 : BitVec 32 := Scalar.muli v748_r0 c2880_i32_382_r0
  let c768_i32_383_r0 : BitVec 32 := 768#32
  let v750_r0 : BitVec 32 := Scalar.addi v749_r0 c768_i32_383_r0
  v750_r0
def k0_mult58 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_385_r0 : BitVec 32 := 3#32
  let v754_r0 : BitVec 32 := Scalar.addi v375_r0 c3_i32_385_r0
  let c256_i32_386_r0 : BitVec 32 := 256#32
  let v755_r0 : BitVec 32 := Scalar.muli v754_r0 c256_i32_386_r0
  v755_r0
def k0_mult59 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_389_r0 : BitVec 32 := 4#32
  let v762_r0 : BitVec 32 := Scalar.addi v375_r0 c4_i32_389_r0
  let c2880_i32_390_r0 : BitVec 32 := 2880#32
  let v763_r0 : BitVec 32 := Scalar.muli v762_r0 c2880_i32_390_r0
  let c768_i32_391_r0 : BitVec 32 := 768#32
  let v764_r0 : BitVec 32 := Scalar.addi v763_r0 c768_i32_391_r0
  v764_r0
def k0_mult60 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_393_r0 : BitVec 32 := 4#32
  let v768_r0 : BitVec 32 := Scalar.addi v375_r0 c4_i32_393_r0
  let c256_i32_394_r0 : BitVec 32 := 256#32
  let v769_r0 : BitVec 32 := Scalar.muli v768_r0 c256_i32_394_r0
  v769_r0
def k0_mult61 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_397_r0 : BitVec 32 := 5#32
  let v776_r0 : BitVec 32 := Scalar.addi v375_r0 c5_i32_397_r0
  let c2880_i32_398_r0 : BitVec 32 := 2880#32
  let v777_r0 : BitVec 32 := Scalar.muli v776_r0 c2880_i32_398_r0
  let c768_i32_399_r0 : BitVec 32 := 768#32
  let v778_r0 : BitVec 32 := Scalar.addi v777_r0 c768_i32_399_r0
  v778_r0
def k0_mult62 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_401_r0 : BitVec 32 := 5#32
  let v782_r0 : BitVec 32 := Scalar.addi v375_r0 c5_i32_401_r0
  let c256_i32_402_r0 : BitVec 32 := 256#32
  let v783_r0 : BitVec 32 := Scalar.muli v782_r0 c256_i32_402_r0
  v783_r0
def k0_mult63 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_408_r0 : BitVec 32 := 0#32
  let v795_r0 : BitVec 32 := Scalar.addi v375_r0 c0_i32_408_r0
  let c2880_i32_409_r0 : BitVec 32 := 2880#32
  let v796_r0 : BitVec 32 := Scalar.muli v795_r0 c2880_i32_409_r0
  let c1024_i32_r0 : BitVec 32 := 1024#32
  let v797_r0 : BitVec 32 := Scalar.addi v796_r0 c1024_i32_r0
  v797_r0
def k0_mult64 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_411_r0 : BitVec 32 := 0#32
  let v801_r0 : BitVec 32 := Scalar.addi v375_r0 c0_i32_411_r0
  let c256_i32_412_r0 : BitVec 32 := 256#32
  let v802_r0 : BitVec 32 := Scalar.muli v801_r0 c256_i32_412_r0
  v802_r0
def k0_mult65 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_415_r0 : BitVec 32 := 1#32
  let v808_r0 : BitVec 32 := Scalar.addi v375_r0 c1_i32_415_r0
  let c2880_i32_416_r0 : BitVec 32 := 2880#32
  let v809_r0 : BitVec 32 := Scalar.muli v808_r0 c2880_i32_416_r0
  let c1024_i32_417_r0 : BitVec 32 := 1024#32
  let v810_r0 : BitVec 32 := Scalar.addi v809_r0 c1024_i32_417_r0
  v810_r0
def k0_mult66 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_419_r0 : BitVec 32 := 1#32
  let v814_r0 : BitVec 32 := Scalar.addi v375_r0 c1_i32_419_r0
  let c256_i32_420_r0 : BitVec 32 := 256#32
  let v815_r0 : BitVec 32 := Scalar.muli v814_r0 c256_i32_420_r0
  v815_r0
def k0_mult67 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_423_r0 : BitVec 32 := 2#32
  let v822_r0 : BitVec 32 := Scalar.addi v375_r0 c2_i32_423_r0
  let c2880_i32_424_r0 : BitVec 32 := 2880#32
  let v823_r0 : BitVec 32 := Scalar.muli v822_r0 c2880_i32_424_r0
  let c1024_i32_425_r0 : BitVec 32 := 1024#32
  let v824_r0 : BitVec 32 := Scalar.addi v823_r0 c1024_i32_425_r0
  v824_r0
def k0_mult68 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_427_r0 : BitVec 32 := 2#32
  let v828_r0 : BitVec 32 := Scalar.addi v375_r0 c2_i32_427_r0
  let c256_i32_428_r0 : BitVec 32 := 256#32
  let v829_r0 : BitVec 32 := Scalar.muli v828_r0 c256_i32_428_r0
  v829_r0
def k0_mult69 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_431_r0 : BitVec 32 := 3#32
  let v836_r0 : BitVec 32 := Scalar.addi v375_r0 c3_i32_431_r0
  let c2880_i32_432_r0 : BitVec 32 := 2880#32
  let v837_r0 : BitVec 32 := Scalar.muli v836_r0 c2880_i32_432_r0
  let c1024_i32_433_r0 : BitVec 32 := 1024#32
  let v838_r0 : BitVec 32 := Scalar.addi v837_r0 c1024_i32_433_r0
  v838_r0
def k0_mult70 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_435_r0 : BitVec 32 := 3#32
  let v842_r0 : BitVec 32 := Scalar.addi v375_r0 c3_i32_435_r0
  let c256_i32_436_r0 : BitVec 32 := 256#32
  let v843_r0 : BitVec 32 := Scalar.muli v842_r0 c256_i32_436_r0
  v843_r0
def k0_mult71 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_439_r0 : BitVec 32 := 4#32
  let v850_r0 : BitVec 32 := Scalar.addi v375_r0 c4_i32_439_r0
  let c2880_i32_440_r0 : BitVec 32 := 2880#32
  let v851_r0 : BitVec 32 := Scalar.muli v850_r0 c2880_i32_440_r0
  let c1024_i32_441_r0 : BitVec 32 := 1024#32
  let v852_r0 : BitVec 32 := Scalar.addi v851_r0 c1024_i32_441_r0
  v852_r0
def k0_mult72 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_443_r0 : BitVec 32 := 4#32
  let v856_r0 : BitVec 32 := Scalar.addi v375_r0 c4_i32_443_r0
  let c256_i32_444_r0 : BitVec 32 := 256#32
  let v857_r0 : BitVec 32 := Scalar.muli v856_r0 c256_i32_444_r0
  v857_r0
def k0_mult73 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_447_r0 : BitVec 32 := 5#32
  let v864_r0 : BitVec 32 := Scalar.addi v375_r0 c5_i32_447_r0
  let c2880_i32_448_r0 : BitVec 32 := 2880#32
  let v865_r0 : BitVec 32 := Scalar.muli v864_r0 c2880_i32_448_r0
  let c1024_i32_449_r0 : BitVec 32 := 1024#32
  let v866_r0 : BitVec 32 := Scalar.addi v865_r0 c1024_i32_449_r0
  v866_r0
def k0_mult74 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_451_r0 : BitVec 32 := 5#32
  let v870_r0 : BitVec 32 := Scalar.addi v375_r0 c5_i32_451_r0
  let c256_i32_452_r0 : BitVec 32 := 256#32
  let v871_r0 : BitVec 32 := Scalar.muli v870_r0 c256_i32_452_r0
  v871_r0
def k0_mult75 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_458_r0 : BitVec 32 := 0#32
  let v883_r0 : BitVec 32 := Scalar.addi v375_r0 c0_i32_458_r0
  let c2880_i32_459_r0 : BitVec 32 := 2880#32
  let v884_r0 : BitVec 32 := Scalar.muli v883_r0 c2880_i32_459_r0
  let c1280_i32_r0 : BitVec 32 := 1280#32
  let v885_r0 : BitVec 32 := Scalar.addi v884_r0 c1280_i32_r0
  v885_r0
def k0_mult76 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_461_r0 : BitVec 32 := 0#32
  let v889_r0 : BitVec 32 := Scalar.addi v375_r0 c0_i32_461_r0
  let c256_i32_462_r0 : BitVec 32 := 256#32
  let v890_r0 : BitVec 32 := Scalar.muli v889_r0 c256_i32_462_r0
  v890_r0
def k0_mult77 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_465_r0 : BitVec 32 := 1#32
  let v896_r0 : BitVec 32 := Scalar.addi v375_r0 c1_i32_465_r0
  let c2880_i32_466_r0 : BitVec 32 := 2880#32
  let v897_r0 : BitVec 32 := Scalar.muli v896_r0 c2880_i32_466_r0
  let c1280_i32_467_r0 : BitVec 32 := 1280#32
  let v898_r0 : BitVec 32 := Scalar.addi v897_r0 c1280_i32_467_r0
  v898_r0
def k0_mult78 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_469_r0 : BitVec 32 := 1#32
  let v902_r0 : BitVec 32 := Scalar.addi v375_r0 c1_i32_469_r0
  let c256_i32_470_r0 : BitVec 32 := 256#32
  let v903_r0 : BitVec 32 := Scalar.muli v902_r0 c256_i32_470_r0
  v903_r0
def k0_mult79 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_473_r0 : BitVec 32 := 2#32
  let v910_r0 : BitVec 32 := Scalar.addi v375_r0 c2_i32_473_r0
  let c2880_i32_474_r0 : BitVec 32 := 2880#32
  let v911_r0 : BitVec 32 := Scalar.muli v910_r0 c2880_i32_474_r0
  let c1280_i32_475_r0 : BitVec 32 := 1280#32
  let v912_r0 : BitVec 32 := Scalar.addi v911_r0 c1280_i32_475_r0
  v912_r0
def k0_mult80 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_477_r0 : BitVec 32 := 2#32
  let v916_r0 : BitVec 32 := Scalar.addi v375_r0 c2_i32_477_r0
  let c256_i32_478_r0 : BitVec 32 := 256#32
  let v917_r0 : BitVec 32 := Scalar.muli v916_r0 c256_i32_478_r0
  v917_r0
def k0_mult81 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_481_r0 : BitVec 32 := 3#32
  let v924_r0 : BitVec 32 := Scalar.addi v375_r0 c3_i32_481_r0
  let c2880_i32_482_r0 : BitVec 32 := 2880#32
  let v925_r0 : BitVec 32 := Scalar.muli v924_r0 c2880_i32_482_r0
  let c1280_i32_483_r0 : BitVec 32 := 1280#32
  let v926_r0 : BitVec 32 := Scalar.addi v925_r0 c1280_i32_483_r0
  v926_r0
def k0_mult82 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_485_r0 : BitVec 32 := 3#32
  let v930_r0 : BitVec 32 := Scalar.addi v375_r0 c3_i32_485_r0
  let c256_i32_486_r0 : BitVec 32 := 256#32
  let v931_r0 : BitVec 32 := Scalar.muli v930_r0 c256_i32_486_r0
  v931_r0
def k0_mult83 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_489_r0 : BitVec 32 := 4#32
  let v938_r0 : BitVec 32 := Scalar.addi v375_r0 c4_i32_489_r0
  let c2880_i32_490_r0 : BitVec 32 := 2880#32
  let v939_r0 : BitVec 32 := Scalar.muli v938_r0 c2880_i32_490_r0
  let c1280_i32_491_r0 : BitVec 32 := 1280#32
  let v940_r0 : BitVec 32 := Scalar.addi v939_r0 c1280_i32_491_r0
  v940_r0
def k0_mult84 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_493_r0 : BitVec 32 := 4#32
  let v944_r0 : BitVec 32 := Scalar.addi v375_r0 c4_i32_493_r0
  let c256_i32_494_r0 : BitVec 32 := 256#32
  let v945_r0 : BitVec 32 := Scalar.muli v944_r0 c256_i32_494_r0
  v945_r0
def k0_mult85 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_497_r0 : BitVec 32 := 5#32
  let v952_r0 : BitVec 32 := Scalar.addi v375_r0 c5_i32_497_r0
  let c2880_i32_498_r0 : BitVec 32 := 2880#32
  let v953_r0 : BitVec 32 := Scalar.muli v952_r0 c2880_i32_498_r0
  let c1280_i32_499_r0 : BitVec 32 := 1280#32
  let v954_r0 : BitVec 32 := Scalar.addi v953_r0 c1280_i32_499_r0
  v954_r0
def k0_mult86 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_501_r0 : BitVec 32 := 5#32
  let v958_r0 : BitVec 32 := Scalar.addi v375_r0 c5_i32_501_r0
  let c256_i32_502_r0 : BitVec 32 := 256#32
  let v959_r0 : BitVec 32 := Scalar.muli v958_r0 c256_i32_502_r0
  v959_r0
def k0_mult87 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_508_r0 : BitVec 32 := 0#32
  let v971_r0 : BitVec 32 := Scalar.addi v375_r0 c0_i32_508_r0
  let c2880_i32_509_r0 : BitVec 32 := 2880#32
  let v972_r0 : BitVec 32 := Scalar.muli v971_r0 c2880_i32_509_r0
  let c1536_i32_r0 : BitVec 32 := 1536#32
  let v973_r0 : BitVec 32 := Scalar.addi v972_r0 c1536_i32_r0
  v973_r0
def k0_mult88 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_511_r0 : BitVec 32 := 0#32
  let v977_r0 : BitVec 32 := Scalar.addi v375_r0 c0_i32_511_r0
  let c256_i32_512_r0 : BitVec 32 := 256#32
  let v978_r0 : BitVec 32 := Scalar.muli v977_r0 c256_i32_512_r0
  v978_r0
def k0_mult89 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_515_r0 : BitVec 32 := 1#32
  let v984_r0 : BitVec 32 := Scalar.addi v375_r0 c1_i32_515_r0
  let c2880_i32_516_r0 : BitVec 32 := 2880#32
  let v985_r0 : BitVec 32 := Scalar.muli v984_r0 c2880_i32_516_r0
  let c1536_i32_517_r0 : BitVec 32 := 1536#32
  let v986_r0 : BitVec 32 := Scalar.addi v985_r0 c1536_i32_517_r0
  v986_r0
def k0_mult90 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_519_r0 : BitVec 32 := 1#32
  let v990_r0 : BitVec 32 := Scalar.addi v375_r0 c1_i32_519_r0
  let c256_i32_520_r0 : BitVec 32 := 256#32
  let v991_r0 : BitVec 32 := Scalar.muli v990_r0 c256_i32_520_r0
  v991_r0
def k0_mult91 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_523_r0 : BitVec 32 := 2#32
  let v998_r0 : BitVec 32 := Scalar.addi v375_r0 c2_i32_523_r0
  let c2880_i32_524_r0 : BitVec 32 := 2880#32
  let v999_r0 : BitVec 32 := Scalar.muli v998_r0 c2880_i32_524_r0
  let c1536_i32_525_r0 : BitVec 32 := 1536#32
  let v1000_r0 : BitVec 32 := Scalar.addi v999_r0 c1536_i32_525_r0
  v1000_r0
def k0_mult92 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_527_r0 : BitVec 32 := 2#32
  let v1004_r0 : BitVec 32 := Scalar.addi v375_r0 c2_i32_527_r0
  let c256_i32_528_r0 : BitVec 32 := 256#32
  let v1005_r0 : BitVec 32 := Scalar.muli v1004_r0 c256_i32_528_r0
  v1005_r0
def k0_mult93 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_531_r0 : BitVec 32 := 3#32
  let v1012_r0 : BitVec 32 := Scalar.addi v375_r0 c3_i32_531_r0
  let c2880_i32_532_r0 : BitVec 32 := 2880#32
  let v1013_r0 : BitVec 32 := Scalar.muli v1012_r0 c2880_i32_532_r0
  let c1536_i32_533_r0 : BitVec 32 := 1536#32
  let v1014_r0 : BitVec 32 := Scalar.addi v1013_r0 c1536_i32_533_r0
  v1014_r0
def k0_mult94 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_535_r0 : BitVec 32 := 3#32
  let v1018_r0 : BitVec 32 := Scalar.addi v375_r0 c3_i32_535_r0
  let c256_i32_536_r0 : BitVec 32 := 256#32
  let v1019_r0 : BitVec 32 := Scalar.muli v1018_r0 c256_i32_536_r0
  v1019_r0
def k0_mult95 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_539_r0 : BitVec 32 := 4#32
  let v1026_r0 : BitVec 32 := Scalar.addi v375_r0 c4_i32_539_r0
  let c2880_i32_540_r0 : BitVec 32 := 2880#32
  let v1027_r0 : BitVec 32 := Scalar.muli v1026_r0 c2880_i32_540_r0
  let c1536_i32_541_r0 : BitVec 32 := 1536#32
  let v1028_r0 : BitVec 32 := Scalar.addi v1027_r0 c1536_i32_541_r0
  v1028_r0
def k0_mult96 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_543_r0 : BitVec 32 := 4#32
  let v1032_r0 : BitVec 32 := Scalar.addi v375_r0 c4_i32_543_r0
  let c256_i32_544_r0 : BitVec 32 := 256#32
  let v1033_r0 : BitVec 32 := Scalar.muli v1032_r0 c256_i32_544_r0
  v1033_r0
def k0_mult97 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_547_r0 : BitVec 32 := 5#32
  let v1040_r0 : BitVec 32 := Scalar.addi v375_r0 c5_i32_547_r0
  let c2880_i32_548_r0 : BitVec 32 := 2880#32
  let v1041_r0 : BitVec 32 := Scalar.muli v1040_r0 c2880_i32_548_r0
  let c1536_i32_549_r0 : BitVec 32 := 1536#32
  let v1042_r0 : BitVec 32 := Scalar.addi v1041_r0 c1536_i32_549_r0
  v1042_r0
def k0_mult98 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_551_r0 : BitVec 32 := 5#32
  let v1046_r0 : BitVec 32 := Scalar.addi v375_r0 c5_i32_551_r0
  let c256_i32_552_r0 : BitVec 32 := 256#32
  let v1047_r0 : BitVec 32 := Scalar.muli v1046_r0 c256_i32_552_r0
  v1047_r0
def k0_mult99 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_558_r0 : BitVec 32 := 0#32
  let v1059_r0 : BitVec 32 := Scalar.addi v375_r0 c0_i32_558_r0
  let c2880_i32_559_r0 : BitVec 32 := 2880#32
  let v1060_r0 : BitVec 32 := Scalar.muli v1059_r0 c2880_i32_559_r0
  let c1792_i32_r0 : BitVec 32 := 1792#32
  let v1061_r0 : BitVec 32 := Scalar.addi v1060_r0 c1792_i32_r0
  v1061_r0
def k0_mult100 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_561_r0 : BitVec 32 := 0#32
  let v1065_r0 : BitVec 32 := Scalar.addi v375_r0 c0_i32_561_r0
  let c256_i32_562_r0 : BitVec 32 := 256#32
  let v1066_r0 : BitVec 32 := Scalar.muli v1065_r0 c256_i32_562_r0
  v1066_r0
def k0_mult101 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_565_r0 : BitVec 32 := 1#32
  let v1072_r0 : BitVec 32 := Scalar.addi v375_r0 c1_i32_565_r0
  let c2880_i32_566_r0 : BitVec 32 := 2880#32
  let v1073_r0 : BitVec 32 := Scalar.muli v1072_r0 c2880_i32_566_r0
  let c1792_i32_567_r0 : BitVec 32 := 1792#32
  let v1074_r0 : BitVec 32 := Scalar.addi v1073_r0 c1792_i32_567_r0
  v1074_r0
def k0_mult102 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_569_r0 : BitVec 32 := 1#32
  let v1078_r0 : BitVec 32 := Scalar.addi v375_r0 c1_i32_569_r0
  let c256_i32_570_r0 : BitVec 32 := 256#32
  let v1079_r0 : BitVec 32 := Scalar.muli v1078_r0 c256_i32_570_r0
  v1079_r0
def k0_mult103 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_573_r0 : BitVec 32 := 2#32
  let v1086_r0 : BitVec 32 := Scalar.addi v375_r0 c2_i32_573_r0
  let c2880_i32_574_r0 : BitVec 32 := 2880#32
  let v1087_r0 : BitVec 32 := Scalar.muli v1086_r0 c2880_i32_574_r0
  let c1792_i32_575_r0 : BitVec 32 := 1792#32
  let v1088_r0 : BitVec 32 := Scalar.addi v1087_r0 c1792_i32_575_r0
  v1088_r0
def k0_mult104 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_577_r0 : BitVec 32 := 2#32
  let v1092_r0 : BitVec 32 := Scalar.addi v375_r0 c2_i32_577_r0
  let c256_i32_578_r0 : BitVec 32 := 256#32
  let v1093_r0 : BitVec 32 := Scalar.muli v1092_r0 c256_i32_578_r0
  v1093_r0
def k0_mult105 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_581_r0 : BitVec 32 := 3#32
  let v1100_r0 : BitVec 32 := Scalar.addi v375_r0 c3_i32_581_r0
  let c2880_i32_582_r0 : BitVec 32 := 2880#32
  let v1101_r0 : BitVec 32 := Scalar.muli v1100_r0 c2880_i32_582_r0
  let c1792_i32_583_r0 : BitVec 32 := 1792#32
  let v1102_r0 : BitVec 32 := Scalar.addi v1101_r0 c1792_i32_583_r0
  v1102_r0
def k0_mult106 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_585_r0 : BitVec 32 := 3#32
  let v1106_r0 : BitVec 32 := Scalar.addi v375_r0 c3_i32_585_r0
  let c256_i32_586_r0 : BitVec 32 := 256#32
  let v1107_r0 : BitVec 32 := Scalar.muli v1106_r0 c256_i32_586_r0
  v1107_r0
def k0_mult107 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_589_r0 : BitVec 32 := 4#32
  let v1114_r0 : BitVec 32 := Scalar.addi v375_r0 c4_i32_589_r0
  let c2880_i32_590_r0 : BitVec 32 := 2880#32
  let v1115_r0 : BitVec 32 := Scalar.muli v1114_r0 c2880_i32_590_r0
  let c1792_i32_591_r0 : BitVec 32 := 1792#32
  let v1116_r0 : BitVec 32 := Scalar.addi v1115_r0 c1792_i32_591_r0
  v1116_r0
def k0_mult108 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_593_r0 : BitVec 32 := 4#32
  let v1120_r0 : BitVec 32 := Scalar.addi v375_r0 c4_i32_593_r0
  let c256_i32_594_r0 : BitVec 32 := 256#32
  let v1121_r0 : BitVec 32 := Scalar.muli v1120_r0 c256_i32_594_r0
  v1121_r0
def k0_mult109 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_597_r0 : BitVec 32 := 5#32
  let v1128_r0 : BitVec 32 := Scalar.addi v375_r0 c5_i32_597_r0
  let c2880_i32_598_r0 : BitVec 32 := 2880#32
  let v1129_r0 : BitVec 32 := Scalar.muli v1128_r0 c2880_i32_598_r0
  let c1792_i32_599_r0 : BitVec 32 := 1792#32
  let v1130_r0 : BitVec 32 := Scalar.addi v1129_r0 c1792_i32_599_r0
  v1130_r0
def k0_mult110 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_601_r0 : BitVec 32 := 5#32
  let v1134_r0 : BitVec 32 := Scalar.addi v375_r0 c5_i32_601_r0
  let c256_i32_602_r0 : BitVec 32 := 256#32
  let v1135_r0 : BitVec 32 := Scalar.muli v1134_r0 c256_i32_602_r0
  v1135_r0
def k0_mult111 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_608_r0 : BitVec 32 := 0#32
  let v1147_r0 : BitVec 32 := Scalar.addi v375_r0 c0_i32_608_r0
  let c2880_i32_609_r0 : BitVec 32 := 2880#32
  let v1148_r0 : BitVec 32 := Scalar.muli v1147_r0 c2880_i32_609_r0
  let c2048_i32_r0 : BitVec 32 := 2048#32
  let v1149_r0 : BitVec 32 := Scalar.addi v1148_r0 c2048_i32_r0
  v1149_r0
def k0_mult112 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_611_r0 : BitVec 32 := 0#32
  let v1153_r0 : BitVec 32 := Scalar.addi v375_r0 c0_i32_611_r0
  let c256_i32_612_r0 : BitVec 32 := 256#32
  let v1154_r0 : BitVec 32 := Scalar.muli v1153_r0 c256_i32_612_r0
  v1154_r0
def k0_mult113 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_615_r0 : BitVec 32 := 1#32
  let v1160_r0 : BitVec 32 := Scalar.addi v375_r0 c1_i32_615_r0
  let c2880_i32_616_r0 : BitVec 32 := 2880#32
  let v1161_r0 : BitVec 32 := Scalar.muli v1160_r0 c2880_i32_616_r0
  let c2048_i32_617_r0 : BitVec 32 := 2048#32
  let v1162_r0 : BitVec 32 := Scalar.addi v1161_r0 c2048_i32_617_r0
  v1162_r0
def k0_mult114 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_619_r0 : BitVec 32 := 1#32
  let v1166_r0 : BitVec 32 := Scalar.addi v375_r0 c1_i32_619_r0
  let c256_i32_620_r0 : BitVec 32 := 256#32
  let v1167_r0 : BitVec 32 := Scalar.muli v1166_r0 c256_i32_620_r0
  v1167_r0
def k0_mult115 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_623_r0 : BitVec 32 := 2#32
  let v1174_r0 : BitVec 32 := Scalar.addi v375_r0 c2_i32_623_r0
  let c2880_i32_624_r0 : BitVec 32 := 2880#32
  let v1175_r0 : BitVec 32 := Scalar.muli v1174_r0 c2880_i32_624_r0
  let c2048_i32_625_r0 : BitVec 32 := 2048#32
  let v1176_r0 : BitVec 32 := Scalar.addi v1175_r0 c2048_i32_625_r0
  v1176_r0
def k0_mult116 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_627_r0 : BitVec 32 := 2#32
  let v1180_r0 : BitVec 32 := Scalar.addi v375_r0 c2_i32_627_r0
  let c256_i32_628_r0 : BitVec 32 := 256#32
  let v1181_r0 : BitVec 32 := Scalar.muli v1180_r0 c256_i32_628_r0
  v1181_r0
def k0_mult117 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_631_r0 : BitVec 32 := 3#32
  let v1188_r0 : BitVec 32 := Scalar.addi v375_r0 c3_i32_631_r0
  let c2880_i32_632_r0 : BitVec 32 := 2880#32
  let v1189_r0 : BitVec 32 := Scalar.muli v1188_r0 c2880_i32_632_r0
  let c2048_i32_633_r0 : BitVec 32 := 2048#32
  let v1190_r0 : BitVec 32 := Scalar.addi v1189_r0 c2048_i32_633_r0
  v1190_r0
def k0_mult118 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_635_r0 : BitVec 32 := 3#32
  let v1194_r0 : BitVec 32 := Scalar.addi v375_r0 c3_i32_635_r0
  let c256_i32_636_r0 : BitVec 32 := 256#32
  let v1195_r0 : BitVec 32 := Scalar.muli v1194_r0 c256_i32_636_r0
  v1195_r0
def k0_mult119 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_639_r0 : BitVec 32 := 4#32
  let v1202_r0 : BitVec 32 := Scalar.addi v375_r0 c4_i32_639_r0
  let c2880_i32_640_r0 : BitVec 32 := 2880#32
  let v1203_r0 : BitVec 32 := Scalar.muli v1202_r0 c2880_i32_640_r0
  let c2048_i32_641_r0 : BitVec 32 := 2048#32
  let v1204_r0 : BitVec 32 := Scalar.addi v1203_r0 c2048_i32_641_r0
  v1204_r0
def k0_mult120 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_643_r0 : BitVec 32 := 4#32
  let v1208_r0 : BitVec 32 := Scalar.addi v375_r0 c4_i32_643_r0
  let c256_i32_644_r0 : BitVec 32 := 256#32
  let v1209_r0 : BitVec 32 := Scalar.muli v1208_r0 c256_i32_644_r0
  v1209_r0
def k0_mult121 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_647_r0 : BitVec 32 := 5#32
  let v1216_r0 : BitVec 32 := Scalar.addi v375_r0 c5_i32_647_r0
  let c2880_i32_648_r0 : BitVec 32 := 2880#32
  let v1217_r0 : BitVec 32 := Scalar.muli v1216_r0 c2880_i32_648_r0
  let c2048_i32_649_r0 : BitVec 32 := 2048#32
  let v1218_r0 : BitVec 32 := Scalar.addi v1217_r0 c2048_i32_649_r0
  v1218_r0
def k0_mult122 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_651_r0 : BitVec 32 := 5#32
  let v1222_r0 : BitVec 32 := Scalar.addi v375_r0 c5_i32_651_r0
  let c256_i32_652_r0 : BitVec 32 := 256#32
  let v1223_r0 : BitVec 32 := Scalar.muli v1222_r0 c256_i32_652_r0
  v1223_r0
def k0_mult123 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_659_r0 : BitVec 32 := 0#32
  let v1235_r0 : BitVec 32 := Scalar.addi v375_r0 c0_i32_659_r0
  let c2880_i32_660_r0 : BitVec 32 := 2880#32
  let v1236_r0 : BitVec 32 := Scalar.muli v1235_r0 c2880_i32_660_r0
  let c2304_i32_r0 : BitVec 32 := 2304#32
  let v1237_r0 : BitVec 32 := Scalar.addi v1236_r0 c2304_i32_r0
  v1237_r0
def k0_mult124 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_662_r0 : BitVec 32 := 0#32
  let v1241_r0 : BitVec 32 := Scalar.addi v375_r0 c0_i32_662_r0
  let c256_i32_663_r0 : BitVec 32 := 256#32
  let v1242_r0 : BitVec 32 := Scalar.muli v1241_r0 c256_i32_663_r0
  v1242_r0
def k0_mult125 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_666_r0 : BitVec 32 := 1#32
  let v1248_r0 : BitVec 32 := Scalar.addi v375_r0 c1_i32_666_r0
  let c2880_i32_667_r0 : BitVec 32 := 2880#32
  let v1249_r0 : BitVec 32 := Scalar.muli v1248_r0 c2880_i32_667_r0
  let c2304_i32_668_r0 : BitVec 32 := 2304#32
  let v1250_r0 : BitVec 32 := Scalar.addi v1249_r0 c2304_i32_668_r0
  v1250_r0
def k0_mult126 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_670_r0 : BitVec 32 := 1#32
  let v1254_r0 : BitVec 32 := Scalar.addi v375_r0 c1_i32_670_r0
  let c256_i32_671_r0 : BitVec 32 := 256#32
  let v1255_r0 : BitVec 32 := Scalar.muli v1254_r0 c256_i32_671_r0
  v1255_r0
def k0_mult127 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_674_r0 : BitVec 32 := 2#32
  let v1262_r0 : BitVec 32 := Scalar.addi v375_r0 c2_i32_674_r0
  let c2880_i32_675_r0 : BitVec 32 := 2880#32
  let v1263_r0 : BitVec 32 := Scalar.muli v1262_r0 c2880_i32_675_r0
  let c2304_i32_676_r0 : BitVec 32 := 2304#32
  let v1264_r0 : BitVec 32 := Scalar.addi v1263_r0 c2304_i32_676_r0
  v1264_r0
def k0_mult128 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_678_r0 : BitVec 32 := 2#32
  let v1268_r0 : BitVec 32 := Scalar.addi v375_r0 c2_i32_678_r0
  let c256_i32_679_r0 : BitVec 32 := 256#32
  let v1269_r0 : BitVec 32 := Scalar.muli v1268_r0 c256_i32_679_r0
  v1269_r0
def k0_mult129 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_682_r0 : BitVec 32 := 3#32
  let v1276_r0 : BitVec 32 := Scalar.addi v375_r0 c3_i32_682_r0
  let c2880_i32_683_r0 : BitVec 32 := 2880#32
  let v1277_r0 : BitVec 32 := Scalar.muli v1276_r0 c2880_i32_683_r0
  let c2304_i32_684_r0 : BitVec 32 := 2304#32
  let v1278_r0 : BitVec 32 := Scalar.addi v1277_r0 c2304_i32_684_r0
  v1278_r0
def k0_mult130 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_686_r0 : BitVec 32 := 3#32
  let v1282_r0 : BitVec 32 := Scalar.addi v375_r0 c3_i32_686_r0
  let c256_i32_687_r0 : BitVec 32 := 256#32
  let v1283_r0 : BitVec 32 := Scalar.muli v1282_r0 c256_i32_687_r0
  v1283_r0
def k0_mult131 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_690_r0 : BitVec 32 := 4#32
  let v1290_r0 : BitVec 32 := Scalar.addi v375_r0 c4_i32_690_r0
  let c2880_i32_691_r0 : BitVec 32 := 2880#32
  let v1291_r0 : BitVec 32 := Scalar.muli v1290_r0 c2880_i32_691_r0
  let c2304_i32_692_r0 : BitVec 32 := 2304#32
  let v1292_r0 : BitVec 32 := Scalar.addi v1291_r0 c2304_i32_692_r0
  v1292_r0
def k0_mult132 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_694_r0 : BitVec 32 := 4#32
  let v1296_r0 : BitVec 32 := Scalar.addi v375_r0 c4_i32_694_r0
  let c256_i32_695_r0 : BitVec 32 := 256#32
  let v1297_r0 : BitVec 32 := Scalar.muli v1296_r0 c256_i32_695_r0
  v1297_r0
def k0_mult133 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_698_r0 : BitVec 32 := 5#32
  let v1304_r0 : BitVec 32 := Scalar.addi v375_r0 c5_i32_698_r0
  let c2880_i32_699_r0 : BitVec 32 := 2880#32
  let v1305_r0 : BitVec 32 := Scalar.muli v1304_r0 c2880_i32_699_r0
  let c2304_i32_700_r0 : BitVec 32 := 2304#32
  let v1306_r0 : BitVec 32 := Scalar.addi v1305_r0 c2304_i32_700_r0
  v1306_r0
def k0_mult134 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_702_r0 : BitVec 32 := 5#32
  let v1310_r0 : BitVec 32 := Scalar.addi v375_r0 c5_i32_702_r0
  let c256_i32_703_r0 : BitVec 32 := 256#32
  let v1311_r0 : BitVec 32 := Scalar.muli v1310_r0 c256_i32_703_r0
  v1311_r0
def k0_mult135 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_710_r0 : BitVec 32 := 0#32
  let v1323_r0 : BitVec 32 := Scalar.addi v375_r0 c0_i32_710_r0
  let c2880_i32_711_r0 : BitVec 32 := 2880#32
  let v1324_r0 : BitVec 32 := Scalar.muli v1323_r0 c2880_i32_711_r0
  let c2560_i32_r0 : BitVec 32 := 2560#32
  let v1325_r0 : BitVec 32 := Scalar.addi v1324_r0 c2560_i32_r0
  v1325_r0
def k0_mult136 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_713_r0 : BitVec 32 := 0#32
  let v1329_r0 : BitVec 32 := Scalar.addi v375_r0 c0_i32_713_r0
  let c256_i32_714_r0 : BitVec 32 := 256#32
  let v1330_r0 : BitVec 32 := Scalar.muli v1329_r0 c256_i32_714_r0
  v1330_r0
def k0_mult137 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_717_r0 : BitVec 32 := 1#32
  let v1336_r0 : BitVec 32 := Scalar.addi v375_r0 c1_i32_717_r0
  let c2880_i32_718_r0 : BitVec 32 := 2880#32
  let v1337_r0 : BitVec 32 := Scalar.muli v1336_r0 c2880_i32_718_r0
  let c2560_i32_719_r0 : BitVec 32 := 2560#32
  let v1338_r0 : BitVec 32 := Scalar.addi v1337_r0 c2560_i32_719_r0
  v1338_r0
def k0_mult138 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_721_r0 : BitVec 32 := 1#32
  let v1342_r0 : BitVec 32 := Scalar.addi v375_r0 c1_i32_721_r0
  let c256_i32_722_r0 : BitVec 32 := 256#32
  let v1343_r0 : BitVec 32 := Scalar.muli v1342_r0 c256_i32_722_r0
  v1343_r0
def k0_mult139 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_725_r0 : BitVec 32 := 2#32
  let v1350_r0 : BitVec 32 := Scalar.addi v375_r0 c2_i32_725_r0
  let c2880_i32_726_r0 : BitVec 32 := 2880#32
  let v1351_r0 : BitVec 32 := Scalar.muli v1350_r0 c2880_i32_726_r0
  let c2560_i32_727_r0 : BitVec 32 := 2560#32
  let v1352_r0 : BitVec 32 := Scalar.addi v1351_r0 c2560_i32_727_r0
  v1352_r0
def k0_mult140 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_729_r0 : BitVec 32 := 2#32
  let v1356_r0 : BitVec 32 := Scalar.addi v375_r0 c2_i32_729_r0
  let c256_i32_730_r0 : BitVec 32 := 256#32
  let v1357_r0 : BitVec 32 := Scalar.muli v1356_r0 c256_i32_730_r0
  v1357_r0
def k0_mult141 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_733_r0 : BitVec 32 := 3#32
  let v1364_r0 : BitVec 32 := Scalar.addi v375_r0 c3_i32_733_r0
  let c2880_i32_734_r0 : BitVec 32 := 2880#32
  let v1365_r0 : BitVec 32 := Scalar.muli v1364_r0 c2880_i32_734_r0
  let c2560_i32_735_r0 : BitVec 32 := 2560#32
  let v1366_r0 : BitVec 32 := Scalar.addi v1365_r0 c2560_i32_735_r0
  v1366_r0
def k0_mult142 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_737_r0 : BitVec 32 := 3#32
  let v1370_r0 : BitVec 32 := Scalar.addi v375_r0 c3_i32_737_r0
  let c256_i32_738_r0 : BitVec 32 := 256#32
  let v1371_r0 : BitVec 32 := Scalar.muli v1370_r0 c256_i32_738_r0
  v1371_r0
def k0_mult143 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_741_r0 : BitVec 32 := 4#32
  let v1378_r0 : BitVec 32 := Scalar.addi v375_r0 c4_i32_741_r0
  let c2880_i32_742_r0 : BitVec 32 := 2880#32
  let v1379_r0 : BitVec 32 := Scalar.muli v1378_r0 c2880_i32_742_r0
  let c2560_i32_743_r0 : BitVec 32 := 2560#32
  let v1380_r0 : BitVec 32 := Scalar.addi v1379_r0 c2560_i32_743_r0
  v1380_r0
def k0_mult144 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_745_r0 : BitVec 32 := 4#32
  let v1384_r0 : BitVec 32 := Scalar.addi v375_r0 c4_i32_745_r0
  let c256_i32_746_r0 : BitVec 32 := 256#32
  let v1385_r0 : BitVec 32 := Scalar.muli v1384_r0 c256_i32_746_r0
  v1385_r0
def k0_mult145 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_749_r0 : BitVec 32 := 5#32
  let v1392_r0 : BitVec 32 := Scalar.addi v375_r0 c5_i32_749_r0
  let c2880_i32_750_r0 : BitVec 32 := 2880#32
  let v1393_r0 : BitVec 32 := Scalar.muli v1392_r0 c2880_i32_750_r0
  let c2560_i32_751_r0 : BitVec 32 := 2560#32
  let v1394_r0 : BitVec 32 := Scalar.addi v1393_r0 c2560_i32_751_r0
  v1394_r0
def k0_mult146 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_753_r0 : BitVec 32 := 5#32
  let v1398_r0 : BitVec 32 := Scalar.addi v375_r0 c5_i32_753_r0
  let c256_i32_754_r0 : BitVec 32 := 256#32
  let v1399_r0 : BitVec 32 := Scalar.muli v1398_r0 c256_i32_754_r0
  v1399_r0
def k0_mult147 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_761_r0 : BitVec 32 := 0#32
  let v1411_r0 : BitVec 32 := Scalar.addi v375_r0 c0_i32_761_r0
  let c2880_i32_762_r0 : BitVec 32 := 2880#32
  let v1412_r0 : BitVec 32 := Scalar.muli v1411_r0 c2880_i32_762_r0
  let c2816_i32_r0 : BitVec 32 := 2816#32
  let v1413_r0 : BitVec 32 := Scalar.addi v1412_r0 c2816_i32_r0
  v1413_r0
def k0_off9 (k0_t2 : Fin k0_t2_loop.trips) (c0_i32_761_r0 : BitVec 32) : Fin 2 → Nat :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let v1411_r0 : BitVec 32 := Scalar.addi v375_r0 c0_i32_761_r0
  let c2880_i32_762_r0 : BitVec 32 := 2880#32
  let v1412_r0 : BitVec 32 := Scalar.muli v1411_r0 c2880_i32_762_r0
  let c2816_i32_r0 : BitVec 32 := 2816#32
  let v1413_r0 : BitVec 32 := Scalar.addi v1412_r0 c2816_i32_r0
  let v1414_r0 : BitVec 32 := v1413_r0
  let v1415_r0 : Index := Scalar.indexCast v1414_r0
  let c0_763_r0 : Index := 0#32
  ![v1415_r0.toNat, 0]
def k0_mult148 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c0_i32_764_r0 : BitVec 32 := 0#32
  let v1417_r0 : BitVec 32 := Scalar.addi v375_r0 c0_i32_764_r0
  let c256_i32_765_r0 : BitVec 32 := 256#32
  let v1418_r0 : BitVec 32 := Scalar.muli v1417_r0 c256_i32_765_r0
  v1418_r0
def k0_mult149 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_768_r0 : BitVec 32 := 1#32
  let v1424_r0 : BitVec 32 := Scalar.addi v375_r0 c1_i32_768_r0
  let c2880_i32_769_r0 : BitVec 32 := 2880#32
  let v1425_r0 : BitVec 32 := Scalar.muli v1424_r0 c2880_i32_769_r0
  let c2816_i32_770_r0 : BitVec 32 := 2816#32
  let v1426_r0 : BitVec 32 := Scalar.addi v1425_r0 c2816_i32_770_r0
  v1426_r0
def k0_mult150 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c1_i32_772_r0 : BitVec 32 := 1#32
  let v1430_r0 : BitVec 32 := Scalar.addi v375_r0 c1_i32_772_r0
  let c256_i32_773_r0 : BitVec 32 := 256#32
  let v1431_r0 : BitVec 32 := Scalar.muli v1430_r0 c256_i32_773_r0
  v1431_r0
def k0_mult151 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_776_r0 : BitVec 32 := 2#32
  let v1438_r0 : BitVec 32 := Scalar.addi v375_r0 c2_i32_776_r0
  let c2880_i32_777_r0 : BitVec 32 := 2880#32
  let v1439_r0 : BitVec 32 := Scalar.muli v1438_r0 c2880_i32_777_r0
  let c2816_i32_778_r0 : BitVec 32 := 2816#32
  let v1440_r0 : BitVec 32 := Scalar.addi v1439_r0 c2816_i32_778_r0
  v1440_r0
def k0_mult152 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c2_i32_780_r0 : BitVec 32 := 2#32
  let v1444_r0 : BitVec 32 := Scalar.addi v375_r0 c2_i32_780_r0
  let c256_i32_781_r0 : BitVec 32 := 256#32
  let v1445_r0 : BitVec 32 := Scalar.muli v1444_r0 c256_i32_781_r0
  v1445_r0
def k0_mult153 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_784_r0 : BitVec 32 := 3#32
  let v1452_r0 : BitVec 32 := Scalar.addi v375_r0 c3_i32_784_r0
  let c2880_i32_785_r0 : BitVec 32 := 2880#32
  let v1453_r0 : BitVec 32 := Scalar.muli v1452_r0 c2880_i32_785_r0
  let c2816_i32_786_r0 : BitVec 32 := 2816#32
  let v1454_r0 : BitVec 32 := Scalar.addi v1453_r0 c2816_i32_786_r0
  v1454_r0
def k0_mult154 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c3_i32_788_r0 : BitVec 32 := 3#32
  let v1458_r0 : BitVec 32 := Scalar.addi v375_r0 c3_i32_788_r0
  let c256_i32_789_r0 : BitVec 32 := 256#32
  let v1459_r0 : BitVec 32 := Scalar.muli v1458_r0 c256_i32_789_r0
  v1459_r0
def k0_mult155 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_792_r0 : BitVec 32 := 4#32
  let v1466_r0 : BitVec 32 := Scalar.addi v375_r0 c4_i32_792_r0
  let c2880_i32_793_r0 : BitVec 32 := 2880#32
  let v1467_r0 : BitVec 32 := Scalar.muli v1466_r0 c2880_i32_793_r0
  let c2816_i32_794_r0 : BitVec 32 := 2816#32
  let v1468_r0 : BitVec 32 := Scalar.addi v1467_r0 c2816_i32_794_r0
  v1468_r0
def k0_mult156 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c4_i32_796_r0 : BitVec 32 := 4#32
  let v1472_r0 : BitVec 32 := Scalar.addi v375_r0 c4_i32_796_r0
  let c256_i32_797_r0 : BitVec 32 := 256#32
  let v1473_r0 : BitVec 32 := Scalar.muli v1472_r0 c256_i32_797_r0
  v1473_r0
def k0_mult157 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_800_r0 : BitVec 32 := 5#32
  let v1480_r0 : BitVec 32 := Scalar.addi v375_r0 c5_i32_800_r0
  let c2880_i32_801_r0 : BitVec 32 := 2880#32
  let v1481_r0 : BitVec 32 := Scalar.muli v1480_r0 c2880_i32_801_r0
  let c2816_i32_802_r0 : BitVec 32 := 2816#32
  let v1482_r0 : BitVec 32 := Scalar.addi v1481_r0 c2816_i32_802_r0
  v1482_r0
def k0_mult158 (k0_t2 : Fin k0_t2_loop.trips) : BitVec 32 :=
  let c0_i32_165_r0 : BitVec 32 := 0#32
  let c0_i32_13_r0 : BitVec 32 := 0#32
  let c1_i32_14_r0 : BitVec 32 := 1#32
  let arg15_r0 : BitVec 32 := Scf.iv c0_i32_13_r0 c1_i32_14_r0 k0_t2
  let c1_i32_164_r0 : BitVec 32 := 1#32
  let v373_r0 : BitVec 32 := Scalar.muli arg15_r0 c1_i32_164_r0
  let v374_r0 : BitVec 32 := Scalar.addi c0_i32_165_r0 v373_r0
  let c6_i32_166_r0 : BitVec 32 := 6#32
  let v375_r0 : BitVec 32 := Scalar.muli v374_r0 c6_i32_166_r0
  let c5_i32_804_r0 : BitVec 32 := 5#32
  let v1486_r0 : BitVec 32 := Scalar.addi v375_r0 c5_i32_804_r0
  let c256_i32_805_r0 : BitVec 32 := 256#32
  let v1487_r0 : BitVec 32 := Scalar.muli v1486_r0 c256_i32_805_r0
  v1487_r0
def k0_mult159 : BitVec 32 :=
  let c6144_i32_r0 : BitVec 32 := 6144#32
  c6144_i32_r0
def k0_mult160 : BitVec 32 :=
  let c69120_i32_r0 : BitVec 32 := 69120#32
  c69120_i32_r0
def k0_mult161 : BitVec 32 :=
  let c6400_i32_r0 : BitVec 32 := 6400#32
  c6400_i32_r0
def k0_mult162 : BitVec 32 :=
  let c72000_i32_r0 : BitVec 32 := 72000#32
  c72000_i32_r0
def k0_mult163 : BitVec 32 :=
  let c6656_i32_r0 : BitVec 32 := 6656#32
  c6656_i32_r0
def k0_mult164 : BitVec 32 :=
  let c74880_i32_r0 : BitVec 32 := 74880#32
  c74880_i32_r0
def k0_mult165 : BitVec 32 :=
  let c6912_i32_r0 : BitVec 32 := 6912#32
  c6912_i32_r0
def k0_mult166 : BitVec 32 :=
  let c77760_i32_r0 : BitVec 32 := 77760#32
  c77760_i32_r0
def k0_mult167 : BitVec 32 :=
  let c7168_i32_r0 : BitVec 32 := 7168#32
  c7168_i32_r0
def k0_mult168 : BitVec 32 :=
  let c80640_i32_r0 : BitVec 32 := 80640#32
  c80640_i32_r0
def k0_mult169 : BitVec 32 :=
  let c7424_i32_r0 : BitVec 32 := 7424#32
  c7424_i32_r0
def k0_mult170 : BitVec 32 :=
  let c83520_i32_r0 : BitVec 32 := 83520#32
  c83520_i32_r0
@[reducible] def k0_t3_loop : Scf.Loop 32 :=
  let c0_i32_28_r0 : BitVec 32 := 0#32
  let c3_i32_29_r0 : BitVec 32 := 3#32
  let v67_r0 : BitVec 32 := Scalar.addi c0_i32_28_r0 c3_i32_29_r0
  let c1_i32_30_r0 : BitVec 32 := 1#32
  ⟨c0_i32_28_r0, v67_r0, c1_i32_30_r0⟩
def k0_mult171 (k0_t3 : Fin k0_t3_loop.trips) : BitVec 32 :=
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  v375_r0
def k0_off10 (k0_t3 : Fin k0_t3_loop.trips) : Fin 2 → Nat :=
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v377_r0 : Index := Scalar.indexCast v376_r0
  let c0_166_r0 : Index := 0#32
  ![v377_r0.toNat, 0]
def k0_mult172 (k0_t3 : Fin k0_t3_loop.trips) : BitVec 32 :=
  let c69120_i32_167_r0 : BitVec 32 := 69120#32
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v379_r0 : BitVec 32 := Scalar.addi c69120_i32_167_r0 v376_r0
  v379_r0
def k0_off11 (k0_t3 : Fin k0_t3_loop.trips) (c69120_i32_167_r0 : BitVec 32) : Fin 2 → Nat :=
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v379_r0 : BitVec 32 := Scalar.addi c69120_i32_167_r0 v376_r0
  let v380_r0 : BitVec 32 := v379_r0
  let v381_r0 : Index := Scalar.indexCast v380_r0
  let c0_168_r0 : Index := 0#32
  ![v381_r0.toNat, 0]
def k0_mult173 : BitVec 32 :=
  let c6144_i32_169_r0 : BitVec 32 := 6144#32
  c6144_i32_169_r0
def k0_mult174 (k0_t3 : Fin k0_t3_loop.trips) : BitVec 32 :=
  let c72000_i32_172_r0 : BitVec 32 := 72000#32
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v388_r0 : BitVec 32 := Scalar.addi c72000_i32_172_r0 v376_r0
  v388_r0
def k0_mult175 : BitVec 32 :=
  let c6400_i32_174_r0 : BitVec 32 := 6400#32
  c6400_i32_174_r0
def k0_mult176 (k0_t3 : Fin k0_t3_loop.trips) : BitVec 32 :=
  let c74880_i32_177_r0 : BitVec 32 := 74880#32
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v398_r0 : BitVec 32 := Scalar.addi c74880_i32_177_r0 v376_r0
  v398_r0
def k0_mult177 : BitVec 32 :=
  let c6656_i32_179_r0 : BitVec 32 := 6656#32
  c6656_i32_179_r0
def k0_mult178 (k0_t3 : Fin k0_t3_loop.trips) : BitVec 32 :=
  let c77760_i32_182_r0 : BitVec 32 := 77760#32
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v408_r0 : BitVec 32 := Scalar.addi c77760_i32_182_r0 v376_r0
  v408_r0
def k0_mult179 : BitVec 32 :=
  let c6912_i32_184_r0 : BitVec 32 := 6912#32
  c6912_i32_184_r0
def k0_mult180 (k0_t3 : Fin k0_t3_loop.trips) : BitVec 32 :=
  let c80640_i32_187_r0 : BitVec 32 := 80640#32
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v418_r0 : BitVec 32 := Scalar.addi c80640_i32_187_r0 v376_r0
  v418_r0
def k0_mult181 : BitVec 32 :=
  let c7168_i32_189_r0 : BitVec 32 := 7168#32
  c7168_i32_189_r0
def k0_mult182 (k0_t3 : Fin k0_t3_loop.trips) : BitVec 32 :=
  let c83520_i32_192_r0 : BitVec 32 := 83520#32
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v428_r0 : BitVec 32 := Scalar.addi c83520_i32_192_r0 v376_r0
  v428_r0
def k0_mult183 : BitVec 32 :=
  let c7424_i32_194_r0 : BitVec 32 := 7424#32
  c7424_i32_194_r0
def k0_off12 (k0_t3 : Fin k0_t3_loop.trips) (c0_i32_197_r0 : BitVec 32) : Fin 1 → Nat :=
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v439_r0 : BitVec 32 := Scalar.addi v376_r0 c0_i32_197_r0
  let v440_r0 : Index := Scalar.indexCast v439_r0
  ![v440_r0.toNat]
def k0_off13 (k0_t3 : Fin k0_t3_loop.trips) (c0_i32_197_r0 : BitVec 32) : Fin 2 → Nat :=
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v439_r0 : BitVec 32 := Scalar.addi v376_r0 c0_i32_197_r0
  let v459_r0 : Index := Scalar.indexCast v439_r0
  let c0_201_r0 : Index := 0#32
  ![v459_r0.toNat, 0]
def k0_off14 (k0_t3 : Fin k0_t3_loop.trips) (c0_i32_197_r0 : BitVec 32) : Fin 2 → Nat :=
  let c0_i32_165_r0 : BitVec 32 := 0#32
  let c0_i32_28_r0 : BitVec 32 := 0#32
  let c1_i32_30_r0 : BitVec 32 := 1#32
  let arg15_r0 : BitVec 32 := Scf.iv c0_i32_28_r0 c1_i32_30_r0 k0_t3
  let c1_i32_164_r0 : BitVec 32 := 1#32
  let v373_r0 : BitVec 32 := Scalar.muli arg15_r0 c1_i32_164_r0
  let v374_r0 : BitVec 32 := Scalar.addi c0_i32_165_r0 v373_r0
  let c768_i32_r0 : BitVec 32 := 768#32
  let v375_r0 : BitVec 32 := Scalar.muli v374_r0 c768_i32_r0
  let v376_r0 : BitVec 32 := v375_r0
  let v439_r0 : BitVec 32 := Scalar.addi v376_r0 c0_i32_197_r0
  let v479_r0 : Index := Scalar.indexCast v439_r0
  let c128_207_r0 : Index := 128#32
  ![v479_r0.toNat, 128]
def k0_mult184 : BitVec 32 :=
  let c71424_i32_r0 : BitVec 32 := 71424#32
  c71424_i32_r0
def k0_mult185 : BitVec 32 :=
  let c6144_i32_34_r0 : BitVec 32 := 6144#32
  c6144_i32_34_r0
def k0_mult186 : BitVec 32 :=
  let c74304_i32_r0 : BitVec 32 := 74304#32
  c74304_i32_r0
def k0_mult187 : BitVec 32 :=
  let c6400_i32_38_r0 : BitVec 32 := 6400#32
  c6400_i32_38_r0
def k0_mult188 : BitVec 32 :=
  let c77184_i32_r0 : BitVec 32 := 77184#32
  c77184_i32_r0
def k0_mult189 : BitVec 32 :=
  let c6656_i32_42_r0 : BitVec 32 := 6656#32
  c6656_i32_42_r0
def k0_mult190 : BitVec 32 :=
  let c80064_i32_r0 : BitVec 32 := 80064#32
  c80064_i32_r0
def k0_mult191 : BitVec 32 :=
  let c6912_i32_46_r0 : BitVec 32 := 6912#32
  c6912_i32_46_r0
def k0_mult192 : BitVec 32 :=
  let c82944_i32_r0 : BitVec 32 := 82944#32
  c82944_i32_r0
def k0_mult193 : BitVec 32 :=
  let c7168_i32_50_r0 : BitVec 32 := 7168#32
  c7168_i32_50_r0
def k0_mult194 : BitVec 32 :=
  let c85824_i32_r0 : BitVec 32 := 85824#32
  c85824_i32_r0
def k0_mult195 : BitVec 32 :=
  let c7424_i32_54_r0 : BitVec 32 := 7424#32
  c7424_i32_54_r0
abbrev stage0_0 : Fin 1 → Memref sig .tc .vmem S256x7680 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x128x7680 : Shape := ⟨3, ![2, 128, 7680]⟩
abbrev S2x128 : Shape := ⟨2, ![2, 128]⟩
abbrev S2x128x2880 : Shape := ⟨3, ![2, 128, 2880]⟩
abbrev S7680x2880 : Shape := ⟨2, ![7680, 2880]⟩
abbrev S2880 : Shape := ⟨1, ![2880]⟩
abbrev S2x2880x128 : Shape := ⟨3, ![2, 2880, 128]⟩
abbrev S1x128x7680 : Shape := ⟨3, ![1, 128, 7680]⟩
abbrev S128x7680 : Shape := ⟨2, ![128, 7680]⟩
abbrev S128x2880 : Shape := ⟨2, ![128, 2880]⟩
abbrev S1x128x2880 : Shape := ⟨3, ![1, 128, 2880]⟩
abbrev S1x128 : Shape := ⟨2, ![1, 128]⟩
abbrev S128 : Shape := ⟨1, ![128]⟩
abbrev S128x1 : Shape := ⟨2, ![128, 1]⟩
abbrev S1x2880 : Shape := ⟨2, ![1, 2880]⟩
abbrev S2880x128 : Shape := ⟨2, ![2880, 128]⟩
abbrev S1x2880x128 : Shape := ⟨3, ![1, 2880, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x128x7680, .fp8e4m3⟩
  | .hbm, ⟨1, _⟩ => ⟨S2x128, .f32⟩
  | .hbm, ⟨2, _⟩ => ⟨S2x128x2880, .f32⟩
  | .hbm, ⟨3, _⟩ => ⟨S2x128, .i32⟩
  | .hbm, ⟨4, _⟩ => ⟨S7680x2880, .fp8e4m3⟩
  | .hbm, ⟨5, _⟩ => ⟨S2880, .f32⟩
  | .hbm, ⟨6, _⟩ => ⟨S2880, .f32⟩
  | .hbm, ⟨7, _⟩ => ⟨S2x2880x128, .bf16⟩
  | .local _ .vmem, ⟨0, _⟩ => ⟨S2x128x7680, .fp8e4m3⟩
  | .local _ .vmem, ⟨1, _⟩ => ⟨S2x128, .f32⟩
  | .local _ .vmem, ⟨2, _⟩ => ⟨S2x128x2880, .f32⟩
  | .local _ .vmem, ⟨3, _⟩ => ⟨S2x128, .i32⟩
  | .local _ .vmem, ⟨4, _⟩ => ⟨S7680x2880, .fp8e4m3⟩
  | .local _ .vmem, ⟨5, _⟩ => ⟨S2880, .f32⟩
  | .local _ .vmem, ⟨6, _⟩ => ⟨S2880, .f32⟩
  | .local _ .vmem, ⟨7, _⟩ => ⟨S2x2880x128, .bf16⟩
  | _, _ => ⟨S2x128x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x128x7680 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2880 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2880x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Up.lean ====
abbrev S2x128x2880 : Shape := ⟨3, ![2, 128, 2880]⟩
abbrev S2x128 : Shape := ⟨2, ![2, 128]⟩
abbrev S2880x7680 : Shape := ⟨2, ![2880, 7680]⟩
abbrev S7680 : Shape := ⟨1, ![7680]⟩
abbrev S256x2880 : Shape := ⟨2, ![256, 2880]⟩
abbrev S2x128x7680 : Shape := ⟨3, ![2, 128, 7680]⟩
abbrev S161280x256 : Shape := ⟨2, ![161280, 256]⟩
abbrev S256x7680 : Shape := ⟨2, ![256, 7680]⟩
abbrev S256x128 : Shape := ⟨2, ![256, 128]⟩
abbrev S4x2x128 : Shape := ⟨3, ![4, 2, 128]⟩
abbrev S15 : Shape := ⟨1, ![15]⟩
abbrev S84 : Shape := ⟨1, ![84]⟩
abbrev S14 : Shape := ⟨1, ![14]⟩
abbrev S1 : Shape := ⟨1, ![1]⟩
abbrev S_ : Shape := ⟨0, ![]⟩
abbrev S2880x256 : Shape := ⟨2, ![2880, 256]⟩
abbrev S1x2x128 : Shape := ⟨3, ![1, 2, 128]⟩
abbrev S1x1x128 : Shape := ⟨3, ![1, 1, 128]⟩
abbrev S128 : Shape := ⟨1, ![128]⟩
abbrev S1x128 : Shape := ⟨2, ![1, 128]⟩
abbrev S128x128 : Shape := ⟨2, ![128, 128]⟩
abbrev S256x256 : Shape := ⟨2, ![256, 256]⟩
abbrev S256x64 : Shape := ⟨2, ![256, 64]⟩
abbrev S64x256 : Shape := ⟨2, ![64, 256]⟩
abbrev S256 : Shape := ⟨1, ![256]⟩
abbrev S256x1 : Shape := ⟨2, ![256, 1]⟩
abbrev S1x128x7680 : Shape := ⟨3, ![1, 128, 7680]⟩
abbrev S128x7680 : Shape := ⟨2, ![128, 7680]⟩

abbrev nBuf : Space → Nat
  | .hbm => 8
  | .vmem => 10
  | .smem => 0
  | _ => 0

abbrev bufTy : (tb : Table) → Fin (tcTables nBuf tb) → BufTy
  | .hbm, ⟨0, _⟩ => ⟨S2x128x2880, .fp8e4m3⟩
  | .hbm, ⟨1, _⟩ => ⟨S2x128, .f32⟩
  | .hbm, ⟨2, _⟩ => ⟨S2880x7680, .fp8e4m3⟩
  | .hbm, ⟨3, _⟩ => ⟨S7680, .f32⟩
  | .hbm, ⟨4, _⟩ => ⟨S7680, .f32⟩
  | .hbm, ⟨5, _⟩ => ⟨S256x2880, .fp8e4m3⟩
  | .hbm, ⟨6, _⟩ => ⟨S2x128x7680, .fp8e4m3⟩
  | .hbm, ⟨7, _⟩ => ⟨S2x128, .f32⟩
  | .local _ .vmem, ⟨0, _⟩ => ⟨S256x2880, .fp8e4m3⟩
  | .local _ .vmem, ⟨1, _⟩ => ⟨S2x128, .f32⟩
  | .local _ .vmem, ⟨2, _⟩ => ⟨S7680, .f32⟩
  | .local _ .vmem, ⟨3, _⟩ => ⟨S7680, .f32⟩
  | .local _ .vmem, ⟨4, _⟩ => ⟨S161280x256, .fp8e4m3⟩
  | .local _ .vmem, ⟨5, _⟩ => ⟨S256x7680, .f32⟩
  | .local _ .vmem, ⟨6, _⟩ => ⟨S256x7680, .fp8e4m3⟩
  | .local _ .vmem, ⟨7, _⟩ => ⟨S256x128, .f32⟩
  | .local _ .vmem, ⟨8, _⟩ => ⟨S256x128, .f32⟩
  | .local _ .vmem, ⟨9, _⟩ => ⟨S4x2x128, .f32⟩
  | _, _ => ⟨S2x128x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_r0 : BitVec 32 := 0#32
  let c30_i32_r0 : BitVec 32 := 30#32
  let v7_r0 : BitVec 32 := Scalar.addi c0_i32_r0 c30_i32_r0
  let c1_i32_r0 : BitVec 32 := 1#32
  ⟨c0_i32_r0, v7_r0, c1_i32_r0⟩
def k0_mult1 (k0_t1 : Fin k0_t1_loop.trips) : BitVec 32 :=
  let c0_i32_73_r0 : BitVec 32 := 0#32
  let c0_i32_r0 : BitVec 32 := 0#32
  let c1_i32_r0 : BitVec 32 := 1#32
  let arg15_r0 : BitVec 32 := Scf.iv c0_i32_r0 c1_i32_r0 k0_t1
  let c1_i32_72_r0 : BitVec 32 := 1#32
  let v110_r0 : BitVec 32 := Scalar.muli arg15_r0 c1_i32_72_r0
  let v111_r0 : BitVec 32 := Scalar.addi c0_i32_73_r0 v110_r0
  let c256_i32_r0 : BitVec 32 := 256#32
  let v114_r0 : BitVec 32 := Scalar.muli v111_r0 c256_i32_r0
  v114_r0
def k0_mult2 (k0_t1 : Fin k0_t1_loop.trips) : BitVec 32 :=
  let c26_i32_r0 : BitVec 32 := 26#32
  let c0_i32_73_r0 : BitVec 32 := 0#32
  let c0_i32_r0 : BitVec 32 := 0#32
  let c1_i32_r0 : BitVec 32 := 1#32
  let arg15_r0 : BitVec 32 := Scf.iv c0_i32_r0 c1_i32_r0 k0_t1
  let c1_i32_72_r0 : BitVec 32 := 1#32
  let v110_r0 : BitVec 32 := Scalar.muli arg15_r0 c1_i32_72_r0
  let v111_r0 : BitVec 32 := Scalar.addi c0_i32_73_r0 v110_r0
  let v112_r0 : BitVec 32 := Scalar.addi c26_i32_r0 v111_r0
  let c2880_i32_r0 : BitVec 32 := 2880#32
  let v116_r0 : BitVec 32 := Scalar.muli v112_r0 c2880_i32_r0
  let c0_i32_74_r0 : BitVec 32 := 0#32
  let v117_r0 : BitVec 32 := Scalar.addi v116_r0 c0_i32_74_r0
  v117_r0
def k0_off1 (k0_t1 : Fin k0_t1_loop.trips) : Fin 1 → Nat :=
  let c24_i32_r0 : BitVec 32 := 24#32
  let c0_i32_73_r0 : BitVec 32 := 0#32
  let c0_i32_r0 : BitVec 32 := 0#32
  let c1_i32_r0 : BitVec 32 := 1#32
  let arg15_r0 : BitVec 32 := Scf.iv c0_i32_r0 c1_i32_r0 k0_t1
  let c1_i32_72_r0 : BitVec 32 := 1#32
  let v110_r0 : BitVec 32 := Scalar.muli arg15_r0 c1_i32_72_r0
  let v111_r0 : BitVec 32 := Scalar.addi c0_i32_73_r0 v110_r0
  let v113_r0 : BitVec 32 := Scalar.addi c24_i32_r0 v111_r0
  ![v113_r0.toNat]
def k0_off2 (k0_t1 : Fin k0_t1_loop.trips) : Fin 2 → Nat :=
  let c26_i32_r0 : BitVec 32 := 26#32
  let c0_i32_73_r0 : BitVec 32 := 0#32
  let c0_i32_r0 : BitVec 32 := 0#32
  let c1_i32_r0 : BitVec 32 := 1#32
  let arg15_r0 : BitVec 32 := Scf.iv c0_i32_r0 c1_i32_r0 k0_t1
  let c1_i32_72_r0 : BitVec 32 := 1#32
  let v110_r0 : BitVec 32 := Scalar.muli arg15_r0 c1_i32_72_r0
  let v111_r0 : BitVec 32 := Scalar.addi c0_i32_73_r0 v110_r0
  let v112_r0 : BitVec 32 := Scalar.addi c26_i32_r0 v111_r0
  let c2880_i32_r0 : BitVec 32 := 2880#32
  let v116_r0 : BitVec 32 := Scalar.muli v112_r0 c2880_i32_r0
  let c0_i32_74_r0 : BitVec 32 := 0#32
  let v117_r0 : BitVec 32 := Scalar.addi v116_r0 c0_i32_74_r0
  let v118_r0 : BitVec 32 := v117_r0
  let c0_i32_75_r0 : BitVec 32 := 0#32
  ![v118_r0.toNat, 0]
def k0_off3 (k0_t1 : Fin k0_t1_loop.trips) : Fin 2 → Nat :=
  let c0_i32_76_r0 : BitVec 32 := 0#32
  let c0_i32_73_r0 : BitVec 32 := 0#32
  let c0_i32_r0 : BitVec 32 := 0#32
  let c1_i32_r0 : BitVec 32 := 1#32
  let arg15_r0 : BitVec 32 := Scf.iv c0_i32_r0 c1_i32_r0 k0_t1
  let c1_i32_72_r0 : BitVec 32 := 1#32
  let v110_r0 : BitVec 32 := Scalar.muli arg15_r0 c1_i32_72_r0
  let v111_r0 : BitVec 32 := Scalar.addi c0_i32_73_r0 v110_r0
  let c256_i32_r0 : BitVec 32 := 256#32
  let v114_r0 : BitVec 32 := Scalar.muli v111_r0 c256_i32_r0
  let v115_r0 : BitVec 32 := v114_r0
  ![0, v115_r0.toNat]
@[reducible] def k0_t2_loop : Scf.Loop 32 :=
  let c0_i32_16_r0 : BitVec 32 := 0#32
  let c5_i32_r0 : BitVec 32 := 5#32
  let v38_r0 : BitVec 32 := Scalar.addi c0_i32_16_r0 c5_i32_r0
  let c1_i32_17_r0 : BitVec 32 := 1#32
  ⟨c0_i32_16_r0, v38_r0, c1_i32_17_r0⟩
def k0_mult3 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_r0 : BitVec 32 := 6#32
  let v112_r0 : BitVec 32 := Scalar.muli v111_r0 c6_i32_r0
  let c0_i32_74_r0 : BitVec 32 := 0#32
  let v113_r0 : BitVec 32 := Scalar.addi v112_r0 c0_i32_74_r0
  let c256_i32_r0 : BitVec 32 := 256#32
  let v116_r0 : BitVec 32 := Scalar.muli v113_r0 c256_i32_r0
  v116_r0
def k0_mult4 (k0_t2 : Fin k0_t2_loop.trips) : BitVec 32 :=
  let c26_i32_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_r0 : BitVec 32 := 6#32
  let v112_r0 : BitVec 32 := Scalar.muli v111_r0 c6_i32_r0
  let c0_i32_74_r0 : BitVec 32 := 0#32
  let v113_r0 : BitVec 32 := Scalar.addi v112_r0 c0_i32_74_r0
  let v114_r0 : BitVec 32 := Scalar.addi c26_i32_r0 v113_r0
  let c2880_i32_r0 : BitVec 32 := 2880#32
  let v118_r0 : BitVec 32 := Scalar.muli v114_r0 c2880_i32_r0
  let c0_i32_75_r0 : BitVec 32 := 0#32
  let v119_r0 : BitVec 32 := Scalar.addi v118_r0 c0_i32_75_r0
  v119_r0
def k0_off4 (k0_t2 : Fin k0_t2_loop.trips) (c0_i32_74_r0 : BitVec 32) : Fin 1 → Nat :=
  let c24_i32_r0 : BitVec 32 := 24#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_r0 : BitVec 32 := 6#32
  let v112_r0 : BitVec 32 := Scalar.muli v111_r0 c6_i32_r0
  let v113_r0 : BitVec 32 := Scalar.addi v112_r0 c0_i32_74_r0
  let v115_r0 : BitVec 32 := Scalar.addi c24_i32_r0 v113_r0
  ![v115_r0.toNat]
def k0_off5 (k0_t2 : Fin k0_t2_loop.trips) (c0_i32_74_r0 : BitVec 32) : Fin 2 → Nat :=
  let c26_i32_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_r0 : BitVec 32 := 6#32
  let v112_r0 : BitVec 32 := Scalar.muli v111_r0 c6_i32_r0
  let v113_r0 : BitVec 32 := Scalar.addi v112_r0 c0_i32_74_r0
  let v114_r0 : BitVec 32 := Scalar.addi c26_i32_r0 v113_r0
  let c2880_i32_r0 : BitVec 32 := 2880#32
  let v118_r0 : BitVec 32 := Scalar.muli v114_r0 c2880_i32_r0
  let c0_i32_75_r0 : BitVec 32 := 0#32
  let v119_r0 : BitVec 32 := Scalar.addi v118_r0 c0_i32_75_r0
  let v120_r0 : BitVec 32 := v119_r0
  let c0_i32_76_r0 : BitVec 32 := 0#32
  ![v120_r0.toNat, 0]
def k0_off6 (k0_t2 : Fin k0_t2_loop.trips) (c0_i32_74_r0 : BitVec 32) : Fin 2 → Nat :=
  let c0_i32_77_r0 : BitVec 32 := 0#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_r0 : BitVec 32 := 6#32
  let v112_r0 : BitVec 32 := Scalar.muli v111_r0 c6_i32_r0
  let v113_r0 : BitVec 32 := Scalar.addi v112_r0 c0_i32_74_r0
  let c256_i32_r0 : BitVec 32 := 256#32
  let v116_r0 : BitVec 32 := Scalar.muli v113_r0 c256_i32_r0
  let v117_r0 : BitVec 32 := v116_r0
  ![0, v117_r0.toNat]
def k0_mult5 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_78_r0 : BitVec 32 := 6#32
  let v125_r0 : BitVec 32 := Scalar.muli v111_r0 c6_i32_78_r0
  let c1_i32_79_r0 : BitVec 32 := 1#32
  let v126_r0 : BitVec 32 := Scalar.addi v125_r0 c1_i32_79_r0
  let c256_i32_82_r0 : BitVec 32 := 256#32
  let v129_r0 : BitVec 32 := Scalar.muli v126_r0 c256_i32_82_r0
  v129_r0
def k0_mult6 (k0_t2 : Fin k0_t2_loop.trips) : BitVec 32 :=
  let c26_i32_80_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_78_r0 : BitVec 32 := 6#32
  let v125_r0 : BitVec 32 := Scalar.muli v111_r0 c6_i32_78_r0
  let c1_i32_79_r0 : BitVec 32 := 1#32
  let v126_r0 : BitVec 32 := Scalar.addi v125_r0 c1_i32_79_r0
  let v127_r0 : BitVec 32 := Scalar.addi c26_i32_80_r0 v126_r0
  let c2880_i32_83_r0 : BitVec 32 := 2880#32
  let v131_r0 : BitVec 32 := Scalar.muli v127_r0 c2880_i32_83_r0
  let c0_i32_84_r0 : BitVec 32 := 0#32
  let v132_r0 : BitVec 32 := Scalar.addi v131_r0 c0_i32_84_r0
  v132_r0
def k0_mult7 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_87_r0 : BitVec 32 := 6#32
  let v138_r0 : BitVec 32 := Scalar.muli v111_r0 c6_i32_87_r0
  let c2_i32_r0 : BitVec 32 := 2#32
  let v139_r0 : BitVec 32 := Scalar.addi v138_r0 c2_i32_r0
  let c256_i32_90_r0 : BitVec 32 := 256#32
  let v142_r0 : BitVec 32 := Scalar.muli v139_r0 c256_i32_90_r0
  v142_r0
def k0_mult8 (k0_t2 : Fin k0_t2_loop.trips) : BitVec 32 :=
  let c26_i32_88_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_87_r0 : BitVec 32 := 6#32
  let v138_r0 : BitVec 32 := Scalar.muli v111_r0 c6_i32_87_r0
  let c2_i32_r0 : BitVec 32 := 2#32
  let v139_r0 : BitVec 32 := Scalar.addi v138_r0 c2_i32_r0
  let v140_r0 : BitVec 32 := Scalar.addi c26_i32_88_r0 v139_r0
  let c2880_i32_91_r0 : BitVec 32 := 2880#32
  let v144_r0 : BitVec 32 := Scalar.muli v140_r0 c2880_i32_91_r0
  let c0_i32_92_r0 : BitVec 32 := 0#32
  let v145_r0 : BitVec 32 := Scalar.addi v144_r0 c0_i32_92_r0
  v145_r0
def k0_mult9 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_95_r0 : BitVec 32 := 6#32
  let v151_r0 : BitVec 32 := Scalar.muli v111_r0 c6_i32_95_r0
  let c3_i32_96_r0 : BitVec 32 := 3#32
  let v152_r0 : BitVec 32 := Scalar.addi v151_r0 c3_i32_96_r0
  let c256_i32_99_r0 : BitVec 32 := 256#32
  let v155_r0 : BitVec 32 := Scalar.muli v152_r0 c256_i32_99_r0
  v155_r0
def k0_mult10 (k0_t2 : Fin k0_t2_loop.trips) : BitVec 32 :=
  let c26_i32_97_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_95_r0 : BitVec 32 := 6#32
  let v151_r0 : BitVec 32 := Scalar.muli v111_r0 c6_i32_95_r0
  let c3_i32_96_r0 : BitVec 32 := 3#32
  let v152_r0 : BitVec 32 := Scalar.addi v151_r0 c3_i32_96_r0
  let v153_r0 : BitVec 32 := Scalar.addi c26_i32_97_r0 v152_r0
  let c2880_i32_100_r0 : BitVec 32 := 2880#32
  let v157_r0 : BitVec 32 := Scalar.muli v153_r0 c2880_i32_100_r0
  let c0_i32_101_r0 : BitVec 32 := 0#32
  let v158_r0 : BitVec 32 := Scalar.addi v157_r0 c0_i32_101_r0
  v158_r0
def k0_mult11 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_104_r0 : BitVec 32 := 6#32
  let v164_r0 : BitVec 32 := Scalar.muli v111_r0 c6_i32_104_r0
  let c4_i32_r0 : BitVec 32 := 4#32
  let v165_r0 : BitVec 32 := Scalar.addi v164_r0 c4_i32_r0
  let c256_i32_107_r0 : BitVec 32 := 256#32
  let v168_r0 : BitVec 32 := Scalar.muli v165_r0 c256_i32_107_r0
  v168_r0
def k0_mult12 (k0_t2 : Fin k0_t2_loop.trips) : BitVec 32 :=
  let c26_i32_105_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_104_r0 : BitVec 32 := 6#32
  let v164_r0 : BitVec 32 := Scalar.muli v111_r0 c6_i32_104_r0
  let c4_i32_r0 : BitVec 32 := 4#32
  let v165_r0 : BitVec 32 := Scalar.addi v164_r0 c4_i32_r0
  let v166_r0 : BitVec 32 := Scalar.addi c26_i32_105_r0 v165_r0
  let c2880_i32_108_r0 : BitVec 32 := 2880#32
  let v170_r0 : BitVec 32 := Scalar.muli v166_r0 c2880_i32_108_r0
  let c0_i32_109_r0 : BitVec 32 := 0#32
  let v171_r0 : BitVec 32 := Scalar.addi v170_r0 c0_i32_109_r0
  v171_r0
def k0_mult13 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_112_r0 : BitVec 32 := 6#32
  let v177_r0 : BitVec 32 := Scalar.muli v111_r0 c6_i32_112_r0
  let c5_i32_113_r0 : BitVec 32 := 5#32
  let v178_r0 : BitVec 32 := Scalar.addi v177_r0 c5_i32_113_r0
  let c256_i32_116_r0 : BitVec 32 := 256#32
  let v181_r0 : BitVec 32 := Scalar.muli v178_r0 c256_i32_116_r0
  v181_r0
def k0_mult14 (k0_t2 : Fin k0_t2_loop.trips) : BitVec 32 :=
  let c26_i32_114_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_112_r0 : BitVec 32 := 6#32
  let v177_r0 : BitVec 32 := Scalar.muli v111_r0 c6_i32_112_r0
  let c5_i32_113_r0 : BitVec 32 := 5#32
  let v178_r0 : BitVec 32 := Scalar.addi v177_r0 c5_i32_113_r0
  let v179_r0 : BitVec 32 := Scalar.addi c26_i32_114_r0 v178_r0
  let c2880_i32_117_r0 : BitVec 32 := 2880#32
  let v183_r0 : BitVec 32 := Scalar.muli v179_r0 c2880_i32_117_r0
  let c0_i32_118_r0 : BitVec 32 := 0#32
  let v184_r0 : BitVec 32 := Scalar.addi v183_r0 c0_i32_118_r0
  v184_r0
def k0_mult15 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_126_r0 : BitVec 32 := 2880#32
  let v195_r0 : BitVec 32 := Scalar.muli v192_r0 c2880_i32_126_r0
  let c0_i32_127_r0 : BitVec 32 := 0#32
  let v196_r0 : BitVec 32 := Scalar.addi v195_r0 c0_i32_127_r0
  v196_r0
def k0_off7 (k0_t2 : Fin k0_t2_loop.trips) (c0_i32_122_r0 : BitVec 32) (c0_i32_127_r0 : BitVec 32) : Fin 2 → Nat :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let v191_r0 : BitVec 32 := Scalar.addi v190_r0 c0_i32_122_r0
  let v192_r0 : BitVec 32 := Scalar.addi c26_i32_123_r0 v191_r0
  let c2880_i32_126_r0 : BitVec 32 := 2880#32
  let v195_r0 : BitVec 32 := Scalar.muli v192_r0 c2880_i32_126_r0
  let v196_r0 : BitVec 32 := Scalar.addi v195_r0 c0_i32_127_r0
  let v197_r0 : BitVec 32 := v196_r0
  let v198_r0 : Index := Scalar.indexCast v197_r0
  let c0_128_r0 : Index := 0#32
  ![v198_r0.toNat, 0]
def k0_mult16 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_131_r0 : BitVec 32 := 2880#32
  let v203_r0 : BitVec 32 := Scalar.muli v192_r0 c2880_i32_131_r0
  let c256_i32_132_r0 : BitVec 32 := 256#32
  let v204_r0 : BitVec 32 := Scalar.addi v203_r0 c256_i32_132_r0
  v204_r0
def k0_mult17 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_136_r0 : BitVec 32 := 2880#32
  let v212_r0 : BitVec 32 := Scalar.muli v192_r0 c2880_i32_136_r0
  let c512_i32_r0 : BitVec 32 := 512#32
  let v213_r0 : BitVec 32 := Scalar.addi v212_r0 c512_i32_r0
  v213_r0
def k0_mult18 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_140_r0 : BitVec 32 := 2880#32
  let v221_r0 : BitVec 32 := Scalar.muli v192_r0 c2880_i32_140_r0
  let c768_i32_r0 : BitVec 32 := 768#32
  let v222_r0 : BitVec 32 := Scalar.addi v221_r0 c768_i32_r0
  v222_r0
def k0_mult19 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_144_r0 : BitVec 32 := 2880#32
  let v230_r0 : BitVec 32 := Scalar.muli v192_r0 c2880_i32_144_r0
  let c1024_i32_r0 : BitVec 32 := 1024#32
  let v231_r0 : BitVec 32 := Scalar.addi v230_r0 c1024_i32_r0
  v231_r0
def k0_mult20 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_148_r0 : BitVec 32 := 2880#32
  let v239_r0 : BitVec 32 := Scalar.muli v192_r0 c2880_i32_148_r0
  let c1280_i32_r0 : BitVec 32 := 1280#32
  let v240_r0 : BitVec 32 := Scalar.addi v239_r0 c1280_i32_r0
  v240_r0
def k0_mult21 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_152_r0 : BitVec 32 := 2880#32
  let v248_r0 : BitVec 32 := Scalar.muli v192_r0 c2880_i32_152_r0
  let c1536_i32_r0 : BitVec 32 := 1536#32
  let v249_r0 : BitVec 32 := Scalar.addi v248_r0 c1536_i32_r0
  v249_r0
def k0_mult22 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_156_r0 : BitVec 32 := 2880#32
  let v257_r0 : BitVec 32 := Scalar.muli v192_r0 c2880_i32_156_r0
  let c1792_i32_r0 : BitVec 32 := 1792#32
  let v258_r0 : BitVec 32 := Scalar.addi v257_r0 c1792_i32_r0
  v258_r0
def k0_mult23 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_160_r0 : BitVec 32 := 2880#32
  let v266_r0 : BitVec 32 := Scalar.muli v192_r0 c2880_i32_160_r0
  let c2048_i32_r0 : BitVec 32 := 2048#32
  let v267_r0 : BitVec 32 := Scalar.addi v266_r0 c2048_i32_r0
  v267_r0
def k0_mult24 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_164_r0 : BitVec 32 := 2880#32
  let v275_r0 : BitVec 32 := Scalar.muli v192_r0 c2880_i32_164_r0
  let c2304_i32_r0 : BitVec 32 := 2304#32
  let v276_r0 : BitVec 32 := Scalar.addi v275_r0 c2304_i32_r0
  v276_r0
def k0_mult25 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_168_r0 : BitVec 32 := 2880#32
  let v284_r0 : BitVec 32 := Scalar.muli v192_r0 c2880_i32_168_r0
  let c2560_i32_r0 : BitVec 32 := 2560#32
  let v285_r0 : BitVec 32 := Scalar.addi v284_r0 c2560_i32_r0
  v285_r0
def k0_mult26 (k0_t2 : Fin k0_t2_loop.trips) : BitVec 32 :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let v192_r0 : BitVec 32 := Scalar.addi c26_i32_123_r0 v191_r0
  let c2880_i32_172_r0 : BitVec 32 := 2880#32
  let v293_r0 : BitVec 32 := Scalar.muli v192_r0 c2880_i32_172_r0
  let c2816_i32_r0 : BitVec 32 := 2816#32
  let v294_r0 : BitVec 32 := Scalar.addi v293_r0 c2816_i32_r0
  v294_r0
def k0_off8 (k0_t2 : Fin k0_t2_loop.trips) (c0_i32_122_r0 : BitVec 32) : Fin 2 → Nat :=
  let c26_i32_123_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let v191_r0 : BitVec 32 := Scalar.addi v190_r0 c0_i32_122_r0
  let v192_r0 : BitVec 32 := Scalar.addi c26_i32_123_r0 v191_r0
  let c2880_i32_172_r0 : BitVec 32 := 2880#32
  let v293_r0 : BitVec 32 := Scalar.muli v192_r0 c2880_i32_172_r0
  let c2816_i32_r0 : BitVec 32 := 2816#32
  let v294_r0 : BitVec 32 := Scalar.addi v293_r0 c2816_i32_r0
  let v295_r0 : BitVec 32 := v294_r0
  let v296_r0 : Index := Scalar.indexCast v295_r0
  let c0_173_r0 : Index := 0#32
  ![v296_r0.toNat, 0]
def k0_mult27 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let c256_i32_175_r0 : BitVec 32 := 256#32
  let v300_r0 : BitVec 32 := Scalar.muli v191_r0 c256_i32_175_r0
  let c0_i32_176_r0 : BitVec 32 := 0#32
  let v301_r0 : BitVec 32 := Scalar.addi v300_r0 c0_i32_176_r0
  v301_r0
def k0_off9 (k0_t2 : Fin k0_t2_loop.trips) (c0_i32_122_r0 : BitVec 32) (c0_i32_176_r0 : BitVec 32) : Fin 1 → Nat :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let v191_r0 : BitVec 32 := Scalar.addi v190_r0 c0_i32_122_r0
  let c256_i32_175_r0 : BitVec 32 := 256#32
  let v300_r0 : BitVec 32 := Scalar.muli v191_r0 c256_i32_175_r0
  let v301_r0 : BitVec 32 := Scalar.addi v300_r0 c0_i32_176_r0
  let v302_r0 : BitVec 32 := v301_r0
  let v306_r0 : Index := Scalar.indexCast v302_r0
  ![v306_r0.toNat]
def k0_off10 (k0_t2 : Fin k0_t2_loop.trips) (c0_i32_122_r0 : BitVec 32) (c0_i32_176_r0 : BitVec 32) : Fin 2 → Nat :=
  let c0_182_r0 : Index := 0#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let v191_r0 : BitVec 32 := Scalar.addi v190_r0 c0_i32_122_r0
  let c256_i32_175_r0 : BitVec 32 := 256#32
  let v300_r0 : BitVec 32 := Scalar.muli v191_r0 c256_i32_175_r0
  let v301_r0 : BitVec 32 := Scalar.addi v300_r0 c0_i32_176_r0
  let v302_r0 : BitVec 32 := v301_r0
  let v324_r0 : Index := Scalar.indexCast v302_r0
  ![0, v324_r0.toNat]
def k0_mult28 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_121_r0 : BitVec 32 := 6#32
  let v190_r0 : BitVec 32 := Scalar.muli v111_r0 c6_i32_121_r0
  let c0_i32_122_r0 : BitVec 32 := 0#32
  let v191_r0 : BitVec 32 := Scalar.addi v190_r0 c0_i32_122_r0
  let c256_i32_187_r0 : BitVec 32 := 256#32
  let v334_r0 : BitVec 32 := Scalar.muli v191_r0 c256_i32_187_r0
  let c128_i32_188_r0 : BitVec 32 := 128#32
  let v335_r0 : BitVec 32 := Scalar.addi v334_r0 c128_i32_188_r0
  v335_r0
def k0_mult29 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_204_r0 : BitVec 32 := 2880#32
  let v373_r0 : BitVec 32 := Scalar.muli v370_r0 c2880_i32_204_r0
  let c0_i32_205_r0 : BitVec 32 := 0#32
  let v374_r0 : BitVec 32 := Scalar.addi v373_r0 c0_i32_205_r0
  v374_r0
def k0_mult30 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_210_r0 : BitVec 32 := 2880#32
  let v381_r0 : BitVec 32 := Scalar.muli v370_r0 c2880_i32_210_r0
  let c256_i32_211_r0 : BitVec 32 := 256#32
  let v382_r0 : BitVec 32 := Scalar.addi v381_r0 c256_i32_211_r0
  v382_r0
def k0_mult31 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_216_r0 : BitVec 32 := 2880#32
  let v390_r0 : BitVec 32 := Scalar.muli v370_r0 c2880_i32_216_r0
  let c512_i32_217_r0 : BitVec 32 := 512#32
  let v391_r0 : BitVec 32 := Scalar.addi v390_r0 c512_i32_217_r0
  v391_r0
def k0_mult32 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_222_r0 : BitVec 32 := 2880#32
  let v399_r0 : BitVec 32 := Scalar.muli v370_r0 c2880_i32_222_r0
  let c768_i32_223_r0 : BitVec 32 := 768#32
  let v400_r0 : BitVec 32 := Scalar.addi v399_r0 c768_i32_223_r0
  v400_r0
def k0_mult33 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_228_r0 : BitVec 32 := 2880#32
  let v408_r0 : BitVec 32 := Scalar.muli v370_r0 c2880_i32_228_r0
  let c1024_i32_229_r0 : BitVec 32 := 1024#32
  let v409_r0 : BitVec 32 := Scalar.addi v408_r0 c1024_i32_229_r0
  v409_r0
def k0_mult34 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_234_r0 : BitVec 32 := 2880#32
  let v417_r0 : BitVec 32 := Scalar.muli v370_r0 c2880_i32_234_r0
  let c1280_i32_235_r0 : BitVec 32 := 1280#32
  let v418_r0 : BitVec 32 := Scalar.addi v417_r0 c1280_i32_235_r0
  v418_r0
def k0_mult35 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_240_r0 : BitVec 32 := 2880#32
  let v426_r0 : BitVec 32 := Scalar.muli v370_r0 c2880_i32_240_r0
  let c1536_i32_241_r0 : BitVec 32 := 1536#32
  let v427_r0 : BitVec 32 := Scalar.addi v426_r0 c1536_i32_241_r0
  v427_r0
def k0_mult36 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_246_r0 : BitVec 32 := 2880#32
  let v435_r0 : BitVec 32 := Scalar.muli v370_r0 c2880_i32_246_r0
  let c1792_i32_247_r0 : BitVec 32 := 1792#32
  let v436_r0 : BitVec 32 := Scalar.addi v435_r0 c1792_i32_247_r0
  v436_r0
def k0_mult37 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_252_r0 : BitVec 32 := 2880#32
  let v444_r0 : BitVec 32 := Scalar.muli v370_r0 c2880_i32_252_r0
  let c2048_i32_253_r0 : BitVec 32 := 2048#32
  let v445_r0 : BitVec 32 := Scalar.addi v444_r0 c2048_i32_253_r0
  v445_r0
def k0_mult38 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_258_r0 : BitVec 32 := 2880#32
  let v453_r0 : BitVec 32 := Scalar.muli v370_r0 c2880_i32_258_r0
  let c2304_i32_259_r0 : BitVec 32 := 2304#32
  let v454_r0 : BitVec 32 := Scalar.addi v453_r0 c2304_i32_259_r0
  v454_r0
def k0_mult39 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_264_r0 : BitVec 32 := 2880#32
  let v462_r0 : BitVec 32 := Scalar.muli v370_r0 c2880_i32_264_r0
  let c2560_i32_265_r0 : BitVec 32 := 2560#32
  let v463_r0 : BitVec 32 := Scalar.addi v462_r0 c2560_i32_265_r0
  v463_r0
def k0_mult40 (k0_t2 : Fin k0_t2_loop.trips) : BitVec 32 :=
  let c26_i32_201_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let v370_r0 : BitVec 32 := Scalar.addi c26_i32_201_r0 v369_r0
  let c2880_i32_270_r0 : BitVec 32 := 2880#32
  let v471_r0 : BitVec 32 := Scalar.muli v370_r0 c2880_i32_270_r0
  let c2816_i32_271_r0 : BitVec 32 := 2816#32
  let v472_r0 : BitVec 32 := Scalar.addi v471_r0 c2816_i32_271_r0
  v472_r0
def k0_mult41 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let c256_i32_274_r0 : BitVec 32 := 256#32
  let v478_r0 : BitVec 32 := Scalar.muli v369_r0 c256_i32_274_r0
  let c0_i32_275_r0 : BitVec 32 := 0#32
  let v479_r0 : BitVec 32 := Scalar.addi v478_r0 c0_i32_275_r0
  v479_r0
def k0_mult42 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_199_r0 : BitVec 32 := 6#32
  let v368_r0 : BitVec 32 := Scalar.muli v111_r0 c6_i32_199_r0
  let c1_i32_200_r0 : BitVec 32 := 1#32
  let v369_r0 : BitVec 32 := Scalar.addi v368_r0 c1_i32_200_r0
  let c256_i32_286_r0 : BitVec 32 := 256#32
  let v512_r0 : BitVec 32 := Scalar.muli v369_r0 c256_i32_286_r0
  let c128_i32_287_r0 : BitVec 32 := 128#32
  let v513_r0 : BitVec 32 := Scalar.addi v512_r0 c128_i32_287_r0
  v513_r0
def k0_mult43 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_303_r0 : BitVec 32 := 2880#32
  let v551_r0 : BitVec 32 := Scalar.muli v548_r0 c2880_i32_303_r0
  let c0_i32_304_r0 : BitVec 32 := 0#32
  let v552_r0 : BitVec 32 := Scalar.addi v551_r0 c0_i32_304_r0
  v552_r0
def k0_mult44 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_309_r0 : BitVec 32 := 2880#32
  let v559_r0 : BitVec 32 := Scalar.muli v548_r0 c2880_i32_309_r0
  let c256_i32_310_r0 : BitVec 32 := 256#32
  let v560_r0 : BitVec 32 := Scalar.addi v559_r0 c256_i32_310_r0
  v560_r0
def k0_mult45 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_315_r0 : BitVec 32 := 2880#32
  let v568_r0 : BitVec 32 := Scalar.muli v548_r0 c2880_i32_315_r0
  let c512_i32_316_r0 : BitVec 32 := 512#32
  let v569_r0 : BitVec 32 := Scalar.addi v568_r0 c512_i32_316_r0
  v569_r0
def k0_mult46 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_321_r0 : BitVec 32 := 2880#32
  let v577_r0 : BitVec 32 := Scalar.muli v548_r0 c2880_i32_321_r0
  let c768_i32_322_r0 : BitVec 32 := 768#32
  let v578_r0 : BitVec 32 := Scalar.addi v577_r0 c768_i32_322_r0
  v578_r0
def k0_mult47 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_327_r0 : BitVec 32 := 2880#32
  let v586_r0 : BitVec 32 := Scalar.muli v548_r0 c2880_i32_327_r0
  let c1024_i32_328_r0 : BitVec 32 := 1024#32
  let v587_r0 : BitVec 32 := Scalar.addi v586_r0 c1024_i32_328_r0
  v587_r0
def k0_mult48 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_333_r0 : BitVec 32 := 2880#32
  let v595_r0 : BitVec 32 := Scalar.muli v548_r0 c2880_i32_333_r0
  let c1280_i32_334_r0 : BitVec 32 := 1280#32
  let v596_r0 : BitVec 32 := Scalar.addi v595_r0 c1280_i32_334_r0
  v596_r0
def k0_mult49 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_339_r0 : BitVec 32 := 2880#32
  let v604_r0 : BitVec 32 := Scalar.muli v548_r0 c2880_i32_339_r0
  let c1536_i32_340_r0 : BitVec 32 := 1536#32
  let v605_r0 : BitVec 32 := Scalar.addi v604_r0 c1536_i32_340_r0
  v605_r0
def k0_mult50 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_345_r0 : BitVec 32 := 2880#32
  let v613_r0 : BitVec 32 := Scalar.muli v548_r0 c2880_i32_345_r0
  let c1792_i32_346_r0 : BitVec 32 := 1792#32
  let v614_r0 : BitVec 32 := Scalar.addi v613_r0 c1792_i32_346_r0
  v614_r0
def k0_mult51 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_351_r0 : BitVec 32 := 2880#32
  let v622_r0 : BitVec 32 := Scalar.muli v548_r0 c2880_i32_351_r0
  let c2048_i32_352_r0 : BitVec 32 := 2048#32
  let v623_r0 : BitVec 32 := Scalar.addi v622_r0 c2048_i32_352_r0
  v623_r0
def k0_mult52 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_357_r0 : BitVec 32 := 2880#32
  let v631_r0 : BitVec 32 := Scalar.muli v548_r0 c2880_i32_357_r0
  let c2304_i32_358_r0 : BitVec 32 := 2304#32
  let v632_r0 : BitVec 32 := Scalar.addi v631_r0 c2304_i32_358_r0
  v632_r0
def k0_mult53 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_363_r0 : BitVec 32 := 2880#32
  let v640_r0 : BitVec 32 := Scalar.muli v548_r0 c2880_i32_363_r0
  let c2560_i32_364_r0 : BitVec 32 := 2560#32
  let v641_r0 : BitVec 32 := Scalar.addi v640_r0 c2560_i32_364_r0
  v641_r0
def k0_mult54 (k0_t2 : Fin k0_t2_loop.trips) : BitVec 32 :=
  let c26_i32_300_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let v548_r0 : BitVec 32 := Scalar.addi c26_i32_300_r0 v547_r0
  let c2880_i32_369_r0 : BitVec 32 := 2880#32
  let v649_r0 : BitVec 32 := Scalar.muli v548_r0 c2880_i32_369_r0
  let c2816_i32_370_r0 : BitVec 32 := 2816#32
  let v650_r0 : BitVec 32 := Scalar.addi v649_r0 c2816_i32_370_r0
  v650_r0
def k0_mult55 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let c256_i32_373_r0 : BitVec 32 := 256#32
  let v656_r0 : BitVec 32 := Scalar.muli v547_r0 c256_i32_373_r0
  let c0_i32_374_r0 : BitVec 32 := 0#32
  let v657_r0 : BitVec 32 := Scalar.addi v656_r0 c0_i32_374_r0
  v657_r0
def k0_mult56 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_298_r0 : BitVec 32 := 6#32
  let v546_r0 : BitVec 32 := Scalar.muli v111_r0 c6_i32_298_r0
  let c2_i32_299_r0 : BitVec 32 := 2#32
  let v547_r0 : BitVec 32 := Scalar.addi v546_r0 c2_i32_299_r0
  let c256_i32_385_r0 : BitVec 32 := 256#32
  let v690_r0 : BitVec 32 := Scalar.muli v547_r0 c256_i32_385_r0
  let c128_i32_386_r0 : BitVec 32 := 128#32
  let v691_r0 : BitVec 32 := Scalar.addi v690_r0 c128_i32_386_r0
  v691_r0
def k0_mult57 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_402_r0 : BitVec 32 := 2880#32
  let v729_r0 : BitVec 32 := Scalar.muli v726_r0 c2880_i32_402_r0
  let c0_i32_403_r0 : BitVec 32 := 0#32
  let v730_r0 : BitVec 32 := Scalar.addi v729_r0 c0_i32_403_r0
  v730_r0
def k0_mult58 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_408_r0 : BitVec 32 := 2880#32
  let v737_r0 : BitVec 32 := Scalar.muli v726_r0 c2880_i32_408_r0
  let c256_i32_409_r0 : BitVec 32 := 256#32
  let v738_r0 : BitVec 32 := Scalar.addi v737_r0 c256_i32_409_r0
  v738_r0
def k0_mult59 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_414_r0 : BitVec 32 := 2880#32
  let v746_r0 : BitVec 32 := Scalar.muli v726_r0 c2880_i32_414_r0
  let c512_i32_415_r0 : BitVec 32 := 512#32
  let v747_r0 : BitVec 32 := Scalar.addi v746_r0 c512_i32_415_r0
  v747_r0
def k0_mult60 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_420_r0 : BitVec 32 := 2880#32
  let v755_r0 : BitVec 32 := Scalar.muli v726_r0 c2880_i32_420_r0
  let c768_i32_421_r0 : BitVec 32 := 768#32
  let v756_r0 : BitVec 32 := Scalar.addi v755_r0 c768_i32_421_r0
  v756_r0
def k0_mult61 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_426_r0 : BitVec 32 := 2880#32
  let v764_r0 : BitVec 32 := Scalar.muli v726_r0 c2880_i32_426_r0
  let c1024_i32_427_r0 : BitVec 32 := 1024#32
  let v765_r0 : BitVec 32 := Scalar.addi v764_r0 c1024_i32_427_r0
  v765_r0
def k0_mult62 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_432_r0 : BitVec 32 := 2880#32
  let v773_r0 : BitVec 32 := Scalar.muli v726_r0 c2880_i32_432_r0
  let c1280_i32_433_r0 : BitVec 32 := 1280#32
  let v774_r0 : BitVec 32 := Scalar.addi v773_r0 c1280_i32_433_r0
  v774_r0
def k0_mult63 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_438_r0 : BitVec 32 := 2880#32
  let v782_r0 : BitVec 32 := Scalar.muli v726_r0 c2880_i32_438_r0
  let c1536_i32_439_r0 : BitVec 32 := 1536#32
  let v783_r0 : BitVec 32 := Scalar.addi v782_r0 c1536_i32_439_r0
  v783_r0
def k0_mult64 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_444_r0 : BitVec 32 := 2880#32
  let v791_r0 : BitVec 32 := Scalar.muli v726_r0 c2880_i32_444_r0
  let c1792_i32_445_r0 : BitVec 32 := 1792#32
  let v792_r0 : BitVec 32 := Scalar.addi v791_r0 c1792_i32_445_r0
  v792_r0
def k0_mult65 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_450_r0 : BitVec 32 := 2880#32
  let v800_r0 : BitVec 32 := Scalar.muli v726_r0 c2880_i32_450_r0
  let c2048_i32_451_r0 : BitVec 32 := 2048#32
  let v801_r0 : BitVec 32 := Scalar.addi v800_r0 c2048_i32_451_r0
  v801_r0
def k0_mult66 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_456_r0 : BitVec 32 := 2880#32
  let v809_r0 : BitVec 32 := Scalar.muli v726_r0 c2880_i32_456_r0
  let c2304_i32_457_r0 : BitVec 32 := 2304#32
  let v810_r0 : BitVec 32 := Scalar.addi v809_r0 c2304_i32_457_r0
  v810_r0
def k0_mult67 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_462_r0 : BitVec 32 := 2880#32
  let v818_r0 : BitVec 32 := Scalar.muli v726_r0 c2880_i32_462_r0
  let c2560_i32_463_r0 : BitVec 32 := 2560#32
  let v819_r0 : BitVec 32 := Scalar.addi v818_r0 c2560_i32_463_r0
  v819_r0
def k0_mult68 (k0_t2 : Fin k0_t2_loop.trips) : BitVec 32 :=
  let c26_i32_399_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let v726_r0 : BitVec 32 := Scalar.addi c26_i32_399_r0 v725_r0
  let c2880_i32_468_r0 : BitVec 32 := 2880#32
  let v827_r0 : BitVec 32 := Scalar.muli v726_r0 c2880_i32_468_r0
  let c2816_i32_469_r0 : BitVec 32 := 2816#32
  let v828_r0 : BitVec 32 := Scalar.addi v827_r0 c2816_i32_469_r0
  v828_r0
def k0_mult69 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let c256_i32_472_r0 : BitVec 32 := 256#32
  let v834_r0 : BitVec 32 := Scalar.muli v725_r0 c256_i32_472_r0
  let c0_i32_473_r0 : BitVec 32 := 0#32
  let v835_r0 : BitVec 32 := Scalar.addi v834_r0 c0_i32_473_r0
  v835_r0
def k0_mult70 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_397_r0 : BitVec 32 := 6#32
  let v724_r0 : BitVec 32 := Scalar.muli v111_r0 c6_i32_397_r0
  let c3_i32_398_r0 : BitVec 32 := 3#32
  let v725_r0 : BitVec 32 := Scalar.addi v724_r0 c3_i32_398_r0
  let c256_i32_484_r0 : BitVec 32 := 256#32
  let v868_r0 : BitVec 32 := Scalar.muli v725_r0 c256_i32_484_r0
  let c128_i32_485_r0 : BitVec 32 := 128#32
  let v869_r0 : BitVec 32 := Scalar.addi v868_r0 c128_i32_485_r0
  v869_r0
def k0_mult71 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_501_r0 : BitVec 32 := 2880#32
  let v907_r0 : BitVec 32 := Scalar.muli v904_r0 c2880_i32_501_r0
  let c0_i32_502_r0 : BitVec 32 := 0#32
  let v908_r0 : BitVec 32 := Scalar.addi v907_r0 c0_i32_502_r0
  v908_r0
def k0_mult72 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_507_r0 : BitVec 32 := 2880#32
  let v915_r0 : BitVec 32 := Scalar.muli v904_r0 c2880_i32_507_r0
  let c256_i32_508_r0 : BitVec 32 := 256#32
  let v916_r0 : BitVec 32 := Scalar.addi v915_r0 c256_i32_508_r0
  v916_r0
def k0_mult73 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_513_r0 : BitVec 32 := 2880#32
  let v924_r0 : BitVec 32 := Scalar.muli v904_r0 c2880_i32_513_r0
  let c512_i32_514_r0 : BitVec 32 := 512#32
  let v925_r0 : BitVec 32 := Scalar.addi v924_r0 c512_i32_514_r0
  v925_r0
def k0_mult74 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_519_r0 : BitVec 32 := 2880#32
  let v933_r0 : BitVec 32 := Scalar.muli v904_r0 c2880_i32_519_r0
  let c768_i32_520_r0 : BitVec 32 := 768#32
  let v934_r0 : BitVec 32 := Scalar.addi v933_r0 c768_i32_520_r0
  v934_r0
def k0_mult75 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_525_r0 : BitVec 32 := 2880#32
  let v942_r0 : BitVec 32 := Scalar.muli v904_r0 c2880_i32_525_r0
  let c1024_i32_526_r0 : BitVec 32 := 1024#32
  let v943_r0 : BitVec 32 := Scalar.addi v942_r0 c1024_i32_526_r0
  v943_r0
def k0_mult76 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_531_r0 : BitVec 32 := 2880#32
  let v951_r0 : BitVec 32 := Scalar.muli v904_r0 c2880_i32_531_r0
  let c1280_i32_532_r0 : BitVec 32 := 1280#32
  let v952_r0 : BitVec 32 := Scalar.addi v951_r0 c1280_i32_532_r0
  v952_r0
def k0_mult77 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_537_r0 : BitVec 32 := 2880#32
  let v960_r0 : BitVec 32 := Scalar.muli v904_r0 c2880_i32_537_r0
  let c1536_i32_538_r0 : BitVec 32 := 1536#32
  let v961_r0 : BitVec 32 := Scalar.addi v960_r0 c1536_i32_538_r0
  v961_r0
def k0_mult78 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_543_r0 : BitVec 32 := 2880#32
  let v969_r0 : BitVec 32 := Scalar.muli v904_r0 c2880_i32_543_r0
  let c1792_i32_544_r0 : BitVec 32 := 1792#32
  let v970_r0 : BitVec 32 := Scalar.addi v969_r0 c1792_i32_544_r0
  v970_r0
def k0_mult79 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_549_r0 : BitVec 32 := 2880#32
  let v978_r0 : BitVec 32 := Scalar.muli v904_r0 c2880_i32_549_r0
  let c2048_i32_550_r0 : BitVec 32 := 2048#32
  let v979_r0 : BitVec 32 := Scalar.addi v978_r0 c2048_i32_550_r0
  v979_r0
def k0_mult80 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_555_r0 : BitVec 32 := 2880#32
  let v987_r0 : BitVec 32 := Scalar.muli v904_r0 c2880_i32_555_r0
  let c2304_i32_556_r0 : BitVec 32 := 2304#32
  let v988_r0 : BitVec 32 := Scalar.addi v987_r0 c2304_i32_556_r0
  v988_r0
def k0_mult81 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_561_r0 : BitVec 32 := 2880#32
  let v996_r0 : BitVec 32 := Scalar.muli v904_r0 c2880_i32_561_r0
  let c2560_i32_562_r0 : BitVec 32 := 2560#32
  let v997_r0 : BitVec 32 := Scalar.addi v996_r0 c2560_i32_562_r0
  v997_r0
def k0_mult82 (k0_t2 : Fin k0_t2_loop.trips) : BitVec 32 :=
  let c26_i32_498_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let v904_r0 : BitVec 32 := Scalar.addi c26_i32_498_r0 v903_r0
  let c2880_i32_567_r0 : BitVec 32 := 2880#32
  let v1005_r0 : BitVec 32 := Scalar.muli v904_r0 c2880_i32_567_r0
  let c2816_i32_568_r0 : BitVec 32 := 2816#32
  let v1006_r0 : BitVec 32 := Scalar.addi v1005_r0 c2816_i32_568_r0
  v1006_r0
def k0_mult83 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let c256_i32_571_r0 : BitVec 32 := 256#32
  let v1012_r0 : BitVec 32 := Scalar.muli v903_r0 c256_i32_571_r0
  let c0_i32_572_r0 : BitVec 32 := 0#32
  let v1013_r0 : BitVec 32 := Scalar.addi v1012_r0 c0_i32_572_r0
  v1013_r0
def k0_mult84 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_496_r0 : BitVec 32 := 6#32
  let v902_r0 : BitVec 32 := Scalar.muli v111_r0 c6_i32_496_r0
  let c4_i32_497_r0 : BitVec 32 := 4#32
  let v903_r0 : BitVec 32 := Scalar.addi v902_r0 c4_i32_497_r0
  let c256_i32_583_r0 : BitVec 32 := 256#32
  let v1046_r0 : BitVec 32 := Scalar.muli v903_r0 c256_i32_583_r0
  let c128_i32_584_r0 : BitVec 32 := 128#32
  let v1047_r0 : BitVec 32 := Scalar.addi v1046_r0 c128_i32_584_r0
  v1047_r0
def k0_mult85 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_600_r0 : BitVec 32 := 2880#32
  let v1085_r0 : BitVec 32 := Scalar.muli v1082_r0 c2880_i32_600_r0
  let c0_i32_601_r0 : BitVec 32 := 0#32
  let v1086_r0 : BitVec 32 := Scalar.addi v1085_r0 c0_i32_601_r0
  v1086_r0
def k0_mult86 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_606_r0 : BitVec 32 := 2880#32
  let v1093_r0 : BitVec 32 := Scalar.muli v1082_r0 c2880_i32_606_r0
  let c256_i32_607_r0 : BitVec 32 := 256#32
  let v1094_r0 : BitVec 32 := Scalar.addi v1093_r0 c256_i32_607_r0
  v1094_r0
def k0_mult87 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_612_r0 : BitVec 32 := 2880#32
  let v1102_r0 : BitVec 32 := Scalar.muli v1082_r0 c2880_i32_612_r0
  let c512_i32_613_r0 : BitVec 32 := 512#32
  let v1103_r0 : BitVec 32 := Scalar.addi v1102_r0 c512_i32_613_r0
  v1103_r0
def k0_mult88 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_618_r0 : BitVec 32 := 2880#32
  let v1111_r0 : BitVec 32 := Scalar.muli v1082_r0 c2880_i32_618_r0
  let c768_i32_619_r0 : BitVec 32 := 768#32
  let v1112_r0 : BitVec 32 := Scalar.addi v1111_r0 c768_i32_619_r0
  v1112_r0
def k0_mult89 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_624_r0 : BitVec 32 := 2880#32
  let v1120_r0 : BitVec 32 := Scalar.muli v1082_r0 c2880_i32_624_r0
  let c1024_i32_625_r0 : BitVec 32 := 1024#32
  let v1121_r0 : BitVec 32 := Scalar.addi v1120_r0 c1024_i32_625_r0
  v1121_r0
def k0_mult90 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_630_r0 : BitVec 32 := 2880#32
  let v1129_r0 : BitVec 32 := Scalar.muli v1082_r0 c2880_i32_630_r0
  let c1280_i32_631_r0 : BitVec 32 := 1280#32
  let v1130_r0 : BitVec 32 := Scalar.addi v1129_r0 c1280_i32_631_r0
  v1130_r0
def k0_mult91 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_636_r0 : BitVec 32 := 2880#32
  let v1138_r0 : BitVec 32 := Scalar.muli v1082_r0 c2880_i32_636_r0
  let c1536_i32_637_r0 : BitVec 32 := 1536#32
  let v1139_r0 : BitVec 32 := Scalar.addi v1138_r0 c1536_i32_637_r0
  v1139_r0
def k0_mult92 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_642_r0 : BitVec 32 := 2880#32
  let v1147_r0 : BitVec 32 := Scalar.muli v1082_r0 c2880_i32_642_r0
  let c1792_i32_643_r0 : BitVec 32 := 1792#32
  let v1148_r0 : BitVec 32 := Scalar.addi v1147_r0 c1792_i32_643_r0
  v1148_r0
def k0_mult93 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_648_r0 : BitVec 32 := 2880#32
  let v1156_r0 : BitVec 32 := Scalar.muli v1082_r0 c2880_i32_648_r0
  let c2048_i32_649_r0 : BitVec 32 := 2048#32
  let v1157_r0 : BitVec 32 := Scalar.addi v1156_r0 c2048_i32_649_r0
  v1157_r0
def k0_mult94 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_654_r0 : BitVec 32 := 2880#32
  let v1165_r0 : BitVec 32 := Scalar.muli v1082_r0 c2880_i32_654_r0
  let c2304_i32_655_r0 : BitVec 32 := 2304#32
  let v1166_r0 : BitVec 32 := Scalar.addi v1165_r0 c2304_i32_655_r0
  v1166_r0
def k0_mult95 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_660_r0 : BitVec 32 := 2880#32
  let v1174_r0 : BitVec 32 := Scalar.muli v1082_r0 c2880_i32_660_r0
  let c2560_i32_661_r0 : BitVec 32 := 2560#32
  let v1175_r0 : BitVec 32 := Scalar.addi v1174_r0 c2560_i32_661_r0
  v1175_r0
def k0_mult96 (k0_t2 : Fin k0_t2_loop.trips) : BitVec 32 :=
  let c26_i32_597_r0 : BitVec 32 := 26#32
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let v1082_r0 : BitVec 32 := Scalar.addi c26_i32_597_r0 v1081_r0
  let c2880_i32_666_r0 : BitVec 32 := 2880#32
  let v1183_r0 : BitVec 32 := Scalar.muli v1082_r0 c2880_i32_666_r0
  let c2816_i32_667_r0 : BitVec 32 := 2816#32
  let v1184_r0 : BitVec 32 := Scalar.addi v1183_r0 c2816_i32_667_r0
  v1184_r0
def k0_mult97 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let c256_i32_670_r0 : BitVec 32 := 256#32
  let v1190_r0 : BitVec 32 := Scalar.muli v1081_r0 c256_i32_670_r0
  let c0_i32_671_r0 : BitVec 32 := 0#32
  let v1191_r0 : BitVec 32 := Scalar.addi v1190_r0 c0_i32_671_r0
  v1191_r0
def k0_mult98 (k0_t2 : Fin k0_t2_loop.trips) : BitVec 32 :=
  let c0_i32_73_r0 : BitVec 32 := 0#32
  let c0_i32_16_r0 : BitVec 32 := 0#32
  let c1_i32_17_r0 : BitVec 32 := 1#32
  let arg15_r0 : BitVec 32 := Scf.iv c0_i32_16_r0 c1_i32_17_r0 k0_t2
  let c1_i32_72_r0 : BitVec 32 := 1#32
  let v110_r0 : BitVec 32 := Scalar.muli arg15_r0 c1_i32_72_r0
  let v111_r0 : BitVec 32 := Scalar.addi c0_i32_73_r0 v110_r0
  let c6_i32_595_r0 : BitVec 32 := 6#32
  let v1080_r0 : BitVec 32 := Scalar.muli v111_r0 c6_i32_595_r0
  let c5_i32_596_r0 : BitVec 32 := 5#32
  let v1081_r0 : BitVec 32 := Scalar.addi v1080_r0 c5_i32_596_r0
  let c256_i32_682_r0 : BitVec 32 := 256#32
  let v1224_r0 : BitVec 32 := Scalar.muli v1081_r0 c256_i32_682_r0
  let c128_i32_683_r0 : BitVec 32 := 128#32
  let v1225_r0 : BitVec 32 := Scalar.addi v1224_r0 c128_i32_683_r0
  v1225_r0
@[reducible] def k0_t3_loop : Scf.Loop 32 :=
  let c0_i32_41_r0 : BitVec 32 := 0#32
  let c60_i32_r0 : BitVec 32 := 60#32
  let v81_r0 : BitVec 32 := Scalar.addi c0_i32_41_r0 c60_i32_r0
  let c1_i32_42_r0 : BitVec 32 := 1#32
  ⟨c0_i32_41_r0, v81_r0, c1_i32_42_r0⟩
def k0_mult99 (k0_t3 : Fin k0_t3_loop.trips) : BitVec 32 :=
  let c0_i32_73_r0 : BitVec 32 := 0#32
  let c0_i32_41_r0 : BitVec 32 := 0#32
  let c1_i32_42_r0 : BitVec 32 := 1#32
  let arg15_r0 : BitVec 32 := Scf.iv c0_i32_41_r0 c1_i32_42_r0 k0_t3
  let c1_i32_72_r0 : BitVec 32 := 1#32
  let v110_r0 : BitVec 32 := Scalar.muli arg15_r0 c1_i32_72_r0
  let v111_r0 : BitVec 32 := Scalar.addi c0_i32_73_r0 v110_r0
  let c128_i32_74_r0 : BitVec 32 := 128#32
  let v112_r0 : BitVec 32 := Scalar.muli v111_r0 c128_i32_74_r0
  v112_r0
def k0_off11 (k0_t3 : Fin k0_t3_loop.trips) : Fin 2 → Nat :=
  let c0_75_r0 : Index := 0#32
  let c0_i32_73_r0 : BitVec 32 := 0#32
  let c0_i32_41_r0 : BitVec 32 := 0#32
  let c1_i32_42_r0 : BitVec 32 := 1#32
  let arg15_r0 : BitVec 32 := Scf.iv c0_i32_41_r0 c1_i32_42_r0 k0_t3
  let c1_i32_72_r0 : BitVec 32 := 1#32
  let v110_r0 : BitVec 32 := Scalar.muli arg15_r0 c1_i32_72_r0
  let v111_r0 : BitVec 32 := Scalar.addi c0_i32_73_r0 v110_r0
  let c128_i32_74_r0 : BitVec 32 := 128#32
  let v112_r0 : BitVec 32 := Scalar.muli v111_r0 c128_i32_74_r0
  let v113_r0 : BitVec 32 := v112_r0
  let v114_r0 : Index := Scalar.indexCast v113_r0
  ![0, v114_r0.toNat]
abbrev stage0_0 : Fin 1 → Memref sig .tc .vmem S256x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== UpReferenceIdeal.lean ====
abbrev S2x128x2880 : Shape := ⟨3, ![2, 128, 2880]⟩
abbrev S2x128 : Shape := ⟨2, ![2, 128]⟩
abbrev S2880x7680 : Shape := ⟨2, ![2880, 7680]⟩
abbrev S7680 : Shape := ⟨1, ![7680]⟩
abbrev S2x128x7680 : Shape := ⟨3, ![2, 128, 7680]⟩
abbrev S1x128x2880 : Shape := ⟨3, ![1, 128, 2880]⟩
abbrev S128x2880 : Shape := ⟨2, ![128, 2880]⟩
abbrev S128x7680 : Shape := ⟨2, ![128, 7680]⟩
abbrev S1x128 : Shape := ⟨2, ![1, 128]⟩
abbrev S128 : Shape := ⟨1, ![128]⟩
abbrev S128x1 : Shape := ⟨2, ![128, 1]⟩
abbrev S1x7680 : Shape := ⟨2, ![1, 7680]⟩
abbrev S1x128x7680 : Shape := ⟨3, ![1, 128, 7680]⟩

abbrev nBuf : Space → Nat
  | .hbm => 7
  | .vmem => 7
  | .smem => 0
  | _ => 0

abbrev bufTy : (tb : Table) → Fin (tcTables nBuf tb) → BufTy
  | .hbm, ⟨0, _⟩ => ⟨S2x128x2880, .fp8e4m3⟩
  | .hbm, ⟨1, _⟩ => ⟨S2x128, .f32⟩
  | .hbm, ⟨2, _⟩ => ⟨S2880x7680, .fp8e4m3⟩
  | .hbm, ⟨3, _⟩ => ⟨S7680, .f32⟩
  | .hbm, ⟨4, _⟩ => ⟨S7680, .f32⟩
  | .hbm, ⟨5, _⟩ => ⟨S2x128x7680, .fp8e4m3⟩
  | .hbm, ⟨6, _⟩ => ⟨S2x128, .f32⟩
  | .local _ .vmem, ⟨0, _⟩ => ⟨S2x128x2880, .fp8e4m3⟩
  | .local _ .vmem, ⟨1, _⟩ => ⟨S2x128, .f32⟩
  | .local _ .vmem, ⟨2, _⟩ => ⟨S2880x7680, .fp8e4m3⟩
  | .local _ .vmem, ⟨3, _⟩ => ⟨S7680, .f32⟩
  | .local _ .vmem, ⟨4, _⟩ => ⟨S7680, .f32⟩
  | .local _ .vmem, ⟨5, _⟩ => ⟨S2x128x7680, .fp8e4m3⟩
  | .local _ .vmem, ⟨6, _⟩ => ⟨S2x128, .f32⟩
  | _, _ => ⟨S2x128x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x7680 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Panels.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameValue
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## Big separating conjunctions cut at a number -/

section Cut

variable {M : Type} [URA M] {N : ℕ} (Φ : Fin N → sProp M)

/-- The conjuncts at `n` and above. -/
def Hi (n : ℕ) : sProp M := bigSep (Finset.univ.filter fun i : Fin N => n ≤ i.val) Φ

/-- The conjuncts below `n`. -/
def Lo (n : ℕ) : sProp M := bigSep (Finset.univ.filter fun i : Fin N => i.val < n) Φ

theorem Hi_step (n : ℕ) (h : n < N) : Hi Φ n = iprop(Φ ⟨n, h⟩ ∗ Hi Φ (n + 1)) := by
  have e : (Finset.univ.filter fun i : Fin N => n ≤ i.val) = insert ⟨n, h⟩ (Finset.univ.filter fun i : Fin N => n + 1 ≤ i.val) := by
    ext i; simp only [Finset.mem_filter, Finset.mem_univ, true_and, Finset.mem_insert, Fin.ext_iff]; omega
  unfold Hi
  rw [e, bigSep_insert (by simp)]
  rfl

theorem Lo_step (n : ℕ) (h : n < N) : Lo Φ (n + 1) = iprop(Φ ⟨n, h⟩ ∗ Lo Φ n) := by
  have e : (Finset.univ.filter fun i : Fin N => i.val < n + 1) = insert ⟨n, h⟩ (Finset.univ.filter fun i : Fin N => i.val < n) := by
    ext i; simp only [Finset.mem_filter, Finset.mem_univ, true_and, Finset.mem_insert, Fin.ext_iff]; omega
  unfold Lo
  rw [e, bigSep_insert (by simp)]
  rfl

theorem Hi_zero : Hi Φ 0 = bigSep Finset.univ Φ := by
  unfold Hi; congr 1; ext i; simp

theorem Lo_zero : Lo Φ 0 = iprop(emp) := by
  unfold Lo
  rw [show (Finset.univ.filter fun i : Fin N => i.val < 0) = ∅ from by ext i; simp, bigSep_empty]
  rfl

theorem Hi_top : Hi Φ N = iprop(emp) := by
  unfold Hi
  rw [show (Finset.univ.filter fun i : Fin N => N ≤ i.val) = ∅ from by ext i; simp, bigSep_empty]
  rfl

theorem Lo_top : Lo Φ N = bigSep Finset.univ Φ := by
  unfold Lo; congr 1; ext i; simp

end Cut

/-! ## The cells, the slots of the arena and the panels of the weight -/

/-- A cell of the panels' semaphore array at an offset. -/
abbrev cellO (o : Fin 1 → ℕ) (h : ∀ a, o a + S1.size a ≤ S84.size a) : DmaSem sig :=
  ((v1_r0.slice (Rect.unit (s := S84) o S1.size h)).squeeze S_ squeezes_S1_S_).sem

/-- A slot of the arena at an offset. -/
abbrev slotO (o : Fin 2 → ℕ) (h : ∀ a, o a + S2880x256.size a ≤ S161280x256.size a) : Rect S161280x256 :=
  Rect.unit (s := S161280x256) o S2880x256.size h

/-- A panel of the weight at an offset. -/
abbrev panelO (o : Fin 2 → ℕ) (h : ∀ a, o a + S2880x256.size a ≤ S2880x7680.size a) : Memref sig .tc .hbm S2880x256 .fp8e4m3 :=
  arg4.slice (Rect.unit (s := S2880x7680) o S2880x256.size h) (fun _ => rfl)

section Slots

variable (A : Buf (Elt F) (arg12.view.loc (c : Thread nD τ))) (Wf : Buf (Elt F) (arg4.view.loc (c : Thread nD τ)))
  (o4 : Fin 1 → ℕ) (o5 o6 : Fin 2 → ℕ) (h4 : ∀ a, o4 a + S1.size a ≤ S84.size a)
  (h5 : ∀ a, o5 a + S2880x256.size a ≤ S161280x256.size a) (h6 : ∀ a, o6 a + S2880x256.size a ≤ S2880x7680.size a)

/-- A slot's elements at the arena's contents beside a panel's elements at the weight's. -/
def del : sProp 𝕄 :=
  iprop((arg12.view.loc (c : Thread nD τ) ↦[arg12.view.setOn (slotO o5 h5).set]{fullShare} A)
   ∗ ((panelO arg4 o6 h6).view.loc (c : Thread nD τ) ↦[(panelO arg4 o6 h6).view.set]{fullShare} Wf))

/-- A panel's transfer in flight. -/
def fl : sProp 𝕄 :=
  Transfers.Flight (countersEmb (U := Pipeline.UD sig nD τ)) (c : Thread nD τ) (.dma (cellO v1_r0 o4 h4)) () (arg12.view.ref.dmaCredit S2880x256 .fp8e4m3) (del c arg4 arg12 A Wf o5 o6 h5 h6)

/-- A slot and a panel held by the core, with the cell back at zero. -/
def landed : sProp 𝕄 :=
  iprop(del c arg4 arg12 A Wf o5 o6 h5 h6 ∗ semVal ((c : Thread nD τ), SemLoc.dma (cellO v1_r0 o4 h4)) 0)

variable {o4 o5 o6} in
theorem fl_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    fl c arg4 arg12 v1_r0 A Wf o4 o5 o6 h4 h5 h6 = fl c arg4 arg12 v1_r0 A Wf o4' o5' o6' h4' h5' h6' := by
  subst e4 e5 e6; rfl

variable {o4 o5 o6} in
theorem landed_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    landed c arg4 arg12 v1_r0 A Wf o4 o5 o6 h4 h5 h6 = landed c arg4 arg12 v1_r0 A Wf o4' o5' o6' h4' h5' h6' := by
  subst e4 e5 e6; rfl

end Slots

theorem cell_inb : ∀ i : Fin 30, ∀ a, (![i.val + 54] : Fin 1 → ℕ) a + S1.size a ≤ S84.size a := by decide +kernel
theorem slot_inb : ∀ i : Fin 30, ∀ a, (![2880 * i.val, 0] : Fin 2 → ℕ) a + S2880x256.size a ≤ S161280x256.size a := by decide +kernel
theorem panel_inb : ∀ i : Fin 30, ∀ a, (![0, 256 * i.val] : Fin 2 → ℕ) a + S2880x256.size a ≤ S2880x7680.size a := by decide +kernel

section Stage

variable (A : Buf (Elt F) (arg12.view.loc (c : Thread nD τ))) (Wf : Buf (Elt F) (arg4.view.loc (c : Thread nD τ)))

/-- Panel `i`'s transfer in flight. -/
def flying (i : Fin 30) : sProp 𝕄 :=
  fl c arg4 arg12 v1_r0 A Wf ![i.val + 54] ![2880 * i.val, 0] ![0, 256 * i.val] (cell_inb i) (slot_inb i) (panel_inb i)

/-- Slot `i`, panel `i` and cell `i` held by the core. -/
def held (i : Fin 30) : sProp 𝕄 :=
  landed c arg4 arg12 v1_r0 A Wf ![i.val + 54] ![2880 * i.val, 0] ![0, 256 * i.val] (cell_inb i) (slot_inb i) (panel_inb i)

end Stage

/-- What the arena holds once every panel has landed: each slot is the panel of its number, and below the slots the old contents. -/
def arenaOf (f0 : Buf (Elt F) (arg12.view.loc (c : Thread nD τ))) (Wf : Buf (Elt F) (arg4.view.loc (c : Thread nD τ))) :
    Buf (Elt F) (arg12.view.loc (c : Thread nD τ)) :=
  arg12.view.write (Elt F) f0 (fun y => if h : (y 0).val < 86400 then
      arg4.view.read (Elt F) Wf (fun a => Fin.cases (motive := fun a => Fin (S2880x7680.size a)) (⟨(y 0).val % 2880, Nat.mod_lt _ (by decide)⟩ : Fin 2880)
        (fun b => Fin.cases (motive := fun b => Fin (S2880x7680.size b.succ)) (⟨256 * ((y 0).val / 2880) + (y 1).val, by
          have := (y 1).isLt; change (y 1).val < 256 at this; omega⟩ : Fin 7680) (fun z => z.elim0) b) a)
    else arg12.view.read (Elt F) f0 y) Finset.univ

section ArenaRead

variable (f0 : Buf (Elt F) (arg12.view.loc (c : Thread nD τ))) (Wf : Buf (Elt F) (arg4.view.loc (c : Thread nD τ)))

/-- The arena's element under an index: the weight's in a slot. -/
theorem arenaOf_read (y : S161280x256.Idx) (h : (y 0).val < 86400) (z : S2880x7680.Idx)
    (h0 : (z 0).val = (y 0).val % 2880) (h1 : (z 1).val = 256 * ((y 0).val / 2880) + (y 1).val) :
    arg12.view.read (Elt F) (arenaOf c arg4 arg12 f0 Wf) y = arg4.view.read (Elt F) Wf z := by
  unfold arenaOf
  rw [View.read_apply, View.write_emb_of_mem _ _ (Finset.mem_univ _), cast_cast, cast_eq, dif_pos h]
  congr 1
  funext a
  match a with
  | ⟨0, _⟩ => exact Fin.ext h0.symm
  | ⟨1, _⟩ => exact Fin.ext h1.symm

/-- Below the slots the arena keeps its old contents. -/
theorem arenaOf_below (y : S161280x256.Idx) (h : 86400 ≤ (y 0).val) :
    arenaOf c arg4 arg12 f0 Wf (arg12.view.emb y) = f0 (arg12.view.emb y) := by
  unfold arenaOf
  rw [View.write_emb_of_mem _ _ (Finset.mem_univ _), dif_neg (by omega), View.read_apply, cast_cast, cast_eq]

/-- A slot reads as its panel. -/
theorem arenaOf_slot (i : Fin 30) :
    (arg12.view.slice (slotO ![2880 * i.val, 0] (slot_inb i))).read (Elt F) (arenaOf c arg4 arg12 f0 Wf)
      = (panelO arg4 ![0, 256 * i.val] (panel_inb i)).view.read (Elt F) Wf := by
  funext x
  have hx0 : (x 0).val < 2880 := (x 0).isLt
  have hx1 : (x 1).val < 256 := (x 1).isLt
  have hi := i.isLt
  show arg12.view.read (Elt F) (arenaOf c arg4 arg12 f0 Wf) ((slotO ![2880 * i.val, 0] (slot_inb i)).emb x)
    = arg4.view.read (Elt F) Wf ((Rect.unit (s := S2880x7680) ![0, 256 * i.val] S2880x256.size (panel_inb i)).emb x)
  have e0 : ((slotO ![2880 * i.val, 0] (slot_inb i)).emb x 0).val = 2880 * i.val + 1 * (x 0).val := rfl
  have e1 : ((slotO ![2880 * i.val, 0] (slot_inb i)).emb x 1).val = 0 + 1 * (x 1).val := rfl
  have d0 : ((Rect.unit (s := S2880x7680) ![0, 256 * i.val] S2880x256.size (panel_inb i)).emb x 0).val = 0 + 1 * (x 0).val := rfl
  have d1 : ((Rect.unit (s := S2880x7680) ![0, 256 * i.val] S2880x256.size (panel_inb i)).emb x 1).val = 256 * i.val + 1 * (x 1).val := rfl
  refine arenaOf_read c arg4 arg12 f0 Wf _ ?_ _ ?_ ?_
  · rw [e0]; omega
  · rw [e0, d0]; omega
  · rw [e0, e1, d1]; omega

end ArenaRead

/-! ## Issuing the panels -/

section Issue

variable (f0 : Buf (Elt F) (arg12.view.loc (c : Thread nD τ))) (Wf : Buf (Elt F) (arg4.view.loc (c : Thread nD τ)))

/-- Once its panel has landed a slot holds the arena's contents. -/
theorem slot_landed (i : Fin 30) {o5 o6 : Fin 2 → ℕ} (e5 : o5 = ![2880 * i.val, 0]) (e6 : o6 = ![0, 256 * i.val])
    (h5 : ∀ a, o5 a + S2880x256.size a ≤ S161280x256.size a) (h6 : ∀ a, o6 a + S2880x256.size a ≤ S2880x7680.size a) :
    (arg12.view.loc (c : Thread nD τ) ↦[arg12.view.setOn (slotO o5 h5).set]{fullShare}
        (arg12.view.slice (slotO o5 h5)).write (Elt F) f0 ((panelO arg4 o6 h6).view.read (Elt F) Wf) Finset.univ : sProp 𝕄)
      = (arg12.view.loc (c : Thread nD τ) ↦[arg12.view.setOn (slotO o5 h5).set]{fullShare} arenaOf c arg4 arg12 f0 Wf) := by
  subst e5 e6
  refine pointsTo_congr fun j hj => ?_
  have hj' : j ∈ (arg12.view.slice (slotO ![2880 * i.val, 0] (slot_inb i))).set := by rw [View.set_slice]; exact hj
  obtain ⟨x, -, rfl⟩ := Finset.mem_map.mp hj'
  rw [View.write_emb_of_mem _ _ (Finset.mem_univ _), ← arenaOf_slot c arg4 arg12 f0 Wf i, View.read_apply, cast_cast, cast_eq]

/-- A transfer that is to write a slot with its panel delivers the slot at the arena's contents. -/
theorem fl_landed (i : Fin 30) {o4 : Fin 1 → ℕ} {o5 o6 : Fin 2 → ℕ} (e5 : o5 = ![2880 * i.val, 0]) (e6 : o6 = ![0, 256 * i.val])
    (h4 : ∀ a, o4 a + S1.size a ≤ S84.size a)
    (h5 : ∀ a, o5 a + S2880x256.size a ≤ S161280x256.size a) (h6 : ∀ a, o6 a + S2880x256.size a ≤ S2880x7680.size a) :
    (Transfers.Flight (countersEmb (U := Pipeline.UD sig nD τ)) (c : Thread nD τ) (.dma (cellO v1_r0 o4 h4)) () (arg12.view.ref.dmaCredit S2880x256 .fp8e4m3)
      (iprop((arg12.view.loc (c : Thread nD τ) ↦[arg12.view.setOn (slotO o5 h5).set]{fullShare}
          (arg12.view.slice (slotO o5 h5)).write (Elt F) f0 ((panelO arg4 o6 h6).view.read (Elt F) Wf) Finset.univ)
        ∗ ((panelO arg4 o6 h6).view.loc (c : Thread nD τ) ↦[(panelO arg4 o6 h6).view.set]{fullShare} Wf)) : sProp 𝕄) : sProp 𝕄)
      ⊢ fl c arg4 arg12 v1_r0 (arenaOf c arg4 arg12 f0 Wf) Wf o4 o5 o6 h4 h5 h6 :=
  Transfers.Flight_mono _ _ (sep_mono_left (Entails.of_eq (slot_landed c arg4 arg12 f0 Wf i e5 e6 h5 h6)))

set_option maxRecDepth 8192
set_option maxHeartbeats 1000000

/-- One trip of the loop that issues the panels. -/
theorem trip_k0_t1 (k : Fin k0_t1_loop.trips) (K : sProp 𝕄) :
    iprop(held c arg4 arg12 v1_r0 f0 Wf k ∗ (flying c arg4 arg12 v1_r0 (arenaOf c arg4 arg12 f0 Wf) Wf k -∗ K))
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k ())
       (fun _ => K) := by
  unfold held flying k0_t1_body
  rw [landed_congr (e4 := (k0_off1_eq k).symm) (e5 := (k0_off2_eq k).symm) (e6 := (k0_off3_eq k).symm) (h4' := k0_off1_inb k) (h5' := k0_off2_inb k) (h6' := k0_off3_inb k),
    fl_congr (e4 := (k0_off1_eq k).symm) (e5 := (k0_off2_eq k).symm) (e6 := (k0_off3_eq k).symm) (h4' := k0_off1_inb k) (h5' := k0_off2_inb k) (h6' := k0_off3_inb k)]
  unfold landed del
  iintro ⟨⟨⟨Hd, Hs⟩, Hv⟩, HK⟩
  sl_exec
  sl_step
  iapply HK
  iapply (fl_landed c arg4 arg12 v1_r0 f0 Wf k (k0_off2_eq k) (k0_off3_eq k) (k0_off1_inb k) (k0_off2_inb k) (k0_off3_inb k))
  iexact Hv

/-- What the loop that issues the panels holds before trip `n`. -/
def inv1 (n : ℕ) : sProp 𝕄 :=
  iprop(Hi (held c arg4 arg12 v1_r0 f0 Wf) n ∗ Lo (flying c arg4 arg12 v1_r0 (arenaOf c arg4 arg12 f0 Wf) Wf) n)

theorem region_k0_t1 (k : Fin k0_t1_loop.trips) (acc : Unit) :
    inv1 c arg4 arg12 v1_r0 f0 Wf k.val
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k acc)
       (fun _ => inv1 c arg4 arg12 v1_r0 f0 Wf (k.val + 1)) := by
  unfold inv1
  rw [Hi_step _ k.val (show k.val < 30 from k.isLt), Lo_step _ k.val (show k.val < 30 from k.isLt)]
  refine BIBase.Entails.trans ?_ (trip_k0_t1 _ _ _ _ _ _ _ _ _ _ _ _ _ _ _ _ _ _ _ _ _ _ _ _ _ _ _ _ _ _ _ _ _ _ f0 Wf k _)
  iintro ⟨⟨Hk, Hhi⟩, Hlo⟩
  isplitl [Hk]; · iexact Hk
  iintro Hf
  isplitl [Hhi]; · iexact Hhi
  isplitl [Hf]; · iexact Hf
  iexact Hlo

end Issue
/-! ## A trip of the loop over the groups of panels -/

section Trip2

variable (A : Buf (Elt F) (arg12.view.loc (c : Thread nD τ))) (Wf : Buf (Elt F) (arg4.view.loc (c : Thread nD τ)))

set_option maxRecDepth 8192
set_option maxHeartbeats 4000000

@[irreducible] def trip_k0_t2
   (g : BufTy.Contents (Elt F) arg0.view.ty) (u : BufTy.Contents (Elt F) arg13.view.ty) (k : Fin k0_t2_loop.trips) :
   { L : List (View.Piece (Elt F) S2880x256 .f32) // ∀ (W : Waits sig Unit) ,
     iprop((arg0.view.loc (c : Thread nD τ) ↦[arg0.view.set]{fullShare} g) ∗ (arg13.view.loc (c : Thread nD τ) ↦[arg13.view.set]{fullShare} u)
       ∗ fl c arg4 arg12 v1_r0 A Wf (k0_off4 k 0#32) (k0_off5 k 0#32) (k0_off6 k 0#32) (k0_off4_inb k 0) (k0_off5_inb k 0) (k0_off6_inb k 0)
       ∗ fl c arg4 arg12 v1_r0 A Wf (k0_off4 k 1#32) (k0_off5 k 1#32) (k0_off6 k 1#32) (k0_off4_inb k 1) (k0_off5_inb k 1) (k0_off6_inb k 1)
       ∗ fl c arg4 arg12 v1_r0 A Wf (k0_off4 k 2#32) (k0_off5 k 2#32) (k0_off6 k 2#32) (k0_off4_inb k 2) (k0_off5_inb k 2) (k0_off6_inb k 2)
       ∗ fl c arg4 arg12 v1_r0 A Wf (k0_off4 k 3#32) (k0_off5 k 3#32) (k0_off6 k 3#32) (k0_off4_inb k 3) (k0_off5_inb k 3) (k0_off6_inb k 3)
       ∗ fl c arg4 arg12 v1_r0 A Wf (k0_off4 k 4#32) (k0_off5 k 4#32) (k0_off6 k 4#32) (k0_off4_inb k 4) (k0_off5_inb k 4) (k0_off6_inb k 4)
       ∗ fl c arg4 arg12 v1_r0 A Wf (k0_off4 k 5#32) (k0_off5 k 5#32) (k0_off6 k 5#32) (k0_off4_inb k 5) (k0_off5_inb k 5) (k0_off6_inb k 5)
       ∗ owes (c : Thread nD τ) 0 W)
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k PUnit.unit)
       (fun _ => iprop((arg0.view.loc (c : Thread nD τ) ↦[arg0.view.set]{fullShare} g) ∗ (arg13.view.loc (c : Thread nD τ) ↦[arg13.view.set]{fullShare} arg13.view.writes (Elt F) u L)
       ∗ landed c arg4 arg12 v1_r0 A Wf (k0_off4 k 0#32) (k0_off5 k 0#32) (k0_off6 k 0#32) (k0_off4_inb k 0) (k0_off5_inb k 0) (k0_off6_inb k 0)
       ∗ landed c arg4 arg12 v1_r0 A Wf (k0_off4 k 1#32) (k0_off5 k 1#32) (k0_off6 k 1#32) (k0_off4_inb k 1) (k0_off5_inb k 1) (k0_off6_inb k 1)
       ∗ landed c arg4 arg12 v1_r0 A Wf (k0_off4 k 2#32) (k0_off5 k 2#32) (k0_off6 k 2#32) (k0_off4_inb k 2) (k0_off5_inb k 2) (k0_off6_inb k 2)
       ∗ landed c arg4 arg12 v1_r0 A Wf (k0_off4 k 3#32) (k0_off5 k 3#32) (k0_off6 k 3#32) (k0_off4_inb k 3) (k0_off5_inb k 3) (k0_off6_inb k 3)
       ∗ landed c arg4 arg12 v1_r0 A Wf (k0_off4 k 4#32) (k0_off5 k 4#32) (k0_off6 k 4#32) (k0_off4_inb k 4) (k0_off5_inb k 4) (k0_off6_inb k 4)
       ∗ landed c arg4 arg12 v1_r0 A Wf (k0_off4 k 5#32) (k0_off5 k 5#32) (k0_off6 k 5#32) (k0_off4_inb k 5) (k0_off5_inb k 5) (k0_off6_inb k 5)
       ∗ (∃ W, owes (c : Thread nD τ) 0 W))) } := by
  have hk : k.val < 4 := Nat.lt_of_lt_of_le k.isLt k0_t2_abs.2.1
  refine ⟨?_, fun W => ?run⟩
  case run =>
    unfold k0_t2_body landed fl del
    iintro ⟨H0, H13, F0, F1, F2, F3, F4, F5, HO⟩
    sl_exec
    sl_step
    sl_close

/-- The accumulator before trip `n`. -/
def uAt (g : BufTy.Contents (Elt F) arg0.view.ty) (u : BufTy.Contents (Elt F) arg13.view.ty) : ℕ → BufTy.Contents (Elt F) arg13.view.ty
  | 0 => u
  | n + 1 => if h : n < k0_t2_loop.trips then arg13.view.writes (Elt F) (uAt g u n) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g (uAt g u n) ⟨n, h⟩).1 else uAt g u n

/-- What the loop over the groups of panels holds before trip `n`. -/
def inv2 (g : BufTy.Contents (Elt F) arg0.view.ty) (u : BufTy.Contents (Elt F) arg13.view.ty) (n : ℕ) : sProp 𝕄 :=
  iprop((arg0.view.loc (c : Thread nD τ) ↦[arg0.view.set]{fullShare} g)
    ∗ (arg13.view.loc (c : Thread nD τ) ↦[arg13.view.set]{fullShare} uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u n)
    ∗ Hi (flying c arg4 arg12 v1_r0 A Wf) (6 * n) ∗ Lo (held c arg4 arg12 v1_r0 A Wf) (6 * n)
    ∗ (∃ W, owes (c : Thread nD τ) 0 W))

/-- Panel `6 k + r` at the offsets of the loop. -/
theorem flying_eq (k : Fin k0_t2_loop.trips) (r : Fin 6) (i : Fin 30) (hi : i.val = 6 * k.val + r.val) :
    flying c arg4 arg12 v1_r0 A Wf i
      = fl c arg4 arg12 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold flying
  refine fl_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem held_eq (k : Fin k0_t2_loop.trips) (r : Fin 6) (i : Fin 30) (hi : i.val = 6 * k.val + r.val) :
    held c arg4 arg12 v1_r0 A Wf i
      = landed c arg4 arg12 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold held
  refine landed_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem region_k0_t2 (g : BufTy.Contents (Elt F) arg0.view.ty) (u : BufTy.Contents (Elt F) arg13.view.ty) (k : Fin k0_t2_loop.trips) (acc : Unit) :
    inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k acc)
       (fun _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u (k.val + 1)) := by
  have hk : k.val < 4 := Nat.lt_of_lt_of_le k.isLt k0_t2_abs.2.1
  unfold inv2
  rw [show uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u (k.val + 1) = arg13.view.writes (Elt F) (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val) k).1 from dif_pos k.isLt,
    show 6 * (k.val + 1) = 6 * k.val + 1 + 1 + 1 + 1 + 1 + 1 by omega]
  generalize uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val = uk
  rw [Hi_step _ (6 * k.val) (by omega), Hi_step _ (6 * k.val + 1) (by omega), Hi_step _ (6 * k.val + 1 + 1) (by omega),
    Hi_step _ (6 * k.val + 1 + 1 + 1) (by omega), Hi_step _ (6 * k.val + 1 + 1 + 1 + 1) (by omega), Hi_step _ (6 * k.val + 1 + 1 + 1 + 1 + 1) (by omega),
    Lo_step _ (6 * k.val + 1 + 1 + 1 + 1 + 1) (by omega), Lo_step _ (6 * k.val + 1 + 1 + 1 + 1) (by omega), Lo_step _ (6 * k.val + 1 + 1 + 1) (by omega),
    Lo_step _ (6 * k.val + 1 + 1) (by omega), Lo_step _ (6 * k.val + 1) (by omega), Lo_step _ (6 * k.val) (by omega)]
  rw [flying_eq (k := k) (r := 0) (i := ⟨6 * k.val, _⟩) (hi := rfl), flying_eq (k := k) (r := 1) (i := ⟨6 * k.val + 1, _⟩) (hi := rfl),
    flying_eq (k := k) (r := 2) (i := ⟨6 * k.val + 1 + 1, _⟩) (hi := rfl), flying_eq (k := k) (r := 3) (i := ⟨6 * k.val + 1 + 1 + 1, _⟩) (hi := rfl),
    flying_eq (k := k) (r := 4) (i := ⟨6 * k.val + 1 + 1 + 1 + 1, _⟩) (hi := rfl), flying_eq (k := k) (r := 5) (i := ⟨6 * k.val + 1 + 1 + 1 + 1 + 1, _⟩) (hi := rfl),
    held_eq (k := k) (r := 0) (i := ⟨6 * k.val, _⟩) (hi := rfl), held_eq (k := k) (r := 1) (i := ⟨6 * k.val + 1, _⟩) (hi := rfl),
    held_eq (k := k) (r := 2) (i := ⟨6 * k.val + 1 + 1, _⟩) (hi := rfl), held_eq (k := k) (r := 3) (i := ⟨6 * k.val + 1 + 1 + 1, _⟩) (hi := rfl),
    held_eq (k := k) (r := 4) (i := ⟨6 * k.val + 1 + 1 + 1 + 1, _⟩) (hi := rfl), held_eq (k := k) (r := 5) (i := ⟨6 * k.val + 1 + 1 + 1 + 1 + 1, _⟩) (hi := rfl)]
  iintro ⟨H0, H13, ⟨F0, F1, F2, F3, F4, F5, HF⟩, HD, %W, HO⟩
  iapply (wp_wand frame (wpE (defs₀ (F := F)) Variants.none (c : Thread nD τ) none) Set.univ) $$ [H0 H13 F0 F1 F2 F3 F4 F5 HO]
  · iapply ((trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g uk k).2 W)
    isplitl [H0]; · iexact H0
    isplitl [H13]; · iexact H13
    isplitl [F0]; · iexact F0
    isplitl [F1]; · iexact F1
    isplitl [F2]; · iexact F2
    isplitl [F3]; · iexact F3
    isplitl [F4]; · iexact F4
    isplitl [F5]; · iexact F5
    iexact HO
  iintro %a ⟨H0, H13, F0, F1, F2, F3, F4, F5, HO⟩
  isplitl [H0]; · iexact H0
  isplitl [H13]; · iexact H13
  isplitl [HF]; · iexact HF
  isplitr [HO]
  · isplitl [F5]; · iexact F5
    isplitl [F4]; · iexact F4
    isplitl [F3]; · iexact F3
    isplitl [F2]; · iexact F2
    isplitl [F1]; · iexact F1
    isplitl [F0]; · iexact F0
    iexact HD
  iexact HO

end Trip2
/-- The panels' cells, each at zero. -/
def cellsP : sProp 𝕄 := bigSep Finset.univ fun i : Fin 30 => semVal ((c : Thread nD τ), SemLoc.dma (cellO v1_r0 ![i.val + 54] (cell_inb i))) 0

/-! ## Cutting the arena and the weight, and putting them together -/

section CutArena

variable (f0 A : Buf (Elt F) (arg12.view.loc (c : Thread nD τ))) (Wf : Buf (Elt F) (arg4.view.loc (c : Thread nD τ)))

/-- The elements of slot `i`. -/
abbrev slotSet (i : Fin 30) : Finset (Idx (arg12.view.loc (c : Thread nD τ))) := arg12.view.setOn (slotO ![2880 * i.val, 0] (slot_inb i)).set

/-- The elements of panel `i`. -/
abbrev panelSet (i : Fin 30) : Finset (Idx (arg4.view.loc (c : Thread nD τ))) := (panelO arg4 ![0, 256 * i.val] (panel_inb i)).view.set

theorem slotSet_disjoint (i j : Fin 30) (h : i ≠ j) : Disjoint (slotSet c arg12 i) (slotSet c arg12 j) := by
  refine View.disjoint_setOn _ (Finset.disjoint_left.mpr fun y hi hj => h (Fin.ext ?_))
  have a := Rect.mem_set_unit.mp hi 0
  have b := Rect.mem_set_unit.mp hj 0
  have a1 : 2880 * i.val ≤ (y 0).val := a.1
  have a2 : (y 0).val < 2880 * i.val + 2880 := a.2
  have b1 : 2880 * j.val ≤ (y 0).val := b.1
  have b2 : (y 0).val < 2880 * j.val + 2880 := b.2
  omega

theorem panelSet_eq (i : Fin 30) : panelSet c arg4 i = arg4.view.setOn (Rect.unit (s := S2880x7680) ![0, 256 * i.val] S2880x256.size (panel_inb i)).set :=
  View.set_slice _ _

theorem panelSet_disjoint (i j : Fin 30) (h : i ≠ j) : Disjoint (panelSet c arg4 i) (panelSet c arg4 j) := by
  rw [panelSet_eq, panelSet_eq]
  refine View.disjoint_setOn _ (Finset.disjoint_left.mpr fun y hi hj => h (Fin.ext ?_))
  have a := Rect.mem_set_unit.mp hi 1
  have b := Rect.mem_set_unit.mp hj 1
  have a1 : 256 * i.val ≤ (y 1).val := a.1
  have a2 : (y 1).val < 256 * i.val + 256 := a.2
  have b1 : 256 * j.val ≤ (y 1).val := b.1
  have b2 : (y 1).val < 256 * j.val + 256 := b.2
  omega

/-- The arena below the slots. -/
def restSet : Finset (Idx (arg12.view.loc (c : Thread nD τ))) := arg12.view.set \ Finset.univ.biUnion (slotSet c arg12)

theorem slots_subset : Finset.univ.biUnion (slotSet c arg12) ⊆ arg12.view.set :=
  Finset.biUnion_subset.mpr fun i _ => View.setOn_subset_set _ _

theorem panels_subset : Finset.univ.biUnion (panelSet c arg4) ⊆ arg4.view.set :=
  Finset.biUnion_subset.mpr fun i _ => by rw [panelSet_eq]; exact View.setOn_subset_set _ _

theorem arena_cut :
    (arg12.view.loc (c : Thread nD τ) ↦[arg12.view.set]{fullShare} f0 : sProp 𝕄)
      ⊣⊢ iprop((bigSep Finset.univ fun i => arg12.view.loc (c : Thread nD τ) ↦[slotSet c arg12 i]{fullShare} f0)
        ∗ (arg12.view.loc (c : Thread nD τ) ↦[restSet c arg12]{fullShare} f0)) := by
  rw [← pointsTo_biUnion _ _ fun i _ j _ h => slotSet_disjoint c arg12 i j h]
  exact pointsTo_split_subset (slots_subset c arg12)

theorem weight_cut :
    (arg4.view.loc (c : Thread nD τ) ↦[arg4.view.set]{fullShare} Wf : sProp 𝕄)
      ⊣⊢ iprop((bigSep Finset.univ fun i => arg4.view.loc (c : Thread nD τ) ↦[panelSet c arg4 i]{fullShare} Wf)
        ∗ (arg4.view.loc (c : Thread nD τ) ↦[arg4.view.set \ Finset.univ.biUnion (panelSet c arg4)]{fullShare} Wf)) := by
  rw [← pointsTo_biUnion _ _ fun i _ j _ h => panelSet_disjoint c arg4 i j h]
  exact pointsTo_split_subset (panels_subset c arg4)

/-- Below the slots the old contents are the arena's. -/
theorem rest_eq :
    (arg12.view.loc (c : Thread nD τ) ↦[restSet c arg12]{fullShare} f0 : sProp 𝕄)
      = (arg12.view.loc (c : Thread nD τ) ↦[restSet c arg12]{fullShare} arenaOf c arg4 arg12 f0 Wf) := by
  refine pointsTo_congr fun j hj => ?_
  obtain ⟨hj1, hj2⟩ := Finset.mem_sdiff.mp hj
  obtain ⟨y, -, rfl⟩ := Finset.mem_map.mp hj1
  refine (arenaOf_below c arg4 arg12 f0 Wf y ?_).symm
  by_contra hlt
  refine hj2 (Finset.mem_biUnion.mpr ⟨⟨(y 0).val / 2880, by omega⟩, Finset.mem_univ _, Finset.mem_map_of_mem _ (Rect.mem_set_unit.mpr fun a => ?_)⟩)
  have h1 : (y 1).val < 256 := (y 1).isLt
  match a with
  | ⟨0, _⟩ =>
    show 2880 * ((y 0).val / 2880) ≤ (y 0).val ∧ (y 0).val < 2880 * ((y 0).val / 2880) + 2880
    omega
  | ⟨1, _⟩ =>
    show 0 ≤ (y 1).val ∧ (y 1).val < 0 + 256
    omega

/-- The slots, panels and cells of the core, apart. -/
theorem held_apart :
    bigSep Finset.univ (held c arg4 arg12 v1_r0 A Wf)
      = (iprop(((bigSep Finset.univ fun i => arg12.view.loc (c : Thread nD τ) ↦[slotSet c arg12 i]{fullShare} A)
          ∗ (bigSep Finset.univ fun i => arg4.view.loc (c : Thread nD τ) ↦[panelSet c arg4 i]{fullShare} Wf))
          ∗ cellsP c v1_r0) : sProp 𝕄) := by
  rw [show held c arg4 arg12 v1_r0 A Wf = fun i => iprop(((arg12.view.loc (c : Thread nD τ) ↦[slotSet c arg12 i]{fullShare} A)
          ∗ (arg4.view.loc (c : Thread nD τ) ↦[panelSet c arg4 i]{fullShare} Wf)) ∗ semVal ((c : Thread nD τ), SemLoc.dma (cellO v1_r0 ![i.val + 54] (cell_inb i))) 0) from rfl]
  rw [bigSep_sep', bigSep_sep']
  rfl

/-- What the core holds of the arena, the weight and the cells, cut for the transfers. -/
theorem stage_enter :
    iprop((arg12.view.loc (c : Thread nD τ) ↦[arg12.view.set]{fullShare} f0) ∗ (arg4.view.loc (c : Thread nD τ) ↦[arg4.view.set]{fullShare} Wf)
      ∗ cellsP c v1_r0)
      ⊢ (iprop(inv1 c arg4 arg12 v1_r0 f0 Wf 0 ∗ (arg12.view.loc (c : Thread nD τ) ↦[restSet c arg12]{fullShare} f0)
        ∗ (arg4.view.loc (c : Thread nD τ) ↦[arg4.view.set \ Finset.univ.biUnion (panelSet c arg4)]{fullShare} Wf)) : sProp 𝕄) := by
  unfold inv1
  rw [Hi_zero, Lo_zero, held_apart]
  iintro ⟨H12, H4, HS⟩
  ihave H12 := (arena_cut c arg12 f0).1 $$ H12
  ihave H4 := (weight_cut c arg4 Wf).1 $$ H4
  icases H12 with ⟨Ha, Hr⟩
  icases H4 with ⟨Hp, Hq⟩
  isplitr [Hr Hq]
  · isplitl
    · isplitr [HS]
      · isplitl [Ha]; · iexact Ha
        iexact Hp
      · iexact HS
    · iempintro
  isplitl [Hr]; · iexact Hr
  iexact Hq

/-- After the last wait the arena, the weight and the cells are whole again. -/
theorem stage_leave :
    iprop(Lo (held c arg4 arg12 v1_r0 (arenaOf c arg4 arg12 f0 Wf) Wf) 30 ∗ (arg12.view.loc (c : Thread nD τ) ↦[restSet c arg12]{fullShare} f0)
        ∗ (arg4.view.loc (c : Thread nD τ) ↦[arg4.view.set \ Finset.univ.biUnion (panelSet c arg4)]{fullShare} Wf))
      ⊢ (iprop((arg12.view.loc (c : Thread nD τ) ↦[arg12.view.set]{fullShare} arenaOf c arg4 arg12 f0 Wf) ∗ (arg4.view.loc (c : Thread nD τ) ↦[arg4.view.set]{fullShare} Wf)
      ∗ cellsP c v1_r0) : sProp 𝕄) := by
  rw [Lo_top, held_apart, rest_eq c arg4 arg12 f0 Wf]
  iintro ⟨⟨⟨Ha, Hp⟩, HS⟩, Hr, Hq⟩
  isplitl [Ha Hr]
  · iapply (arena_cut c arg12 (arenaOf c arg4 arg12 f0 Wf)).2
    isplitl [Ha]; · iexact Ha
    iexact Hr
  isplitl [Hp Hq]
  · iapply (weight_cut c arg4 Wf).2
    isplitl [Hp]; · iexact Hp
    iexact Hq
  iexact HS

end CutArena
/-! ## A trip of the loop over the output rows -/

section Trip3

variable (A : Buf (Elt F) (arg12.view.loc (c : Thread nD τ))) (v22_r0 v25_r0 : IVec S1x128 1)
  (g : BufTy.Contents (Elt F) arg0.view.ty) (h : BufTy.Contents (Elt F) arg2.view.ty) (sf : BufTy.Contents (Elt F) arg10.view.ty) (bf : BufTy.Contents (Elt F) arg11.view.ty)
  (u : BufTy.Contents (Elt F) arg13.view.ty) (sr : BufTy.Contents (Elt F) arg14.view.ty)

/-- What the loop over the output rows holds, the output at `x`. -/
def rowsAt (x : BufTy.Contents (Elt F) arg8.view.ty) : sProp 𝕄 :=
  iprop((arg0.view.loc (c : Thread nD τ) ↦[arg0.view.set]{fullShare} g) ∗ (arg2.view.loc (c : Thread nD τ) ↦[arg2.view.set]{fullShare} h)
    ∗ (arg10.view.loc (c : Thread nD τ) ↦[arg10.view.set]{fullShare} sf) ∗ (arg11.view.loc (c : Thread nD τ) ↦[arg11.view.set]{fullShare} bf)
    ∗ (arg12.view.loc (c : Thread nD τ) ↦[arg12.view.set]{fullShare} A) ∗ (arg13.view.loc (c : Thread nD τ) ↦[arg13.view.set]{fullShare} u)
    ∗ (arg14.view.loc (c : Thread nD τ) ↦[arg14.view.set]{fullShare} sr) ∗ (arg8.view.loc (c : Thread nD τ) ↦[arg8.view.set]{fullShare} x))

set_option maxRecDepth 8192
set_option maxHeartbeats 4000000

@[irreducible] def trip_k0_t3 (k : Fin k0_t3_loop.trips) :
   { L : List (View.Piece (Elt F) S2880x256 .bf16) // ∀ x : BufTy.Contents (Elt F) arg8.view.ty,
     rowsAt c arg0 arg2 arg8 arg10 arg11 arg12 arg13 arg14 A g h sf bf u sr x
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v22_r0 v25_r0 k PUnit.unit)
       (fun _ => rowsAt c arg0 arg2 arg8 arg10 arg11 arg12 arg13 arg14 A g h sf bf u sr (arg8.view.writes (Elt F) x L)) } := by
  have hk : k.val < 3 := Nat.lt_of_lt_of_le k.isLt k0_t3_abs.2.1
  refine ⟨?_, fun x => ?run⟩
  case run =>
    unfold k0_t3_body rowsAt
    iintro ⟨H0, H2, H10, H11, H12, H13, H14, H8⟩
    sl_exec
    sl_step
    sl_close

/-- The output before trip `n`. -/
def xAt (x : BufTy.Contents (Elt F) arg8.view.ty) : ℕ → BufTy.Contents (Elt F) arg8.view.ty
  | 0 => x
  | n + 1 => if hn : n < k0_t3_loop.trips then arg8.view.writes (Elt F) (xAt x n) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr ⟨n, hn⟩).1 else xAt x n

theorem region_k0_t3 (x : BufTy.Contents (Elt F) arg8.view.ty) (k : Fin k0_t3_loop.trips) (acc : Unit) :
    rowsAt c arg0 arg2 arg8 arg10 arg11 arg12 arg13 arg14 A g h sf bf u sr (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x k.val)
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v22_r0 v25_r0 k acc)
       (fun _ => rowsAt c arg0 arg2 arg8 arg10 arg11 arg12 arg13 arg14 A g h sf bf u sr (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x (k.val + 1))) := by
  rw [show xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x (k.val + 1)
      = arg8.view.writes (Elt F) (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x k.val) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr k).1 from dif_pos k.isLt]
  exact (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr k).2 _

end Trip3
/-! ## Between the loops -/

section Between

variable (f0 A : Buf (Elt F) (arg12.view.loc (c : Thread nD τ))) (Wf : Buf (Elt F) (arg4.view.loc (c : Thread nD τ)))

/-- Every panel is in flight once the issuing loop is through. -/
theorem stage_issued :
    inv1 c arg4 arg12 v1_r0 f0 Wf (Scf.trips k0_t1_loop.lb k0_t1_loop.ub k0_t1_loop.st) ⊢ Hi (flying c arg4 arg12 v1_r0 (arenaOf c arg4 arg12 f0 Wf) Wf) (6 * 0) := by
  show inv1 c arg4 arg12 v1_r0 f0 Wf 30 ⊢ _
  unfold inv1
  rw [Hi_top, Lo_top, Nat.mul_zero, Hi_zero]
  iintro ⟨-, H⟩
  iexact H

theorem lo_start : (iprop(emp) : sProp 𝕄) ⊢ Lo (held c arg4 arg12 v1_r0 A Wf) (6 * 0) := by
  rw [Nat.mul_zero, Lo_zero]

/-- The last six panels' flights, at the offsets the last waits name. -/
theorem stage_last :
    Hi (flying c arg4 arg12 v1_r0 A Wf) (6 * Scf.trips k0_t2_loop.lb k0_t2_loop.ub k0_t2_loop.st)
      ⊢ iprop(fl c arg4 arg12 v1_r0 A Wf ![78] ![69120, 0] ![0, 6144] inb_S84_S1_78 inb_S161280x256_S2880x256_69120_0 inb_S2880x7680_S2880x256_0_6144
        ∗ fl c arg4 arg12 v1_r0 A Wf ![79] ![72000, 0] ![0, 6400] inb_S84_S1_79 inb_S161280x256_S2880x256_72000_0 inb_S2880x7680_S2880x256_0_6400
        ∗ fl c arg4 arg12 v1_r0 A Wf ![80] ![74880, 0] ![0, 6656] inb_S84_S1_80 inb_S161280x256_S2880x256_74880_0 inb_S2880x7680_S2880x256_0_6656
        ∗ fl c arg4 arg12 v1_r0 A Wf ![81] ![77760, 0] ![0, 6912] inb_S84_S1_81 inb_S161280x256_S2880x256_77760_0 inb_S2880x7680_S2880x256_0_6912
        ∗ fl c arg4 arg12 v1_r0 A Wf ![82] ![80640, 0] ![0, 7168] inb_S84_S1_82 inb_S161280x256_S2880x256_80640_0 inb_S2880x7680_S2880x256_0_7168
        ∗ fl c arg4 arg12 v1_r0 A Wf ![83] ![83520, 0] ![0, 7424] inb_S84_S1_83 inb_S161280x256_S2880x256_83520_0 inb_S2880x7680_S2880x256_0_7424) := by
  show Hi (flying c arg4 arg12 v1_r0 A Wf) (6 * 4) ⊢ _
  rw [Hi_step _ (6 * 4) (by omega), Hi_step _ (6 * 4 + 1) (by omega), Hi_step _ (6 * 4 + 1 + 1) (by omega),
    Hi_step _ (6 * 4 + 1 + 1 + 1) (by omega), Hi_step _ (6 * 4 + 1 + 1 + 1 + 1) (by omega), Hi_step _ (6 * 4 + 1 + 1 + 1 + 1 + 1) (by omega)]
  unfold flying
  iintro ⟨F0, F1, F2, F3, F4, F5, -⟩
  isplitl [F0]; · iexact F0
  isplitl [F1]; · iexact F1
  isplitl [F2]; · iexact F2
  isplitl [F3]; · iexact F3
  isplitl [F4]; · iexact F4
  iexact F5

/-- The last six panels landed. -/
theorem stage_done :
    iprop(Lo (held c arg4 arg12 v1_r0 A Wf) (6 * Scf.trips k0_t2_loop.lb k0_t2_loop.ub k0_t2_loop.st)
        ∗ landed c arg4 arg12 v1_r0 A Wf ![78] ![69120, 0] ![0, 6144] inb_S84_S1_78 inb_S161280x256_S2880x256_69120_0 inb_S2880x7680_S2880x256_0_6144
        ∗ landed c arg4 arg12 v1_r0 A Wf ![79] ![72000, 0] ![0, 6400] inb_S84_S1_79 inb_S161280x256_S2880x256_72000_0 inb_S2880x7680_S2880x256_0_6400
        ∗ landed c arg4 arg12 v1_r0 A Wf ![80] ![74880, 0] ![0, 6656] inb_S84_S1_80 inb_S161280x256_S2880x256_74880_0 inb_S2880x7680_S2880x256_0_6656
        ∗ landed c arg4 arg12 v1_r0 A Wf ![81] ![77760, 0] ![0, 6912] inb_S84_S1_81 inb_S161280x256_S2880x256_77760_0 inb_S2880x7680_S2880x256_0_6912
        ∗ landed c arg4 arg12 v1_r0 A Wf ![82] ![80640, 0] ![0, 7168] inb_S84_S1_82 inb_S161280x256_S2880x256_80640_0 inb_S2880x7680_S2880x256_0_7168
        ∗ landed c arg4 arg12 v1_r0 A Wf ![83] ![83520, 0] ![0, 7424] inb_S84_S1_83 inb_S161280x256_S2880x256_83520_0 inb_S2880x7680_S2880x256_0_7424)
      ⊢ Lo (held c arg4 arg12 v1_r0 A Wf) 30 := by
  show _ ⊢ Lo (held c arg4 arg12 v1_r0 A Wf) (6 * 4 + 1 + 1 + 1 + 1 + 1 + 1)
  rw [Lo_step _ (6 * 4 + 1 + 1 + 1 + 1 + 1) (by omega), Lo_step _ (6 * 4 + 1 + 1 + 1 + 1) (by omega), Lo_step _ (6 * 4 + 1 + 1 + 1) (by omega),
    Lo_step _ (6 * 4 + 1 + 1) (by omega), Lo_step _ (6 * 4 + 1) (by omega), Lo_step _ (6 * 4) (by omega)]
  unfold held
  iintro ⟨HL, F0, F1, F2, F3, F4, F5⟩
  isplitl [F5]; · iexact F5
  isplitl [F4]; · iexact F4
  isplitl [F3]; · iexact F3
  isplitl [F2]; · iexact F2
  isplitl [F1]; · iexact F1
  isplitl [F0]; · iexact F0
  iexact HL

end Between

end Cert.Kernel.Hand
-- ==== Proof.Body.lean ====
module

public import proofs.«01_k».proof.Proof.Gen.Kernel.Launch
public import proofs.«01_k».proof.Proof.Gen.Kernel.Skeleton
public import proofs.«01_k».proof.Proof.Gen.Kernel.Points
public import proofs.«01_k».proof.Proof.Panels
public import Idealize.ShloMosaic.Lib.Pipeline.FrameValue
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-- The cell of a transfer in. -/
abbrev cellI (o : Fin 1 → ℕ) (h : ∀ a, o a + S1.size a ≤ S15.size a) : DmaSem sig :=
  ((v0_r0.slice (Rect.unit (s := S15) o S1.size h)).squeeze S_ squeezes_S1_S_).sem

/-- The cell of a transfer out. -/
abbrev cellY (o : Fin 1 → ℕ) (h : ∀ a, o a + S1.size a ≤ S14.size a) : DmaSem sig :=
  ((v2_r0.slice (Rect.unit (s := S14) o S1.size h)).squeeze S_ squeezes_S1_S_).sem

/-- Batch entry 0 of the result. -/
abbrev outM0 : Memref sig .tc .hbm S2880x128 .bf16 :=
  (arg7.slice (Rect.unit (s := S2x2880x128) ![0, 0, 0] S1x2880x128.size inb_S2x2880x128_S1x2880x128_0_0_0) (fun _ => rfl)).squeeze S2880x128 squeezes_S1x2880x128_S2880x128

/-- Batch entry 1 of the result. -/
abbrev outM1 : Memref sig .tc .hbm S2880x128 .bf16 :=
  (arg7.slice (Rect.unit (s := S2x2880x128) ![1, 0, 0] S1x2880x128.size inb_S2x2880x128_S1x2880x128_1_0_0) (fun _ => rfl)).squeeze S2880x128 squeezes_S1x2880x128_S2880x128

theorem outM0_set : (outM0 arg7).view.set = arg7.view.setOn (Rect.unit (s := S2x2880x128) ![0, 0, 0] S1x2880x128.size inb_S2x2880x128_S1x2880x128_0_0_0).set := by
  exact (View.set_reshape _ _).trans (View.set_slice _ _)

theorem outM1_set : (outM1 arg7).view.set = arg7.view.setOn (Rect.unit (s := S2x2880x128) ![1, 0, 0] S1x2880x128.size inb_S2x2880x128_S1x2880x128_1_0_0).set := by
  exact (View.set_reshape _ _).trans (View.set_slice _ _)

theorem out_union : (outM0 arg7).view.set ∪ (outM1 arg7).view.set = arg7.view.set := by
  rw [outM0_set, outM1_set]
  ext j
  constructor
  · intro hj
    rcases Finset.mem_union.mp hj with hj | hj <;> exact View.setOn_subset_set _ _ hj
  · intro hj
    obtain ⟨y, -, rfl⟩ := Finset.mem_map.mp hj
    have h0 : (y 0).val < 2 := (y 0).isLt
    have h1 : (y 1).val < 2880 := (y 1).isLt
    have h2 : (y 2).val < 128 := (y 2).isLt
    rcases Nat.lt_or_ge (y 0).val 1 with hy | hy
    · refine Finset.mem_union_left _ (Finset.mem_map_of_mem _ (Rect.mem_set_unit.mpr fun a => ?_))
      match a with
      | ⟨0, _⟩ => show 0 ≤ (y 0).val ∧ (y 0).val < 0 + 1; omega
      | ⟨1, _⟩ => show 0 ≤ (y 1).val ∧ (y 1).val < 0 + 2880; omega
      | ⟨2, _⟩ => show 0 ≤ (y 2).val ∧ (y 2).val < 0 + 128; omega
    · refine Finset.mem_union_right _ (Finset.mem_map_of_mem _ (Rect.mem_set_unit.mpr fun a => ?_))
      match a with
      | ⟨0, _⟩ => show 1 ≤ (y 0).val ∧ (y 0).val < 1 + 1; omega
      | ⟨1, _⟩ => show 0 ≤ (y 1).val ∧ (y 1).val < 0 + 2880; omega
      | ⟨2, _⟩ => show 0 ≤ (y 2).val ∧ (y 2).val < 0 + 128; omega

theorem out_disjoint : Disjoint (outM0 arg7).view.set (outM1 arg7).view.set := by
  rw [outM0_set, outM1_set]
  refine View.disjoint_setOn _ (Finset.disjoint_left.mpr fun y hi hj => ?_)
  have a := (Rect.mem_set_unit.mp hi 0).2
  have b := (Rect.mem_set_unit.mp hj 0).1
  have a2 : (y 0).val < 0 + 1 := a
  have b1 : 1 ≤ (y 0).val := b
  omega

/-- The result, entry by entry. -/
theorem out_cut (y : BufTy.Contents (Elt F) arg7.view.ty) :
    (arg7.view.loc (c : Thread nD τ) ↦[arg7.view.set]{fullShare} y : sProp 𝕄)
      ⊣⊢ iprop((arg7.view.loc (c : Thread nD τ) ↦[arg7.view.setOn (Rect.unit (s := S2x2880x128) ![0, 0, 0] S1x2880x128.size inb_S2x2880x128_S1x2880x128_0_0_0).set]{fullShare} y)
        ∗ (arg7.view.loc (c : Thread nD τ) ↦[arg7.view.setOn (Rect.unit (s := S2x2880x128) ![1, 0, 0] S1x2880x128.size inb_S2x2880x128_S1x2880x128_1_0_0).set]{fullShare} y)) := by
  rw [← out_union, ← outM0_set, ← outM1_set]
  exact pointsTo_union (out_disjoint arg7)

/-- The two entries written, one after the other, give the result. -/
theorem out_join (y : BufTy.Contents (Elt F) arg7.view.ty) (A B : S2880x128.Idx → Elt F .bf16) :
    (iprop((arg7.view.loc (c : Thread nD τ) ↦[arg7.view.setOn (Rect.unit (s := S2x2880x128) ![0, 0, 0] S1x2880x128.size inb_S2x2880x128_S1x2880x128_0_0_0).set]{fullShare} (outM0 arg7).view.write (Elt F) y A Finset.univ)
        ∗ (arg7.view.loc (c : Thread nD τ) ↦[arg7.view.setOn (Rect.unit (s := S2x2880x128) ![1, 0, 0] S1x2880x128.size inb_S2x2880x128_S1x2880x128_1_0_0).set]{fullShare} (outM1 arg7).view.write (Elt F) y B Finset.univ)) : sProp 𝕄)
      ⊢ (arg7.view.loc (c : Thread nD τ) ↦[arg7.view.set]{fullShare} (outM1 arg7).view.write (Elt F) ((outM0 arg7).view.write (Elt F) y A Finset.univ) B Finset.univ) := by
  have h0 := pointsTo_congr (nD := nD) (τ := τ) (sig := sig) (Ix := Unit) (Val := Elt F) (Name := ℕ) (U := Pipeline.UD sig nD τ) (Lvl := ℕ)
    (ℓ := arg7.view.loc (c : Thread nD τ)) (q := fullShare) (I := arg7.view.setOn (Rect.unit (s := S2x2880x128) ![0, 0, 0] S1x2880x128.size inb_S2x2880x128_S1x2880x128_0_0_0).set)
    (f := (outM0 arg7).view.write (Elt F) y A Finset.univ)
    (g := (outM1 arg7).view.write (Elt F) ((outM0 arg7).view.write (Elt F) y A Finset.univ) B Finset.univ) (fun i hi => by
      refine (View.write_of_not_mem (v := (outM1 arg7).view) ((outM0 arg7).view.write (Elt F) y A Finset.univ) B Finset.univ (i := i) (fun hm => ?_)).symm
      rw [View.setOn_univ] at hm
      rw [← outM0_set] at hi
      exact Finset.disjoint_left.mp (out_disjoint arg7) hi hm)
  have h1 := pointsTo_congr (nD := nD) (τ := τ) (sig := sig) (Ix := Unit) (Val := Elt F) (Name := ℕ) (U := Pipeline.UD sig nD τ) (Lvl := ℕ)
    (ℓ := arg7.view.loc (c : Thread nD τ)) (q := fullShare) (I := arg7.view.setOn (Rect.unit (s := S2x2880x128) ![1, 0, 0] S1x2880x128.size inb_S2x2880x128_S1x2880x128_1_0_0).set)
    (f := (outM1 arg7).view.write (Elt F) y B Finset.univ)
    (g := (outM1 arg7).view.write (Elt F) ((outM0 arg7).view.write (Elt F) y A Finset.univ) B Finset.univ) (fun i hi => by
      rw [← outM1_set] at hi
      obtain ⟨z, -, rfl⟩ := Finset.mem_map.mp hi
      exact (View.write_emb_of_mem (v := (outM1 arg7).view) y B (Finset.mem_univ z)).trans
        (View.write_emb_of_mem (v := (outM1 arg7).view) ((outM0 arg7).view.write (Elt F) y A Finset.univ) B (Finset.mem_univ z)).symm)
  rw [h0, h1]
  exact (out_cut c arg7 _).2

section Body

variable (g : BufTy.Contents (Elt F) arg0.view.ty) (gs : BufTy.Contents (Elt F) arg1.view.ty) (h : BufTy.Contents (Elt F) arg2.view.ty)
  (sg : BufTy.Contents (Elt F) arg3.view.ty) (Wf : BufTy.Contents (Elt F) arg4.view.ty) (sf : BufTy.Contents (Elt F) arg5.view.ty) (bf : BufTy.Contents (Elt F) arg6.view.ty)
  (y : BufTy.Contents (Elt F) arg7.view.ty) (x : BufTy.Contents (Elt F) arg8.view.ty) (x9 : BufTy.Contents (Elt F) arg9.view.ty) (x10 : BufTy.Contents (Elt F) arg10.view.ty)
  (x11 : BufTy.Contents (Elt F) arg11.view.ty) (f0 : BufTy.Contents (Elt F) arg12.view.ty) (u : BufTy.Contents (Elt F) arg13.view.ty) (sr : BufTy.Contents (Elt F) arg14.view.ty)

set_option maxRecDepth 16384
set_option maxHeartbeats 8000000

@[irreducible] def body_run :
   { Y : BufTy.Contents (Elt F) arg7.view.ty // ∀ W : Waits sig Unit,
     (iprop((arg0.view.loc (c : Thread nD τ) ↦[arg0.view.set]{fullShare} g) ∗ (arg1.view.loc (c : Thread nD τ) ↦[arg1.view.set]{fullShare} gs)
       ∗ (arg2.view.loc (c : Thread nD τ) ↦[arg2.view.set]{fullShare} h) ∗ (arg3.view.loc (c : Thread nD τ) ↦[arg3.view.set]{fullShare} sg)
       ∗ (arg4.view.loc (c : Thread nD τ) ↦[arg4.view.set]{fullShare} Wf) ∗ (arg5.view.loc (c : Thread nD τ) ↦[arg5.view.set]{fullShare} sf)
       ∗ (arg6.view.loc (c : Thread nD τ) ↦[arg6.view.set]{fullShare} bf) ∗ (arg7.view.loc (c : Thread nD τ) ↦[arg7.view.set]{fullShare} y)
       ∗ (arg8.view.loc (c : Thread nD τ) ↦[arg8.view.set]{fullShare} x) ∗ (arg9.view.loc (c : Thread nD τ) ↦[arg9.view.set]{fullShare} x9)
       ∗ (arg10.view.loc (c : Thread nD τ) ↦[arg10.view.set]{fullShare} x10) ∗ (arg11.view.loc (c : Thread nD τ) ↦[arg11.view.set]{fullShare} x11)
       ∗ (arg12.view.loc (c : Thread nD τ) ↦[arg12.view.set]{fullShare} f0) ∗ (arg13.view.loc (c : Thread nD τ) ↦[arg13.view.set]{fullShare} u)
       ∗ (arg14.view.loc (c : Thread nD τ) ↦[arg14.view.set]{fullShare} sr)
       ∗ semVal ((c : Thread nD τ), SemLoc.dma (cellI v0_r0 ![6] inb_S15_S1_6)) 0 ∗ semVal ((c : Thread nD τ), SemLoc.dma (cellI v0_r0 ![13] inb_S15_S1_13)) 0
       ∗ semVal ((c : Thread nD τ), SemLoc.dma (cellI v0_r0 ![14] inb_S15_S1_14)) 0
       ∗ cellsP c v1_r0
       ∗ semVal ((c : Thread nD τ), SemLoc.dma (cellY v2_r0 ![12] inb_S14_S1_12)) 0 ∗ semVal ((c : Thread nD τ), SemLoc.dma (cellY v2_r0 ![13] inb_S14_S1_13)) 0
       ∗ owes (c : Thread nD τ) 0 W) : sProp 𝕄)
     ⊢ wp frame (wpE (defs₀ (F := F)) Variants.none (c : Thread nD τ) none) Set.univ (cc0_vit_layer (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0)
       (fun _ => iprop((arg0.view.loc (c : Thread nD τ) ↦[arg0.view.set]{fullShare} g) ∗ (arg1.view.loc (c : Thread nD τ) ↦[arg1.view.set]{fullShare} gs)
       ∗ (arg2.view.loc (c : Thread nD τ) ↦[arg2.view.set]{fullShare} h) ∗ (arg3.view.loc (c : Thread nD τ) ↦[arg3.view.set]{fullShare} sg)
       ∗ (arg4.view.loc (c : Thread nD τ) ↦[arg4.view.set]{fullShare} Wf) ∗ (arg5.view.loc (c : Thread nD τ) ↦[arg5.view.set]{fullShare} sf)
       ∗ (arg6.view.loc (c : Thread nD τ) ↦[arg6.view.set]{fullShare} bf) ∗ (arg7.view.loc (c : Thread nD τ) ↦[arg7.view.set]{fullShare} Y)
       ∗ (∃ x, arg8.view.loc (c : Thread nD τ) ↦[arg8.view.set]{fullShare} x) ∗ (∃ x, arg9.view.loc (c : Thread nD τ) ↦[arg9.view.set]{fullShare} x)
       ∗ (∃ x, arg10.view.loc (c : Thread nD τ) ↦[arg10.view.set]{fullShare} x) ∗ (∃ x, arg11.view.loc (c : Thread nD τ) ↦[arg11.view.set]{fullShare} x)
       ∗ (∃ x, arg12.view.loc (c : Thread nD τ) ↦[arg12.view.set]{fullShare} x) ∗ (∃ x, arg13.view.loc (c : Thread nD τ) ↦[arg13.view.set]{fullShare} x)
       ∗ (∃ x, arg14.view.loc (c : Thread nD τ) ↦[arg14.view.set]{fullShare} x)
       ∗ semVal ((c : Thread nD τ), SemLoc.dma (cellI v0_r0 ![6] inb_S15_S1_6)) 0 ∗ semVal ((c : Thread nD τ), SemLoc.dma (cellI v0_r0 ![13] inb_S15_S1_13)) 0
       ∗ semVal ((c : Thread nD τ), SemLoc.dma (cellI v0_r0 ![14] inb_S15_S1_14)) 0
       ∗ cellsP c v1_r0
       ∗ semVal ((c : Thread nD τ), SemLoc.dma (cellY v2_r0 ![12] inb_S14_S1_12)) 0 ∗ semVal ((c : Thread nD τ), SemLoc.dma (cellY v2_r0 ![13] inb_S14_S1_13)) 0
       ∗ ∃ W, owes (c : Thread nD τ) 0 W)) } := by
  refine ⟨?_, fun W => ?run⟩
  case run =>
    unfold cc0_vit_layer
    iintro ⟨H0, H1, H2, H3, H4, H5, H6, H7, H8, H9, H10, H11, H12, H13, H14, S6, S13, S14, SP, T12, T13, HO⟩
    ihave HI := (stage_enter c arg4 arg12 v1_r0 f0 Wf) $$ [H12 H4 SP]
    · isplitl [H12]; · iexact H12
      isplitl [H4]; · iexact H4
      iexact SP
    icases HI with ⟨HI, HR, HQ⟩
    sl_exec
    sl_for (fun n _ => inv1 c arg4 arg12 v1_r0 f0 Wf n) $$ [HI]
    · intro k acc; exact region_k0_t1 _ _ _ _ _ _ _ _ _ _ _ _ _ _ _ _ _ _ _ _ _ _ _ _ _ _ _ _ _ _ _ _ _ _ f0 Wf k acc
    · exact BIBase.Entails.rfl
    iintro %acc HI
    ihave HF := (stage_issued c arg4 arg12 v1_r0 f0 Wf) $$ HI
    sl_exec
    sl_for (fun n _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
      (arg13.view.writes (Elt F) arg13.view.junk [⟨Rect.unit ![0, 0] S2880x256.size inb_S2880x256_S2880x256_0_0, k0_pay74⟩]) n) $$ [H0 H13 HF HO]
    · intro k acc; exact region_k0_t2 _ _ _ _ _ _ _ _ _ _ _ _ _ _ _ _ _ _ _ _ _ _ _ _ _ _ _ _ _ _ _ _ _ _ _ Wf g _ k acc
    · unfold inv2
      isplitl [H0]; · iexact H0
      isplitl [H13]; · iexact H13
      isplitl [HF]; · iexact HF
      isplitr
      · iapply (lo_start c arg4 arg12 v1_r0 (arenaOf c arg4 arg12 f0 Wf) Wf)
        iempintro
      iexists _; iexact HO
    iintro %acc2 HI
    unfold inv2
    icases HI with ⟨H0, H13, HF, HL, %W2, HO⟩
    ihave HF := (stage_last c arg4 arg12 v1_r0 (arenaOf c arg4 arg12 f0 Wf) Wf) $$ HF
    unfold fl del
    icases HF with ⟨F0, F1, F2, F3, F4, F5⟩
    sl_exec
    ihave HE := (stage_done c arg4 arg12 v1_r0 (arenaOf c arg4 arg12 f0 Wf) Wf) $$ [HL F0_dst F0_src F0 F1_dst F1_src F1 F2_dst F2_src F2 F3_dst F3_src F3 F4_dst F4_src F4 F5_dst F5_src F5]
    · unfold landed del
      isplitl [HL]; · iexact HL
      isplitl [F0_dst F0_src F0]
      · isplitl [F0_dst F0_src]
        · isplitl [F0_dst]; · iexact F0_dst
          iexact F0_src
        iexact F0
      isplitl [F1_dst F1_src F1]
      · isplitl [F1_dst F1_src]
        · isplitl [F1_dst]; · iexact F1_dst
          iexact F1_src
        iexact F1
      isplitl [F2_dst F2_src F2]
      · isplitl [F2_dst F2_src]
        · isplitl [F2_dst]; · iexact F2_dst
          iexact F2_src
        iexact F2
      isplitl [F3_dst F3_src F3]
      · isplitl [F3_dst F3_src]
        · isplitl [F3_dst]; · iexact F3_dst
          iexact F3_src
        iexact F3
      isplitl [F4_dst F4_src F4]
      · isplitl [F4_dst F4_src]
        · isplitl [F4_dst]; · iexact F4_dst
          iexact F4_src
        iexact F4
      isplitl [F5_dst F5_src]
      · isplitl [F5_dst]; · iexact F5_dst
        iexact F5_src
      iexact F5
    ihave HE := (stage_leave c arg4 arg12 v1_r0 f0 Wf) $$ [HE HR HQ]
    · isplitl [HE]; · iexact HE
      isplitl [HR]; · iexact HR
      iexact HQ
    icases HE with ⟨H12, H4, SP⟩
    sl_for (fun n _ => rowsAt c arg0 arg2 arg8 arg10 arg11 arg12 arg13 arg14 (arenaOf c arg4 arg12 f0 Wf) g h
        (arg10.view.writes (Elt F) arg10.view.junk [⟨Rect.whole S2880, body_run.sl.dma0_1 arg5 sf⟩])
        (arg11.view.writes (Elt F) arg11.view.junk [⟨Rect.whole S2880, body_run.sl.dma0_2 arg6 bf⟩])
        (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
          (arg13.view.writes (Elt F) arg13.view.junk [⟨Rect.unit ![0, 0] S2880x256.size inb_S2880x256_S2880x256_0_0, k0_pay74⟩])
          (Scf.trips k0_t2_loop.lb k0_t2_loop.ub k0_t2_loop.st))
        (arg14.view.writes (Elt F) sr
          [⟨Rect.unit ![3, 0, 0] S1x2x128.size inb_S4x2x128_S1x2x128_3_0_0,
            k0_pay71 (View.readAt (Elt F) arg1.view (Rect.unit ![0, 0] S2x128.size inb_S2x128_S2x128_0_0).toLoadRect gs)⟩])
        (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) (body_run.sl.r arg3 arg9 sg) (body_run.sl.r_1 arg3 arg9 sg) g h
          (arg10.view.writes (Elt F) arg10.view.junk [⟨Rect.whole S2880, body_run.sl.dma0_1 arg5 sf⟩])
          (arg11.view.writes (Elt F) arg11.view.junk [⟨Rect.whole S2880, body_run.sl.dma0_2 arg6 bf⟩])
          (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
            (arg13.view.writes (Elt F) arg13.view.junk [⟨Rect.unit ![0, 0] S2880x256.size inb_S2880x256_S2880x256_0_0, k0_pay74⟩])
            (Scf.trips k0_t2_loop.lb k0_t2_loop.ub k0_t2_loop.st))
          (arg14.view.writes (Elt F) sr
            [⟨Rect.unit ![3, 0, 0] S1x2x128.size inb_S4x2x128_S1x2x128_3_0_0,
              k0_pay71 (View.readAt (Elt F) arg1.view (Rect.unit ![0, 0] S2x128.size inb_S2x128_S2x128_0_0).toLoadRect gs)⟩]) x n)) $$ [H0 H2 H10 H11 H12 H13 H14 H8]
    · intro k acc; exact region_k0_t3 _ _ _ _ _ _ _ _ _ _ _ _ _ _ _ _ _ _ _ _ _ _ _ _ _ _ _ _ _ _ _ _ _ _ _ _ _ g h _ _ _ _ x k acc
    · unfold rowsAt
      isplitl [H0]; · iexact H0
      isplitl [H2]; · iexact H2
      isplitl [H10]; · iexact H10
      isplitl [H11]; · iexact H11
      isplitl [H12]; · iexact H12
      isplitl [H13]; · iexact H13
      isplitl [H14]; · iexact H14
      iexact H8
    iintro %acc3 HI
    unfold rowsAt
    icases HI with ⟨H0, H2, H10, H11, H12, H13, H14, H8⟩
    ihave H7 := (out_cut c arg7 y).1 $$ H7
    icases H7 with ⟨H7, H7'⟩
    sl_exec
    ihave H7 := (out_join c arg7 y _ _) $$ [H7 H7']
    · isplitl [H7]; · iexact H7
      iexact H7'
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [S6]; · iexact S6
    isplitl [S13]; · iexact S13
    isplitl [S14]; · iexact S14
    isplitl [SP]; · iexact SP
    isplitl [T12]; · iexact T12
    isplitl [T13]; · iexact T13
    iexists _; iexact HO

end Body

end Cert.Kernel.Hand
-- ==== Proof.Launch.lean ====
module

public import proofs.«01_k».proof.Proof.Body
public import proofs.«01_k».proof.Proof.Gen.Kernel.Frame

/-!
The launch of the kernel: the one pipeline stages its three windows, the body runs once (`body_run`), and what it
leaves in the result is kept as the contents that the run computes.
-/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The operands -/

/-- The array that the body writes by its own copies: the result. -/
def R0 : Finset (Ref sig .tc) := {main_v4}
/-- The arrays that the body's copies read. -/
def H0 : Finset (Ref sig .tc) := {main_arg3, main_v3, main_arg5, main_arg6}
theorem H0_sub : H0 ⊆ Pipeline.restRefs sig spec0 := by decide
theorem R0_sub : R0 ⊆ Pipeline.restRefs sig spec0 \ H0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The copies' semaphores: three of the first array, two of the third, thirty of the second. -/
abbrev osem0 : Fin 35 → SemLoc sig := fun j => (![SemLoc.dma 9, SemLoc.dma 16, SemLoc.dma 17, SemLoc.dma 114, SemLoc.dma 115, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101] : Fin 35 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellI cc0_scoped0 ![6] inb_S15_S1_6)) 0
          ∗ semVal ((c : Thread nD τ), SemLoc.dma (cellI cc0_scoped0 ![13] inb_S15_S1_13)) 0
          ∗ semVal ((c : Thread nD τ), SemLoc.dma (cellI cc0_scoped0 ![14] inb_S15_S1_14)) 0
          ∗ semVal ((c : Thread nD τ), SemLoc.dma (cellY cc0_scoped2 ![12] inb_S14_S1_12)) 0
          ∗ semVal ((c : Thread nD τ), SemLoc.dma (cellY cc0_scoped2 ![13] inb_S14_S1_13)) 0
          ∗ cellsP (F := F) c cc0_scoped1) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]
  unfold cellsP
  rw [BI.bigSep_univ_eq_bigSepL [0, 1, 2, 3, 4, 5, 6, 7, 8, 9, 10, 11, 12, 13, 14, 15, 16, 17, 18, 19, 20, 21, 22, 23, 24, 25, 26, 27, 28, 29] (by decide) (by decide)]
  rfl

theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_v3) ↦{fullShare} V m c main_v3)
          ∗ (((c : Thread nD τ).loc main_arg5) ↦{fullShare} V m c main_arg5) ∗ (((c : Thread nD τ).loc main_arg6) ↦{fullShare} V m c main_arg6)) := by
  rw [BI.bigSep_eq_bigSepL_of_eq [main_arg3, main_v3, main_arg5, main_arg6] (by decide) (by decide)]; rfl

theorem routed0_eq (c : Dev nD) (W : (b : Ref sig .tc) → Buf (Elt F) ((c : Thread nD τ).loc b)) :
    (Pipeline.routed R0 c W : sProp 𝕄) = (((c : Thread nD τ).loc main_v4) ↦{fullShare} W main_v4) := by
  unfold Pipeline.routed
  rw [BI.bigSep_eq_bigSepL_of_eq [main_v4] (by decide) (by decide)]; rfl

/-! ## What the body leaves -/

/-- The three windows' blocks. -/
abbrev blk0 (c : Dev nD) : Vec F S256x7680 .fp8e4m3 := iblk m c 0 t0_0
abbrev blk1 (c : Dev nD) : Vec F S2x128 .f32 := iblk m c 1 t0_0
abbrev blk2 (c : Dev nD) : Vec F S2880x256 .f32 := iblk m c 2 t0_0

/-- The body's run at the kernel's own operands: the staged windows, the arrays left in main memory, and the scratch
    at what it held before. -/
abbrev ran (c : Dev nD) (x : Buf (Elt F) ((c : Thread nD τ).loc cc0_scratch0)) (x9 : Buf (Elt F) ((c : Thread nD τ).loc cc0_scratch1))
    (x10 : Buf (Elt F) ((c : Thread nD τ).loc cc0_scratch2)) (x11 : Buf (Elt F) ((c : Thread nD τ).loc cc0_scratch3))
    (f0 : Buf (Elt F) ((c : Thread nD τ).loc cc0_scratch4)) (u : Buf (Elt F) ((c : Thread nD τ).loc cc0_scratch5))
    (sr : Buf (Elt F) ((c : Thread nD τ).loc cc0_scratch6)) :=
  body_run (F := F) c (Memref.whole cc0_stg0_0) (Memref.isWhole_whole _) (Memref.whole cc0_stg1_0) (Memref.isWhole_whole _)
    (Memref.whole cc0_stg2_0) (Memref.isWhole_whole _) (Memref.whole main_arg3) (Memref.isWhole_whole _) (Memref.whole main_v3) (Memref.isWhole_whole _)
    (Memref.whole main_arg5) (Memref.isWhole_whole _) (Memref.whole main_arg6) (Memref.isWhole_whole _) (Memref.whole main_v4) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scoped0 cc0_scoped1 cc0_scoped2
    (blk0 m c) (blk1 m c) (blk2 m c) (V m c main_arg3) (V m c main_v3) (V m c main_arg5) (V m c main_arg6) (V m c main_v4) x x9 x10 x11 f0 u sr

/-- The result holds what the run writes, from some scratch. -/
def left (c : Dev nD) (W : (b : Ref sig .tc) → Buf (Elt F) ((c : Thread nD τ).loc b)) : Prop :=
  ∃ x x9 x10 x11 f0 u sr, W main_v4 = (ran m c x x9 x10 x11 f0 u sr).1

/-! ## The proof data and the body's obligation -/

/-- Before the body: the scratch, the generator, the semaphores at zero, the arrays read and the result as found. After
    it: the same with the result as the run leaves it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := if t.val = 0 then Pipeline.ΦDRG osem0 spec0 H0 R0 (V m) (V m) c
    else iprop(Pipeline.ΦD osem0 spec0 H0 (V m) c ∗ Pipeline.routedSat R0 c (left m c))
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after0 (c : Dev nD) (t : Fin cfg0.N) : (dats m 0 c).after 0 t = iblk m c 0 t := by dsimp only [dats]
theorem before1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after1 (c : Dev nD) (t : Fin cfg0.N) : (dats m 0 c).after 1 t = iblk m c 1 t := by dsimp only [dats]
theorem before2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after2 (c : Dev nD) (t : Fin cfg0.N) : (dats m 0 c).after 2 t = iblk m c 2 t := by dsimp only [dats]

abbrev ms0_0 (t : Fin cfg0.N) : Memref sig .tc .vmem S256x7680 .fp8e4m3 := win0_0.stage (cfg0.slots t 0)
abbrev ms0_1 (t : Fin cfg0.N) : Memref sig .tc .vmem S2x128 .f32 := win0_1.stage (cfg0.slots t 1)
abbrev ms0_2 (t : Fin cfg0.N) : Memref sig .tc .vmem S2880x256 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0, before1, before2, after0, after1, after2]
  rw [show (dats m 0 c).Φ (Fin.castSucc t0_0) = Pipeline.ΦDRG osem0 spec0 H0 R0 (V m) (V m) c from rfl,
    show (dats m 0 c).Φ (Fin.succ t0_0) = iprop(Pipeline.ΦD osem0 spec0 H0 (V m) c ∗ Pipeline.routedSat R0 c (left m c)) from rfl]
  rw [Pipeline.ΦDRG_eq, Pipeline.ΦD_eq, scopedRest0_eq, ownSems00_eq, hbmPts0_eq, routed0_eq]
  unfold Dat.owesAt Pipeline.owesWithin
  rw [show (dats m 0 c).owed (Fin.castSucc t0_0) = 0 from rfl, show (dats m 0 c).owed (Fin.succ t0_0) = 0 from rfl]
  rw [show ms0_0 t0_0 = Memref.whole cc0_stg0_0 from rfl, show ms0_1 t0_0 = Memref.whole cc0_stg1_0 from rfl, show ms0_2 t0_0 = Memref.whole cc0_stg2_0 from rfl]
  simp only [owns_whole]
  iintro ⟨⟨⟨⟨%x, H8⟩, ⟨%x9, H9⟩, ⟨%x10, H10⟩, ⟨%x11, H11⟩, ⟨%f0, H12⟩, ⟨%u, H13⟩, ⟨%sr, H14⟩⟩, Hg, ⟨S6, S13, S14, T12, T13, SP⟩, ⟨H3, H4, H5, H6⟩, H7⟩,
    ⟨%W, -, HO⟩, ⟨%d0, H0⟩, ⟨%d1, H1⟩, ⟨%d2, H2⟩⟩
  have hr := (ran m c x x9 x10 x11 f0 u sr).2 W
  simp only [Memref.view_whole, View.set_whole] at hr
  iapply (wp_wand frame (wpE (defs₀ (F := F)) Variants.none (c : Thread nD τ) none) Set.univ) $$ [H0 H1 H2 H3 H4 H5 H6 H7 H8 H9 H10 H11 H12 H13 H14 S6 S13 S14 SP T12 T13 HO]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S6]; · iexact S6
    isplitl [S13]; · iexact S13
    isplitl [S14]; · iexact S14
    isplitl [SP]; · iexact SP
    isplitl [T12]; · iexact T12
    isplitl [T13]; · iexact T13
    iexact HO
  iintro %_ ⟨H0, H1, H2, H3, H4, H5, H6, H7, H8, H9, H10, H11, H12, H13, H14, S6, S13, S14, SP, T12, T13, ⟨%W', HO⟩⟩
  isplitl [H3 H4 H5 H6 H7 H8 H9 H10 H11 H12 H13 H14 S6 S13 S14 SP T12 T13 Hg]
  · isplitl [H3 H4 H5 H6 H8 H9 H10 H11 H12 H13 H14 S6 S13 S14 SP T12 T13 Hg]
    · isplitl [H8 H9 H10 H11 H12 H13 H14]
      · isplitl [H8]; · iexact H8
        isplitl [H9]; · iexact H9
        isplitl [H10]; · iexact H10
        isplitl [H11]; · iexact H11
        isplitl [H12]; · iexact H12
        isplitl [H13]; · iexact H13
        iexact H14
      isplitl [Hg]; · iexact Hg
      isplitl [S6 S13 S14 SP T12 T13]
      · isplitl [S6]; · iexact S6
        isplitl [S13]; · iexact S13
        isplitl [S14]; · iexact S14
        isplitl [T12]; · iexact T12
        isplitl [T13]; · iexact T13
        iexact SP
      isplitl [H3]; · iexact H3
      isplitl [H4]; · iexact H4
      isplitl [H5]; · iexact H5
      iexact H6
    unfold Pipeline.routedSat
    iexists (Function.update (V m c) main_v4 (ran m c x x9 x10 x11 f0 u sr).1)
    isplitr
    · ipureintro
      exact ⟨x, x9, x10, x11, f0, u, sr, Function.update_self _ _ _⟩
    rw [routed0_eq, Function.update_self]
    iexact H7
  isplitl [HO]
  · iexists W'; isplitr; · ipureintro; exact fun _ _ => Or.inl trivial
    iexact HO
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the run ends with: every array but the result as the region found it, the result at what the body leaves. -/
def Post (r : PUnit × MemSt nD τ sig (Elt F)) : Prop :=
  (RDat.FramePostR cfg0 (fun c => (dats m 0 c).toR) R0 (V m) r
    ∧ ∀ c : Dev nD, ∃ W : (b : Ref sig .tc) → Buf (Elt F) ((c.tc : Thread nD τ).loc b), left m c W ∧ ∀ b ∈ R0, r.2.mem ((c.tc : Thread nD τ).loc b) = W b)
  ∧ r.2.sem = fun _ => 0

set_option backward.isDefEq.respectTransparency.types false in
theorem run_main : θ_run defs (onTc (τ := τ) (main (F := F))) (s₀ m ρ) (Post m) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (dats m 0 c).toR) ownSemFacts0 H0 R0 (H0_sub.trans hrest) (R0_sub.trans (Finset.sdiff_subset_sdiff hrest subset_rfl)) m ρ main
    (hbody := fun c => (body_obligation m c).loose.toR)
    (hq := fun c w hw => (dats m 0 c).toR.q_eq_shareOf_of_share_full winFacts0.arr_inj (fun w => (dats m 0 c).share_full (fun _ => rfl) w) w hw)
    (howed := fun _ _ => rfl) (V := V m) (hmain := hmainD m Variants.none) (hA := A_eq m) (hpf := fun _ k => k.elim0)
    (PG := left m)
    (hin := fun c => (show _ ⊢ Pipeline.ΦDRG osem0 spec0 H0 R0 (V m) (V m) c from by iintro ⟨H, -⟩; iexact H))
    (hout := fun c => .rfl)
    (Q' := Post m) (hQ' := fun _ h => h)

/-- The program terminates, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩)
    (run_main m ρ)

/-- The run read at the arguments and the result. -/
theorem run_value (Y : (c : Dev nD) → Buf (Elt F) ((c : Thread nD τ).loc main_v4))
    (hY : ∀ c W, left m c W → W main_v4 = Y c) :
    θ_run defs (onTc (τ := τ) (main (F := F))) ⟨m, fun _ => 0, ρ⟩ (fun r => ∀ c : Dev nD,
      r.2.mem ((c.tc : Thread nD τ).loc main_v4) = Y c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨by
        obtain ⟨W, hW, hm⟩ := h.1.2 c
        exact (hm main_v4 (by decide)).trans (hY c W hW),
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩)
    (run_main m ρ)

end Cert.Kernel.Hand

end
-- ==== Proof.PanelsIdeal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## Big separating conjunctions cut at a number -/

section Cut

variable {M : Type} [URA M] {N : ℕ} (Φ : Fin N → sProp M)

/-- The conjuncts at `n` and above. -/
def Hi (n : ℕ) : sProp M := bigSep (Finset.univ.filter fun i : Fin N => n ≤ i.val) Φ

/-- The conjuncts below `n`. -/
def Lo (n : ℕ) : sProp M := bigSep (Finset.univ.filter fun i : Fin N => i.val < n) Φ

theorem Hi_step (n : ℕ) (h : n < N) : Hi Φ n = iprop(Φ ⟨n, h⟩ ∗ Hi Φ (n + 1)) := by
  have e : (Finset.univ.filter fun i : Fin N => n ≤ i.val) = insert ⟨n, h⟩ (Finset.univ.filter fun i : Fin N => n + 1 ≤ i.val) := by
    ext i; simp only [Finset.mem_filter, Finset.mem_univ, true_and, Finset.mem_insert, Fin.ext_iff]; omega
  unfold Hi
  rw [e, bigSep_insert (by simp)]
  rfl

theorem Lo_step (n : ℕ) (h : n < N) : Lo Φ (n + 1) = iprop(Φ ⟨n, h⟩ ∗ Lo Φ n) := by
  have e : (Finset.univ.filter fun i : Fin N => i.val < n + 1) = insert ⟨n, h⟩ (Finset.univ.filter fun i : Fin N => i.val < n) := by
    ext i; simp only [Finset.mem_filter, Finset.mem_univ, true_and, Finset.mem_insert, Fin.ext_iff]; omega
  unfold Lo
  rw [e, bigSep_insert (by simp)]
  rfl

theorem Hi_zero : Hi Φ 0 = bigSep Finset.univ Φ := by
  unfold Hi; congr 1; ext i; simp

theorem Lo_zero : Lo Φ 0 = iprop(emp) := by
  unfold Lo
  rw [show (Finset.univ.filter fun i : Fin N => i.val < 0) = ∅ from by ext i; simp, bigSep_empty]
  rfl

theorem Hi_top : Hi Φ N = iprop(emp) := by
  unfold Hi
  rw [show (Finset.univ.filter fun i : Fin N => N ≤ i.val) = ∅ from by ext i; simp, bigSep_empty]
  rfl

theorem Lo_top : Lo Φ N = bigSep Finset.univ Φ := by
  unfold Lo; congr 1; ext i; simp

end Cut

/-! ## The cells, the slots of the arena and the panels of the weight -/

/-- A cell of the panels' semaphore array at an offset. -/
abbrev cellO (o : Fin 1 → ℕ) (h : ∀ a, o a + S1.size a ≤ S84.size a) : DmaSem sig :=
  ((v1_r0.slice (Rect.unit (s := S84) o S1.size h)).squeeze S_ squeezes_S1_S_).sem

/-- A slot of the arena at an offset. -/
abbrev slotO (o : Fin 2 → ℕ) (h : ∀ a, o a + S2880x256.size a ≤ S161280x256.size a) : Rect S161280x256 :=
  Rect.unit (s := S161280x256) o S2880x256.size h

/-- A panel of the weight at an offset. -/
abbrev panelO (o : Fin 2 → ℕ) (h : ∀ a, o a + S2880x256.size a ≤ S2880x7680.size a) : Memref sig .tc .hbm S2880x256 .fp8e4m3 :=
  arg4.slice (Rect.unit (s := S2880x7680) o S2880x256.size h) (fun _ => rfl)

section Slots

variable (A : Buf (Elt F) (arg12.view.loc (c : Thread nD τ))) (Wf : Buf (Elt F) (arg4.view.loc (c : Thread nD τ)))
  (o4 : Fin 1 → ℕ) (o5 o6 : Fin 2 → ℕ) (h4 : ∀ a, o4 a + S1.size a ≤ S84.size a)
  (h5 : ∀ a, o5 a + S2880x256.size a ≤ S161280x256.size a) (h6 : ∀ a, o6 a + S2880x256.size a ≤ S2880x7680.size a)

/-- A slot's elements at the arena's contents beside a panel's elements at the weight's. -/
def del : sProp 𝕄 :=
  iprop((arg12.view.loc (c : Thread nD τ) ↦[arg12.view.setOn (slotO o5 h5).set]{fullShare} A)
   ∗ ((panelO arg4 o6 h6).view.loc (c : Thread nD τ) ↦[(panelO arg4 o6 h6).view.set]{fullShare} Wf))

/-- A panel's transfer in flight. -/
def fl : sProp 𝕄 :=
  Transfers.Flight (countersEmb (U := Pipeline.UD sig nD τ)) (c : Thread nD τ) (.dma (cellO v1_r0 o4 h4)) () (arg12.view.ref.dmaCredit S2880x256 .fp8e4m3) (del c arg4 arg12 A Wf o5 o6 h5 h6)

/-- A slot and a panel held by the core, with the cell back at zero. -/
def landed : sProp 𝕄 :=
  iprop(del c arg4 arg12 A Wf o5 o6 h5 h6 ∗ semVal ((c : Thread nD τ), SemLoc.dma (cellO v1_r0 o4 h4)) 0)

variable {o4 o5 o6} in
theorem fl_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    fl c arg4 arg12 v1_r0 A Wf o4 o5 o6 h4 h5 h6 = fl c arg4 arg12 v1_r0 A Wf o4' o5' o6' h4' h5' h6' := by
  subst e4 e5 e6; rfl

variable {o4 o5 o6} in
theorem landed_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    landed c arg4 arg12 v1_r0 A Wf o4 o5 o6 h4 h5 h6 = landed c arg4 arg12 v1_r0 A Wf o4' o5' o6' h4' h5' h6' := by
  subst e4 e5 e6; rfl

end Slots

theorem cell_inb : ∀ i : Fin 30, ∀ a, (![i.val + 54] : Fin 1 → ℕ) a + S1.size a ≤ S84.size a := by decide +kernel
theorem slot_inb : ∀ i : Fin 30, ∀ a, (![2880 * i.val, 0] : Fin 2 → ℕ) a + S2880x256.size a ≤ S161280x256.size a := by decide +kernel
theorem panel_inb : ∀ i : Fin 30, ∀ a, (![0, 256 * i.val] : Fin 2 → ℕ) a + S2880x256.size a ≤ S2880x7680.size a := by decide +kernel

section Stage

variable (A : Buf (Elt F) (arg12.view.loc (c : Thread nD τ))) (Wf : Buf (Elt F) (arg4.view.loc (c : Thread nD τ)))

/-- Panel `i`'s transfer in flight. -/
def flying (i : Fin 30) : sProp 𝕄 :=
  fl c arg4 arg12 v1_r0 A Wf ![i.val + 54] ![2880 * i.val, 0] ![0, 256 * i.val] (cell_inb i) (slot_inb i) (panel_inb i)

/-- Slot `i`, panel `i` and cell `i` held by the core. -/
def held (i : Fin 30) : sProp 𝕄 :=
  landed c arg4 arg12 v1_r0 A Wf ![i.val + 54] ![2880 * i.val, 0] ![0, 256 * i.val] (cell_inb i) (slot_inb i) (panel_inb i)

end Stage

/-- What the arena holds once every panel has landed: each slot is the panel of its number, and below the slots the old contents. -/
def arenaOf (f0 : Buf (Elt F) (arg12.view.loc (c : Thread nD τ))) (Wf : Buf (Elt F) (arg4.view.loc (c : Thread nD τ))) :
    Buf (Elt F) (arg12.view.loc (c : Thread nD τ)) :=
  arg12.view.write (Elt F) f0 (fun y => if h : (y 0).val < 86400 then
      arg4.view.read (Elt F) Wf (fun a => Fin.cases (motive := fun a => Fin (S2880x7680.size a)) (⟨(y 0).val % 2880, Nat.mod_lt _ (by decide)⟩ : Fin 2880)
        (fun b => Fin.cases (motive := fun b => Fin (S2880x7680.size b.succ)) (⟨256 * ((y 0).val / 2880) + (y 1).val, by
          have := (y 1).isLt; change (y 1).val < 256 at this; omega⟩ : Fin 7680) (fun z => z.elim0) b) a)
    else arg12.view.read (Elt F) f0 y) Finset.univ

section ArenaRead

variable (f0 : Buf (Elt F) (arg12.view.loc (c : Thread nD τ))) (Wf : Buf (Elt F) (arg4.view.loc (c : Thread nD τ)))

/-- The arena's element under an index: the weight's in a slot. -/
theorem arenaOf_read (y : S161280x256.Idx) (h : (y 0).val < 86400) (z : S2880x7680.Idx)
    (h0 : (z 0).val = (y 0).val % 2880) (h1 : (z 1).val = 256 * ((y 0).val / 2880) + (y 1).val) :
    arg12.view.read (Elt F) (arenaOf c arg4 arg12 f0 Wf) y = arg4.view.read (Elt F) Wf z := by
  unfold arenaOf
  rw [View.read_apply, View.write_emb_of_mem _ _ (Finset.mem_univ _), cast_cast, cast_eq, dif_pos h]
  congr 1
  funext a
  match a with
  | ⟨0, _⟩ => exact Fin.ext h0.symm
  | ⟨1, _⟩ => exact Fin.ext h1.symm

/-- Below the slots the arena keeps its old contents. -/
theorem arenaOf_below (y : S161280x256.Idx) (h : 86400 ≤ (y 0).val) :
    arenaOf c arg4 arg12 f0 Wf (arg12.view.emb y) = f0 (arg12.view.emb y) := by
  unfold arenaOf
  rw [View.write_emb_of_mem _ _ (Finset.mem_univ _), dif_neg (by omega), View.read_apply, cast_cast, cast_eq]

/-- A slot reads as its panel. -/
theorem arenaOf_slot (i : Fin 30) :
    (arg12.view.slice (slotO ![2880 * i.val, 0] (slot_inb i))).read (Elt F) (arenaOf c arg4 arg12 f0 Wf)
      = (panelO arg4 ![0, 256 * i.val] (panel_inb i)).view.read (Elt F) Wf := by
  funext x
  have hx0 : (x 0).val < 2880 := (x 0).isLt
  have hx1 : (x 1).val < 256 := (x 1).isLt
  have hi := i.isLt
  show arg12.view.read (Elt F) (arenaOf c arg4 arg12 f0 Wf) ((slotO ![2880 * i.val, 0] (slot_inb i)).emb x)
    = arg4.view.read (Elt F) Wf ((Rect.unit (s := S2880x7680) ![0, 256 * i.val] S2880x256.size (panel_inb i)).emb x)
  have e0 : ((slotO ![2880 * i.val, 0] (slot_inb i)).emb x 0).val = 2880 * i.val + 1 * (x 0).val := rfl
  have e1 : ((slotO ![2880 * i.val, 0] (slot_inb i)).emb x 1).val = 0 + 1 * (x 1).val := rfl
  have d0 : ((Rect.unit (s := S2880x7680) ![0, 256 * i.val] S2880x256.size (panel_inb i)).emb x 0).val = 0 + 1 * (x 0).val := rfl
  have d1 : ((Rect.unit (s := S2880x7680) ![0, 256 * i.val] S2880x256.size (panel_inb i)).emb x 1).val = 256 * i.val + 1 * (x 1).val := rfl
  refine arenaOf_read c arg4 arg12 f0 Wf _ ?_ _ ?_ ?_
  · rw [e0]; omega
  · rw [e0, d0]; omega
  · rw [e0, e1, d1]; omega

end ArenaRead

/-! ## Issuing the panels -/

section Issue

variable (f0 : Buf (Elt F) (arg12.view.loc (c : Thread nD τ))) (Wf : Buf (Elt F) (arg4.view.loc (c : Thread nD τ)))

/-- Once its panel has landed a slot holds the arena's contents. -/
theorem slot_landed (i : Fin 30) {o5 o6 : Fin 2 → ℕ} (e5 : o5 = ![2880 * i.val, 0]) (e6 : o6 = ![0, 256 * i.val])
    (h5 : ∀ a, o5 a + S2880x256.size a ≤ S161280x256.size a) (h6 : ∀ a, o6 a + S2880x256.size a ≤ S2880x7680.size a) :
    (arg12.view.loc (c : Thread nD τ) ↦[arg12.view.setOn (slotO o5 h5).set]{fullShare}
        (arg12.view.slice (slotO o5 h5)).write (Elt F) f0 ((panelO arg4 o6 h6).view.read (Elt F) Wf) Finset.univ : sProp 𝕄)
      = (arg12.view.loc (c : Thread nD τ) ↦[arg12.view.setOn (slotO o5 h5).set]{fullShare} arenaOf c arg4 arg12 f0 Wf) := by
  subst e5 e6
  refine pointsTo_congr fun j hj => ?_
  have hj' : j ∈ (arg12.view.slice (slotO ![2880 * i.val, 0] (slot_inb i))).set := by rw [View.set_slice]; exact hj
  obtain ⟨x, -, rfl⟩ := Finset.mem_map.mp hj'
  rw [View.write_emb_of_mem _ _ (Finset.mem_univ _), ← arenaOf_slot c arg4 arg12 f0 Wf i, View.read_apply, cast_cast, cast_eq]

/-- A transfer that is to write a slot with its panel delivers the slot at the arena's contents. -/
theorem fl_landed (i : Fin 30) {o4 : Fin 1 → ℕ} {o5 o6 : Fin 2 → ℕ} (e5 : o5 = ![2880 * i.val, 0]) (e6 : o6 = ![0, 256 * i.val])
    (h4 : ∀ a, o4 a + S1.size a ≤ S84.size a)
    (h5 : ∀ a, o5 a + S2880x256.size a ≤ S161280x256.size a) (h6 : ∀ a, o6 a + S2880x256.size a ≤ S2880x7680.size a) :
    (Transfers.Flight (countersEmb (U := Pipeline.UD sig nD τ)) (c : Thread nD τ) (.dma (cellO v1_r0 o4 h4)) () (arg12.view.ref.dmaCredit S2880x256 .fp8e4m3)
      (iprop((arg12.view.loc (c : Thread nD τ) ↦[arg12.view.setOn (slotO o5 h5).set]{fullShare}
          (arg12.view.slice (slotO o5 h5)).write (Elt F) f0 ((panelO arg4 o6 h6).view.read (Elt F) Wf) Finset.univ)
        ∗ ((panelO arg4 o6 h6).view.loc (c : Thread nD τ) ↦[(panelO arg4 o6 h6).view.set]{fullShare} Wf)) : sProp 𝕄) : sProp 𝕄)
      ⊢ fl c arg4 arg12 v1_r0 (arenaOf c arg4 arg12 f0 Wf) Wf o4 o5 o6 h4 h5 h6 :=
  Transfers.Flight_mono _ _ (sep_mono_left (Entails.of_eq (slot_landed c arg4 arg12 f0 Wf i e5 e6 h5 h6)))

set_option maxRecDepth 8192
set_option maxHeartbeats 1000000

/-- One trip of the loop that issues the panels. -/
theorem trip_k0_t1 (k : Fin k0_t1_loop.trips) (K : sProp 𝕄) :
    iprop(held c arg4 arg12 v1_r0 f0 Wf k ∗ (flying c arg4 arg12 v1_r0 (arenaOf c arg4 arg12 f0 Wf) Wf k -∗ K))
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k ())
       (fun _ => K) := by
  unfold held flying k0_t1_body
  rw [landed_congr (e4 := (k0_off1_eq k).symm) (e5 := (k0_off2_eq k).symm) (e6 := (k0_off3_eq k).symm) (h4' := k0_off1_inb k) (h5' := k0_off2_inb k) (h6' := k0_off3_inb k),
    fl_congr (e4 := (k0_off1_eq k).symm) (e5 := (k0_off2_eq k).symm) (e6 := (k0_off3_eq k).symm) (h4' := k0_off1_inb k) (h5' := k0_off2_inb k) (h6' := k0_off3_inb k)]
  unfold landed del
  iintro ⟨⟨⟨Hd, Hs⟩, Hv⟩, HK⟩
  sl_exec
  sl_step
  iapply HK
  iapply (fl_landed c arg4 arg12 v1_r0 f0 Wf k (k0_off2_eq k) (k0_off3_eq k) (k0_off1_inb k) (k0_off2_inb k) (k0_off3_inb k))
  iexact Hv

/-- What the loop that issues the panels holds before trip `n`. -/
def inv1 (n : ℕ) : sProp 𝕄 :=
  iprop(Hi (held c arg4 arg12 v1_r0 f0 Wf) n ∗ Lo (flying c arg4 arg12 v1_r0 (arenaOf c arg4 arg12 f0 Wf) Wf) n)

theorem region_k0_t1 (k : Fin k0_t1_loop.trips) (acc : Unit) :
    inv1 c arg4 arg12 v1_r0 f0 Wf k.val
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k acc)
       (fun _ => inv1 c arg4 arg12 v1_r0 f0 Wf (k.val + 1)) := by
  unfold inv1
  rw [Hi_step _ k.val (show k.val < 30 from k.isLt), Lo_step _ k.val (show k.val < 30 from k.isLt)]
  refine BIBase.Entails.trans ?_ (trip_k0_t1 _ _ _ _ _ _ _ _ _ _ _ _ _ _ _ _ _ _ _ _ _ _ _ _ _ _ _ _ _ _ _ _ _ _ f0 Wf k _)
  iintro ⟨⟨Hk, Hhi⟩, Hlo⟩
  isplitl [Hk]; · iexact Hk
  iintro Hf
  isplitl [Hhi]; · iexact Hhi
  isplitl [Hf]; · iexact Hf
  iexact Hlo

end Issue
/-! ## A trip of the loop over the groups of panels -/

section Trip2

variable (A : Buf (Elt F) (arg12.view.loc (c : Thread nD τ))) (Wf : Buf (Elt F) (arg4.view.loc (c : Thread nD τ)))

set_option maxRecDepth 8192
set_option maxHeartbeats 4000000

@[irreducible] def trip_k0_t2
   (g : BufTy.Contents (Elt F) arg0.view.ty) (u : BufTy.Contents (Elt F) arg13.view.ty) (k : Fin k0_t2_loop.trips) :
   { L : List (View.Piece (Elt F) S2880x256 .f32) // ∀ (W : Waits sig Unit) ,
     iprop((arg0.view.loc (c : Thread nD τ) ↦[arg0.view.set]{fullShare} g) ∗ (arg13.view.loc (c : Thread nD τ) ↦[arg13.view.set]{fullShare} u)
       ∗ fl c arg4 arg12 v1_r0 A Wf (k0_off4 k 0#32) (k0_off5 k 0#32) (k0_off6 k 0#32) (k0_off4_inb k 0) (k0_off5_inb k 0) (k0_off6_inb k 0)
       ∗ fl c arg4 arg12 v1_r0 A Wf (k0_off4 k 1#32) (k0_off5 k 1#32) (k0_off6 k 1#32) (k0_off4_inb k 1) (k0_off5_inb k 1) (k0_off6_inb k 1)
       ∗ fl c arg4 arg12 v1_r0 A Wf (k0_off4 k 2#32) (k0_off5 k 2#32) (k0_off6 k 2#32) (k0_off4_inb k 2) (k0_off5_inb k 2) (k0_off6_inb k 2)
       ∗ fl c arg4 arg12 v1_r0 A Wf (k0_off4 k 3#32) (k0_off5 k 3#32) (k0_off6 k 3#32) (k0_off4_inb k 3) (k0_off5_inb k 3) (k0_off6_inb k 3)
       ∗ fl c arg4 arg12 v1_r0 A Wf (k0_off4 k 4#32) (k0_off5 k 4#32) (k0_off6 k 4#32) (k0_off4_inb k 4) (k0_off5_inb k 4) (k0_off6_inb k 4)
       ∗ fl c arg4 arg12 v1_r0 A Wf (k0_off4 k 5#32) (k0_off5 k 5#32) (k0_off6 k 5#32) (k0_off4_inb k 5) (k0_off5_inb k 5) (k0_off6_inb k 5)
       ∗ owes (c : Thread nD τ) 0 W)
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k PUnit.unit)
       (fun _ => iprop((arg0.view.loc (c : Thread nD τ) ↦[arg0.view.set]{fullShare} g) ∗ (arg13.view.loc (c : Thread nD τ) ↦[arg13.view.set]{fullShare} arg13.view.writes (Elt F) u L)
       ∗ landed c arg4 arg12 v1_r0 A Wf (k0_off4 k 0#32) (k0_off5 k 0#32) (k0_off6 k 0#32) (k0_off4_inb k 0) (k0_off5_inb k 0) (k0_off6_inb k 0)
       ∗ landed c arg4 arg12 v1_r0 A Wf (k0_off4 k 1#32) (k0_off5 k 1#32) (k0_off6 k 1#32) (k0_off4_inb k 1) (k0_off5_inb k 1) (k0_off6_inb k 1)
       ∗ landed c arg4 arg12 v1_r0 A Wf (k0_off4 k 2#32) (k0_off5 k 2#32) (k0_off6 k 2#32) (k0_off4_inb k 2) (k0_off5_inb k 2) (k0_off6_inb k 2)
       ∗ landed c arg4 arg12 v1_r0 A Wf (k0_off4 k 3#32) (k0_off5 k 3#32) (k0_off6 k 3#32) (k0_off4_inb k 3) (k0_off5_inb k 3) (k0_off6_inb k 3)
       ∗ landed c arg4 arg12 v1_r0 A Wf (k0_off4 k 4#32) (k0_off5 k 4#32) (k0_off6 k 4#32) (k0_off4_inb k 4) (k0_off5_inb k 4) (k0_off6_inb k 4)
       ∗ landed c arg4 arg12 v1_r0 A Wf (k0_off4 k 5#32) (k0_off5 k 5#32) (k0_off6 k 5#32) (k0_off4_inb k 5) (k0_off5_inb k 5) (k0_off6_inb k 5)
       ∗ (∃ W, owes (c : Thread nD τ) 0 W))) } := by
  have hk : k.val < 4 := Nat.lt_of_lt_of_le k.isLt k0_t2_abs.2.1
  refine ⟨?_, fun W => ?run⟩
  case run =>
    unfold k0_t2_body landed fl del
    iintro ⟨H0, H13, F0, F1, F2, F3, F4, F5, HO⟩
    sl_exec
    sl_step
    sl_close

/-- The accumulator before trip `n`. -/
def uAt (g : BufTy.Contents (Elt F) arg0.view.ty) (u : BufTy.Contents (Elt F) arg13.view.ty) : ℕ → BufTy.Contents (Elt F) arg13.view.ty
  | 0 => u
  | n + 1 => if h : n < k0_t2_loop.trips then arg13.view.writes (Elt F) (uAt g u n) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g (uAt g u n) ⟨n, h⟩).1 else uAt g u n

/-- What the loop over the groups of panels holds before trip `n`. -/
def inv2 (g : BufTy.Contents (Elt F) arg0.view.ty) (u : BufTy.Contents (Elt F) arg13.view.ty) (n : ℕ) : sProp 𝕄 :=
  iprop((arg0.view.loc (c : Thread nD τ) ↦[arg0.view.set]{fullShare} g)
    ∗ (arg13.view.loc (c : Thread nD τ) ↦[arg13.view.set]{fullShare} uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u n)
    ∗ Hi (flying c arg4 arg12 v1_r0 A Wf) (6 * n) ∗ Lo (held c arg4 arg12 v1_r0 A Wf) (6 * n)
    ∗ (∃ W, owes (c : Thread nD τ) 0 W))

/-- Panel `6 k + r` at the offsets of the loop. -/
theorem flying_eq (k : Fin k0_t2_loop.trips) (r : Fin 6) (i : Fin 30) (hi : i.val = 6 * k.val + r.val) :
    flying c arg4 arg12 v1_r0 A Wf i
      = fl c arg4 arg12 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold flying
  refine fl_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem held_eq (k : Fin k0_t2_loop.trips) (r : Fin 6) (i : Fin 30) (hi : i.val = 6 * k.val + r.val) :
    held c arg4 arg12 v1_r0 A Wf i
      = landed c arg4 arg12 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold held
  refine landed_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem region_k0_t2 (g : BufTy.Contents (Elt F) arg0.view.ty) (u : BufTy.Contents (Elt F) arg13.view.ty) (k : Fin k0_t2_loop.trips) (acc : Unit) :
    inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k acc)
       (fun _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u (k.val + 1)) := by
  have hk : k.val < 4 := Nat.lt_of_lt_of_le k.isLt k0_t2_abs.2.1
  unfold inv2
  rw [show uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u (k.val + 1) = arg13.view.writes (Elt F) (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val) k).1 from dif_pos k.isLt,
    show 6 * (k.val + 1) = 6 * k.val + 1 + 1 + 1 + 1 + 1 + 1 by omega]
  generalize uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g u k.val = uk
  rw [Hi_step _ (6 * k.val) (by omega), Hi_step _ (6 * k.val + 1) (by omega), Hi_step _ (6 * k.val + 1 + 1) (by omega),
    Hi_step _ (6 * k.val + 1 + 1 + 1) (by omega), Hi_step _ (6 * k.val + 1 + 1 + 1 + 1) (by omega), Hi_step _ (6 * k.val + 1 + 1 + 1 + 1 + 1) (by omega),
    Lo_step _ (6 * k.val + 1 + 1 + 1 + 1 + 1) (by omega), Lo_step _ (6 * k.val + 1 + 1 + 1 + 1) (by omega), Lo_step _ (6 * k.val + 1 + 1 + 1) (by omega),
    Lo_step _ (6 * k.val + 1 + 1) (by omega), Lo_step _ (6 * k.val + 1) (by omega), Lo_step _ (6 * k.val) (by omega)]
  rw [flying_eq (k := k) (r := 0) (i := ⟨6 * k.val, _⟩) (hi := rfl), flying_eq (k := k) (r := 1) (i := ⟨6 * k.val + 1, _⟩) (hi := rfl),
    flying_eq (k := k) (r := 2) (i := ⟨6 * k.val + 1 + 1, _⟩) (hi := rfl), flying_eq (k := k) (r := 3) (i := ⟨6 * k.val + 1 + 1 + 1, _⟩) (hi := rfl),
    flying_eq (k := k) (r := 4) (i := ⟨6 * k.val + 1 + 1 + 1 + 1, _⟩) (hi := rfl), flying_eq (k := k) (r := 5) (i := ⟨6 * k.val + 1 + 1 + 1 + 1 + 1, _⟩) (hi := rfl),
    held_eq (k := k) (r := 0) (i := ⟨6 * k.val, _⟩) (hi := rfl), held_eq (k := k) (r := 1) (i := ⟨6 * k.val + 1, _⟩) (hi := rfl),
    held_eq (k := k) (r := 2) (i := ⟨6 * k.val + 1 + 1, _⟩) (hi := rfl), held_eq (k := k) (r := 3) (i := ⟨6 * k.val + 1 + 1 + 1, _⟩) (hi := rfl),
    held_eq (k := k) (r := 4) (i := ⟨6 * k.val + 1 + 1 + 1 + 1, _⟩) (hi := rfl), held_eq (k := k) (r := 5) (i := ⟨6 * k.val + 1 + 1 + 1 + 1 + 1, _⟩) (hi := rfl)]
  iintro ⟨H0, H13, ⟨F0, F1, F2, F3, F4, F5, HF⟩, HD, %W, HO⟩
  iapply (wp_wand frame (wpE (defs₀ (F := F)) Variants.none (c : Thread nD τ) none) Set.univ) $$ [H0 H13 F0 F1 F2 F3 F4 F5 HO]
  · iapply ((trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A Wf g uk k).2 W)
    isplitl [H0]; · iexact H0
    isplitl [H13]; · iexact H13
    isplitl [F0]; · iexact F0
    isplitl [F1]; · iexact F1
    isplitl [F2]; · iexact F2
    isplitl [F3]; · iexact F3
    isplitl [F4]; · iexact F4
    isplitl [F5]; · iexact F5
    iexact HO
  iintro %a ⟨H0, H13, F0, F1, F2, F3, F4, F5, HO⟩
  isplitl [H0]; · iexact H0
  isplitl [H13]; · iexact H13
  isplitl [HF]; · iexact HF
  isplitr [HO]
  · isplitl [F5]; · iexact F5
    isplitl [F4]; · iexact F4
    isplitl [F3]; · iexact F3
    isplitl [F2]; · iexact F2
    isplitl [F1]; · iexact F1
    isplitl [F0]; · iexact F0
    iexact HD
  iexact HO

end Trip2
/-- The panels' cells, each at zero. -/
def cellsP : sProp 𝕄 := bigSep Finset.univ fun i : Fin 30 => semVal ((c : Thread nD τ), SemLoc.dma (cellO v1_r0 ![i.val + 54] (cell_inb i))) 0

/-! ## Cutting the arena and the weight, and putting them together -/

section CutArena

variable (f0 A : Buf (Elt F) (arg12.view.loc (c : Thread nD τ))) (Wf : Buf (Elt F) (arg4.view.loc (c : Thread nD τ)))

/-- The elements of slot `i`. -/
abbrev slotSet (i : Fin 30) : Finset (Idx (arg12.view.loc (c : Thread nD τ))) := arg12.view.setOn (slotO ![2880 * i.val, 0] (slot_inb i)).set

/-- The elements of panel `i`. -/
abbrev panelSet (i : Fin 30) : Finset (Idx (arg4.view.loc (c : Thread nD τ))) := (panelO arg4 ![0, 256 * i.val] (panel_inb i)).view.set

theorem slotSet_disjoint (i j : Fin 30) (h : i ≠ j) : Disjoint (slotSet c arg12 i) (slotSet c arg12 j) := by
  refine View.disjoint_setOn _ (Finset.disjoint_left.mpr fun y hi hj => h (Fin.ext ?_))
  have a := Rect.mem_set_unit.mp hi 0
  have b := Rect.mem_set_unit.mp hj 0
  have a1 : 2880 * i.val ≤ (y 0).val := a.1
  have a2 : (y 0).val < 2880 * i.val + 2880 := a.2
  have b1 : 2880 * j.val ≤ (y 0).val := b.1
  have b2 : (y 0).val < 2880 * j.val + 2880 := b.2
  omega

theorem panelSet_eq (i : Fin 30) : panelSet c arg4 i = arg4.view.setOn (Rect.unit (s := S2880x7680) ![0, 256 * i.val] S2880x256.size (panel_inb i)).set :=
  View.set_slice _ _

theorem panelSet_disjoint (i j : Fin 30) (h : i ≠ j) : Disjoint (panelSet c arg4 i) (panelSet c arg4 j) := by
  rw [panelSet_eq, panelSet_eq]
  refine View.disjoint_setOn _ (Finset.disjoint_left.mpr fun y hi hj => h (Fin.ext ?_))
  have a := Rect.mem_set_unit.mp hi 1
  have b := Rect.mem_set_unit.mp hj 1
  have a1 : 256 * i.val ≤ (y 1).val := a.1
  have a2 : (y 1).val < 256 * i.val + 256 := a.2
  have b1 : 256 * j.val ≤ (y 1).val := b.1
  have b2 : (y 1).val < 256 * j.val + 256 := b.2
  omega

/-- The arena below the slots. -/
def restSet : Finset (Idx (arg12.view.loc (c : Thread nD τ))) := arg12.view.set \ Finset.univ.biUnion (slotSet c arg12)

theorem slots_subset : Finset.univ.biUnion (slotSet c arg12) ⊆ arg12.view.set :=
  Finset.biUnion_subset.mpr fun i _ => View.setOn_subset_set _ _

theorem panels_subset : Finset.univ.biUnion (panelSet c arg4) ⊆ arg4.view.set :=
  Finset.biUnion_subset.mpr fun i _ => by rw [panelSet_eq]; exact View.setOn_subset_set _ _

theorem arena_cut :
    (arg12.view.loc (c : Thread nD τ) ↦[arg12.view.set]{fullShare} f0 : sProp 𝕄)
      ⊣⊢ iprop((bigSep Finset.univ fun i => arg12.view.loc (c : Thread nD τ) ↦[slotSet c arg12 i]{fullShare} f0)
        ∗ (arg12.view.loc (c : Thread nD τ) ↦[restSet c arg12]{fullShare} f0)) := by
  rw [← pointsTo_biUnion _ _ fun i _ j _ h => slotSet_disjoint c arg12 i j h]
  exact pointsTo_split_subset (slots_subset c arg12)

theorem weight_cut :
    (arg4.view.loc (c : Thread nD τ) ↦[arg4.view.set]{fullShare} Wf : sProp 𝕄)
      ⊣⊢ iprop((bigSep Finset.univ fun i => arg4.view.loc (c : Thread nD τ) ↦[panelSet c arg4 i]{fullShare} Wf)
        ∗ (arg4.view.loc (c : Thread nD τ) ↦[arg4.view.set \ Finset.univ.biUnion (panelSet c arg4)]{fullShare} Wf)) := by
  rw [← pointsTo_biUnion _ _ fun i _ j _ h => panelSet_disjoint c arg4 i j h]
  exact pointsTo_split_subset (panels_subset c arg4)

/-- Below the slots the old contents are the arena's. -/
theorem rest_eq :
    (arg12.view.loc (c : Thread nD τ) ↦[restSet c arg12]{fullShare} f0 : sProp 𝕄)
      = (arg12.view.loc (c : Thread nD τ) ↦[restSet c arg12]{fullShare} arenaOf c arg4 arg12 f0 Wf) := by
  refine pointsTo_congr fun j hj => ?_
  obtain ⟨hj1, hj2⟩ := Finset.mem_sdiff.mp hj
  obtain ⟨y, -, rfl⟩ := Finset.mem_map.mp hj1
  refine (arenaOf_below c arg4 arg12 f0 Wf y ?_).symm
  by_contra hlt
  refine hj2 (Finset.mem_biUnion.mpr ⟨⟨(y 0).val / 2880, by omega⟩, Finset.mem_univ _, Finset.mem_map_of_mem _ (Rect.mem_set_unit.mpr fun a => ?_)⟩)
  have h1 : (y 1).val < 256 := (y 1).isLt
  match a with
  | ⟨0, _⟩ =>
    show 2880 * ((y 0).val / 2880) ≤ (y 0).val ∧ (y 0).val < 2880 * ((y 0).val / 2880) + 2880
    omega
  | ⟨1, _⟩ =>
    show 0 ≤ (y 1).val ∧ (y 1).val < 0 + 256
    omega

/-- The slots, panels and cells of the core, apart. -/
theorem held_apart :
    bigSep Finset.univ (held c arg4 arg12 v1_r0 A Wf)
      = (iprop(((bigSep Finset.univ fun i => arg12.view.loc (c : Thread nD τ) ↦[slotSet c arg12 i]{fullShare} A)
          ∗ (bigSep Finset.univ fun i => arg4.view.loc (c : Thread nD τ) ↦[panelSet c arg4 i]{fullShare} Wf))
          ∗ cellsP c v1_r0) : sProp 𝕄) := by
  rw [show held c arg4 arg12 v1_r0 A Wf = fun i => iprop(((arg12.view.loc (c : Thread nD τ) ↦[slotSet c arg12 i]{fullShare} A)
          ∗ (arg4.view.loc (c : Thread nD τ) ↦[panelSet c arg4 i]{fullShare} Wf)) ∗ semVal ((c : Thread nD τ), SemLoc.dma (cellO v1_r0 ![i.val + 54] (cell_inb i))) 0) from rfl]
  rw [bigSep_sep', bigSep_sep']
  rfl

/-- What the core holds of the arena, the weight and the cells, cut for the transfers. -/
theorem stage_enter :
    iprop((arg12.view.loc (c : Thread nD τ) ↦[arg12.view.set]{fullShare} f0) ∗ (arg4.view.loc (c : Thread nD τ) ↦[arg4.view.set]{fullShare} Wf)
      ∗ cellsP c v1_r0)
      ⊢ (iprop(inv1 c arg4 arg12 v1_r0 f0 Wf 0 ∗ (arg12.view.loc (c : Thread nD τ) ↦[restSet c arg12]{fullShare} f0)
        ∗ (arg4.view.loc (c : Thread nD τ) ↦[arg4.view.set \ Finset.univ.biUnion (panelSet c arg4)]{fullShare} Wf)) : sProp 𝕄) := by
  unfold inv1
  rw [Hi_zero, Lo_zero, held_apart]
  iintro ⟨H12, H4, HS⟩
  ihave H12 := (arena_cut c arg12 f0).1 $$ H12
  ihave H4 := (weight_cut c arg4 Wf).1 $$ H4
  icases H12 with ⟨Ha, Hr⟩
  icases H4 with ⟨Hp, Hq⟩
  isplitr [Hr Hq]
  · isplitl
    · isplitr [HS]
      · isplitl [Ha]; · iexact Ha
        iexact Hp
      · iexact HS
    · iempintro
  isplitl [Hr]; · iexact Hr
  iexact Hq

/-- After the last wait the arena, the weight and the cells are whole again. -/
theorem stage_leave :
    iprop(Lo (held c arg4 arg12 v1_r0 (arenaOf c arg4 arg12 f0 Wf) Wf) 30 ∗ (arg12.view.loc (c : Thread nD τ) ↦[restSet c arg12]{fullShare} f0)
        ∗ (arg4.view.loc (c : Thread nD τ) ↦[arg4.view.set \ Finset.univ.biUnion (panelSet c arg4)]{fullShare} Wf))
      ⊢ (iprop((arg12.view.loc (c : Thread nD τ) ↦[arg12.view.set]{fullShare} arenaOf c arg4 arg12 f0 Wf) ∗ (arg4.view.loc (c : Thread nD τ) ↦[arg4.view.set]{fullShare} Wf)
      ∗ cellsP c v1_r0) : sProp 𝕄) := by
  rw [Lo_top, held_apart, rest_eq c arg4 arg12 f0 Wf]
  iintro ⟨⟨⟨Ha, Hp⟩, HS⟩, Hr, Hq⟩
  isplitl [Ha Hr]
  · iapply (arena_cut c arg12 (arenaOf c arg4 arg12 f0 Wf)).2
    isplitl [Ha]; · iexact Ha
    iexact Hr
  isplitl [Hp Hq]
  · iapply (weight_cut c arg4 Wf).2
    isplitl [Hp]; · iexact Hp
    iexact Hq
  iexact HS

end CutArena
/-! ## A trip of the loop over the output rows -/

section Trip3

variable (A : Buf (Elt F) (arg12.view.loc (c : Thread nD τ))) (v22_r0 v25_r0 : IVec S1x128 1)
  (g : BufTy.Contents (Elt F) arg0.view.ty) (h : BufTy.Contents (Elt F) arg2.view.ty) (sf : BufTy.Contents (Elt F) arg10.view.ty) (bf : BufTy.Contents (Elt F) arg11.view.ty)
  (u : BufTy.Contents (Elt F) arg13.view.ty) (sr : BufTy.Contents (Elt F) arg14.view.ty)

/-- What the loop over the output rows holds, the output at `x`. -/
def rowsAt (x : BufTy.Contents (Elt F) arg8.view.ty) : sProp 𝕄 :=
  iprop((arg0.view.loc (c : Thread nD τ) ↦[arg0.view.set]{fullShare} g) ∗ (arg2.view.loc (c : Thread nD τ) ↦[arg2.view.set]{fullShare} h)
    ∗ (arg10.view.loc (c : Thread nD τ) ↦[arg10.view.set]{fullShare} sf) ∗ (arg11.view.loc (c : Thread nD τ) ↦[arg11.view.set]{fullShare} bf)
    ∗ (arg12.view.loc (c : Thread nD τ) ↦[arg12.view.set]{fullShare} A) ∗ (arg13.view.loc (c : Thread nD τ) ↦[arg13.view.set]{fullShare} u)
    ∗ (arg14.view.loc (c : Thread nD τ) ↦[arg14.view.set]{fullShare} sr) ∗ (arg8.view.loc (c : Thread nD τ) ↦[arg8.view.set]{fullShare} x))

set_option maxRecDepth 8192
set_option maxHeartbeats 4000000

@[irreducible] def trip_k0_t3 (k : Fin k0_t3_loop.trips) :
   { L : List (View.Piece (Elt F) S2880x256 .bf16) // ∀ x : BufTy.Contents (Elt F) arg8.view.ty,
     rowsAt c arg0 arg2 arg8 arg10 arg11 arg12 arg13 arg14 A g h sf bf u sr x
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v22_r0 v25_r0 k PUnit.unit)
       (fun _ => rowsAt c arg0 arg2 arg8 arg10 arg11 arg12 arg13 arg14 A g h sf bf u sr (arg8.view.writes (Elt F) x L)) } := by
  have hk : k.val < 3 := Nat.lt_of_lt_of_le k.isLt k0_t3_abs.2.1
  refine ⟨?_, fun x => ?run⟩
  case run =>
    unfold k0_t3_body rowsAt
    iintro ⟨H0, H2, H10, H11, H12, H13, H14, H8⟩
    sl_exec
    sl_step
    sl_close

/-- The output before trip `n`. -/
def xAt (x : BufTy.Contents (Elt F) arg8.view.ty) : ℕ → BufTy.Contents (Elt F) arg8.view.ty
  | 0 => x
  | n + 1 => if hn : n < k0_t3_loop.trips then arg8.view.writes (Elt F) (xAt x n) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr ⟨n, hn⟩).1 else xAt x n

theorem region_k0_t3 (x : BufTy.Contents (Elt F) arg8.view.ty) (k : Fin k0_t3_loop.trips) (acc : Unit) :
    rowsAt c arg0 arg2 arg8 arg10 arg11 arg12 arg13 arg14 A g h sf bf u sr (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x k.val)
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v22_r0 v25_r0 k acc)
       (fun _ => rowsAt c arg0 arg2 arg8 arg10 arg11 arg12 arg13 arg14 A g h sf bf u sr (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x (k.val + 1))) := by
  rw [show xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x (k.val + 1)
      = arg8.view.writes (Elt F) (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr x k.val) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr k).1 from dif_pos k.isLt]
  exact (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 A v22_r0 v25_r0 g h sf bf u sr k).2 _

end Trip3
/-! ## Between the loops -/

section Between

variable (f0 A : Buf (Elt F) (arg12.view.loc (c : Thread nD τ))) (Wf : Buf (Elt F) (arg4.view.loc (c : Thread nD τ)))

/-- Every panel is in flight once the issuing loop is through. -/
theorem stage_issued :
    inv1 c arg4 arg12 v1_r0 f0 Wf (Scf.trips k0_t1_loop.lb k0_t1_loop.ub k0_t1_loop.st) ⊢ Hi (flying c arg4 arg12 v1_r0 (arenaOf c arg4 arg12 f0 Wf) Wf) (6 * 0) := by
  show inv1 c arg4 arg12 v1_r0 f0 Wf 30 ⊢ _
  unfold inv1
  rw [Hi_top, Lo_top, Nat.mul_zero, Hi_zero]
  iintro ⟨-, H⟩
  iexact H

theorem lo_start : (iprop(emp) : sProp 𝕄) ⊢ Lo (held c arg4 arg12 v1_r0 A Wf) (6 * 0) := by
  rw [Nat.mul_zero, Lo_zero]

/-- The last six panels' flights, at the offsets the last waits name. -/
theorem stage_last :
    Hi (flying c arg4 arg12 v1_r0 A Wf) (6 * Scf.trips k0_t2_loop.lb k0_t2_loop.ub k0_t2_loop.st)
      ⊢ iprop(fl c arg4 arg12 v1_r0 A Wf ![78] ![69120, 0] ![0, 6144] inb_S84_S1_78 inb_S161280x256_S2880x256_69120_0 inb_S2880x7680_S2880x256_0_6144
        ∗ fl c arg4 arg12 v1_r0 A Wf ![79] ![72000, 0] ![0, 6400] inb_S84_S1_79 inb_S161280x256_S2880x256_72000_0 inb_S2880x7680_S2880x256_0_6400
        ∗ fl c arg4 arg12 v1_r0 A Wf ![80] ![74880, 0] ![0, 6656] inb_S84_S1_80 inb_S161280x256_S2880x256_74880_0 inb_S2880x7680_S2880x256_0_6656
        ∗ fl c arg4 arg12 v1_r0 A Wf ![81] ![77760, 0] ![0, 6912] inb_S84_S1_81 inb_S161280x256_S2880x256_77760_0 inb_S2880x7680_S2880x256_0_6912
        ∗ fl c arg4 arg12 v1_r0 A Wf ![82] ![80640, 0] ![0, 7168] inb_S84_S1_82 inb_S161280x256_S2880x256_80640_0 inb_S2880x7680_S2880x256_0_7168
        ∗ fl c arg4 arg12 v1_r0 A Wf ![83] ![83520, 0] ![0, 7424] inb_S84_S1_83 inb_S161280x256_S2880x256_83520_0 inb_S2880x7680_S2880x256_0_7424) := by
  show Hi (flying c arg4 arg12 v1_r0 A Wf) (6 * 4) ⊢ _
  rw [Hi_step _ (6 * 4) (by omega), Hi_step _ (6 * 4 + 1) (by omega), Hi_step _ (6 * 4 + 1 + 1) (by omega),
    Hi_step _ (6 * 4 + 1 + 1 + 1) (by omega), Hi_step _ (6 * 4 + 1 + 1 + 1 + 1) (by omega), Hi_step _ (6 * 4 + 1 + 1 + 1 + 1 + 1) (by omega)]
  unfold flying
  iintro ⟨F0, F1, F2, F3, F4, F5, -⟩
  isplitl [F0]; · iexact F0
  isplitl [F1]; · iexact F1
  isplitl [F2]; · iexact F2
  isplitl [F3]; · iexact F3
  isplitl [F4]; · iexact F4
  iexact F5

/-- The last six panels landed. -/
theorem stage_done :
    iprop(Lo (held c arg4 arg12 v1_r0 A Wf) (6 * Scf.trips k0_t2_loop.lb k0_t2_loop.ub k0_t2_loop.st)
        ∗ landed c arg4 arg12 v1_r0 A Wf ![78] ![69120, 0] ![0, 6144] inb_S84_S1_78 inb_S161280x256_S2880x256_69120_0 inb_S2880x7680_S2880x256_0_6144
        ∗ landed c arg4 arg12 v1_r0 A Wf ![79] ![72000, 0] ![0, 6400] inb_S84_S1_79 inb_S161280x256_S2880x256_72000_0 inb_S2880x7680_S2880x256_0_6400
        ∗ landed c arg4 arg12 v1_r0 A Wf ![80] ![74880, 0] ![0, 6656] inb_S84_S1_80 inb_S161280x256_S2880x256_74880_0 inb_S2880x7680_S2880x256_0_6656
        ∗ landed c arg4 arg12 v1_r0 A Wf ![81] ![77760, 0] ![0, 6912] inb_S84_S1_81 inb_S161280x256_S2880x256_77760_0 inb_S2880x7680_S2880x256_0_6912
        ∗ landed c arg4 arg12 v1_r0 A Wf ![82] ![80640, 0] ![0, 7168] inb_S84_S1_82 inb_S161280x256_S2880x256_80640_0 inb_S2880x7680_S2880x256_0_7168
        ∗ landed c arg4 arg12 v1_r0 A Wf ![83] ![83520, 0] ![0, 7424] inb_S84_S1_83 inb_S161280x256_S2880x256_83520_0 inb_S2880x7680_S2880x256_0_7424)
      ⊢ Lo (held c arg4 arg12 v1_r0 A Wf) 30 := by
  show _ ⊢ Lo (held c arg4 arg12 v1_r0 A Wf) (6 * 4 + 1 + 1 + 1 + 1 + 1 + 1)
  rw [Lo_step _ (6 * 4 + 1 + 1 + 1 + 1 + 1) (by omega), Lo_step _ (6 * 4 + 1 + 1 + 1 + 1) (by omega), Lo_step _ (6 * 4 + 1 + 1 + 1) (by omega),
    Lo_step _ (6 * 4 + 1 + 1) (by omega), Lo_step _ (6 * 4 + 1) (by omega), Lo_step _ (6 * 4) (by omega)]
  unfold held
  iintro ⟨HL, F0, F1, F2, F3, F4, F5⟩
  isplitl [F5]; · iexact F5
  isplitl [F4]; · iexact F4
  isplitl [F3]; · iexact F3
  isplitl [F2]; · iexact F2
  isplitl [F1]; · iexact F1
  isplitl [F0]; · iexact F0
  iexact HL

end Between

end Cert.KernelIdeal.Hand
-- ==== Proof.BodyIdeal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.PanelsIdeal
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-- The cell of a transfer in. -/
abbrev cellI (o : Fin 1 → ℕ) (h : ∀ a, o a + S1.size a ≤ S15.size a) : DmaSem sig :=
  ((v0_r0.slice (Rect.unit (s := S15) o S1.size h)).squeeze S_ squeezes_S1_S_).sem

/-- The cell of a transfer out. -/
abbrev cellY (o : Fin 1 → ℕ) (h : ∀ a, o a + S1.size a ≤ S14.size a) : DmaSem sig :=
  ((v2_r0.slice (Rect.unit (s := S14) o S1.size h)).squeeze S_ squeezes_S1_S_).sem

/-- Batch entry 0 of the result. -/
abbrev outM0 : Memref sig .tc .hbm S2880x128 .bf16 :=
  (arg7.slice (Rect.unit (s := S2x2880x128) ![0, 0, 0] S1x2880x128.size inb_S2x2880x128_S1x2880x128_0_0_0) (fun _ => rfl)).squeeze S2880x128 squeezes_S1x2880x128_S2880x128

/-- Batch entry 1 of the result. -/
abbrev outM1 : Memref sig .tc .hbm S2880x128 .bf16 :=
  (arg7.slice (Rect.unit (s := S2x2880x128) ![1, 0, 0] S1x2880x128.size inb_S2x2880x128_S1x2880x128_1_0_0) (fun _ => rfl)).squeeze S2880x128 squeezes_S1x2880x128_S2880x128

theorem outM0_set : (outM0 arg7).view.set = arg7.view.setOn (Rect.unit (s := S2x2880x128) ![0, 0, 0] S1x2880x128.size inb_S2x2880x128_S1x2880x128_0_0_0).set := by
  exact (View.set_reshape _ _).trans (View.set_slice _ _)

theorem outM1_set : (outM1 arg7).view.set = arg7.view.setOn (Rect.unit (s := S2x2880x128) ![1, 0, 0] S1x2880x128.size inb_S2x2880x128_S1x2880x128_1_0_0).set := by
  exact (View.set_reshape _ _).trans (View.set_slice _ _)

theorem out_union : (outM0 arg7).view.set ∪ (outM1 arg7).view.set = arg7.view.set := by
  rw [outM0_set, outM1_set]
  ext j
  constructor
  · intro hj
    rcases Finset.mem_union.mp hj with hj | hj <;> exact View.setOn_subset_set _ _ hj
  · intro hj
    obtain ⟨y, -, rfl⟩ := Finset.mem_map.mp hj
    have h0 : (y 0).val < 2 := (y 0).isLt
    have h1 : (y 1).val < 2880 := (y 1).isLt
    have h2 : (y 2).val < 128 := (y 2).isLt
    rcases Nat.lt_or_ge (y 0).val 1 with hy | hy
    · refine Finset.mem_union_left _ (Finset.mem_map_of_mem _ (Rect.mem_set_unit.mpr fun a => ?_))
      match a with
      | ⟨0, _⟩ => show 0 ≤ (y 0).val ∧ (y 0).val < 0 + 1; omega
      | ⟨1, _⟩ => show 0 ≤ (y 1).val ∧ (y 1).val < 0 + 2880; omega
      | ⟨2, _⟩ => show 0 ≤ (y 2).val ∧ (y 2).val < 0 + 128; omega
    · refine Finset.mem_union_right _ (Finset.mem_map_of_mem _ (Rect.mem_set_unit.mpr fun a => ?_))
      match a with
      | ⟨0, _⟩ => show 1 ≤ (y 0).val ∧ (y 0).val < 1 + 1; omega
      | ⟨1, _⟩ => show 0 ≤ (y 1).val ∧ (y 1).val < 0 + 2880; omega
      | ⟨2, _⟩ => show 0 ≤ (y 2).val ∧ (y 2).val < 0 + 128; omega

theorem out_disjoint : Disjoint (outM0 arg7).view.set (outM1 arg7).view.set := by
  rw [outM0_set, outM1_set]
  refine View.disjoint_setOn _ (Finset.disjoint_left.mpr fun y hi hj => ?_)
  have a := (Rect.mem_set_unit.mp hi 0).2
  have b := (Rect.mem_set_unit.mp hj 0).1
  have a2 : (y 0).val < 0 + 1 := a
  have b1 : 1 ≤ (y 0).val := b
  omega

/-- The result, entry by entry. -/
theorem out_cut (y : BufTy.Contents (Elt F) arg7.view.ty) :
    (arg7.view.loc (c : Thread nD τ) ↦[arg7.view.set]{fullShare} y : sProp 𝕄)
      ⊣⊢ iprop((arg7.view.loc (c : Thread nD τ) ↦[arg7.view.setOn (Rect.unit (s := S2x2880x128) ![0, 0, 0] S1x2880x128.size inb_S2x2880x128_S1x2880x128_0_0_0).set]{fullShare} y)
        ∗ (arg7.view.loc (c : Thread nD τ) ↦[arg7.view.setOn (Rect.unit (s := S2x2880x128) ![1, 0, 0] S1x2880x128.size inb_S2x2880x128_S1x2880x128_1_0_0).set]{fullShare} y)) := by
  rw [← out_union, ← outM0_set, ← outM1_set]
  exact pointsTo_union (out_disjoint arg7)

/-- The two entries written, one after the other, give the result. -/
theorem out_join (y : BufTy.Contents (Elt F) arg7.view.ty) (A B : S2880x128.Idx → Elt F .bf16) :
    (iprop((arg7.view.loc (c : Thread nD τ) ↦[arg7.view.setOn (Rect.unit (s := S2x2880x128) ![0, 0, 0] S1x2880x128.size inb_S2x2880x128_S1x2880x128_0_0_0).set]{fullShare} (outM0 arg7).view.write (Elt F) y A Finset.univ)
        ∗ (arg7.view.loc (c : Thread nD τ) ↦[arg7.view.setOn (Rect.unit (s := S2x2880x128) ![1, 0, 0] S1x2880x128.size inb_S2x2880x128_S1x2880x128_1_0_0).set]{fullShare} (outM1 arg7).view.write (Elt F) y B Finset.univ)) : sProp 𝕄)
      ⊢ (arg7.view.loc (c : Thread nD τ) ↦[arg7.view.set]{fullShare} (outM1 arg7).view.write (Elt F) ((outM0 arg7).view.write (Elt F) y A Finset.univ) B Finset.univ) := by
  have h0 := pointsTo_congr (nD := nD) (τ := τ) (sig := sig) (Ix := Unit) (Val := Elt F) (Name := ℕ) (U := Pipeline.UD sig nD τ) (Lvl := ℕ)
    (ℓ := arg7.view.loc (c : Thread nD τ)) (q := fullShare) (I := arg7.view.setOn (Rect.unit (s := S2x2880x128) ![0, 0, 0] S1x2880x128.size inb_S2x2880x128_S1x2880x128_0_0_0).set)
    (f := (outM0 arg7).view.write (Elt F) y A Finset.univ)
    (g := (outM1 arg7).view.write (Elt F) ((outM0 arg7).view.write (Elt F) y A Finset.univ) B Finset.univ) (fun i hi => by
      refine (View.write_of_not_mem (v := (outM1 arg7).view) ((outM0 arg7).view.write (Elt F) y A Finset.univ) B Finset.univ (i := i) (fun hm => ?_)).symm
      rw [View.setOn_univ] at hm
      rw [← outM0_set] at hi
      exact Finset.disjoint_left.mp (out_disjoint arg7) hi hm)
  have h1 := pointsTo_congr (nD := nD) (τ := τ) (sig := sig) (Ix := Unit) (Val := Elt F) (Name := ℕ) (U := Pipeline.UD sig nD τ) (Lvl := ℕ)
    (ℓ := arg7.view.loc (c : Thread nD τ)) (q := fullShare) (I := arg7.view.setOn (Rect.unit (s := S2x2880x128) ![1, 0, 0] S1x2880x128.size inb_S2x2880x128_S1x2880x128_1_0_0).set)
    (f := (outM1 arg7).view.write (Elt F) y B Finset.univ)
    (g := (outM1 arg7).view.write (Elt F) ((outM0 arg7).view.write (Elt F) y A Finset.univ) B Finset.univ) (fun i hi => by
      rw [← outM1_set] at hi
      obtain ⟨z, -, rfl⟩ := Finset.mem_map.mp hi
      exact (View.write_emb_of_mem (v := (outM1 arg7).view) y B (Finset.mem_univ z)).trans
        (View.write_emb_of_mem (v := (outM1 arg7).view) ((outM0 arg7).view.write (Elt F) y A Finset.univ) B (Finset.mem_univ z)).symm)
  rw [h0, h1]
  exact (out_cut c arg7 _).2

section Body

variable (g : BufTy.Contents (Elt F) arg0.view.ty) (gs : BufTy.Contents (Elt F) arg1.view.ty) (h : BufTy.Contents (Elt F) arg2.view.ty)
  (sg : BufTy.Contents (Elt F) arg3.view.ty) (Wf : BufTy.Contents (Elt F) arg4.view.ty) (sf : BufTy.Contents (Elt F) arg5.view.ty) (bf : BufTy.Contents (Elt F) arg6.view.ty)
  (y : BufTy.Contents (Elt F) arg7.view.ty) (x : BufTy.Contents (Elt F) arg8.view.ty) (x9 : BufTy.Contents (Elt F) arg9.view.ty) (x10 : BufTy.Contents (Elt F) arg10.view.ty)
  (x11 : BufTy.Contents (Elt F) arg11.view.ty) (f0 : BufTy.Contents (Elt F) arg12.view.ty) (u : BufTy.Contents (Elt F) arg13.view.ty) (sr : BufTy.Contents (Elt F) arg14.view.ty)

set_option maxRecDepth 16384
set_option maxHeartbeats 8000000

@[irreducible] def body_run :
   { Y : BufTy.Contents (Elt F) arg7.view.ty // ∀ W : Waits sig Unit,
     (iprop((arg0.view.loc (c : Thread nD τ) ↦[arg0.view.set]{fullShare} g) ∗ (arg1.view.loc (c : Thread nD τ) ↦[arg1.view.set]{fullShare} gs)
       ∗ (arg2.view.loc (c : Thread nD τ) ↦[arg2.view.set]{fullShare} h) ∗ (arg3.view.loc (c : Thread nD τ) ↦[arg3.view.set]{fullShare} sg)
       ∗ (arg4.view.loc (c : Thread nD τ) ↦[arg4.view.set]{fullShare} Wf) ∗ (arg5.view.loc (c : Thread nD τ) ↦[arg5.view.set]{fullShare} sf)
       ∗ (arg6.view.loc (c : Thread nD τ) ↦[arg6.view.set]{fullShare} bf) ∗ (arg7.view.loc (c : Thread nD τ) ↦[arg7.view.set]{fullShare} y)
       ∗ (arg8.view.loc (c : Thread nD τ) ↦[arg8.view.set]{fullShare} x) ∗ (arg9.view.loc (c : Thread nD τ) ↦[arg9.view.set]{fullShare} x9)
       ∗ (arg10.view.loc (c : Thread nD τ) ↦[arg10.view.set]{fullShare} x10) ∗ (arg11.view.loc (c : Thread nD τ) ↦[arg11.view.set]{fullShare} x11)
       ∗ (arg12.view.loc (c : Thread nD τ) ↦[arg12.view.set]{fullShare} f0) ∗ (arg13.view.loc (c : Thread nD τ) ↦[arg13.view.set]{fullShare} u)
       ∗ (arg14.view.loc (c : Thread nD τ) ↦[arg14.view.set]{fullShare} sr)
       ∗ semVal ((c : Thread nD τ), SemLoc.dma (cellI v0_r0 ![6] inb_S15_S1_6)) 0 ∗ semVal ((c : Thread nD τ), SemLoc.dma (cellI v0_r0 ![13] inb_S15_S1_13)) 0
       ∗ semVal ((c : Thread nD τ), SemLoc.dma (cellI v0_r0 ![14] inb_S15_S1_14)) 0
       ∗ cellsP c v1_r0
       ∗ semVal ((c : Thread nD τ), SemLoc.dma (cellY v2_r0 ![12] inb_S14_S1_12)) 0 ∗ semVal ((c : Thread nD τ), SemLoc.dma (cellY v2_r0 ![13] inb_S14_S1_13)) 0
       ∗ owes (c : Thread nD τ) 0 W) : sProp 𝕄)
     ⊢ wp frame (wpE (defs₀ (F := F)) Variants.none (c : Thread nD τ) none) Set.univ (cc0_vit_layer (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0)
       (fun _ => iprop((arg0.view.loc (c : Thread nD τ) ↦[arg0.view.set]{fullShare} g) ∗ (arg1.view.loc (c : Thread nD τ) ↦[arg1.view.set]{fullShare} gs)
       ∗ (arg2.view.loc (c : Thread nD τ) ↦[arg2.view.set]{fullShare} h) ∗ (arg3.view.loc (c : Thread nD τ) ↦[arg3.view.set]{fullShare} sg)
       ∗ (arg4.view.loc (c : Thread nD τ) ↦[arg4.view.set]{fullShare} Wf) ∗ (arg5.view.loc (c : Thread nD τ) ↦[arg5.view.set]{fullShare} sf)
       ∗ (arg6.view.loc (c : Thread nD τ) ↦[arg6.view.set]{fullShare} bf) ∗ (arg7.view.loc (c : Thread nD τ) ↦[arg7.view.set]{fullShare} Y)
       ∗ (∃ x, arg8.view.loc (c : Thread nD τ) ↦[arg8.view.set]{fullShare} x) ∗ (∃ x, arg9.view.loc (c : Thread nD τ) ↦[arg9.view.set]{fullShare} x)
       ∗ (∃ x, arg10.view.loc (c : Thread nD τ) ↦[arg10.view.set]{fullShare} x) ∗ (∃ x, arg11.view.loc (c : Thread nD τ) ↦[arg11.view.set]{fullShare} x)
       ∗ (∃ x, arg12.view.loc (c : Thread nD τ) ↦[arg12.view.set]{fullShare} x) ∗ (∃ x, arg13.view.loc (c : Thread nD τ) ↦[arg13.view.set]{fullShare} x)
       ∗ (∃ x, arg14.view.loc (c : Thread nD τ) ↦[arg14.view.set]{fullShare} x)
       ∗ semVal ((c : Thread nD τ), SemLoc.dma (cellI v0_r0 ![6] inb_S15_S1_6)) 0 ∗ semVal ((c : Thread nD τ), SemLoc.dma (cellI v0_r0 ![13] inb_S15_S1_13)) 0
       ∗ semVal ((c : Thread nD τ), SemLoc.dma (cellI v0_r0 ![14] inb_S15_S1_14)) 0
       ∗ cellsP c v1_r0
       ∗ semVal ((c : Thread nD τ), SemLoc.dma (cellY v2_r0 ![12] inb_S14_S1_12)) 0 ∗ semVal ((c : Thread nD τ), SemLoc.dma (cellY v2_r0 ![13] inb_S14_S1_13)) 0
       ∗ ∃ W, owes (c : Thread nD τ) 0 W)) } := by
  refine ⟨?_, fun W => ?run⟩
  case run =>
    unfold cc0_vit_layer
    iintro ⟨H0, H1, H2, H3, H4, H5, H6, H7, H8, H9, H10, H11, H12, H13, H14, S6, S13, S14, SP, T12, T13, HO⟩
    ihave HI := (stage_enter c arg4 arg12 v1_r0 f0 Wf) $$ [H12 H4 SP]
    · isplitl [H12]; · iexact H12
      isplitl [H4]; · iexact H4
      iexact SP
    icases HI with ⟨HI, HR, HQ⟩
    sl_exec
    sl_for (fun n _ => inv1 c arg4 arg12 v1_r0 f0 Wf n) $$ [HI]
    · intro k acc; exact region_k0_t1 _ _ _ _ _ _ _ _ _ _ _ _ _ _ _ _ _ _ _ _ _ _ _ _ _ _ _ _ _ _ _ _ _ _ f0 Wf k acc
    · exact BIBase.Entails.rfl
    iintro %acc HI
    ihave HF := (stage_issued c arg4 arg12 v1_r0 f0 Wf) $$ HI
    sl_exec
    sl_for (fun n _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
      (arg13.view.writes (Elt F) arg13.view.junk [⟨Rect.unit ![0, 0] S2880x256.size inb_S2880x256_S2880x256_0_0, k0_pay74⟩]) n) $$ [H0 H13 HF HO]
    · intro k acc; exact region_k0_t2 _ _ _ _ _ _ _ _ _ _ _ _ _ _ _ _ _ _ _ _ _ _ _ _ _ _ _ _ _ _ _ _ _ _ _ Wf g _ k acc
    · unfold inv2
      isplitl [H0]; · iexact H0
      isplitl [H13]; · iexact H13
      isplitl [HF]; · iexact HF
      isplitr
      · iapply (lo_start c arg4 arg12 v1_r0 (arenaOf c arg4 arg12 f0 Wf) Wf)
        iempintro
      iexists _; iexact HO
    iintro %acc2 HI
    unfold inv2
    icases HI with ⟨H0, H13, HF, HL, %W2, HO⟩
    ihave HF := (stage_last c arg4 arg12 v1_r0 (arenaOf c arg4 arg12 f0 Wf) Wf) $$ HF
    unfold fl del
    icases HF with ⟨F0, F1, F2, F3, F4, F5⟩
    sl_exec
    ihave HE := (stage_done c arg4 arg12 v1_r0 (arenaOf c arg4 arg12 f0 Wf) Wf) $$ [HL F0_dst F0_src F0 F1_dst F1_src F1 F2_dst F2_src F2 F3_dst F3_src F3 F4_dst F4_src F4 F5_dst F5_src F5]
    · unfold landed del
      isplitl [HL]; · iexact HL
      isplitl [F0_dst F0_src F0]
      · isplitl [F0_dst F0_src]
        · isplitl [F0_dst]; · iexact F0_dst
          iexact F0_src
        iexact F0
      isplitl [F1_dst F1_src F1]
      · isplitl [F1_dst F1_src]
        · isplitl [F1_dst]; · iexact F1_dst
          iexact F1_src
        iexact F1
      isplitl [F2_dst F2_src F2]
      · isplitl [F2_dst F2_src]
        · isplitl [F2_dst]; · iexact F2_dst
          iexact F2_src
        iexact F2
      isplitl [F3_dst F3_src F3]
      · isplitl [F3_dst F3_src]
        · isplitl [F3_dst]; · iexact F3_dst
          iexact F3_src
        iexact F3
      isplitl [F4_dst F4_src F4]
      · isplitl [F4_dst F4_src]
        · isplitl [F4_dst]; · iexact F4_dst
          iexact F4_src
        iexact F4
      isplitl [F5_dst F5_src]
      · isplitl [F5_dst]; · iexact F5_dst
        iexact F5_src
      iexact F5
    ihave HE := (stage_leave c arg4 arg12 v1_r0 f0 Wf) $$ [HE HR HQ]
    · isplitl [HE]; · iexact HE
      isplitl [HR]; · iexact HR
      iexact HQ
    icases HE with ⟨H12, H4, SP⟩
    sl_for (fun n _ => rowsAt c arg0 arg2 arg8 arg10 arg11 arg12 arg13 arg14 (arenaOf c arg4 arg12 f0 Wf) g h
        (arg10.view.writes (Elt F) arg10.view.junk [⟨Rect.whole S2880, body_run.sl.dma0_1 arg5 sf⟩])
        (arg11.view.writes (Elt F) arg11.view.junk [⟨Rect.whole S2880, body_run.sl.dma0_2 arg6 bf⟩])
        (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
          (arg13.view.writes (Elt F) arg13.view.junk [⟨Rect.unit ![0, 0] S2880x256.size inb_S2880x256_S2880x256_0_0, k0_pay74⟩])
          (Scf.trips k0_t2_loop.lb k0_t2_loop.ub k0_t2_loop.st))
        (arg14.view.writes (Elt F) sr
          [⟨Rect.unit ![3, 0, 0] S1x2x128.size inb_S4x2x128_S1x2x128_3_0_0,
            k0_pay71 (View.readAt (Elt F) arg1.view (Rect.unit ![0, 0] S2x128.size inb_S2x128_S2x128_0_0).toLoadRect gs)⟩])
        (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) (body_run.sl.r arg3 arg9 sg) (body_run.sl.r_1 arg3 arg9 sg) g h
          (arg10.view.writes (Elt F) arg10.view.junk [⟨Rect.whole S2880, body_run.sl.dma0_1 arg5 sf⟩])
          (arg11.view.writes (Elt F) arg11.view.junk [⟨Rect.whole S2880, body_run.sl.dma0_2 arg6 bf⟩])
          (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
            (arg13.view.writes (Elt F) arg13.view.junk [⟨Rect.unit ![0, 0] S2880x256.size inb_S2880x256_S2880x256_0_0, k0_pay74⟩])
            (Scf.trips k0_t2_loop.lb k0_t2_loop.ub k0_t2_loop.st))
          (arg14.view.writes (Elt F) sr
            [⟨Rect.unit ![3, 0, 0] S1x2x128.size inb_S4x2x128_S1x2x128_3_0_0,
              k0_pay71 (View.readAt (Elt F) arg1.view (Rect.unit ![0, 0] S2x128.size inb_S2x128_S2x128_0_0).toLoadRect gs)⟩]) x n)) $$ [H0 H2 H10 H11 H12 H13 H14 H8]
    · intro k acc; exact region_k0_t3 _ _ _ _ _ _ _ _ _ _ _ _ _ _ _ _ _ _ _ _ _ _ _ _ _ _ _ _ _ _ _ _ _ _ _ _ _ g h _ _ _ _ x k acc
    · unfold rowsAt
      isplitl [H0]; · iexact H0
      isplitl [H2]; · iexact H2
      isplitl [H10]; · iexact H10
      isplitl [H11]; · iexact H11
      isplitl [H12]; · iexact H12
      isplitl [H13]; · iexact H13
      isplitl [H14]; · iexact H14
      iexact H8
    iintro %acc3 HI
    unfold rowsAt
    icases HI with ⟨H0, H2, H10, H11, H12, H13, H14, H8⟩
    ihave H7 := (out_cut c arg7 y).1 $$ H7
    icases H7 with ⟨H7, H7'⟩
    sl_exec
    ihave H7 := (out_join c arg7 y _ _) $$ [H7 H7']
    · isplitl [H7]; · iexact H7
      iexact H7'
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [S6]; · iexact S6
    isplitl [S13]; · iexact S13
    isplitl [S14]; · iexact S14
    isplitl [SP]; · iexact SP
    isplitl [T12]; · iexact T12
    isplitl [T13]; · iexact T13
    iexists _; iexact HO

end Body

end Cert.KernelIdeal.Hand
-- ==== Proof.LaunchIdeal.lean ====
module

public import proofs.«01_k».proof.Proof.BodyIdeal
public import proofs.«01_k».proof.Proof.Gen.KernelIdeal.Frame

/-!
The launch of the kernel: the one pipeline stages its three windows, the body runs once (`body_run`), and what it
leaves in the result is kept as the contents that the run computes.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The operands -/

/-- The array that the body writes by its own copies: the result. -/
def R0 : Finset (Ref sig .tc) := {main_v4}
/-- The arrays that the body's copies read. -/
def H0 : Finset (Ref sig .tc) := {main_arg3, main_v3, main_arg5, main_arg6}
theorem H0_sub : H0 ⊆ Pipeline.restRefs sig spec0 := by decide
theorem R0_sub : R0 ⊆ Pipeline.restRefs sig spec0 \ H0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The copies' semaphores: three of the first array, two of the third, thirty of the second. -/
abbrev osem0 : Fin 35 → SemLoc sig := fun j => (![SemLoc.dma 9, SemLoc.dma 16, SemLoc.dma 17, SemLoc.dma 114, SemLoc.dma 115, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101] : Fin 35 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellI cc0_scoped0 ![6] inb_S15_S1_6)) 0
          ∗ semVal ((c : Thread nD τ), SemLoc.dma (cellI cc0_scoped0 ![13] inb_S15_S1_13)) 0
          ∗ semVal ((c : Thread nD τ), SemLoc.dma (cellI cc0_scoped0 ![14] inb_S15_S1_14)) 0
          ∗ semVal ((c : Thread nD τ), SemLoc.dma (cellY cc0_scoped2 ![12] inb_S14_S1_12)) 0
          ∗ semVal ((c : Thread nD τ), SemLoc.dma (cellY cc0_scoped2 ![13] inb_S14_S1_13)) 0
          ∗ cellsP (F := F) c cc0_scoped1) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]
  unfold cellsP
  rw [BI.bigSep_univ_eq_bigSepL [0, 1, 2, 3, 4, 5, 6, 7, 8, 9, 10, 11, 12, 13, 14, 15, 16, 17, 18, 19, 20, 21, 22, 23, 24, 25, 26, 27, 28, 29] (by decide) (by decide)]
  rfl

theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_v3) ↦{fullShare} V m c main_v3)
          ∗ (((c : Thread nD τ).loc main_arg5) ↦{fullShare} V m c main_arg5) ∗ (((c : Thread nD τ).loc main_arg6) ↦{fullShare} V m c main_arg6)) := by
  rw [BI.bigSep_eq_bigSepL_of_eq [main_arg3, main_v3, main_arg5, main_arg6] (by decide) (by decide)]; rfl

theorem routed0_eq (c : Dev nD) (W : (b : Ref sig .tc) → Buf (Elt F) ((c : Thread nD τ).loc b)) :
    (Pipeline.routed R0 c W : sProp 𝕄) = (((c : Thread nD τ).loc main_v4) ↦{fullShare} W main_v4) := by
  unfold Pipeline.routed
  rw [BI.bigSep_eq_bigSepL_of_eq [main_v4] (by decide) (by decide)]; rfl

/-! ## What the body leaves -/

/-- The three windows' blocks. -/
abbrev blk0 (c : Dev nD) : Vec F S256x7680 .fp8e4m3 := iblk m c 0 t0_0
abbrev blk1 (c : Dev nD) : Vec F S2x128 .f32 := iblk m c 1 t0_0
abbrev blk2 (c : Dev nD) : Vec F S2880x256 .f32 := iblk m c 2 t0_0

/-- The body's run at the kernel's own operands: the staged windows, the arrays left in main memory, and the scratch
    at what it held before. -/
abbrev ran (c : Dev nD) (x : Buf (Elt F) ((c : Thread nD τ).loc cc0_scratch0)) (x9 : Buf (Elt F) ((c : Thread nD τ).loc cc0_scratch1))
    (x10 : Buf (Elt F) ((c : Thread nD τ).loc cc0_scratch2)) (x11 : Buf (Elt F) ((c : Thread nD τ).loc cc0_scratch3))
    (f0 : Buf (Elt F) ((c : Thread nD τ).loc cc0_scratch4)) (u : Buf (Elt F) ((c : Thread nD τ).loc cc0_scratch5))
    (sr : Buf (Elt F) ((c : Thread nD τ).loc cc0_scratch6)) :=
  body_run (F := F) c (Memref.whole cc0_stg0_0) (Memref.isWhole_whole _) (Memref.whole cc0_stg1_0) (Memref.isWhole_whole _)
    (Memref.whole cc0_stg2_0) (Memref.isWhole_whole _) (Memref.whole main_arg3) (Memref.isWhole_whole _) (Memref.whole main_v3) (Memref.isWhole_whole _)
    (Memref.whole main_arg5) (Memref.isWhole_whole _) (Memref.whole main_arg6) (Memref.isWhole_whole _) (Memref.whole main_v4) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scoped0 cc0_scoped1 cc0_scoped2
    (blk0 m c) (blk1 m c) (blk2 m c) (V m c main_arg3) (V m c main_v3) (V m c main_arg5) (V m c main_arg6) (V m c main_v4) x x9 x10 x11 f0 u sr

/-- The result holds what the run writes, from some scratch. -/
def left (c : Dev nD) (W : (b : Ref sig .tc) → Buf (Elt F) ((c : Thread nD τ).loc b)) : Prop :=
  ∃ x x9 x10 x11 f0 u sr, W main_v4 = (ran m c x x9 x10 x11 f0 u sr).1

/-! ## The proof data and the body's obligation -/

/-- Before the body: the scratch, the generator, the semaphores at zero, the arrays read and the result as found. After
    it: the same with the result as the run leaves it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := if t.val = 0 then Pipeline.ΦDRG osem0 spec0 H0 R0 (V m) (V m) c
    else iprop(Pipeline.ΦD osem0 spec0 H0 (V m) c ∗ Pipeline.routedSat R0 c (left m c))
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after0 (c : Dev nD) (t : Fin cfg0.N) : (dats m 0 c).after 0 t = iblk m c 0 t := by dsimp only [dats]
theorem before1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after1 (c : Dev nD) (t : Fin cfg0.N) : (dats m 0 c).after 1 t = iblk m c 1 t := by dsimp only [dats]
theorem before2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after2 (c : Dev nD) (t : Fin cfg0.N) : (dats m 0 c).after 2 t = iblk m c 2 t := by dsimp only [dats]

abbrev ms0_0 (t : Fin cfg0.N) : Memref sig .tc .vmem S256x7680 .fp8e4m3 := win0_0.stage (cfg0.slots t 0)
abbrev ms0_1 (t : Fin cfg0.N) : Memref sig .tc .vmem S2x128 .f32 := win0_1.stage (cfg0.slots t 1)
abbrev ms0_2 (t : Fin cfg0.N) : Memref sig .tc .vmem S2880x256 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0, before1, before2, after0, after1, after2]
  rw [show (dats m 0 c).Φ (Fin.castSucc t0_0) = Pipeline.ΦDRG osem0 spec0 H0 R0 (V m) (V m) c from rfl,
    show (dats m 0 c).Φ (Fin.succ t0_0) = iprop(Pipeline.ΦD osem0 spec0 H0 (V m) c ∗ Pipeline.routedSat R0 c (left m c)) from rfl]
  rw [Pipeline.ΦDRG_eq, Pipeline.ΦD_eq, scopedRest0_eq, ownSems00_eq, hbmPts0_eq, routed0_eq]
  unfold Dat.owesAt Pipeline.owesWithin
  rw [show (dats m 0 c).owed (Fin.castSucc t0_0) = 0 from rfl, show (dats m 0 c).owed (Fin.succ t0_0) = 0 from rfl]
  rw [show ms0_0 t0_0 = Memref.whole cc0_stg0_0 from rfl, show ms0_1 t0_0 = Memref.whole cc0_stg1_0 from rfl, show ms0_2 t0_0 = Memref.whole cc0_stg2_0 from rfl]
  simp only [owns_whole]
  iintro ⟨⟨⟨⟨%x, H8⟩, ⟨%x9, H9⟩, ⟨%x10, H10⟩, ⟨%x11, H11⟩, ⟨%f0, H12⟩, ⟨%u, H13⟩, ⟨%sr, H14⟩⟩, Hg, ⟨S6, S13, S14, T12, T13, SP⟩, ⟨H3, H4, H5, H6⟩, H7⟩,
    ⟨%W, -, HO⟩, ⟨%d0, H0⟩, ⟨%d1, H1⟩, ⟨%d2, H2⟩⟩
  have hr := (ran m c x x9 x10 x11 f0 u sr).2 W
  simp only [Memref.view_whole, View.set_whole] at hr
  iapply (wp_wand frame (wpE (defs₀ (F := F)) Variants.none (c : Thread nD τ) none) Set.univ) $$ [H0 H1 H2 H3 H4 H5 H6 H7 H8 H9 H10 H11 H12 H13 H14 S6 S13 S14 SP T12 T13 HO]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S6]; · iexact S6
    isplitl [S13]; · iexact S13
    isplitl [S14]; · iexact S14
    isplitl [SP]; · iexact SP
    isplitl [T12]; · iexact T12
    isplitl [T13]; · iexact T13
    iexact HO
  iintro %_ ⟨H0, H1, H2, H3, H4, H5, H6, H7, H8, H9, H10, H11, H12, H13, H14, S6, S13, S14, SP, T12, T13, ⟨%W', HO⟩⟩
  isplitl [H3 H4 H5 H6 H7 H8 H9 H10 H11 H12 H13 H14 S6 S13 S14 SP T12 T13 Hg]
  · isplitl [H3 H4 H5 H6 H8 H9 H10 H11 H12 H13 H14 S6 S13 S14 SP T12 T13 Hg]
    · isplitl [H8 H9 H10 H11 H12 H13 H14]
      · isplitl [H8]; · iexact H8
        isplitl [H9]; · iexact H9
        isplitl [H10]; · iexact H10
        isplitl [H11]; · iexact H11
        isplitl [H12]; · iexact H12
        isplitl [H13]; · iexact H13
        iexact H14
      isplitl [Hg]; · iexact Hg
      isplitl [S6 S13 S14 SP T12 T13]
      · isplitl [S6]; · iexact S6
        isplitl [S13]; · iexact S13
        isplitl [S14]; · iexact S14
        isplitl [T12]; · iexact T12
        isplitl [T13]; · iexact T13
        iexact SP
      isplitl [H3]; · iexact H3
      isplitl [H4]; · iexact H4
      isplitl [H5]; · iexact H5
      iexact H6
    unfold Pipeline.routedSat
    iexists (Function.update (V m c) main_v4 (ran m c x x9 x10 x11 f0 u sr).1)
    isplitr
    · ipureintro
      exact ⟨x, x9, x10, x11, f0, u, sr, Function.update_self _ _ _⟩
    rw [routed0_eq, Function.update_self]
    iexact H7
  isplitl [HO]
  · iexists W'; isplitr; · ipureintro; exact fun _ _ => Or.inl trivial
    iexact HO
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the run ends with: every array but the result as the region found it, the result at what the body leaves. -/
def Post (r : PUnit × MemSt nD τ sig (Elt F)) : Prop :=
  (RDat.FramePostR cfg0 (fun c => (dats m 0 c).toR) R0 (V m) r
    ∧ ∀ c : Dev nD, ∃ W : (b : Ref sig .tc) → Buf (Elt F) ((c.tc : Thread nD τ).loc b), left m c W ∧ ∀ b ∈ R0, r.2.mem ((c.tc : Thread nD τ).loc b) = W b)
  ∧ r.2.sem = fun _ => 0

set_option backward.isDefEq.respectTransparency.types false in
theorem run_main : θ_run defs (onTc (τ := τ) (main (F := F))) (s₀ m ρ) (Post m) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (dats m 0 c).toR) ownSemFacts0 H0 R0 (H0_sub.trans hrest) (R0_sub.trans (Finset.sdiff_subset_sdiff hrest subset_rfl)) m ρ main
    (hbody := fun c => (body_obligation m c).loose.toR)
    (hq := fun c w hw => (dats m 0 c).toR.q_eq_shareOf_of_share_full winFacts0.arr_inj (fun w => (dats m 0 c).share_full (fun _ => rfl) w) w hw)
    (howed := fun _ _ => rfl) (V := V m) (hmain := hmainD m Variants.none) (hA := A_eq m) (hpf := fun _ k => k.elim0)
    (PG := left m)
    (hin := fun c => (show _ ⊢ Pipeline.ΦDRG osem0 spec0 H0 R0 (V m) (V m) c from by iintro ⟨H, -⟩; iexact H))
    (hout := fun c => .rfl)
    (Q' := Post m) (hQ' := fun _ h => h)

/-- The program terminates, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩)
    (run_main m ρ)

/-- The run read at the arguments and the result. -/
theorem run_value (Y : (c : Dev nD) → Buf (Elt F) ((c : Thread nD τ).loc main_v4))
    (hY : ∀ c W, left m c W → W main_v4 = Y c) :
    θ_run defs (onTc (τ := τ) (main (F := F))) ⟨m, fun _ => 0, ρ⟩ (fun r => ∀ c : Dev nD,
      r.2.mem ((c.tc : Thread nD τ).loc main_v4) = Y c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨by
        obtain ⟨W, hW, hm⟩ := h.1.2 c
        exact (hm main_v4 (by decide)).trans (hY c W hW),
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩)
    (run_main m ρ)

end Cert.KernelIdeal.Hand

end
-- ==== Proof.Trips.lean ====
module

public import proofs.«01_k».proof.Proof.BodyIdeal
public import Idealize.ShloMosaic.Lib.MatmulPlain
public import Idealize.ShloMosaic.Lib.ValueIdx
public import Idealize.ShloMosaic.Lib.Pipeline.Value
public import Idealize.ShloMosaic.Lib.WritesUnit

/-!
The counted loop's sums. A trip of the loop takes six panels of the weight, 256 columns each, multiplies blocks of rows
against the tokens' columns, and adds them to an accumulator; after `n` trips the accumulator holds `groups … n` at
every row and token. Sums are stated over numbers, so that blocks of any size meet.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## The sums, over numbers -/

/-- An array of two axes read at any two numbers, zero outside it. -/
def nat2 {a b : ℕ} (f : (⟨2, ![a, b]⟩ : Shape).Idx → EReal) (i j : ℕ) : EReal :=
  if h : i < a ∧ j < b then f (ix2 ⟨i, h.1⟩ ⟨j, h.2⟩) else 0

theorem nat2_idx {a b : ℕ} (f : (⟨2, ![a, b]⟩ : Shape).Idx → EReal) (x : (⟨2, ![a, b]⟩ : Shape).Idx) (i j : ℕ)
    (h0 : (x 0).val = i) (h1 : (x 1).val = j) : f x = nat2 f i j := by
  subst h0; subst h1
  unfold nat2
  rw [dif_pos ⟨(x 0).isLt, (x 1).isLt⟩]
  exact congrArg f (eq_ix2 x)

/-- One panel's share of a row's product with a token: 256 of the 7680 columns. -/
def part (W : S2880x7680.Idx → EReal) (G : S256x7680.Idx → EReal) (n r t : ℕ) : EReal :=
  ∑ e : Fin 256, nat2 W r (256 * n + e.val) * nat2 G t (256 * n + e.val)

/-- Six panels' shares, added from the left. -/
def six (W : S2880x7680.Idx → EReal) (G : S256x7680.Idx → EReal) (k r t : ℕ) : EReal :=
  part W G (6 * k) r t + part W G (6 * k + 1) r t + part W G (6 * k + 2) r t + part W G (6 * k + 3) r t + part W G (6 * k + 4) r t + part W G (6 * k + 5) r t

/-- The first `n` groups of six panels, added one group at a time onto zero. -/
def groups (W : S2880x7680.Idx → EReal) (G : S256x7680.Idx → EReal) (r t : ℕ) : ℕ → EReal
  | 0 => 0
  | n + 1 => groups W G r t n + six W G n r t

/-! ## One block of rows -/

/-- A block of `R` rows of a panel against a 256-column block of the tokens. -/
def dotp {F : FTy → Type} [FloatOps F] (R : ℕ) (L : FVec F ⟨2, ![R, 256]⟩ .fp8e4m3) (B : FVec F S256x256 .fp8e4m3) : FVec F ⟨2, ![R, 256]⟩ .f32 :=
  matmul (DotDims.transposedRhs R 256 256) none L B (constant ⟨2, ![R, 256]⟩ .f32 0x00000000#32)

/-- Six such products added from the left, and added to what was there. -/
def grp {F : FTy → Type} [FloatOps F] (R : ℕ) (u : FVec F ⟨2, ![R, 256]⟩ .f32) (L0 L1 L2 L3 L4 L5 : FVec F ⟨2, ![R, 256]⟩ .fp8e4m3)
    (B0 B1 B2 B3 B4 B5 : FVec F S256x256 .fp8e4m3) : FVec F ⟨2, ![R, 256]⟩ .f32 :=
  addf u (addf (addf (addf (addf (addf (dotp R L0 B0) (dotp R L1 B1)) (dotp R L2 B2)) (dotp R L3 B3)) (dotp R L4 B4)) (dotp R L5 B5))

/-- Such a product at an index, when its operands read a panel of the two arrays. -/
theorem dotp_apply (W : S2880x7680.Idx → EReal) (G : S256x7680.Idx → EReal) (R r0 n : ℕ) (L : FVec Ideal ⟨2, ![R, 256]⟩ .fp8e4m3) (B : FVec Ideal S256x256 .fp8e4m3)
    (hL : ∀ x, L x = nat2 W (r0 + (x 0).val) (256 * n + (x 1).val)) (hB : ∀ x, B x = nat2 G (x 0).val (256 * n + (x 1).val))
    (x : (⟨2, ![R, 256]⟩ : Shape).Idx) : dotp R L B x = part W G n (r0 + (x 0).val) (x 1).val := by
  obtain ⟨r, t, rfl⟩ : ∃ (r : Fin R) (t : Fin 256), x = ix2 r t := ⟨x 0, x 1, eq_ix2 x⟩
  unfold dotp
  refine (Ideal.matmul_transposedRhs_apply none L B _ r t).trans ?_
  rw [constant_apply, Ideal.ofBits_zero_f32, zero_add]
  unfold part
  refine Finset.sum_congr rfl fun e _ => ?_
  rw [hL, hB]
  rfl

section Reads

variable (g : BufTy.Contents (Elt Ideal) arg0.view.ty) (f0 : Buf (Elt Ideal) (arg12.view.loc (c : Thread nD τ))) (Wf : Buf (Elt Ideal) (arg4.view.loc (c : Thread nD τ)))

/-- The weight's array. -/
abbrev Wr : S2880x7680.Idx → EReal := arg4.view.read (Elt Ideal) Wf
/-- The tokens' array. -/
abbrev Gr : S256x7680.Idx → EReal := arg0.view.read (Elt Ideal) g

/-- A block of rows of slot `n` reads those rows of panel `n`. -/
theorem slot_read (R n r0 : ℕ) (hn : n < 30) (hr : r0 + R ≤ 2880) (o : Fin 2 → ℕ) (ho : o = ![2880 * n + r0, 0])
    (inb : ∀ a, o a + (![R, 256] : Fin 2 → ℕ) a ≤ S161280x256.size a) (x : (⟨2, ![R, 256]⟩ : Shape).Idx) :
    arg12.view.readAt (Elt Ideal) (Rect.unit (s := S161280x256) o ![R, 256] inb).toLoadRect (arenaOf c arg4 arg12 f0 Wf) x
      = nat2 (Wr c arg4 Wf) (r0 + (x 0).val) (256 * n + (x 1).val) := by
  subst ho
  have hx0 : (x 0).val < R := (x 0).isLt
  have hx1 : (x 1).val < 256 := (x 1).isLt
  have hp : r0 + (x 0).val < 2880 ∧ 256 * n + (x 1).val < 7680 := ⟨by omega, by omega⟩
  rw [View.readAt_apply]
  unfold nat2
  rw [dif_pos hp]
  have e0 : ((Rect.unit (s := S161280x256) ![2880 * n + r0, 0] ![R, 256] inb).toLoadRect.idx x 0).val = 2880 * n + r0 + 1 * (x 0).val := rfl
  have e1 : ((Rect.unit (s := S161280x256) ![2880 * n + r0, 0] ![R, 256] inb).toLoadRect.idx x 1).val = 0 + 1 * (x 1).val := rfl
  refine arenaOf_read c arg4 arg12 f0 Wf _ ?_ _ ?_ ?_
  · rw [e0]; omega
  · rw [e0]; change r0 + (x 0).val = _; omega
  · rw [e0, e1]; change 256 * n + (x 1).val = _; omega

/-- A 256-column block of the tokens. -/
theorem tok_read (n : ℕ) (hn : n < 30) (o : Fin 2 → ℕ) (ho : o = ![0, 256 * n])
    (inb : ∀ a, o a + (![256, 256] : Fin 2 → ℕ) a ≤ S256x7680.size a) (h : S256x256.numel = S256x256.numel) (x : S256x256.Idx) :
    shapeCast S256x256 (arg0.view.readAt (Elt Ideal) (Rect.unit (s := S256x7680) o ![256, 256] inb).toLoadRect g) h x
      = nat2 (Gr arg0 g) (x 0).val (256 * n + (x 1).val) := by
  subst ho
  have hx0 : (x 0).val < 256 := (x 0).isLt
  have hx1 : (x 1).val < 256 := (x 1).isLt
  refine (congrFun (shapeCast_self _ h) x).trans ?_
  rw [View.readAt_apply]
  refine nat2_idx (Gr arg0 g) _ _ _ ?_ ?_
  · show 0 + 1 * (x 0).val = _; omega
  · show 256 * n + 1 * (x 1).val = _; omega

/-- Six panels of a block of rows, at an index. -/
theorem grp_apply (R k r0 : ℕ) (hk : k < 5) (hr : r0 + R ≤ 2880) (u : FVec Ideal ⟨2, ![R, 256]⟩ .f32)
    {o0 o1 o2 o3 o4 o5 p0 p1 p2 p3 p4 p5 : Fin 2 → ℕ}
    (ho0 : o0 = ![2880 * (6 * k) + r0, 0]) (ho1 : o1 = ![2880 * (6 * k + 1) + r0, 0]) (ho2 : o2 = ![2880 * (6 * k + 2) + r0, 0])
    (ho3 : o3 = ![2880 * (6 * k + 3) + r0, 0]) (ho4 : o4 = ![2880 * (6 * k + 4) + r0, 0]) (ho5 : o5 = ![2880 * (6 * k + 5) + r0, 0])
    (hp0 : p0 = ![0, 256 * (6 * k)]) (hp1 : p1 = ![0, 256 * (6 * k + 1)]) (hp2 : p2 = ![0, 256 * (6 * k + 2)])
    (hp3 : p3 = ![0, 256 * (6 * k + 3)]) (hp4 : p4 = ![0, 256 * (6 * k + 4)]) (hp5 : p5 = ![0, 256 * (6 * k + 5)])
    (i0 : ∀ a, o0 a + (![R, 256] : Fin 2 → ℕ) a ≤ S161280x256.size a) (i1 : ∀ a, o1 a + (![R, 256] : Fin 2 → ℕ) a ≤ S161280x256.size a)
    (i2 : ∀ a, o2 a + (![R, 256] : Fin 2 → ℕ) a ≤ S161280x256.size a) (i3 : ∀ a, o3 a + (![R, 256] : Fin 2 → ℕ) a ≤ S161280x256.size a)
    (i4 : ∀ a, o4 a + (![R, 256] : Fin 2 → ℕ) a ≤ S161280x256.size a) (i5 : ∀ a, o5 a + (![R, 256] : Fin 2 → ℕ) a ≤ S161280x256.size a)
    (j0 : ∀ a, p0 a + (![256, 256] : Fin 2 → ℕ) a ≤ S256x7680.size a) (j1 : ∀ a, p1 a + (![256, 256] : Fin 2 → ℕ) a ≤ S256x7680.size a)
    (j2 : ∀ a, p2 a + (![256, 256] : Fin 2 → ℕ) a ≤ S256x7680.size a) (j3 : ∀ a, p3 a + (![256, 256] : Fin 2 → ℕ) a ≤ S256x7680.size a)
    (j4 : ∀ a, p4 a + (![256, 256] : Fin 2 → ℕ) a ≤ S256x7680.size a) (j5 : ∀ a, p5 a + (![256, 256] : Fin 2 → ℕ) a ≤ S256x7680.size a)
    (h : S256x256.numel = S256x256.numel) (x : (⟨2, ![R, 256]⟩ : Shape).Idx) (U : EReal) (hu : u x = U) (y0 y1 : ℕ) (hy0 : r0 + (x 0).val = y0) (hy1 : (x 1).val = y1) :
    grp R u
      (arg12.view.readAt (Elt Ideal) (Rect.unit (s := S161280x256) o0 ![R, 256] i0).toLoadRect (arenaOf c arg4 arg12 f0 Wf))
      (arg12.view.readAt (Elt Ideal) (Rect.unit (s := S161280x256) o1 ![R, 256] i1).toLoadRect (arenaOf c arg4 arg12 f0 Wf))
      (arg12.view.readAt (Elt Ideal) (Rect.unit (s := S161280x256) o2 ![R, 256] i2).toLoadRect (arenaOf c arg4 arg12 f0 Wf))
      (arg12.view.readAt (Elt Ideal) (Rect.unit (s := S161280x256) o3 ![R, 256] i3).toLoadRect (arenaOf c arg4 arg12 f0 Wf))
      (arg12.view.readAt (Elt Ideal) (Rect.unit (s := S161280x256) o4 ![R, 256] i4).toLoadRect (arenaOf c arg4 arg12 f0 Wf))
      (arg12.view.readAt (Elt Ideal) (Rect.unit (s := S161280x256) o5 ![R, 256] i5).toLoadRect (arenaOf c arg4 arg12 f0 Wf))
      (shapeCast S256x256 (arg0.view.readAt (Elt Ideal) (Rect.unit (s := S256x7680) p0 ![256, 256] j0).toLoadRect g) h)
      (shapeCast S256x256 (arg0.view.readAt (Elt Ideal) (Rect.unit (s := S256x7680) p1 ![256, 256] j1).toLoadRect g) h)
      (shapeCast S256x256 (arg0.view.readAt (Elt Ideal) (Rect.unit (s := S256x7680) p2 ![256, 256] j2).toLoadRect g) h)
      (shapeCast S256x256 (arg0.view.readAt (Elt Ideal) (Rect.unit (s := S256x7680) p3 ![256, 256] j3).toLoadRect g) h)
      (shapeCast S256x256 (arg0.view.readAt (Elt Ideal) (Rect.unit (s := S256x7680) p4 ![256, 256] j4).toLoadRect g) h)
      (shapeCast S256x256 (arg0.view.readAt (Elt Ideal) (Rect.unit (s := S256x7680) p5 ![256, 256] j5).toLoadRect g) h) x
      = U + six (Wr c arg4 Wf) (Gr arg0 g) k y0 y1 := by
  subst hu; subst hy0; subst hy1
  have d (n : ℕ) (hn : n < 30) (o p : Fin 2 → ℕ) (ho : o = ![2880 * n + r0, 0]) (hp : p = ![0, 256 * n])
      (i : ∀ a, o a + (![R, 256] : Fin 2 → ℕ) a ≤ S161280x256.size a) (j : ∀ a, p a + (![256, 256] : Fin 2 → ℕ) a ≤ S256x7680.size a) :=
    dotp_apply (Wr c arg4 Wf) (Gr arg0 g) R r0 n _ _ (slot_read c arg4 arg12 f0 Wf R n r0 hn hr o ho i) (tok_read arg0 g n hn p hp j h) x
  unfold grp six
  rw [addf_apply, addf_apply, addf_apply, addf_apply, addf_apply, addf_apply,
    d (6 * k) (by omega) o0 p0 ho0 hp0 i0 j0, d (6 * k + 1) (by omega) o1 p1 ho1 hp1 i1 j1, d (6 * k + 2) (by omega) o2 p2 ho2 hp2 i2 j2,
    d (6 * k + 3) (by omega) o3 p3 ho3 hp3 i3 j3, d (6 * k + 4) (by omega) o4 p4 ho4 hp4 i4 j4, d (6 * k + 5) (by omega) o5 p5 ho5 hp5 i5 j5]

end Reads

/-! ## A trip over all rows -/

/-- The rows of slot `6 k + j`. -/
theorem off7_slot (k : Fin k0_t2_loop.trips) (j : Fin 6) (r : Fin 11) :
    k0_off7 k (BitVec.ofNat 32 j.val) (BitVec.ofNat 32 (256 * r.val)) = ![2880 * (6 * k.val + j.val) + 256 * r.val, 0] := by
  rw [k0_off7_eq]; congr 1; omega
/-- The columns of panel `6 k + j`. -/
theorem off8_panel (k : Fin k0_t2_loop.trips) (j : Fin 6) : k0_off8 k (BitVec.ofNat 32 j.val) = ![0, 256 * (6 * k.val + j.val)] := by
  rw [k0_off8_eq]; congr 2; omega
/-- The last rows of slot `6 k + j`. -/
theorem off9_slot (k : Fin k0_t2_loop.trips) (j : Fin 6) : k0_off9 k (BitVec.ofNat 32 j.val) = ![2880 * (6 * k.val + j.val) + 2816, 0] := by
  rw [k0_off9_eq]; congr 1; omega

section Trip2

variable (g : BufTy.Contents (Elt Ideal) arg0.view.ty) (f0 : Buf (Elt Ideal) (arg12.view.loc (c : Thread nD τ))) (Wf : Buf (Elt Ideal) (arg4.view.loc (c : Thread nD τ)))
  (u : BufTy.Contents (Elt Ideal) arg13.view.ty)

set_option maxRecDepth 8192 in
set_option maxHeartbeats 4000000 in
/-- Each piece a trip writes is the accumulator it read with the trip's six panels added. -/
theorem trip2_pieces (k : Fin k0_t2_loop.trips) : ∀ p ∈ (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u k).1, ∀ x : p.1.shape.Idx,
    p.2 x = (fun y : S2880x256.Idx => arg13.view.read (Elt Ideal) u y + six (Wr c arg4 Wf) (Gr arg0 g) k.val (y 0).val (y 1).val) (p.1.emb x) := by
  have hk : k.val < 5 := lt_of_lt_of_le k.isLt (by decide +kernel)
  unfold trip_k0_t2
  dsimp only
  simp only [List.forall_mem_cons]
  refine ⟨fun x => ?_, fun x => ?_, fun x => ?_, fun x => ?_, fun x => ?_, fun x => ?_, fun x => ?_, fun x => ?_, fun x => ?_, fun x => ?_, fun x => ?_, fun x => ?_, fun p hp => absurd hp List.not_mem_nil⟩
  · exact (congrFun (shapeCast_self _ _) x).trans (grp_apply c arg0 arg4 arg12 g f0 Wf 64 k.val 2816 hk (by decide) _ (off9_slot k 0) (off9_slot k 1) (off9_slot k 2) (off9_slot k 3) (off9_slot k 4) (off9_slot k 5) (off8_panel k 0) (off8_panel k 1) (off8_panel k 2) (off8_panel k 3) (off8_panel k 4) (off8_panel k 5) _ _ _ _ _ _ _ _ _ _ _ _ _ x _ rfl _ _ (by show 2816 + (x 0).val = 2816 + 1 * (x 0).val; omega) (by show (x 1).val = 0 + 1 * (x 1).val; omega))
  · exact (congrFun (shapeCast_self _ _) x).trans (grp_apply c arg0 arg4 arg12 g f0 Wf 256 k.val 2560 hk (by decide) _ (off7_slot k 0 10) (off7_slot k 1 10) (off7_slot k 2 10) (off7_slot k 3 10) (off7_slot k 4 10) (off7_slot k 5 10) (off8_panel k 0) (off8_panel k 1) (off8_panel k 2) (off8_panel k 3) (off8_panel k 4) (off8_panel k 5) _ _ _ _ _ _ _ _ _ _ _ _ _ x _ rfl _ _ (by show 2560 + (x 0).val = 2560 + 1 * (x 0).val; omega) (by show (x 1).val = 0 + 1 * (x 1).val; omega))
  · exact (congrFun (shapeCast_self _ _) x).trans (grp_apply c arg0 arg4 arg12 g f0 Wf 256 k.val 2304 hk (by decide) _ (off7_slot k 0 9) (off7_slot k 1 9) (off7_slot k 2 9) (off7_slot k 3 9) (off7_slot k 4 9) (off7_slot k 5 9) (off8_panel k 0) (off8_panel k 1) (off8_panel k 2) (off8_panel k 3) (off8_panel k 4) (off8_panel k 5) _ _ _ _ _ _ _ _ _ _ _ _ _ x _ rfl _ _ (by show 2304 + (x 0).val = 2304 + 1 * (x 0).val; omega) (by show (x 1).val = 0 + 1 * (x 1).val; omega))
  · exact (congrFun (shapeCast_self _ _) x).trans (grp_apply c arg0 arg4 arg12 g f0 Wf 256 k.val 2048 hk (by decide) _ (off7_slot k 0 8) (off7_slot k 1 8) (off7_slot k 2 8) (off7_slot k 3 8) (off7_slot k 4 8) (off7_slot k 5 8) (off8_panel k 0) (off8_panel k 1) (off8_panel k 2) (off8_panel k 3) (off8_panel k 4) (off8_panel k 5) _ _ _ _ _ _ _ _ _ _ _ _ _ x _ rfl _ _ (by show 2048 + (x 0).val = 2048 + 1 * (x 0).val; omega) (by show (x 1).val = 0 + 1 * (x 1).val; omega))
  · exact (congrFun (shapeCast_self _ _) x).trans (grp_apply c arg0 arg4 arg12 g f0 Wf 256 k.val 1792 hk (by decide) _ (off7_slot k 0 7) (off7_slot k 1 7) (off7_slot k 2 7) (off7_slot k 3 7) (off7_slot k 4 7) (off7_slot k 5 7) (off8_panel k 0) (off8_panel k 1) (off8_panel k 2) (off8_panel k 3) (off8_panel k 4) (off8_panel k 5) _ _ _ _ _ _ _ _ _ _ _ _ _ x _ rfl _ _ (by show 1792 + (x 0).val = 1792 + 1 * (x 0).val; omega) (by show (x 1).val = 0 + 1 * (x 1).val; omega))
  · exact (congrFun (shapeCast_self _ _) x).trans (grp_apply c arg0 arg4 arg12 g f0 Wf 256 k.val 1536 hk (by decide) _ (off7_slot k 0 6) (off7_slot k 1 6) (off7_slot k 2 6) (off7_slot k 3 6) (off7_slot k 4 6) (off7_slot k 5 6) (off8_panel k 0) (off8_panel k 1) (off8_panel k 2) (off8_panel k 3) (off8_panel k 4) (off8_panel k 5) _ _ _ _ _ _ _ _ _ _ _ _ _ x _ rfl _ _ (by show 1536 + (x 0).val = 1536 + 1 * (x 0).val; omega) (by show (x 1).val = 0 + 1 * (x 1).val; omega))
  · exact (congrFun (shapeCast_self _ _) x).trans (grp_apply c arg0 arg4 arg12 g f0 Wf 256 k.val 1280 hk (by decide) _ (off7_slot k 0 5) (off7_slot k 1 5) (off7_slot k 2 5) (off7_slot k 3 5) (off7_slot k 4 5) (off7_slot k 5 5) (off8_panel k 0) (off8_panel k 1) (off8_panel k 2) (off8_panel k 3) (off8_panel k 4) (off8_panel k 5) _ _ _ _ _ _ _ _ _ _ _ _ _ x _ rfl _ _ (by show 1280 + (x 0).val = 1280 + 1 * (x 0).val; omega) (by show (x 1).val = 0 + 1 * (x 1).val; omega))
  · exact (congrFun (shapeCast_self _ _) x).trans (grp_apply c arg0 arg4 arg12 g f0 Wf 256 k.val 1024 hk (by decide) _ (off7_slot k 0 4) (off7_slot k 1 4) (off7_slot k 2 4) (off7_slot k 3 4) (off7_slot k 4 4) (off7_slot k 5 4) (off8_panel k 0) (off8_panel k 1) (off8_panel k 2) (off8_panel k 3) (off8_panel k 4) (off8_panel k 5) _ _ _ _ _ _ _ _ _ _ _ _ _ x _ rfl _ _ (by show 1024 + (x 0).val = 1024 + 1 * (x 0).val; omega) (by show (x 1).val = 0 + 1 * (x 1).val; omega))
  · exact (congrFun (shapeCast_self _ _) x).trans (grp_apply c arg0 arg4 arg12 g f0 Wf 256 k.val 768 hk (by decide) _ (off7_slot k 0 3) (off7_slot k 1 3) (off7_slot k 2 3) (off7_slot k 3 3) (off7_slot k 4 3) (off7_slot k 5 3) (off8_panel k 0) (off8_panel k 1) (off8_panel k 2) (off8_panel k 3) (off8_panel k 4) (off8_panel k 5) _ _ _ _ _ _ _ _ _ _ _ _ _ x _ rfl _ _ (by show 768 + (x 0).val = 768 + 1 * (x 0).val; omega) (by show (x 1).val = 0 + 1 * (x 1).val; omega))
  · exact (congrFun (shapeCast_self _ _) x).trans (grp_apply c arg0 arg4 arg12 g f0 Wf 256 k.val 512 hk (by decide) _ (off7_slot k 0 2) (off7_slot k 1 2) (off7_slot k 2 2) (off7_slot k 3 2) (off7_slot k 4 2) (off7_slot k 5 2) (off8_panel k 0) (off8_panel k 1) (off8_panel k 2) (off8_panel k 3) (off8_panel k 4) (off8_panel k 5) _ _ _ _ _ _ _ _ _ _ _ _ _ x _ rfl _ _ (by show 512 + (x 0).val = 512 + 1 * (x 0).val; omega) (by show (x 1).val = 0 + 1 * (x 1).val; omega))
  · exact (congrFun (shapeCast_self _ _) x).trans (grp_apply c arg0 arg4 arg12 g f0 Wf 256 k.val 256 hk (by decide) _ (off7_slot k 0 1) (off7_slot k 1 1) (off7_slot k 2 1) (off7_slot k 3 1) (off7_slot k 4 1) (off7_slot k 5 1) (off8_panel k 0) (off8_panel k 1) (off8_panel k 2) (off8_panel k 3) (off8_panel k 4) (off8_panel k 5) _ _ _ _ _ _ _ _ _ _ _ _ _ x _ rfl _ _ (by show 256 + (x 0).val = 256 + 1 * (x 0).val; omega) (by show (x 1).val = 0 + 1 * (x 1).val; omega))
  · exact (congrFun (shapeCast_self _ _) x).trans (grp_apply c arg0 arg4 arg12 g f0 Wf 256 k.val 0 hk (by decide) _ (off7_slot k 0 0) (off7_slot k 1 0) (off7_slot k 2 0) (off7_slot k 3 0) (off7_slot k 4 0) (off7_slot k 5 0) (off8_panel k 0) (off8_panel k 1) (off8_panel k 2) (off8_panel k 3) (off8_panel k 4) (off8_panel k 5) _ _ _ _ _ _ _ _ _ _ _ _ _ x _ rfl _ _ (by show 0 + (x 0).val = 0 + 1 * (x 0).val; omega) (by show (x 1).val = 0 + 1 * (x 1).val; omega))

set_option maxRecDepth 8192 in
set_option maxHeartbeats 4000000 in
/-- A trip's pieces cover the accumulator. -/
theorem trip2_cover (k : Fin k0_t2_loop.trips) (y : S2880x256.Idx) :
    ∃ p ∈ (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u k).1, y ∈ p.1.set := by
  have h0 : (y 0).val < 2880 := (y 0).isLt
  have h1 : (y 1).val < 256 := (y 1).isLt
  unfold trip_k0_t2
  dsimp only
  simp only [List.exists_mem_cons_iff, Rect.mem_set_unit]
  have key (a b : ℕ) (ha : a ≤ (y 0).val) (hb : (y 0).val < a + b) :
      ∀ i : Fin 2, (![a, 0] : Fin 2 → ℕ) i ≤ (y i).val ∧ (y i).val < (![a, 0] : Fin 2 → ℕ) i + (![b, 256] : Fin 2 → ℕ) i := fun i =>
    match i with
    | ⟨0, _⟩ => ⟨ha, hb⟩
    | ⟨1, _⟩ => ⟨Nat.zero_le _, by show (y 1).val < 0 + 256; omega⟩
  by_cases c11 : 2816 ≤ (y 0).val
  · exact Or.inl (key 2816 64 c11 (by omega))
  refine Or.inr ?_
  by_cases c10 : 2560 ≤ (y 0).val
  · exact Or.inl (key 2560 256 c10 (by omega))
  refine Or.inr ?_
  by_cases c9 : 2304 ≤ (y 0).val
  · exact Or.inl (key 2304 256 c9 (by omega))
  refine Or.inr ?_
  by_cases c8 : 2048 ≤ (y 0).val
  · exact Or.inl (key 2048 256 c8 (by omega))
  refine Or.inr ?_
  by_cases c7 : 1792 ≤ (y 0).val
  · exact Or.inl (key 1792 256 c7 (by omega))
  refine Or.inr ?_
  by_cases c6 : 1536 ≤ (y 0).val
  · exact Or.inl (key 1536 256 c6 (by omega))
  refine Or.inr ?_
  by_cases c5 : 1280 ≤ (y 0).val
  · exact Or.inl (key 1280 256 c5 (by omega))
  refine Or.inr ?_
  by_cases c4 : 1024 ≤ (y 0).val
  · exact Or.inl (key 1024 256 c4 (by omega))
  refine Or.inr ?_
  by_cases c3 : 768 ≤ (y 0).val
  · exact Or.inl (key 768 256 c3 (by omega))
  refine Or.inr ?_
  by_cases c2 : 512 ≤ (y 0).val
  · exact Or.inl (key 512 256 c2 (by omega))
  refine Or.inr ?_
  by_cases c1 : 256 ≤ (y 0).val
  · exact Or.inl (key 256 256 c1 (by omega))
  refine Or.inr ?_
  exact Or.inl (key 0 256 (Nat.zero_le _) (by omega))

/-- The accumulator after `n` trips, from zero. -/
theorem uAt_read (hu : ∀ y, arg13.view.read (Elt Ideal) u y = (0 : EReal)) : ∀ n, n ≤ 4 → ∀ y : S2880x256.Idx,
    arg13.view.read (Elt Ideal) (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u n) y
      = groups (Wr c arg4 Wf) (Gr arg0 g) (y 0).val (y 1).val n
  | 0, _, y => hu y
  | n + 1, hn, y => by
    have hlt : n < k0_t2_loop.trips := lt_of_lt_of_le (Nat.lt_of_succ_le hn) (by decide +kernel)
    have e : uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u (n + 1)
        = arg13.view.writes (Elt Ideal) (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u n)
          (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u n) ⟨n, hlt⟩).1 := dif_pos hlt
    rw [e]
    refine (View.read_writes_apply_of_pieces arg13.view _ (fun y : S2880x256.Idx => arg13.view.read (Elt Ideal) (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u n) y + six (Wr c arg4 Wf) (Gr arg0 g) n (y 0).val (y 1).val) _
      (trip2_pieces _ _ _ _ _ _ _ _ _ _ _ _ _ _ _ _ _ _ _ _ _ _ _ _ _ _ _ _ _ _ _ _ _ _ g f0 Wf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u n) ⟨n, hlt⟩) y (trip2_cover _ _ _ _ _ _ _ _ _ _ _ _ _ _ _ _ _ _ _ _ _ _ _ _ _ _ _ _ _ _ _ _ _ _ g f0 Wf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g u n) ⟨n, hlt⟩ y)).trans ?_
    exact congrArg (· + six (Wr c arg4 Wf) (Gr arg0 g) n (y 0).val (y 1).val) (uAt_read hu n (Nat.le_of_succ_le hn) y)

end Trip2

end Cert.KernelIdeal.Hand

end
-- ==== Proof.Fin.lean ====
module

public import proofs.«01_k».proof.Proof.Trips
public import Idealize.ShloMosaic.Lib.MatmulPlain
public import Idealize.ShloMosaic.Lib.ValueIdx
public import Idealize.ShloMosaic.Lib.Pipeline.Value
public import Idealize.ShloMosaic.Lib.WritesUnit

/-!
The last group of panels together with the closing arithmetic: the scales, the bias, the residual and the padding
mask. `xarr` is the array that this leaves, `fin_at` the value of one stored block at an index.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## The closing formula -/

/-- The value written for one element: the residual with the scaled product and the bias added, or zero. -/
def fval (b : BitVec 1) (hh a s0 s1 s2 : EReal) : EReal := Scalar.select b (hh + (a * s0 * s1 + s2)) 0

theorem fval_congr {b b' : BitVec 1} {hh hh' a a' s0 s0' s1 s1' s2 s2' : EReal} (h1 : b = b') (h2 : hh = hh') (h3 : a = a') (h4 : s0 = s0') (h5 : s1 = s1') (h6 : s2 = s2') :
    fval b hh a s0 s1 s2 = fval b' hh' a' s0' s1' s2' := by
  subst h1; subst h2; subst h3; subst h4; subst h5; subst h6; rfl

/-- A vector along the rows, repeated over 128 columns. -/
def spread {F : FTy → Type} [FloatOps F] (M : ℕ) (v : FVec F ⟨1, ![M]⟩ .f32) (h1 : (⟨1, ![M]⟩ : Shape).ShapeCasts ⟨2, ![1, M]⟩)
    (h2 : (⟨2, ![1, M]⟩ : Shape).ShapeCasts ⟨2, ![1, M]⟩) (h3 : (⟨2, ![1, M]⟩ : Shape).Broadcasts ⟨2, ![128, M]⟩)
    (h4 : (⟨2, ![128, M]⟩ : Shape).Transposes [1, 0] ⟨2, ![M, 128]⟩) : FVec F ⟨2, ![M, 128]⟩ .f32 :=
  transpose ⟨2, ![M, 128]⟩ [1, 0] (broadcastTo ⟨2, ![128, M]⟩ (shapeCast ⟨2, ![1, M]⟩ (shapeCast ⟨2, ![1, M]⟩ v h1) h2) h3) h4

theorem spread_apply (M : ℕ) (hM : M ≠ 1) (v : FVec Ideal ⟨1, ![M]⟩ .f32) (h1 h2 h3 h4) (x : (⟨2, ![M, 128]⟩ : Shape).Idx) :
    spread M v h1 h2 h3 h4 x = v (ix1 (x 0)) := by
  unfold spread
  rw [transpose_apply [1, 0] _ h4 x (ix2 (x 1) (x 0)) (fun b => match b with | ⟨0, _⟩ => rfl | ⟨1, _⟩ => rfl),
    broadcastTo_apply _ h3 (ix2 (x 1) (x 0)) (ix2 (0 : Fin 1) (x 0)) (fun a => match a with
      | ⟨0, _⟩ => rfl
      | ⟨1, _⟩ => by
        show _ = if M = 1 then _ else _
        rw [if_neg hM]; rfl),
    shapeCast_self]
  refine shapeCast_apply v h1 _ (ix1 (x 0)) ?_
  rw [Shape.rowMajor_val_one, Shape.rowMajor_val_two]
  show (x 0).val = 0 * _ + (x 0).val
  omega

/-- A block of `M` rows and 128 columns of the result. -/
def fin {F : FTy → Type} [FloatOps F] (R M o0 o1 : ℕ) (mask : IVec S1x128 1) (acc : FVec F ⟨2, ![R, 256]⟩ .f32) (srow : FVec F S1x1x128 .f32)
    (S B hv : FVec F ⟨2, ![M, 128]⟩ .f32) (p1 : S1x128.ShapeCasts S1x128) (p2 : S1x128.Broadcasts ⟨2, ![M, 128]⟩) (p3 p7 : (⟨2, ![M, 128]⟩ : Shape).ShapeCasts ⟨2, ![M, 128]⟩)
    (p4 : (⟨2, ![R, 256]⟩ : Shape).Slices ![o0, o1] ⟨2, ![M, 128]⟩) (p5 : S1x1x128.ShapeCasts S1x128) (p6 : FTy.bf16.bits < FTy.f32.bits) (p8 : S1x128.Broadcasts ⟨2, ![M, 128]⟩) : FVec F ⟨2, ![M, 128]⟩ .bf16 :=
  shapeCast ⟨2, ![M, 128]⟩ (truncf .bf16 (select (broadcastTo ⟨2, ![M, 128]⟩ (shapeCast S1x128 mask p1) p2)
    (addf (shapeCast ⟨2, ![M, 128]⟩ hv p3) (addf (mulf (mulf (extractStridedSlice ⟨2, ![M, 128]⟩ ![o0, o1] acc p4)
      (broadcastTo ⟨2, ![M, 128]⟩ (shapeCast S1x128 srow p5) p8)) S) B))
    (broadcast ⟨2, ![M, 128]⟩ (Scalar.ofBits .f32 0x00000000#32))) p6) p7

theorem row_apply {α : Type} (M : ℕ) (v : S1x128.Idx → α) (h : S1x128.Broadcasts ⟨2, ![M, 128]⟩) (x : (⟨2, ![M, 128]⟩ : Shape).Idx) :
    broadcastTo ⟨2, ![M, 128]⟩ v h x = v (ix2 (0 : Fin 1) (x 1)) :=
  broadcastTo_apply v h x _ (fun a => match a with | ⟨0, _⟩ => rfl | ⟨1, _⟩ => rfl)

theorem fin_apply (R M o0 o1 : ℕ) (mask : IVec S1x128 1) (acc : FVec Ideal ⟨2, ![R, 256]⟩ .f32) (srow : FVec Ideal S1x1x128 .f32)
    (S B hv : FVec Ideal ⟨2, ![M, 128]⟩ .f32) (p1 p2 p3 p7 p4 p5 p6 p8) (x : (⟨2, ![M, 128]⟩ : Shape).Idx) (z : (⟨2, ![R, 256]⟩ : Shape).Idx)
    (hz0 : (z 0).val = o0 + (x 0).val) (hz1 : (z 1).val = o1 + (x 1).val) :
    fin R M o0 o1 mask acc srow S B hv p1 p2 p3 p7 p4 p5 p6 p8 x
      = fval (mask (ix2 (0 : Fin 1) (x 1))) (hv x) (acc z) (srow (ix3 (0 : Fin 1) (0 : Fin 1) (x 1))) (S x) (B x) := by
  have hz : ∀ a : Fin 2, (z a).val = (![o0, o1] : Fin 2 → ℕ) a + (x a).val := fun a => match a with | ⟨0, _⟩ => hz0 | ⟨1, _⟩ => hz1
  have hs : shapeCast S1x128 srow p5 (ix2 (0 : Fin 1) (x 1)) = srow (ix3 (0 : Fin 1) (0 : Fin 1) (x 1)) :=
    shapeCast_apply srow p5 _ _ (by
      rw [Shape.rowMajor_val_three, Shape.rowMajor_val_two]; show (0 * _ + 0) * _ + (x 1).val = 0 * _ + (x 1).val; omega)
  have he : extractStridedSlice ⟨2, ![M, 128]⟩ ![o0, o1] acc p4 x = acc z := extractStridedSlice_apply _ acc p4 x z (fun a => hz a)
  unfold fin fval
  rw [shapeCast_self, shapeCast_self, shapeCast_self, truncf_apply, select_apply, row_apply, addf_apply, addf_apply, mulf_apply, mulf_apply, row_apply, he, hs]
  exact congrArg (Scalar.select _ _) Ideal.ofBits_zero_f32

/-- The result's element at a row and a column; a column is a token of one of the two sequences. -/
def xval (SG : S2x128.Idx → BitVec 32) (GS : S2x128.Idx → EReal) (H : S2880x256.Idx → EReal) (SF BF : S2880.Idx → EReal)
    (W : S2880x7680.Idx → EReal) (G : S256x7680.Idx → EReal) (b : Fin 2) (j : Fin 128) (y : S2880x256.Idx) : EReal :=
  fval (IntOp.cmpi .ne (SG (ix2 b j)) 3#32) (H y) (groups W G (y 0).val (y 1).val 5) (GS (ix2 b j)) (SF (ix1 (y 0))) (BF (ix1 (y 0)))

/-- The sequence of a column. -/
def colB (y : S2880x256.Idx) : Fin 2 := ⟨(y 1).val / 128, by have : (y 1).val < 256 := (y 1).isLt; omega⟩
/-- The token of a column. -/
def colJ (y : S2880x256.Idx) : Fin 128 := ⟨(y 1).val % 128, Nat.mod_lt _ (by decide)⟩

/-- The result's array. -/
def xarr (SG : S2x128.Idx → BitVec 32) (GS : S2x128.Idx → EReal) (H : S2880x256.Idx → EReal) (SF BF : S2880.Idx → EReal)
    (W : S2880x7680.Idx → EReal) (G : S256x7680.Idx → EReal) (y : S2880x256.Idx) : EReal := xval SG GS H SF BF W G (colB y) (colJ y) y

/-- A block of the result, at an index. -/
theorem fin_at (SG : S2x128.Idx → BitVec 32) (GS : S2x128.Idx → EReal) (H : S2880x256.Idx → EReal) (SF BF : S2880.Idx → EReal)
    (W : S2880x7680.Idx → EReal) (G : S256x7680.Idx → EReal) (R M o0 o1 A0 : ℕ) (b : Fin 2) (ho1 : o1 = 128 * b.val)
    (mask : IVec S1x128 1) (acc : FVec Ideal ⟨2, ![R, 256]⟩ .f32) (srow : FVec Ideal S1x1x128 .f32)
    (S B hv : FVec Ideal ⟨2, ![M, 128]⟩ .f32) (p1 p2 p3 p7 p4 p5 p6 p8) (x : (⟨2, ![M, 128]⟩ : Shape).Idx) (y : S2880x256.Idx) (hR : o0 + M ≤ R)
    (hy0 : (y 0).val = A0 + o0 + (x 0).val) (hy1 : (y 1).val = o1 + (x 1).val)
    (hm : ∀ j, mask (ix2 (0 : Fin 1) j) = IntOp.cmpi .ne (SG (ix2 b j)) 3#32) (hacc : ∀ z : (⟨2, ![R, 256]⟩ : Shape).Idx, acc z = groups W G (A0 + (z 0).val) (z 1).val 5)
    (hsr : ∀ j, srow (ix3 (0 : Fin 1) (0 : Fin 1) j) = GS (ix2 b j)) (hS : S x = SF (ix1 (y 0))) (hB : B x = BF (ix1 (y 0))) (hh : hv x = H y) :
    fin R M o0 o1 mask acc srow S B hv p1 p2 p3 p7 p4 p5 p6 p8 x = xarr SG GS H SF BF W G y := by
  have hx0 : (x 0).val < M := (x 0).isLt
  have hx1 : (x 1).val < 128 := (x 1).isLt
  have hb : b.val < 2 := b.isLt
  have eb : colB y = b := Fin.ext (by show (y 1).val / 128 = b.val; omega)
  have ej : colJ y = x 1 := Fin.ext (by show (y 1).val % 128 = (x 1).val; omega)
  have e : xarr SG GS H SF BF W G y = fval (IntOp.cmpi .ne (SG (ix2 b (x 1))) 3#32) (H y) (groups W G (A0 + (o0 + (x 0).val)) (o1 + (x 1).val) 5)
      (GS (ix2 b (x 1))) (SF (ix1 (y 0))) (BF (ix1 (y 0))) := by
    unfold xarr xval
    rw [eb, ej, hy0, hy1, Nat.add_assoc]
  exact (fin_apply R M o0 o1 mask acc srow S B hv p1 p2 p3 p7 p4 p5 p6 p8 x (ix2 (⟨o0 + (x 0).val, by omega⟩ : Fin R) (⟨o1 + (x 1).val, by omega⟩ : Fin 256)) rfl rfl).trans
    ((fval_congr (hm (x 1)) hh (hacc _) (hsr (x 1)) hS hB).trans e.symm)

/-- Writes whose pieces agree with a function, over contents that agree with it outside them. -/
theorem writes_agree {sig : RefSig} {κ : Kind} {sp : Space} {s : Shape} {e : EltTy} {Val : EltTy → Type} (v : View sig κ sp s e) (f : v.ty.Contents Val)
    (G : s.Idx → Val e) (L : List (View.Piece Val s e)) (hG : ∀ p ∈ L, ∀ x : p.1.shape.Idx, p.2 x = G (p.1.emb x)) (y : s.Idx)
    (h : v.read Val f y = G y ∨ ∃ p ∈ L, y ∈ p.1.set) : v.read Val (v.writes Val f L) y = G y := by
  by_cases hc : ∃ p ∈ L, y ∈ p.1.set
  · exact View.read_writes_apply_of_pieces v f G L hG y hc
  · rcases h with h | h
    · rw [View.read_writes_apply_of_forall_not_mem v f y L (fun p hp hy => hc ⟨p, hp, hy⟩)]; exact h
    · exact absurd h hc

theorem unit_row {sz : Fin 2 → ℕ} (o : Fin 2 → ℕ) (a b : ℕ) (h : o = ![a, b]) (inb : ∀ i, o i + sz i ≤ S2880x256.size i) (x : (Rect.unit (s := S2880x256) o sz inb).shape.Idx) :
    ((Rect.unit (s := S2880x256) o sz inb).emb x 0).val = a + (x 0).val := by
  subst h; show a + 1 * (x 0).val = _; omega
theorem unit_col {sz : Fin 2 → ℕ} (o : Fin 2 → ℕ) (a b : ℕ) (h : o = ![a, b]) (inb : ∀ i, o i + sz i ≤ S2880x256.size i) (x : (Rect.unit (s := S2880x256) o sz inb).shape.Idx) :
    ((Rect.unit (s := S2880x256) o sz inb).emb x 1).val = b + (x 1).val := by
  subst h; show b + 1 * (x 1).val = _; omega

/-- A block of a vector, repeated over the columns, reads the vector at the row. -/
theorem spread_read {κ : Kind} {sp : Space} (v : View sig κ sp S2880 .f32) (f : v.ty.Contents (Elt Ideal)) (M : ℕ) (hM : M ≠ 1) (o : Fin 1 → ℕ) (a : ℕ) (h : o = ![a])
    (inb : ∀ i, o i + (![M] : Fin 1 → ℕ) i ≤ S2880.size i) (h1 h2 h3 h4) (x : (⟨2, ![M, 128]⟩ : Shape).Idx) (r : Fin 2880) (hr : r.val = a + (x 0).val) :
    spread (F := Ideal) M (v.readAt (Elt Ideal) (Rect.unit (s := S2880) o ![M] inb).toLoadRect f) h1 h2 h3 h4 x = v.read (Elt Ideal) f (ix1 r) := by
  subst h
  rw [spread_apply M hM, View.readAt_apply]
  refine congrArg _ (funext fun i => Fin.ext ?_)
  match i with
  | ⟨0, _⟩ => show a + 1 * (x 0).val = r.val; omega

end Cert.KernelIdeal.Hand

end
-- ==== Proof.Rows3.lean ====
module

public import proofs.«01_k».proof.Proof.Fin
public import Idealize.ShloMosaic.Lib.MatmulPlain
public import Idealize.ShloMosaic.Lib.ValueIdx
public import Idealize.ShloMosaic.Lib.Pipeline.Value
public import Idealize.ShloMosaic.Lib.WritesUnit

/-!
One trip of the last loop: three blocks of 256 rows, each stored as 128-row halves by 128-token halves. Every stored
piece holds `xarr`.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## A trip over 768 rows -/

theorem off11_slot (k : Fin k0_t3_loop.trips) (j : Fin 6) : k0_off11 k (BitVec.ofNat 32 (69120 + 2880 * j.val)) = ![2880 * (6 * 4 + j.val) + 768 * k.val, 0] := by
  rw [k0_off11_eq]; congr 1; omega

section Trip3

variable (g : BufTy.Contents (Elt Ideal) arg0.view.ty) (h : BufTy.Contents (Elt Ideal) arg2.view.ty) (f0 : Buf (Elt Ideal) (arg12.view.loc (c : Thread nD τ))) (Wf : Buf (Elt Ideal) (arg4.view.loc (c : Thread nD τ)))
  (s10 : BufTy.Contents (Elt Ideal) arg10.view.ty) (s11 : BufTy.Contents (Elt Ideal) arg11.view.ty)
  (u : BufTy.Contents (Elt Ideal) arg13.view.ty) (s14 : BufTy.Contents (Elt Ideal) arg14.view.ty) (m0 m1 : IVec S1x128 1)
  (SG : S2x128.Idx → BitVec 32) (GS : S2x128.Idx → EReal)

/-- The residual's array. -/
abbrev Hr : S2880x256.Idx → EReal := arg2.view.read (Elt Ideal) h

/-- The last group of panels, over one trip's rows. -/
theorem acc3 (hu : ∀ y : S2880x256.Idx, arg13.view.read (Elt Ideal) u y = groups (Wr c arg4 Wf) (Gr arg0 g) (y 0).val (y 1).val 4) (k : Fin k0_t3_loop.trips)
    (z : S768x256.Idx) : trip_k0_t3.sl.r_2 (F := Ideal) c arg0 arg12 arg13 (arenaOf c arg4 arg12 f0 Wf) g u k z
      = groups (Wr c arg4 Wf) (Gr arg0 g) (768 * k.val + (z 0).val) (z 1).val 5 := by
  have hk : k.val < 3 := lt_of_lt_of_le k.isLt (by decide +kernel)
  exact grp_apply c arg0 arg4 arg12 g f0 Wf 768 4 (768 * k.val) (by decide) (by omega) _
    (off11_slot k 0) (off11_slot k 1) (off11_slot k 2) (off11_slot k 3) (off11_slot k 4) (off11_slot k 5) rfl rfl rfl rfl rfl rfl
    _ _ _ _ _ _ _ _ _ _ _ _ _ z (groups (Wr c arg4 Wf) (Gr arg0 g) (768 * k.val + (z 0).val) (z 1).val 4)
    ((hu _).trans (congrArg₂ (fun a b => groups (Wr c arg4 Wf) (Gr arg0 g) a b 4) (unit_row _ _ _ (k0_off10_eq k) _ z) ((unit_col _ _ _ (k0_off10_eq k) _ z).trans (Nat.zero_add _)))) _ _ rfl rfl

/-- A row of the tokens' scales as the trips load it. -/
theorem srow_read (h14 : ∀ (b : Fin 2) (j : Fin 128), arg14.view.read (Elt Ideal) s14 (ix3 (3 : Fin 4) b j) = GS (ix2 b j)) (b : Fin 2) (o : Fin 3 → ℕ) (ho : o = ![3, b.val, 0])
    (inb : ∀ i, o i + S1x1x128.size i ≤ S4x2x128.size i) (j : Fin 128) :
    arg14.view.readAt (Elt Ideal) (Rect.unit (s := S4x2x128) o S1x1x128.size inb).toLoadRect s14 (ix3 (0 : Fin 1) (0 : Fin 1) j) = GS (ix2 b j) := by
  subst ho
  refine Eq.trans ?_ (h14 b j)
  rw [View.readAt_apply]
  refine congrArg _ (funext fun i => Fin.ext ?_)
  match i with
  | ⟨0, _⟩ => rfl
  | ⟨1, _⟩ => show b.val + 1 * 0 = b.val; omega
  | ⟨2, _⟩ => show 0 + 1 * j.val = j.val; omega

set_option maxRecDepth 8192 in
set_option maxHeartbeats 4000000 in
/-- Each block a trip writes is the result's. -/
theorem trip3_pieces (hm0 : ∀ j, m0 (ix2 (0 : Fin 1) j) = IntOp.cmpi .ne (SG (ix2 (0 : Fin 2) j)) 3#32)
    (hm1 : ∀ j, m1 (ix2 (0 : Fin 1) j) = IntOp.cmpi .ne (SG (ix2 (1 : Fin 2) j)) 3#32)
    (h14 : ∀ (b : Fin 2) (j : Fin 128), arg14.view.read (Elt Ideal) s14 (ix3 (3 : Fin 4) b j) = GS (ix2 b j))
    (hu : ∀ y : S2880x256.Idx, arg13.view.read (Elt Ideal) u y = groups (Wr c arg4 Wf) (Gr arg0 g) (y 0).val (y 1).val 4) (k : Fin k0_t3_loop.trips) :
    ∀ p ∈ (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 k).1, ∀ x : p.1.shape.Idx, p.2 x = (xarr SG GS (Hr arg2 h) (arg10.view.read (Elt Ideal) s10) (arg11.view.read (Elt Ideal) s11) (Wr c arg4 Wf) (Gr arg0 g)) (p.1.emb x) := by
  unfold trip_k0_t3
  dsimp only
  simp only [List.forall_mem_cons]
  refine ⟨fun x => ?_, fun x => ?_, fun x => ?_, fun x => ?_, fun x => ?_, fun x => ?_, fun x => ?_, fun x => ?_, fun x => ?_, fun x => ?_, fun x => ?_, fun x => ?_, fun p hp => absurd hp List.not_mem_nil⟩
  · have e0 := unit_row _ _ _ (k0_off14_eq k 5) (k0_off14_inb k 5) x
    have e1 := unit_col _ _ _ (k0_off14_eq k 5) (k0_off14_inb k 5) x
    refine fin_at SG GS (Hr arg2 h) (arg10.view.read (Elt Ideal) s10) (arg11.view.read (Elt Ideal) s11) (Wr c arg4 Wf) (Gr arg0 g) 768 128 640 128 (768 * k.val) 1 rfl
      m1 (trip_k0_t3.sl.r_2 (F := Ideal) c arg0 arg12 arg13 (arenaOf c arg4 arg12 f0 Wf) g u k) _ _ _ _ _ _ _ _ slices_S768x256_o640_128_S128x128 _ _ _ x _ ?_ ?_ ?_ ?_ ?_ ?_ ?_ ?_ ?_
    · decide
    · exact e0
    · exact e1
    · exact hm1
    · exact acc3 c arg0 arg4 arg12 arg13 g f0 Wf u hu k
    · exact srow_read arg14 s14 GS h14 1 _ rfl _
    · exact spread_read arg10.view s10 128 (by decide) _ _ (k0_off12_eq k 5) _ _ _ _ _ x _ e0
    · exact spread_read arg11.view s11 128 (by decide) _ _ (k0_off12_eq k 5) _ _ _ _ _ x _ e0
    · rfl
  · have e0 := unit_row _ _ _ (k0_off13_eq k 5) (k0_off13_inb k 5) x
    have e1 := unit_col _ _ _ (k0_off13_eq k 5) (k0_off13_inb k 5) x
    refine fin_at SG GS (Hr arg2 h) (arg10.view.read (Elt Ideal) s10) (arg11.view.read (Elt Ideal) s11) (Wr c arg4 Wf) (Gr arg0 g) 768 128 640 0 (768 * k.val) 0 rfl
      m0 (trip_k0_t3.sl.r_2 (F := Ideal) c arg0 arg12 arg13 (arenaOf c arg4 arg12 f0 Wf) g u k) _ _ _ _ _ _ _ _ slices_S768x256_o640_0_S128x128 _ _ _ x _ ?_ ?_ ?_ ?_ ?_ ?_ ?_ ?_ ?_
    · decide
    · exact e0
    · exact e1
    · exact hm0
    · exact acc3 c arg0 arg4 arg12 arg13 g f0 Wf u hu k
    · exact srow_read arg14 s14 GS h14 0 _ rfl _
    · exact spread_read arg10.view s10 128 (by decide) _ _ (k0_off12_eq k 5) _ _ _ _ _ x _ e0
    · exact spread_read arg11.view s11 128 (by decide) _ _ (k0_off12_eq k 5) _ _ _ _ _ x _ e0
    · rfl
  · have e0 := unit_row _ _ _ (k0_off14_eq k 4) (k0_off14_inb k 4) x
    have e1 := unit_col _ _ _ (k0_off14_eq k 4) (k0_off14_inb k 4) x
    unfold trip_k0_t3.sl.r_12 trip_k0_t3.sl.r_13 trip_k0_t3.sl.r_14 trip_k0_t3.sl.r_15 k0_pay62 k0_pay63 k0_pay65 k0_pay66 k0_pay67
    refine fin_at SG GS (Hr arg2 h) (arg10.view.read (Elt Ideal) s10) (arg11.view.read (Elt Ideal) s11) (Wr c arg4 Wf) (Gr arg0 g) 768 128 512 128 (768 * k.val) 1 rfl
      m1 (trip_k0_t3.sl.r_2 (F := Ideal) c arg0 arg12 arg13 (arenaOf c arg4 arg12 f0 Wf) g u k) _ _ _ _ _ _ _ _ slices_S768x256_o512_128_S128x128 _ _ _ x _ ?_ ?_ ?_ ?_ ?_ ?_ ?_ ?_ ?_
    · decide
    · exact e0
    · exact e1
    · exact hm1
    · exact acc3 c arg0 arg4 arg12 arg13 g f0 Wf u hu k
    · exact srow_read arg14 s14 GS h14 1 _ rfl _
    · exact spread_read arg10.view s10 128 (by decide) _ _ (k0_off12_eq k 4) _ _ _ _ _ x _ e0
    · exact spread_read arg11.view s11 128 (by decide) _ _ (k0_off12_eq k 4) _ _ _ _ _ x _ e0
    · rfl
  · have e0 := unit_row _ _ _ (k0_off13_eq k 4) (k0_off13_inb k 4) x
    have e1 := unit_col _ _ _ (k0_off13_eq k 4) (k0_off13_inb k 4) x
    refine fin_at SG GS (Hr arg2 h) (arg10.view.read (Elt Ideal) s10) (arg11.view.read (Elt Ideal) s11) (Wr c arg4 Wf) (Gr arg0 g) 768 128 512 0 (768 * k.val) 0 rfl
      m0 (trip_k0_t3.sl.r_2 (F := Ideal) c arg0 arg12 arg13 (arenaOf c arg4 arg12 f0 Wf) g u k) _ _ _ _ _ _ _ _ slices_S768x256_o512_0_S128x128 _ _ _ x _ ?_ ?_ ?_ ?_ ?_ ?_ ?_ ?_ ?_
    · decide
    · exact e0
    · exact e1
    · exact hm0
    · exact acc3 c arg0 arg4 arg12 arg13 g f0 Wf u hu k
    · exact srow_read arg14 s14 GS h14 0 _ rfl _
    · exact spread_read arg10.view s10 128 (by decide) _ _ (k0_off12_eq k 4) _ _ _ _ _ x _ e0
    · exact spread_read arg11.view s11 128 (by decide) _ _ (k0_off12_eq k 4) _ _ _ _ _ x _ e0
    · rfl
  · have e0 := unit_row _ _ _ (k0_off14_eq k 3) (k0_off14_inb k 3) x
    have e1 := unit_col _ _ _ (k0_off14_eq k 3) (k0_off14_inb k 3) x
    unfold trip_k0_t3.sl.r_10 trip_k0_t3.sl.r_11 k0_pay59 k0_pay60 k0_pay61
    refine fin_at SG GS (Hr arg2 h) (arg10.view.read (Elt Ideal) s10) (arg11.view.read (Elt Ideal) s11) (Wr c arg4 Wf) (Gr arg0 g) 768 128 384 128 (768 * k.val) 1 rfl
      m1 (trip_k0_t3.sl.r_2 (F := Ideal) c arg0 arg12 arg13 (arenaOf c arg4 arg12 f0 Wf) g u k) _ _ _ _ _ _ _ _ slices_S768x256_o384_128_S128x128 _ _ _ x _ ?_ ?_ ?_ ?_ ?_ ?_ ?_ ?_ ?_
    · decide
    · exact e0
    · exact e1
    · exact hm1
    · exact acc3 c arg0 arg4 arg12 arg13 g f0 Wf u hu k
    · exact srow_read arg14 s14 GS h14 1 _ rfl _
    · exact spread_read arg10.view s10 128 (by decide) _ _ (k0_off12_eq k 3) _ _ _ _ _ x _ e0
    · exact spread_read arg11.view s11 128 (by decide) _ _ (k0_off12_eq k 3) _ _ _ _ _ x _ e0
    · rfl
  · have e0 := unit_row _ _ _ (k0_off13_eq k 3) (k0_off13_inb k 3) x
    have e1 := unit_col _ _ _ (k0_off13_eq k 3) (k0_off13_inb k 3) x
    refine fin_at SG GS (Hr arg2 h) (arg10.view.read (Elt Ideal) s10) (arg11.view.read (Elt Ideal) s11) (Wr c arg4 Wf) (Gr arg0 g) 768 128 384 0 (768 * k.val) 0 rfl
      m0 (trip_k0_t3.sl.r_2 (F := Ideal) c arg0 arg12 arg13 (arenaOf c arg4 arg12 f0 Wf) g u k) _ _ _ _ _ _ _ _ slices_S768x256_o384_0_S128x128 _ _ _ x _ ?_ ?_ ?_ ?_ ?_ ?_ ?_ ?_ ?_
    · decide
    · exact e0
    · exact e1
    · exact hm0
    · exact acc3 c arg0 arg4 arg12 arg13 g f0 Wf u hu k
    · exact srow_read arg14 s14 GS h14 0 _ rfl _
    · exact spread_read arg10.view s10 128 (by decide) _ _ (k0_off12_eq k 3) _ _ _ _ _ x _ e0
    · exact spread_read arg11.view s11 128 (by decide) _ _ (k0_off12_eq k 3) _ _ _ _ _ x _ e0
    · rfl
  · have e0 := unit_row _ _ _ (k0_off14_eq k 2) (k0_off14_inb k 2) x
    have e1 := unit_col _ _ _ (k0_off14_eq k 2) (k0_off14_inb k 2) x
    refine fin_at SG GS (Hr arg2 h) (arg10.view.read (Elt Ideal) s10) (arg11.view.read (Elt Ideal) s11) (Wr c arg4 Wf) (Gr arg0 g) 768 128 256 128 (768 * k.val) 1 rfl
      m1 (trip_k0_t3.sl.r_2 (F := Ideal) c arg0 arg12 arg13 (arenaOf c arg4 arg12 f0 Wf) g u k) _ _ _ _ _ _ _ _ slices_S768x256_o256_128_S128x128 _ _ _ x _ ?_ ?_ ?_ ?_ ?_ ?_ ?_ ?_ ?_
    · decide
    · exact e0
    · exact e1
    · exact hm1
    · exact acc3 c arg0 arg4 arg12 arg13 g f0 Wf u hu k
    · exact srow_read arg14 s14 GS h14 1 _ rfl _
    · exact spread_read arg10.view s10 128 (by decide) _ _ (k0_off12_eq k 2) _ _ _ _ _ x _ e0
    · exact spread_read arg11.view s11 128 (by decide) _ _ (k0_off12_eq k 2) _ _ _ _ _ x _ e0
    · rfl
  · have e0 := unit_row _ _ _ (k0_off13_eq k 2) (k0_off13_inb k 2) x
    have e1 := unit_col _ _ _ (k0_off13_eq k 2) (k0_off13_inb k 2) x
    refine fin_at SG GS (Hr arg2 h) (arg10.view.read (Elt Ideal) s10) (arg11.view.read (Elt Ideal) s11) (Wr c arg4 Wf) (Gr arg0 g) 768 128 256 0 (768 * k.val) 0 rfl
      m0 (trip_k0_t3.sl.r_2 (F := Ideal) c arg0 arg12 arg13 (arenaOf c arg4 arg12 f0 Wf) g u k) _ _ _ _ _ _ _ _ slices_S768x256_o256_0_S128x128 _ _ _ x _ ?_ ?_ ?_ ?_ ?_ ?_ ?_ ?_ ?_
    · decide
    · exact e0
    · exact e1
    · exact hm0
    · exact acc3 c arg0 arg4 arg12 arg13 g f0 Wf u hu k
    · exact srow_read arg14 s14 GS h14 0 _ rfl _
    · exact spread_read arg10.view s10 128 (by decide) _ _ (k0_off12_eq k 2) _ _ _ _ _ x _ e0
    · exact spread_read arg11.view s11 128 (by decide) _ _ (k0_off12_eq k 2) _ _ _ _ _ x _ e0
    · rfl
  · have e0 := unit_row _ _ _ (k0_off14_eq k 1) (k0_off14_inb k 1) x
    have e1 := unit_col _ _ _ (k0_off14_eq k 1) (k0_off14_inb k 1) x
    refine fin_at SG GS (Hr arg2 h) (arg10.view.read (Elt Ideal) s10) (arg11.view.read (Elt Ideal) s11) (Wr c arg4 Wf) (Gr arg0 g) 768 128 128 128 (768 * k.val) 1 rfl
      m1 (trip_k0_t3.sl.r_2 (F := Ideal) c arg0 arg12 arg13 (arenaOf c arg4 arg12 f0 Wf) g u k) _ _ _ _ _ _ _ _ slices_S768x256_o128_128_S128x128 _ _ _ x _ ?_ ?_ ?_ ?_ ?_ ?_ ?_ ?_ ?_
    · decide
    · exact e0
    · exact e1
    · exact hm1
    · exact acc3 c arg0 arg4 arg12 arg13 g f0 Wf u hu k
    · exact srow_read arg14 s14 GS h14 1 _ rfl _
    · exact spread_read arg10.view s10 128 (by decide) _ _ (k0_off12_eq k 1) _ _ _ _ _ x _ e0
    · exact spread_read arg11.view s11 128 (by decide) _ _ (k0_off12_eq k 1) _ _ _ _ _ x _ e0
    · rfl
  · have e0 := unit_row _ _ _ (k0_off13_eq k 1) (k0_off13_inb k 1) x
    have e1 := unit_col _ _ _ (k0_off13_eq k 1) (k0_off13_inb k 1) x
    refine fin_at SG GS (Hr arg2 h) (arg10.view.read (Elt Ideal) s10) (arg11.view.read (Elt Ideal) s11) (Wr c arg4 Wf) (Gr arg0 g) 768 128 128 0 (768 * k.val) 0 rfl
      m0 (trip_k0_t3.sl.r_2 (F := Ideal) c arg0 arg12 arg13 (arenaOf c arg4 arg12 f0 Wf) g u k) _ _ _ _ _ _ _ _ slices_S768x256_o128_0_S128x128 _ _ _ x _ ?_ ?_ ?_ ?_ ?_ ?_ ?_ ?_ ?_
    · decide
    · exact e0
    · exact e1
    · exact hm0
    · exact acc3 c arg0 arg4 arg12 arg13 g f0 Wf u hu k
    · exact srow_read arg14 s14 GS h14 0 _ rfl _
    · exact spread_read arg10.view s10 128 (by decide) _ _ (k0_off12_eq k 1) _ _ _ _ _ x _ e0
    · exact spread_read arg11.view s11 128 (by decide) _ _ (k0_off12_eq k 1) _ _ _ _ _ x _ e0
    · rfl
  · have e0 := unit_row _ _ _ (k0_off14_eq k 0) (k0_off14_inb k 0) x
    have e1 := unit_col _ _ _ (k0_off14_eq k 0) (k0_off14_inb k 0) x
    refine fin_at SG GS (Hr arg2 h) (arg10.view.read (Elt Ideal) s10) (arg11.view.read (Elt Ideal) s11) (Wr c arg4 Wf) (Gr arg0 g) 768 128 0 128 (768 * k.val) 1 rfl
      m1 (trip_k0_t3.sl.r_2 (F := Ideal) c arg0 arg12 arg13 (arenaOf c arg4 arg12 f0 Wf) g u k) _ _ _ _ _ _ _ _ slices_S768x256_o0_128_S128x128 _ _ _ x _ ?_ ?_ ?_ ?_ ?_ ?_ ?_ ?_ ?_
    · decide
    · exact e0
    · exact e1
    · exact hm1
    · exact acc3 c arg0 arg4 arg12 arg13 g f0 Wf u hu k
    · exact srow_read arg14 s14 GS h14 1 _ rfl _
    · exact spread_read arg10.view s10 128 (by decide) _ _ (k0_off12_eq k 0) _ _ _ _ _ x _ e0
    · exact spread_read arg11.view s11 128 (by decide) _ _ (k0_off12_eq k 0) _ _ _ _ _ x _ e0
    · rfl
  · have e0 := unit_row _ _ _ (k0_off13_eq k 0) (k0_off13_inb k 0) x
    have e1 := unit_col _ _ _ (k0_off13_eq k 0) (k0_off13_inb k 0) x
    refine fin_at SG GS (Hr arg2 h) (arg10.view.read (Elt Ideal) s10) (arg11.view.read (Elt Ideal) s11) (Wr c arg4 Wf) (Gr arg0 g) 768 128 0 0 (768 * k.val) 0 rfl
      m0 (trip_k0_t3.sl.r_2 (F := Ideal) c arg0 arg12 arg13 (arenaOf c arg4 arg12 f0 Wf) g u k) _ _ _ _ _ _ _ _ slices_S768x256_o0_0_S128x128 _ _ _ x _ ?_ ?_ ?_ ?_ ?_ ?_ ?_ ?_ ?_
    · decide
    · exact e0
    · exact e1
    · exact hm0
    · exact acc3 c arg0 arg4 arg12 arg13 g f0 Wf u hu k
    · exact srow_read arg14 s14 GS h14 0 _ rfl _
    · exact spread_read arg10.view s10 128 (by decide) _ _ (k0_off12_eq k 0) _ _ _ _ _ x _ e0
    · exact spread_read arg11.view s11 128 (by decide) _ _ (k0_off12_eq k 0) _ _ _ _ _ x _ e0
    · rfl

set_option maxRecDepth 8192 in
set_option maxHeartbeats 4000000 in
/-- A trip's blocks cover its rows. -/
theorem trip3_cover (k : Fin k0_t3_loop.trips) (y : S2880x256.Idx) (h0 : 768 * k.val ≤ (y 0).val) (h0' : (y 0).val < 768 * (k.val + 1)) :
    ∃ p ∈ (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 k).1, y ∈ p.1.set := by
  have h1 : (y 1).val < 256 := (y 1).isLt
  unfold trip_k0_t3
  dsimp only
  simp only [List.exists_mem_cons_iff, Rect.mem_set_unit]
  have key (o : Fin 2 → ℕ) (a b : ℕ) (ho : o = ![a, b]) (ha : a ≤ (y 0).val) (ha' : (y 0).val < a + 128) (hb : b ≤ (y 1).val) (hb' : (y 1).val < b + 128) :
      ∀ i : Fin 2, o i ≤ (y i).val ∧ (y i).val < o i + (![128, 128] : Fin 2 → ℕ) i := by
    subst ho
    intro i
    match i with
    | ⟨0, _⟩ => exact ⟨ha, ha'⟩
    | ⟨1, _⟩ => exact ⟨hb, hb'⟩
  by_cases c51 : 768 * k.val + 640 ≤ (y 0).val ∧ 128 ≤ (y 1).val
  · exact Or.inl (key _ _ _ (k0_off14_eq k 5) (by show 768 * k.val + 640 ≤ _; omega) (by show _ < 768 * k.val + 640 + 128; omega) c51.2 (by omega))
  refine Or.inr ?_
  by_cases c50 : 768 * k.val + 640 ≤ (y 0).val
  · exact Or.inl (key _ _ _ (k0_off13_eq k 5) (by show 768 * k.val + 640 ≤ _; omega) (by show _ < 768 * k.val + 640 + 128; omega) (Nat.zero_le _) (by omega))
  refine Or.inr ?_
  by_cases c41 : 768 * k.val + 512 ≤ (y 0).val ∧ 128 ≤ (y 1).val
  · exact Or.inl (key _ _ _ (k0_off14_eq k 4) (by show 768 * k.val + 512 ≤ _; omega) (by show _ < 768 * k.val + 512 + 128; omega) c41.2 (by omega))
  refine Or.inr ?_
  by_cases c40 : 768 * k.val + 512 ≤ (y 0).val
  · exact Or.inl (key _ _ _ (k0_off13_eq k 4) (by show 768 * k.val + 512 ≤ _; omega) (by show _ < 768 * k.val + 512 + 128; omega) (Nat.zero_le _) (by omega))
  refine Or.inr ?_
  by_cases c31 : 768 * k.val + 384 ≤ (y 0).val ∧ 128 ≤ (y 1).val
  · exact Or.inl (key _ _ _ (k0_off14_eq k 3) (by show 768 * k.val + 384 ≤ _; omega) (by show _ < 768 * k.val + 384 + 128; omega) c31.2 (by omega))
  refine Or.inr ?_
  by_cases c30 : 768 * k.val + 384 ≤ (y 0).val
  · exact Or.inl (key _ _ _ (k0_off13_eq k 3) (by show 768 * k.val + 384 ≤ _; omega) (by show _ < 768 * k.val + 384 + 128; omega) (Nat.zero_le _) (by omega))
  refine Or.inr ?_
  by_cases c21 : 768 * k.val + 256 ≤ (y 0).val ∧ 128 ≤ (y 1).val
  · exact Or.inl (key _ _ _ (k0_off14_eq k 2) (by show 768 * k.val + 256 ≤ _; omega) (by show _ < 768 * k.val + 256 + 128; omega) c21.2 (by omega))
  refine Or.inr ?_
  by_cases c20 : 768 * k.val + 256 ≤ (y 0).val
  · exact Or.inl (key _ _ _ (k0_off13_eq k 2) (by show 768 * k.val + 256 ≤ _; omega) (by show _ < 768 * k.val + 256 + 128; omega) (Nat.zero_le _) (by omega))
  refine Or.inr ?_
  by_cases c11 : 768 * k.val + 128 ≤ (y 0).val ∧ 128 ≤ (y 1).val
  · exact Or.inl (key _ _ _ (k0_off14_eq k 1) (by show 768 * k.val + 128 ≤ _; omega) (by show _ < 768 * k.val + 128 + 128; omega) c11.2 (by omega))
  refine Or.inr ?_
  by_cases c10 : 768 * k.val + 128 ≤ (y 0).val
  · exact Or.inl (key _ _ _ (k0_off13_eq k 1) (by show 768 * k.val + 128 ≤ _; omega) (by show _ < 768 * k.val + 128 + 128; omega) (Nat.zero_le _) (by omega))
  refine Or.inr ?_
  by_cases c01 : 768 * k.val + 0 ≤ (y 0).val ∧ 128 ≤ (y 1).val
  · exact Or.inl (key _ _ _ (k0_off14_eq k 0) (by show 768 * k.val + 0 ≤ _; omega) (by show _ < 768 * k.val + 0 + 128; omega) c01.2 (by omega))
  refine Or.inr ?_
  exact Or.inl (key _ _ _ (k0_off13_eq k 0) (by show 768 * k.val + 0 ≤ _; omega) (by show _ < 768 * k.val + 0 + 128; omega) (Nat.zero_le _) (by omega))

/-- The result's rows after `n` trips. -/
theorem xAt_read (hm0 : ∀ j, m0 (ix2 (0 : Fin 1) j) = IntOp.cmpi .ne (SG (ix2 (0 : Fin 2) j)) 3#32)
    (hm1 : ∀ j, m1 (ix2 (0 : Fin 1) j) = IntOp.cmpi .ne (SG (ix2 (1 : Fin 2) j)) 3#32)
    (h14 : ∀ (b : Fin 2) (j : Fin 128), arg14.view.read (Elt Ideal) s14 (ix3 (3 : Fin 4) b j) = GS (ix2 b j))
    (hu : ∀ y : S2880x256.Idx, arg13.view.read (Elt Ideal) u y = groups (Wr c arg4 Wf) (Gr arg0 g) (y 0).val (y 1).val 4) (x : BufTy.Contents (Elt Ideal) arg8.view.ty) : ∀ n, n ≤ 3 → ∀ y : S2880x256.Idx, (y 0).val < 768 * n →
    arg8.view.read (Elt Ideal) (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 x n) y = (xarr SG GS (Hr arg2 h) (arg10.view.read (Elt Ideal) s10) (arg11.view.read (Elt Ideal) s11) (Wr c arg4 Wf) (Gr arg0 g)) y
  | 0, _, y, hy => absurd hy (Nat.not_lt_zero _)
  | n + 1, hn, y, hy => by
    have hlt : n < k0_t3_loop.trips := lt_of_lt_of_le (Nat.lt_of_succ_le hn) (by decide +kernel)
    have e : (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 x (n + 1)) = arg8.view.writes (Elt Ideal) (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 x n) (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 ⟨n, hlt⟩).1 := dif_pos hlt
    rw [e]
    refine writes_agree (Val := Elt Ideal) arg8.view (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 x n) (xarr SG GS (Hr arg2 h) (arg10.view.read (Elt Ideal) s10) (arg11.view.read (Elt Ideal) s11) (Wr c arg4 Wf) (Gr arg0 g)) (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) m0 m1 g h s10 s11 u s14 ⟨n, hlt⟩).1 (trip3_pieces _ _ _ _ _ _ _ _ _ _ _ _ _ _ _ _ _ _ _ _ _ _ _ _ _ _ _ _ _ _ _ _ _ _ g h f0 Wf s10 s11 u s14 m0 m1 SG GS hm0 hm1 h14 hu ⟨n, hlt⟩) y ?_
    by_cases hc : 768 * n ≤ (y 0).val
    · exact Or.inr (trip3_cover _ _ _ _ _ _ _ _ _ _ _ _ _ _ _ _ _ _ _ _ _ _ _ _ _ _ _ _ _ _ _ _ _ _ g h f0 Wf s10 s11 u s14 m0 m1 ⟨n, hlt⟩ y hc hy)
    · exact Or.inl (xAt_read hm0 hm1 h14 hu x n (Nat.le_of_succ_le hn) y (by omega))

end Trip3

end Cert.KernelIdeal.Hand

end
-- ==== Proof.Tail.lean ====
module

public import proofs.«01_k».proof.Proof.Rows3
public import Idealize.ShloMosaic.Lib.MatmulPlain
public import Idealize.ShloMosaic.Lib.ValueIdx
public import Idealize.ShloMosaic.Lib.Pipeline.Value
public import Idealize.ShloMosaic.Lib.WritesUnit

/-!
The rows after the last loop, stored the same way in smaller pieces, and with them the whole outgoing array: it reads
`xarr` at every index.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## The last rows, and the body's result -/

section Tail

variable (g : BufTy.Contents (Elt Ideal) arg0.view.ty) (gs : BufTy.Contents (Elt Ideal) arg1.view.ty) (h : BufTy.Contents (Elt Ideal) arg2.view.ty)
  (sg : BufTy.Contents (Elt Ideal) arg3.view.ty) (Wf : Buf (Elt Ideal) (arg4.view.loc (c : Thread nD τ))) (sf : BufTy.Contents (Elt Ideal) arg5.view.ty) (bf : BufTy.Contents (Elt Ideal) arg6.view.ty)
  (y : BufTy.Contents (Elt Ideal) arg7.view.ty) (x8 : BufTy.Contents (Elt Ideal) arg8.view.ty) (x9 : BufTy.Contents (Elt Ideal) arg9.view.ty) (x10 : BufTy.Contents (Elt Ideal) arg10.view.ty)
  (x11 : BufTy.Contents (Elt Ideal) arg11.view.ty) (f0 : Buf (Elt Ideal) (arg12.view.loc (c : Thread nD τ))) (u : BufTy.Contents (Elt Ideal) arg13.view.ty) (sr : BufTy.Contents (Elt Ideal) arg14.view.ty)

/-- A buffer written whole reads as what was written. -/
theorem whole_read {κ : Kind} {sp : Space} {s : Shape} {e : EltTy} (v : View sig κ sp s e) (f : v.ty.Contents (Elt Ideal)) (p : s.Idx → Elt Ideal e) (z : s.Idx) :
    v.read (Elt Ideal) (v.writes (Elt Ideal) f [⟨Rect.whole s, p⟩]) z = p z := by
  refine View.read_writes_apply_of_pieces v f p [⟨Rect.whole s, p⟩] (fun q hq x => ?_) z ⟨_, List.mem_singleton_self _, by rw [Rect.set_whole]; exact Finset.mem_univ z⟩
  obtain rfl := List.mem_singleton.mp hq
  exact congrArg p (funext fun a => Fin.ext (by show (x a).val = 0 + 1 * (x a).val; omega))

theorem sf_read (z : S2880.Idx) : arg10.view.read (Elt Ideal) (arg10.view.writes (Elt Ideal) arg10.view.junk [⟨Rect.whole S2880, body_run.sl.dma0_1 arg5 sf⟩]) z = arg5.view.read (Elt Ideal) sf z :=
  whole_read arg10.view _ _ z

theorem bf_read (z : S2880.Idx) : arg11.view.read (Elt Ideal) (arg11.view.writes (Elt Ideal) arg11.view.junk [⟨Rect.whole S2880, body_run.sl.dma0_2 arg6 bf⟩]) z = arg6.view.read (Elt Ideal) bf z :=
  whole_read arg11.view _ _ z

theorem mask0 (j : Fin 128) : body_run.sl.r arg3 arg9 sg (ix2 (0 : Fin 1) j) = IntOp.cmpi .ne (arg3.view.read (Elt Ideal) sg (ix2 (0 : Fin 2) j)) 3#32 := by
  refine congrArg (fun t => IntOp.cmpi .ne t 3#32) ?_
  refine (View.readAt_apply (v := arg9.view) _ _ _).trans ((whole_read arg9.view _ _ _).trans (congrArg (arg3.view.read (Elt Ideal) sg) (funext fun i => Fin.ext ?_)))
  match i with
  | ⟨0, _⟩ => rfl
  | ⟨1, _⟩ => show 0 + 1 * j.val = j.val; omega

theorem mask1 (j : Fin 128) : body_run.sl.r_1 arg3 arg9 sg (ix2 (0 : Fin 1) j) = IntOp.cmpi .ne (arg3.view.read (Elt Ideal) sg (ix2 (1 : Fin 2) j)) 3#32 := by
  refine congrArg (fun t => IntOp.cmpi .ne t 3#32) ?_
  refine (View.readAt_apply (v := arg9.view) _ _ _).trans ((whole_read arg9.view _ _ _).trans (congrArg (arg3.view.read (Elt Ideal) sg) (funext fun i => Fin.ext ?_)))
  match i with
  | ⟨0, _⟩ => rfl
  | ⟨1, _⟩ => show 0 + 1 * j.val = j.val; omega

theorem pay71_apply (v : Vec Ideal S2x128 .f32) (x : S1x2x128.Idx) : k0_pay71 (F := Ideal) v x = v (ix2 (x 1) (x 2)) :=
  shapeCast_apply v shapeCasts_S2x128_S1x2x128 x (ix2 (x 1) (x 2)) (by
    have h0 : (x 0).val < 1 := (x 0).isLt
    rw [Shape.rowMajor_val_three, Shape.rowMajor_val_two]
    show (x 1).val * 128 + (x 2).val = ((x 0).val * 2 + (x 1).val) * 128 + (x 2).val
    omega)

theorem pay74_apply (x : S2880x256.Idx) : k0_pay74 (F := Ideal) x = (0 : EReal) := by
  unfold k0_pay74
  rw [shapeCast_self]
  exact Ideal.ofBits_zero_f32

/-- The row of the tokens' scales, once written. -/
theorem srow_written (f : BufTy.Contents (Elt Ideal) arg14.view.ty) (b : Fin 2) (j : Fin 128) :
    arg14.view.read (Elt Ideal) (arg14.view.writes (Elt Ideal) f [⟨Rect.unit ![3, 0, 0] S1x2x128.size inb_S4x2x128_S1x2x128_3_0_0,
      k0_pay71 (F := Ideal) (View.readAt (Elt Ideal) arg1.view (Rect.unit ![0, 0] S2x128.size inb_S2x128_S2x128_0_0).toLoadRect gs)⟩]) (ix3 (3 : Fin 4) b j) = arg1.view.read (Elt Ideal) gs (ix2 b j) := by
  refine View.read_writes_apply_of_pieces arg14.view f (fun z : S4x2x128.Idx => arg1.view.read (Elt Ideal) gs (ix2 (z 1) (z 2))) _ (fun q hq x => ?_) _ ⟨_, List.mem_singleton_self _, ?_⟩
  · obtain rfl := List.mem_singleton.mp hq
    refine Eq.trans (pay71_apply (View.readAt (Elt Ideal) arg1.view (Rect.unit (s := S2x128) ![0, 0] S2x128.size inb_S2x128_S2x128_0_0).toLoadRect gs) x) ?_
    refine (View.readAt_apply (v := arg1.view) _ _ _).trans (congrArg (arg1.view.read (Elt Ideal) gs) (funext fun i => Fin.ext ?_))
    match i with
    | ⟨0, _⟩ => rfl
    | ⟨1, _⟩ => rfl
  · have hb : b.val < 2 := b.isLt
    have hj : j.val < 128 := j.isLt
    show ix3 (3 : Fin 4) b j ∈ (Rect.unit (s := S4x2x128) ![3, 0, 0] S1x2x128.size inb_S4x2x128_S1x2x128_3_0_0).set
    refine Rect.mem_set_unit.mpr (fun i => ?_)
    match i with
    | ⟨0, _⟩ => exact ⟨Nat.le_refl 3, by show 3 < 3 + 1; omega⟩
    | ⟨1, _⟩ => exact ⟨Nat.zero_le _, by show b.val < 0 + 2; omega⟩
    | ⟨2, _⟩ => exact ⟨Nat.zero_le _, by show j.val < 0 + 128; omega⟩

/-- The accumulators start at zero. -/
theorem zeroed (z : S2880x256.Idx) : arg13.view.read (Elt Ideal) (arg13.view.writes (Elt Ideal) arg13.view.junk [⟨Rect.unit ![0, 0] S2880x256.size inb_S2880x256_S2880x256_0_0, k0_pay74 (F := Ideal)⟩]) z = (0 : EReal) := by
  refine View.read_writes_apply_of_pieces arg13.view arg13.view.junk (fun _ : S2880x256.Idx => (show Elt Ideal .f32 from (0 : EReal))) _ (fun q hq x => ?_) _ ⟨_, List.mem_singleton_self _, ?_⟩
  · obtain rfl := List.mem_singleton.mp hq
    exact pay74_apply x
  · show z ∈ (Rect.unit (s := S2880x256) ![0, 0] S2880x256.size inb_S2880x256_S2880x256_0_0).set
    refine Rect.mem_set_unit.mpr (fun i => ?_)
    match i with
    | ⟨0, _⟩ => exact ⟨Nat.zero_le _, by have h0 : (z 0).val < 2880 := (z 0).isLt; show (z 0).val < 0 + 2880; omega⟩
    | ⟨1, _⟩ => exact ⟨Nat.zero_le _, by have h0 : (z 1).val < 256 := (z 1).isLt; show (z 1).val < 0 + 256; omega⟩

/-- The accumulators after the trips over 1280 rows. -/
theorem u_read (z : S2880x256.Idx) : arg13.view.read (Elt Ideal) (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
      (arg13.view.writes (Elt Ideal) arg13.view.junk [⟨Rect.unit ![0, 0] S2880x256.size inb_S2880x256_S2880x256_0_0, k0_pay74 (F := Ideal)⟩]) (Scf.trips k0_t2_loop.lb k0_t2_loop.ub k0_t2_loop.st)) z
    = groups (Wr c arg4 Wf) (Gr arg0 g) (z 0).val (z 1).val 4 := by
  have ht : Scf.trips k0_t2_loop.lb k0_t2_loop.ub k0_t2_loop.st = 4 := by decide +kernel
  rw [ht]
  exact uAt_read _ _ _ _ _ _ _ _ _ _ _ _ _ _ _ _ _ _ _ _ _ _ _ _ _ _ _ _ _ _ _ _ _ _ g f0 Wf _ (zeroed arg13) 4 (le_refl 4) z

/-- The last group of panels, over the last rows. -/
theorem acc4 (z : S576x256.Idx) : body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0 z = groups (Wr c arg4 Wf) (Gr arg0 g) (2304 + (z 0).val) (z 1).val 5 := by
  exact grp_apply c arg0 arg4 arg12 g f0 Wf 576 4 2304 (by decide) (by omega) _
    rfl rfl rfl rfl rfl rfl rfl rfl rfl rfl rfl rfl
    _ _ _ _ _ _ _ _ _ _ _ _ _ z (groups (Wr c arg4 Wf) (Gr arg0 g) (2304 + (z 0).val) (z 1).val 4)
    ((u_read ..).trans (congrArg₂ (fun a b => groups (Wr c arg4 Wf) (Gr arg0 g) a b 4) (unit_row _ 2304 0 rfl inb_S2880x256_S576x256_2304_0 z) ((unit_col _ 2304 0 rfl inb_S2880x256_S576x256_2304_0 z).trans (Nat.zero_add _)))) _ _ rfl rfl

/-- The blocks the body writes after its loops. -/
def tail : List (View.Piece (Elt Ideal) S2880x256 .bf16) :=
  [⟨Rect.unit (s := S2880x256) ![2816, 128] S64x128.size inb_S2880x256_S64x128_2816_128, k0_pay107 (body_run.sl.r_1 arg3 arg9 sg) (body_run.sl.r_12 arg5 arg10 sf) (body_run.sl.r_13 arg6 arg11 bf) (body_run.sl.r_14 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.r_15 arg1 arg14 gs) (View.readAt (Elt Ideal) arg2.view (Rect.unit (s := S2880x256) ![2816, 128] S64x128.size inb_S2880x256_S64x128_2816_128).toLoadRect h)⟩,
    ⟨Rect.unit (s := S2880x256) ![2816, 0] S64x128.size inb_S2880x256_S64x128_2816_0, k0_pay104 (body_run.sl.r arg3 arg9 sg) (body_run.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.v307_r0 arg5 arg10 sf) (body_run.sl.v312_r0 arg6 arg11 bf) (body_run.sl.v134_r0 arg1 arg14 gs) (View.readAt (Elt Ideal) arg2.view (Rect.unit (s := S2880x256) ![2816, 0] S64x128.size inb_S2880x256_S64x128_2816_0).toLoadRect h)⟩,
    ⟨Rect.unit (s := S2880x256) ![2688, 128] S128x128.size inb_S2880x256_S128x128_2688_128, k0_pay101 (body_run.sl.r_1 arg3 arg9 sg) (body_run.sl.r_11 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs Wf sf bf f0) (View.readAt (Elt Ideal) arg2.view (Rect.unit (s := S2880x256) ![2688, 128] S128x128.size inb_S2880x256_S128x128_2688_128).toLoadRect h)⟩,
    ⟨Rect.unit (s := S2880x256) ![2688, 0] S128x128.size inb_S2880x256_S128x128_2688_0, k0_pay99 (body_run.sl.r arg3 arg9 sg) (body_run.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.v261_r0 arg5 arg10 sf) (body_run.sl.v266_r0 arg6 arg11 bf) (body_run.sl.v134_r0 arg1 arg14 gs) (View.readAt (Elt Ideal) arg2.view (Rect.unit (s := S2880x256) ![2688, 0] S128x128.size inb_S2880x256_S128x128_2688_0).toLoadRect h)⟩,
    ⟨Rect.unit (s := S2880x256) ![2560, 128] S128x128.size inb_S2880x256_S128x128_2560_128, k0_pay96 (body_run.sl.r_9 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h Wf sf bf f0) body_run.sl.cst_105_r0 (body_run.sl.r_10 arg3 arg9 sg)⟩,
    ⟨Rect.unit (s := S2880x256) ![2560, 0] S128x128.size inb_S2880x256_S128x128_2560_0, k0_pay93 (body_run.sl.r arg3 arg9 sg) (body_run.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.v215_r0 arg5 arg10 sf) (body_run.sl.v220_r0 arg6 arg11 bf) (body_run.sl.v134_r0 arg1 arg14 gs) (View.readAt (Elt Ideal) arg2.view (Rect.unit (s := S2880x256) ![2560, 0] S128x128.size inb_S2880x256_S128x128_2560_0).toLoadRect h)⟩,
    ⟨Rect.unit (s := S2880x256) ![2432, 128] S128x128.size inb_S2880x256_S128x128_2432_128, k0_pay90 (body_run.sl.r_8 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0)⟩,
    ⟨Rect.unit (s := S2880x256) ![2432, 0] S128x128.size inb_S2880x256_S128x128_2432_0, k0_pay88 (body_run.sl.r arg3 arg9 sg) (body_run.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.r_7 arg5 arg10 sf) (body_run.sl.v174_r0 arg6 arg11 bf) (body_run.sl.v134_r0 arg1 arg14 gs) (View.readAt (Elt Ideal) arg2.view (Rect.unit (s := S2880x256) ![2432, 0] S128x128.size inb_S2880x256_S128x128_2432_0).toLoadRect h)⟩,
    ⟨Rect.unit (s := S2880x256) ![2304, 128] S128x128.size inb_S2880x256_S128x128_2304_128, k0_pay84 (body_run.sl.r_1 arg3 arg9 sg) (body_run.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.r_5 arg5 arg10 sf) (body_run.sl.r_6 arg6 arg11 bf) (body_run.sl.v152_r0 arg1 arg14 gs) (View.readAt (Elt Ideal) arg2.view (Rect.unit (s := S2880x256) ![2304, 128] S128x128.size inb_S2880x256_S128x128_2304_128).toLoadRect h)⟩,
    ⟨Rect.unit (s := S2880x256) ![2304, 0] S128x128.size inb_S2880x256_S128x128_2304_0, k0_pay83 (body_run.sl.r arg3 arg9 sg) (body_run.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) (body_run.sl.r_5 arg5 arg10 sf) (body_run.sl.r_6 arg6 arg11 bf) (body_run.sl.v134_r0 arg1 arg14 gs) (View.readAt (Elt Ideal) arg2.view (Rect.unit (s := S2880x256) ![2304, 0] S128x128.size inb_S2880x256_S128x128_2304_0).toLoadRect h)⟩]

/-- The result's array, of what the body reads. -/
abbrev xres : S2880x256.Idx → EReal :=
  xarr (arg3.view.read (Elt Ideal) sg) (arg1.view.read (Elt Ideal) gs) (Hr arg2 h) (arg5.view.read (Elt Ideal) sf) (arg6.view.read (Elt Ideal) bf) (Wr c arg4 Wf) (Gr arg0 g)

set_option maxRecDepth 8192 in
set_option maxHeartbeats 4000000 in
/-- Each of those blocks is the result's. -/
theorem tail_pieces : ∀ p ∈ tail c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0, ∀ x : p.1.shape.Idx,
    p.2 x = xres c arg0 arg1 arg2 arg3 arg4 arg5 arg6 g gs h sg Wf sf bf (p.1.emb x) := by
  unfold tail
  simp only [List.forall_mem_cons]
  refine ⟨fun x => ?_, fun x => ?_, fun x => ?_, fun x => ?_, fun x => ?_, fun x => ?_, fun x => ?_, fun x => ?_, fun x => ?_, fun x => ?_, fun p hp => absurd hp List.not_mem_nil⟩
  · have e0 := unit_row _ 2816 128 rfl inb_S2880x256_S64x128_2816_128 x
    have e1 := unit_col _ 2816 128 rfl inb_S2880x256_S64x128_2816_128 x
    unfold k0_pay107 body_run.sl.r_12 k0_pay102 body_run.sl.r_13 k0_pay103 body_run.sl.r_14 k0_pay105 body_run.sl.r_15 k0_pay106
    refine fin_at (arg3.view.read (Elt Ideal) sg) (arg1.view.read (Elt Ideal) gs) (Hr arg2 h) (arg5.view.read (Elt Ideal) sf) (arg6.view.read (Elt Ideal) bf) (Wr c arg4 Wf) (Gr arg0 g) 576 64 512 128 2304 1 rfl
      (body_run.sl.r_1 arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o512_128_S64x128 _ _ _ x _ ?_ ?_ ?_ ?_ ?_ ?_ ?_ ?_ ?_
    · decide
    · exact e0
    · exact e1
    · exact mask1 arg3 arg9 sg
    · exact fun _ => acc4 ..
    · exact srow_read arg14 _ (arg1.view.read (Elt Ideal) gs) (srow_written arg1 arg14 gs arg14.view.junk) 1 _ rfl inb_S4x2x128_S1x1x128_3_1_0
    · exact (spread_read arg10.view _ 64 (by decide) _ 2816 rfl inb_S2880_S64_2816 _ _ _ _ x _ e0).trans (sf_read arg5 arg10 sf _)
    · exact (spread_read arg11.view _ 64 (by decide) _ 2816 rfl inb_S2880_S64_2816 _ _ _ _ x _ e0).trans (bf_read arg6 arg11 bf _)
    · rfl
  · have e0 := unit_row _ 2816 0 rfl inb_S2880x256_S64x128_2816_0 x
    have e1 := unit_col _ 2816 0 rfl inb_S2880x256_S64x128_2816_0 x
    unfold k0_pay104 k0_pay102 k0_pay103
    refine fin_at (arg3.view.read (Elt Ideal) sg) (arg1.view.read (Elt Ideal) gs) (Hr arg2 h) (arg5.view.read (Elt Ideal) sf) (arg6.view.read (Elt Ideal) bf) (Wr c arg4 Wf) (Gr arg0 g) 576 64 512 0 2304 0 rfl
      (body_run.sl.r arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o512_0_S64x128 _ _ _ x _ ?_ ?_ ?_ ?_ ?_ ?_ ?_ ?_ ?_
    · decide
    · exact e0
    · exact e1
    · exact mask0 arg3 arg9 sg
    · exact fun _ => acc4 ..
    · exact srow_read arg14 _ (arg1.view.read (Elt Ideal) gs) (srow_written arg1 arg14 gs arg14.view.junk) 0 _ rfl inb_S4x2x128_S1x1x128_3_0_0
    · exact (spread_read arg10.view _ 64 (by decide) _ 2816 rfl inb_S2880_S64_2816 _ _ _ _ x _ e0).trans (sf_read arg5 arg10 sf _)
    · exact (spread_read arg11.view _ 64 (by decide) _ 2816 rfl inb_S2880_S64_2816 _ _ _ _ x _ e0).trans (bf_read arg6 arg11 bf _)
    · rfl
  · have e0 := unit_row _ 2688 128 rfl inb_S2880x256_S128x128_2688_128 x
    have e1 := unit_col _ 2688 128 rfl inb_S2880x256_S128x128_2688_128 x
    unfold k0_pay101 body_run.sl.r_11 k0_pay100 k0_pay97 k0_pay98
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 384 128 2304 1 rfl
      (body_run.sl.r_1 arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o384_128_S128x128 _ _ _ x _ ?_ ?_ ?_ ?_ ?_ ?_ ?_ ?_ ?_
    · decide
    · exact e0
    · exact e1
    · exact mask1 arg3 arg9 sg
    · exact fun _ => acc4 ..
    · exact srow_read arg14 _ (arg1.view.read (Elt Ideal) gs) (srow_written arg1 arg14 gs arg14.view.junk) 1 _ rfl inb_S4x2x128_S1x1x128_3_1_0
    · exact (spread_read arg10.view _ 128 (by decide) _ 2688 rfl inb_S2880_S128_2688 _ _ _ _ x _ e0).trans (sf_read arg5 arg10 sf _)
    · exact (spread_read arg11.view _ 128 (by decide) _ 2688 rfl inb_S2880_S128_2688 _ _ _ _ x _ e0).trans (bf_read arg6 arg11 bf _)
    · rfl
  · have e0 := unit_row _ 2688 0 rfl inb_S2880x256_S128x128_2688_0 x
    have e1 := unit_col _ 2688 0 rfl inb_S2880x256_S128x128_2688_0 x
    unfold k0_pay99 k0_pay97 k0_pay98
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 384 0 2304 0 rfl
      (body_run.sl.r arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o384_0_S128x128 _ _ _ x _ ?_ ?_ ?_ ?_ ?_ ?_ ?_ ?_ ?_
    · decide
    · exact e0
    · exact e1
    · exact mask0 arg3 arg9 sg
    · exact fun _ => acc4 ..
    · exact srow_read arg14 _ (arg1.view.read (Elt Ideal) gs) (srow_written arg1 arg14 gs arg14.view.junk) 0 _ rfl inb_S4x2x128_S1x1x128_3_0_0
    · exact (spread_read arg10.view _ 128 (by decide) _ 2688 rfl inb_S2880_S128_2688 _ _ _ _ x _ e0).trans (sf_read arg5 arg10 sf _)
    · exact (spread_read arg11.view _ 128 (by decide) _ 2688 rfl inb_S2880_S128_2688 _ _ _ _ x _ e0).trans (bf_read arg6 arg11 bf _)
    · rfl
  · have e0 := unit_row _ 2560 128 rfl inb_S2880x256_S128x128_2560_128 x
    have e1 := unit_col _ 2560 128 rfl inb_S2880x256_S128x128_2560_128 x
    unfold k0_pay96 body_run.sl.r_9 k0_pay94 k0_pay91 k0_pay92 body_run.sl.r_10 k0_pay95 body_run.sl.cst_105_r0
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 256 128 2304 1 rfl
      (body_run.sl.r_1 arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o256_128_S128x128 _ _ _ x _ ?_ ?_ ?_ ?_ ?_ ?_ ?_ ?_ ?_
    · decide
    · exact e0
    · exact e1
    · exact mask1 arg3 arg9 sg
    · exact fun _ => acc4 ..
    · exact srow_read arg14 _ (arg1.view.read (Elt Ideal) gs) (srow_written arg1 arg14 gs arg14.view.junk) 1 _ rfl inb_S4x2x128_S1x1x128_3_1_0
    · exact (spread_read arg10.view _ 128 (by decide) _ 2560 rfl inb_S2880_S128_2560 _ _ _ _ x _ e0).trans (sf_read arg5 arg10 sf _)
    · exact (spread_read arg11.view _ 128 (by decide) _ 2560 rfl inb_S2880_S128_2560 _ _ _ _ x _ e0).trans (bf_read arg6 arg11 bf _)
    · rfl
  · have e0 := unit_row _ 2560 0 rfl inb_S2880x256_S128x128_2560_0 x
    have e1 := unit_col _ 2560 0 rfl inb_S2880x256_S128x128_2560_0 x
    unfold k0_pay93 k0_pay91 k0_pay92
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 256 0 2304 0 rfl
      (body_run.sl.r arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o256_0_S128x128 _ _ _ x _ ?_ ?_ ?_ ?_ ?_ ?_ ?_ ?_ ?_
    · decide
    · exact e0
    · exact e1
    · exact mask0 arg3 arg9 sg
    · exact fun _ => acc4 ..
    · exact srow_read arg14 _ (arg1.view.read (Elt Ideal) gs) (srow_written arg1 arg14 gs arg14.view.junk) 0 _ rfl inb_S4x2x128_S1x1x128_3_0_0
    · exact (spread_read arg10.view _ 128 (by decide) _ 2560 rfl inb_S2880_S128_2560 _ _ _ _ x _ e0).trans (sf_read arg5 arg10 sf _)
    · exact (spread_read arg11.view _ 128 (by decide) _ 2560 rfl inb_S2880_S128_2560 _ _ _ _ x _ e0).trans (bf_read arg6 arg11 bf _)
    · rfl
  · have e0 := unit_row _ 2432 128 rfl inb_S2880x256_S128x128_2432_128 x
    have e1 := unit_col _ 2432 128 rfl inb_S2880x256_S128x128_2432_128 x
    unfold k0_pay90 body_run.sl.r_8 k0_pay89 k0_pay86 k0_pay87 body_run.sl.r_7 k0_pay85
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 128 128 2304 1 rfl
      (body_run.sl.r_1 arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o128_128_S128x128 _ _ _ x _ ?_ ?_ ?_ ?_ ?_ ?_ ?_ ?_ ?_
    · decide
    · exact e0
    · exact e1
    · exact mask1 arg3 arg9 sg
    · exact fun _ => acc4 ..
    · exact srow_read arg14 _ (arg1.view.read (Elt Ideal) gs) (srow_written arg1 arg14 gs arg14.view.junk) 1 _ rfl inb_S4x2x128_S1x1x128_3_1_0
    · exact (spread_read arg10.view _ 128 (by decide) _ 2432 rfl inb_S2880_S128_2432 _ _ _ _ x _ e0).trans (sf_read arg5 arg10 sf _)
    · exact (spread_read arg11.view _ 128 (by decide) _ 2432 rfl inb_S2880_S128_2432 _ _ _ _ x _ e0).trans (bf_read arg6 arg11 bf _)
    · rfl
  · have e0 := unit_row _ 2432 0 rfl inb_S2880x256_S128x128_2432_0 x
    have e1 := unit_col _ 2432 0 rfl inb_S2880x256_S128x128_2432_0 x
    unfold k0_pay88 k0_pay86 k0_pay87 body_run.sl.r_7 k0_pay85
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 128 0 2304 0 rfl
      (body_run.sl.r arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o128_0_S128x128 _ _ _ x _ ?_ ?_ ?_ ?_ ?_ ?_ ?_ ?_ ?_
    · decide
    · exact e0
    · exact e1
    · exact mask0 arg3 arg9 sg
    · exact fun _ => acc4 ..
    · exact srow_read arg14 _ (arg1.view.read (Elt Ideal) gs) (srow_written arg1 arg14 gs arg14.view.junk) 0 _ rfl inb_S4x2x128_S1x1x128_3_0_0
    · exact (spread_read arg10.view _ 128 (by decide) _ 2432 rfl inb_S2880_S128_2432 _ _ _ _ x _ e0).trans (sf_read arg5 arg10 sf _)
    · exact (spread_read arg11.view _ 128 (by decide) _ 2432 rfl inb_S2880_S128_2432 _ _ _ _ x _ e0).trans (bf_read arg6 arg11 bf _)
    · rfl
  · have e0 := unit_row _ 2304 128 rfl inb_S2880x256_S128x128_2304_128 x
    have e1 := unit_col _ 2304 128 rfl inb_S2880x256_S128x128_2304_128 x
    unfold k0_pay84 body_run.sl.r_5 k0_pay80 body_run.sl.r_6 k0_pay81 k0_pay82
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 0 128 2304 1 rfl
      (body_run.sl.r_1 arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o0_128_S128x128 _ _ _ x _ ?_ ?_ ?_ ?_ ?_ ?_ ?_ ?_ ?_
    · decide
    · exact e0
    · exact e1
    · exact mask1 arg3 arg9 sg
    · exact fun _ => acc4 ..
    · exact srow_read arg14 _ (arg1.view.read (Elt Ideal) gs) (srow_written arg1 arg14 gs arg14.view.junk) 1 _ rfl inb_S4x2x128_S1x1x128_3_1_0
    · exact (spread_read arg10.view _ 128 (by decide) _ 2304 rfl inb_S2880_S128_2304 _ _ _ _ x _ e0).trans (sf_read arg5 arg10 sf _)
    · exact (spread_read arg11.view _ 128 (by decide) _ 2304 rfl inb_S2880_S128_2304 _ _ _ _ x _ e0).trans (bf_read arg6 arg11 bf _)
    · rfl
  · have e0 := unit_row _ 2304 0 rfl inb_S2880x256_S128x128_2304_0 x
    have e1 := unit_col _ 2304 0 rfl inb_S2880x256_S128x128_2304_0 x
    unfold k0_pay83 body_run.sl.r_5 k0_pay80 body_run.sl.r_6 k0_pay81 k0_pay82
    refine fin_at (arg3.view.read (Elt Ideal) sg) (arg1.view.read (Elt Ideal) gs) (Hr arg2 h) (arg5.view.read (Elt Ideal) sf) (arg6.view.read (Elt Ideal) bf) (Wr c arg4 Wf) (Gr arg0 g) 576 128 0 0 2304 0 rfl
      (body_run.sl.r arg3 arg9 sg) (body_run.sl.r_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g Wf f0) _ _ _ _ _ _ _ _ slices_S576x256_o0_0_S128x128 _ _ _ x _ ?_ ?_ ?_ ?_ ?_ ?_ ?_ ?_ ?_
    · decide
    · exact e0
    · exact e1
    · exact mask0 arg3 arg9 sg
    · exact fun _ => acc4 ..
    · exact srow_read arg14 _ (arg1.view.read (Elt Ideal) gs) (srow_written arg1 arg14 gs arg14.view.junk) 0 _ rfl inb_S4x2x128_S1x1x128_3_0_0
    · exact (spread_read arg10.view _ 128 (by decide) _ 2304 rfl inb_S2880_S128_2304 _ _ _ _ x _ e0).trans (sf_read arg5 arg10 sf _)
    · exact (spread_read arg11.view _ 128 (by decide) _ 2304 rfl inb_S2880_S128_2304 _ _ _ _ x _ e0).trans (bf_read arg6 arg11 bf _)
    · rfl

/-- They cover the last 576 rows. -/
theorem tail_cover (z : S2880x256.Idx) (hz : 2304 ≤ (z 0).val) : ∃ p ∈ tail c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0, z ∈ p.1.set := by
  have h0 : (z 0).val < 2880 := (z 0).isLt
  have h1 : (z 1).val < 256 := (z 1).isLt
  unfold tail
  simp only [List.exists_mem_cons_iff, Rect.mem_set_unit]
  have key (M a b : ℕ) (ha : a ≤ (z 0).val) (ha' : (z 0).val < a + M) (hb : b ≤ (z 1).val) (hb' : (z 1).val < b + 128) :
      ∀ i : Fin 2, (![a, b] : Fin 2 → ℕ) i ≤ (z i).val ∧ (z i).val < (![a, b] : Fin 2 → ℕ) i + (![M, 128] : Fin 2 → ℕ) i := by
    intro i
    match i with
    | ⟨0, _⟩ => exact ⟨ha, ha'⟩
    | ⟨1, _⟩ => exact ⟨hb, hb'⟩
  by_cases c0 : 2816 ≤ (z 0).val ∧ 128 ≤ (z 1).val
  · exact Or.inl (key 64 2816 128 (by omega) (by omega) (by omega) (by omega))
  refine Or.inr ?_
  by_cases c1 : 2816 ≤ (z 0).val
  · exact Or.inl (key 64 2816 0 (by omega) (by omega) (by omega) (by omega))
  refine Or.inr ?_
  by_cases c2 : 2688 ≤ (z 0).val ∧ 128 ≤ (z 1).val
  · exact Or.inl (key 128 2688 128 (by omega) (by omega) (by omega) (by omega))
  refine Or.inr ?_
  by_cases c3 : 2688 ≤ (z 0).val
  · exact Or.inl (key 128 2688 0 (by omega) (by omega) (by omega) (by omega))
  refine Or.inr ?_
  by_cases c4 : 2560 ≤ (z 0).val ∧ 128 ≤ (z 1).val
  · exact Or.inl (key 128 2560 128 (by omega) (by omega) (by omega) (by omega))
  refine Or.inr ?_
  by_cases c5 : 2560 ≤ (z 0).val
  · exact Or.inl (key 128 2560 0 (by omega) (by omega) (by omega) (by omega))
  refine Or.inr ?_
  by_cases c6 : 2432 ≤ (z 0).val ∧ 128 ≤ (z 1).val
  · exact Or.inl (key 128 2432 128 (by omega) (by omega) (by omega) (by omega))
  refine Or.inr ?_
  by_cases c7 : 2432 ≤ (z 0).val
  · exact Or.inl (key 128 2432 0 (by omega) (by omega) (by omega) (by omega))
  refine Or.inr ?_
  by_cases c8 : 2304 ≤ (z 0).val ∧ 128 ≤ (z 1).val
  · exact Or.inl (key 128 2304 128 (by omega) (by omega) (by omega) (by omega))
  refine Or.inr ?_
  exact Or.inl (key 128 2304 0 (by omega) (by omega) (by omega) (by omega))
set_option maxRecDepth 8192 in
/-- The result's array when the last blocks have been written. -/
theorem x_read (z : S2880x256.Idx) : arg8.view.read (Elt Ideal) (arg8.view.writes (Elt Ideal)
      (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) (body_run.sl.r arg3 arg9 sg) (body_run.sl.r_1 arg3 arg9 sg) g h
        (arg10.view.writes (Elt Ideal) arg10.view.junk [⟨Rect.whole S2880, body_run.sl.dma0_1 arg5 sf⟩]) (arg11.view.writes (Elt Ideal) arg11.view.junk [⟨Rect.whole S2880, body_run.sl.dma0_2 arg6 bf⟩])
        (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (arenaOf c arg4 arg12 f0 Wf) Wf g
          (arg13.view.writes (Elt Ideal) arg13.view.junk [⟨Rect.unit ![0, 0] S2880x256.size inb_S2880x256_S2880x256_0_0, k0_pay74 (F := Ideal)⟩]) (Scf.trips k0_t2_loop.lb k0_t2_loop.ub k0_t2_loop.st))
        (arg14.view.writes (Elt Ideal) sr [⟨Rect.unit ![3, 0, 0] S1x2x128.size inb_S4x2x128_S1x2x128_3_0_0,
          k0_pay71 (F := Ideal) (View.readAt (Elt Ideal) arg1.view (Rect.unit ![0, 0] S2x128.size inb_S2x128_S2x128_0_0).toLoadRect gs)⟩])
        x8 (Scf.trips k0_t3_loop.lb k0_t3_loop.ub k0_t3_loop.st))
      (tail c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0)) z = xres c arg0 arg1 arg2 arg3 arg4 arg5 arg6 g gs h sg Wf sf bf z := by
  have ht : Scf.trips k0_t3_loop.lb k0_t3_loop.ub k0_t3_loop.st = 3 := by decide +kernel
  refine writes_agree (Val := Elt Ideal) arg8.view _ (xres c arg0 arg1 arg2 arg3 arg4 arg5 arg6 g gs h sg Wf sf bf) (tail c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0)
    (tail_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0) z ?_
  by_cases hz : 2304 ≤ (z 0).val
  · exact Or.inr (tail_cover c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf f0 z hz)
  · refine Or.inl ?_
    rw [ht]
    refine (xAt_read _ _ _ _ _ _ _ _ _ _ _ _ _ _ _ _ _ _ _ _ _ _ _ _ _ _ _ _ _ _ _ _ _ _ g h f0 Wf _ _ _ _ _ _ (arg3.view.read (Elt Ideal) sg) (arg1.view.read (Elt Ideal) gs) (mask0 arg3 arg9 sg) (mask1 arg3 arg9 sg)
      (srow_written arg1 arg14 gs sr) (fun _ => u_read ..) x8 3 (le_refl 3) z (by omega)).trans ?_
    exact congrArg₂ (fun S B => xarr (arg3.view.read (Elt Ideal) sg) (arg1.view.read (Elt Ideal) gs) (Hr arg2 h) S B (Wr c arg4 Wf) (Gr arg0 g) z)
      (funext fun q => sf_read arg5 arg10 sf q) (funext fun q => bf_read arg6 arg11 bf q)

end Tail
end Cert.KernelIdeal.Hand

end
-- ==== Proof.Out.lean ====
module

public import proofs.«01_k».proof.Proof.Tail
public import Idealize.ShloMosaic.Lib.MatmulPlain
public import Idealize.ShloMosaic.Lib.ValueIdx
public import Idealize.ShloMosaic.Lib.Pipeline.Value
public import Idealize.ShloMosaic.Lib.WritesUnit

/-!
The two outgoing copies: entry 0 of the result receives the array's first 128 columns, entry 1 the other 128.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x7680 .fp8e4m3) (harg0 : arg0.IsWhole) (arg1 : Memref sig .tc .vmem S2x128 .f32) (harg1 : arg1.IsWhole) (arg2 : Memref sig .tc .vmem S2880x256 .f32) (harg2 : arg2.IsWhole) (arg3 : Memref sig .tc .hbm S2x128 .i32) (harg3 : arg3.IsWhole) (arg4 : Memref sig .tc .hbm S2880x7680 .fp8e4m3) (harg4 : arg4.IsWhole) (arg5 : Memref sig .tc .hbm S2880 .f32) (harg5 : arg5.IsWhole) (arg6 : Memref sig .tc .hbm S2880 .f32) (harg6 : arg6.IsWhole) (arg7 : Memref sig .tc .hbm S2x2880x128 .bf16) (harg7 : arg7.IsWhole) (arg8 : Memref sig .tc .vmem S2880x256 .bf16) (harg8 : arg8.IsWhole) (arg9 : Memref sig .tc .vmem S2x128 .i32) (harg9 : arg9.IsWhole) (arg10 : Memref sig .tc .vmem S2880 .f32) (harg10 : arg10.IsWhole) (arg11 : Memref sig .tc .vmem S2880 .f32) (harg11 : arg11.IsWhole) (arg12 : Memref sig .tc .vmem S161280x256 .fp8e4m3) (harg12 : arg12.IsWhole) (arg13 : Memref sig .tc .vmem S2880x256 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## The result as the body leaves it -/

section Out

/-- An entry of the result, cut out and seen as a matrix. -/
theorem outM0_emb (r : Fin 2880) (j : Fin 128) : (outM0 arg7).view.emb (ix2 r j) = arg7.view.emb (ix3 (0 : Fin 2) r j) := by
  have e : Shape.reshapeEquiv (s := S1x2880x128) (s' := S2880x128) (by decide) (ix2 r j) = (ix3 (0 : Fin 1) r j : S1x2880x128.Idx) :=
    Shape.reshapeEquiv_eq_of_rowMajor _ (by
      rw [Shape.rowMajor_val_three, Shape.rowMajor_val_two]
      show (0 * 2880 + r.val) * 128 + j.val = r.val * 128 + j.val
      omega)
  refine (congrArg (fun z => (arg7.view.slice (Rect.unit (s := S2x2880x128) ![0, 0, 0] S1x2880x128.size inb_S2x2880x128_S1x2880x128_0_0_0)).emb z) e).trans (congrArg arg7.view.emb (funext fun i => Fin.ext ?_))
  match i with
  | ⟨0, _⟩ => rfl
  | ⟨1, _⟩ => show 0 + 1 * r.val = r.val; omega
  | ⟨2, _⟩ => show 0 + 1 * j.val = j.val; omega

theorem outM1_emb (r : Fin 2880) (j : Fin 128) : (outM1 arg7).view.emb (ix2 r j) = arg7.view.emb (ix3 (1 : Fin 2) r j) := by
  have e : Shape.reshapeEquiv (s := S1x2880x128) (s' := S2880x128) (by decide) (ix2 r j) = (ix3 (0 : Fin 1) r j : S1x2880x128.Idx) :=
    Shape.reshapeEquiv_eq_of_rowMajor _ (by
      rw [Shape.rowMajor_val_three, Shape.rowMajor_val_two]
      show (0 * 2880 + r.val) * 128 + j.val = r.val * 128 + j.val
      omega)
  refine (congrArg (fun z => (arg7.view.slice (Rect.unit (s := S2x2880x128) ![1, 0, 0] S1x2880x128.size inb_S2x2880x128_S1x2880x128_1_0_0)).emb z) e).trans (congrArg arg7.view.emb (funext fun i => Fin.ext ?_))
  match i with
  | ⟨0, _⟩ => rfl
  | ⟨1, _⟩ => show 0 + 1 * r.val = r.val; omega
  | ⟨2, _⟩ => show 0 + 1 * j.val = j.val; omega

/-- The two entries written, read back. -/
theorem out_read (y : BufTy.Contents (Elt Ideal) arg7.view.ty) (A B : S2880x128.Idx → Elt Ideal .bf16) (r : Fin 2880) (j : Fin 128) :
    arg7.view.read (Elt Ideal) ((outM1 arg7).view.write (Elt Ideal) ((outM0 arg7).view.write (Elt Ideal) y A Finset.univ) B Finset.univ) (ix3 (0 : Fin 2) r j) = A (ix2 r j)
    ∧ arg7.view.read (Elt Ideal) ((outM1 arg7).view.write (Elt Ideal) ((outM0 arg7).view.write (Elt Ideal) y A Finset.univ) B Finset.univ) (ix3 (1 : Fin 2) r j) = B (ix2 r j) := by
  constructor
  · refine Eq.trans ?_ (congrFun (View.read_write_univ (v := (outM0 arg7).view) (Val := Elt Ideal) y A) (ix2 r j))
    rw [View.read_apply, View.read_apply]
    refine congrArg (_root_.cast _) (?_ : _ = _)
    rw [outM0_emb]
    refine View.write_of_not_mem (v := (outM1 arg7).view) _ B Finset.univ (fun hm => ?_)
    rw [View.setOn_univ] at hm
    exact Finset.disjoint_left.mp (out_disjoint arg7) (outM0_emb arg7 r j ▸ View.emb_mem_set (outM0 arg7).view (ix2 r j)) hm
  · refine Eq.trans ?_ (congrFun (View.read_write_univ (v := (outM1 arg7).view) (Val := Elt Ideal) ((outM0 arg7).view.write (Elt Ideal) y A Finset.univ) B) (ix2 r j))
    rw [View.read_apply, View.read_apply]
    refine congrArg (_root_.cast _) (?_ : _ = _)
    rw [outM1_emb]

variable (g : BufTy.Contents (Elt Ideal) arg0.view.ty) (gs : BufTy.Contents (Elt Ideal) arg1.view.ty) (h : BufTy.Contents (Elt Ideal) arg2.view.ty)
  (sg : BufTy.Contents (Elt Ideal) arg3.view.ty) (Wf : Buf (Elt Ideal) (arg4.view.loc (c : Thread nD τ))) (sf : BufTy.Contents (Elt Ideal) arg5.view.ty) (bf : BufTy.Contents (Elt Ideal) arg6.view.ty)
  (y : BufTy.Contents (Elt Ideal) arg7.view.ty) (x8 : BufTy.Contents (Elt Ideal) arg8.view.ty) (x9 : BufTy.Contents (Elt Ideal) arg9.view.ty) (x10 : BufTy.Contents (Elt Ideal) arg10.view.ty)
  (x11 : BufTy.Contents (Elt Ideal) arg11.view.ty) (f0 : Buf (Elt Ideal) (arg12.view.loc (c : Thread nD τ))) (u : BufTy.Contents (Elt Ideal) arg13.view.ty) (sr : BufTy.Contents (Elt Ideal) arg14.view.ty)

set_option maxRecDepth 8192 in
/-- What the body leaves in the result: both halves of the columns, an entry each. -/
theorem body_read (r : Fin 2880) (j : Fin 128) :
    arg7.view.read (Elt Ideal) (body_run (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf y x8 x9 x10 x11 f0 u sr).1 (ix3 (0 : Fin 2) r j)
        = xres c arg0 arg1 arg2 arg3 arg4 arg5 arg6 g gs h sg Wf sf bf (ix2 r (⟨j.val, by omega⟩ : Fin 256))
    ∧ arg7.view.read (Elt Ideal) (body_run (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf y x8 x9 x10 x11 f0 u sr).1 (ix3 (1 : Fin 2) r j)
        = xres c arg0 arg1 arg2 arg3 arg4 arg5 arg6 g gs h sg Wf sf bf (ix2 r (⟨128 + j.val, by omega⟩ : Fin 256)) := by
  have X := x_read c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g gs h sg Wf sf bf x8 f0 sr
  unfold body_run
  dsimp only
  unfold body_run.sl.dma63 body_run.sl.dma63_1 body_run.sl.H8_10
  refine ⟨(out_read arg7 y _ _ r j).1.trans (Eq.trans ?_ (X _)), (out_read arg7 y _ _ r j).2.trans (Eq.trans ?_ (X _))⟩
  · refine congrArg (arg8.view.read (Elt Ideal) _) (funext fun i => Fin.ext ?_)
    match i with
    | ⟨0, _⟩ => show 0 + 1 * r.val = r.val; omega
    | ⟨1, _⟩ => show 0 + 1 * j.val = j.val; omega
  · refine congrArg (arg8.view.read (Elt Ideal) _) (funext fun i => Fin.ext ?_)
    match i with
    | ⟨0, _⟩ => show 0 + 1 * r.val = r.val; omega
    | ⟨1, _⟩ => show 128 + 1 * j.val = 128 + j.val; omega

end Out

end Cert.KernelIdeal.Hand

end
-- ==== Proof.RefValue.lean ====
/-
  Hand-written. The reference's run with its value: the result at a row, a sequence and a token is the token's codes
  against the weight's column, scaled, plus the bias and the residual, where the token is not padding.
-/
module

public import proofs.«01_k».proof.Defs
public import proofs.«01_k».proof.Proof.Gen.ReferenceIdeal.Frame
public import Idealize.ShloMosaic.Lib.Pipeline.Value
public import Idealize.ShloMosaic.Lib.ValueIdx
public import Idealize.ShloMosaic.Lib.Pipeline.CanonAppend
public import Idealize.ShloMosaic.Lib.Pipeline.ValueKit.Tiles
public import Idealize.ShloMosaic.Lib.MatmulPlain
public import Idealize.ShloMosaic.Lib.Affine

@[expose] public section

noncomputable section

namespace Cert.ReferenceIdeal.Hand

open Idealize.ShloMosaic Idealize.SL.Sem Cert.ReferenceIdeal
open Cert.ReferenceIdeal.Gen Idealize.ShloMosaic.TcCoe Idealize.ShloMosaic.ValueIdx
open Idealize.ShloMosaic.Pipeline (Dat Cfg Window)

/-- The second projection of the feed-forward block, its residual and its mask, at an index. -/
def ff2 (g : S2x128x7680.Idx → EReal) (gs : S2x128.Idx → EReal) (h : S2x128x2880.Idx → EReal) (sg : S2x128.Idx → BitVec 32)
    (w : S7680x2880.Idx → EReal) (s b : S2880.Idx → EReal) (i : Fin 2) (r : Fin 2880) (j : Fin 128) : EReal :=
  Scalar.select (IntOp.cmpi .ne (sg (ix2 i j)) 3#32)
    (h (ix3 i j r) + ((∑ e : Fin 7680, g (ix3 i j e) * w (ix2 e r)) * gs (ix2 i j) * s (ix1 r) + b (ix1 r))) 0

/-- The same as an array. -/
def ff2Arr (g : S2x128x7680.Idx → EReal) (gs : S2x128.Idx → EReal) (h : S2x128x2880.Idx → EReal) (sg : S2x128.Idx → BitVec 32)
    (w : S7680x2880.Idx → EReal) (s b : S2880.Idx → EReal) : S2x2880x128.Idx → EReal := fun y => ff2 g gs h sg w s b (y 0) (y 1) (y 2)

/-! ## The payload at an index -/

/-- A row of one value a token, along the rows. -/
theorem down_apply {α : Type} (v : S1x128.Idx → α) (j : Fin 128) (r : Fin 2880) :
    broadcastTo S128x2880 (shapeCast S128x1 (shapeCast S128 v shapeCasts_S1x128_S128) shapeCasts_S128_S128x1) broadcasts_S128x1_S128x2880 (ix2 j r) = v (ix2 (0 : Fin 1) j) := by
  rw [broadcastTo_apply _ broadcasts_S128x1_S128x2880 (ix2 j r) (ix2 j (0 : Fin 1)) (fun a => match a with
      | ⟨0, _⟩ => rfl
      | ⟨1, _⟩ => rfl),
    shapeCast_apply _ shapeCasts_S128_S128x1 (ix2 j (0 : Fin 1)) (ix1 j) (by
      rw [Shape.rowMajor_val_one, Shape.rowMajor_val_two]; show j.val = j.val * 1 + 0; omega)]
  exact shapeCast_apply v shapeCasts_S1x128_S128 (ix1 j) (ix2 (0 : Fin 1) j) (by
      rw [Shape.rowMajor_val_one, Shape.rowMajor_val_two]; show 0 * 128 + j.val = j.val; omega)

/-- A row of one value a feature, along the columns. -/
theorem across_apply {α : Type} (v : S2880.Idx → α) (j : Fin 128) (r : Fin 2880) :
    broadcastTo S128x2880 (shapeCast S1x2880 v shapeCasts_S2880_S1x2880) broadcasts_S1x2880_S128x2880 (ix2 j r) = v (ix1 r) := by
  rw [broadcastTo_apply _ broadcasts_S1x2880_S128x2880 (ix2 j r) (ix2 (0 : Fin 1) r) (fun a => match a with
      | ⟨0, _⟩ => rfl
      | ⟨1, _⟩ => rfl)]
  exact shapeCast_apply v shapeCasts_S2880_S1x2880 (ix2 (0 : Fin 1) r) (ix1 r) (by
      rw [Shape.rowMajor_val_one, Shape.rowMajor_val_two]; show r.val = 0 * 2880 + r.val; omega)

/-- The product at an index. -/
theorem dot_apply (v1 : FVec Ideal S128x7680 .fp8e4m3) (v2 : FVec Ideal S7680x2880 .fp8e4m3) (j : Fin 128) (r : Fin 2880) :
    matmul dot_S128x7680_S7680x2880_S128x2880_1_0_0_1_n_n none v1 v2 (constant (F := Ideal) S128x2880 .f32 0x00000000#32) (ix2 j r) = ∑ e : Fin 7680, v1 (ix2 j e) * v2 (ix2 e r) := by
  refine (Ideal.matmul_plain_apply none v1 v2 _ j r).trans ?_
  rw [constant_apply, Ideal.ofBits_zero_f32, zero_add]

theorem pay2_apply (v0 : Vec Ideal S1x128x7680 .fp8e4m3) (v2 : Vec Ideal S7680x2880 .fp8e4m3) (v4 : Vec Ideal S1x128x2880 .f32) (v6 : Vec Ideal S1x128 .f32)
    (v11 v15 : Vec Ideal S2880 .f32) (v20 : Vec Ideal S1x128 .i32) (z : Fin 1) (r : Fin 2880) (j : Fin 128) :
    k0_pay2 (F := Ideal) v0 v2 v4 v6 v11 v15 v20 (ix3 z r j)
      = Scalar.select (IntOp.cmpi .ne (v20 (ix2 (0 : Fin 1) j)) 3#32)
        (v4 (ix3 (0 : Fin 1) j r) + ((∑ e : Fin 7680, v0 (ix3 (0 : Fin 1) j e) * v2 (ix2 e r)) * v6 (ix2 (0 : Fin 1) j) * v11 (ix1 r) + v15 (ix1 r))) (0 : EReal) := by
  have hz : z.val < 1 := z.isLt
  unfold k0_pay2
  rw [shapeCast_apply _ shapeCasts_S2880x128_S1x2880x128 (ix3 z r j) (ix2 r j) (by
      rw [Shape.rowMajor_val_three, Shape.rowMajor_val_two]; show r.val * 128 + j.val = (z.val * 2880 + r.val) * 128 + j.val; omega),
    transpose_apply [1, 0] _ transposes_S128x2880_p1_0_S2880x128 (ix2 r j) (ix2 j r) (fun b => match b with | ⟨0, _⟩ => rfl | ⟨1, _⟩ => rfl),
    truncf_apply, select_apply, addf_apply, addf_apply, mulf_apply, mulf_apply, dot_apply, across_apply, across_apply, down_apply, shapeCast_self]
  have hh : shapeCast S128x2880 v4 shapeCasts_S1x128x2880_S128x2880 (ix2 j r) = v4 (ix3 (0 : Fin 1) j r) :=
    shapeCast_apply _ shapeCasts_S1x128x2880_S128x2880 (ix2 j r) (ix3 (0 : Fin 1) j r) (by
      rw [Shape.rowMajor_val_three, Shape.rowMajor_val_two]; show (0 * 128 + j.val) * 2880 + r.val = j.val * 2880 + r.val; omega)
  have hg : ∀ e : Fin 7680, shapeCast S128x7680 v0 shapeCasts_S1x128x7680_S128x7680 (ix2 j e) = v0 (ix3 (0 : Fin 1) j e) := fun e =>
    shapeCast_apply _ shapeCasts_S1x128x7680_S128x7680 (ix2 j e) (ix3 (0 : Fin 1) j e) (by
      rw [Shape.rowMajor_val_three, Shape.rowMajor_val_two]; show (0 * 128 + j.val) * 7680 + e.val = j.val * 7680 + e.val; omega)
  have hm : broadcastTo S128x2880 (shapeCast S128x1 (cmpi .ne (shapeCast S128 v20 shapeCasts_S1x128_S128) (broadcast S128 3#32)) shapeCasts_S128_S128x1) broadcasts_S128x1_S128x2880 (ix2 j r)
      = IntOp.cmpi .ne (v20 (ix2 (0 : Fin 1) j)) 3#32 := by
    rw [broadcastTo_apply _ broadcasts_S128x1_S128x2880 (ix2 j r) (ix2 j (0 : Fin 1)) (fun a => match a with
      | ⟨0, _⟩ => rfl
      | ⟨1, _⟩ => rfl),
    shapeCast_apply _ shapeCasts_S128_S128x1 (ix2 j (0 : Fin 1)) (ix1 j) (by
      rw [Shape.rowMajor_val_one, Shape.rowMajor_val_two]; show j.val = j.val * 1 + 0; omega)]
    exact congrArg (fun t => IntOp.cmpi .ne t 3#32) (shapeCast_apply v20 shapeCasts_S1x128_S128 (ix1 j) (ix2 (0 : Fin 1) j) (by
      rw [Shape.rowMajor_val_one, Shape.rowMajor_val_two]; show 0 * 128 + j.val = j.val; omega))
  rw [hh, hm]
  simp only [hg]
  exact congrArg (Scalar.select _ _) Ideal.ofBits_zero_f32

/-- Two entries stored, read back. -/
theorem canon_two (G : S2x2880x128.Idx → Elt Ideal .bf16) (p0 p1 : Vec Ideal S1x2880x128 .bf16)
    (h0 : ∀ r j, p0 (ix3 (0 : Fin 1) r j) = G (ix3 (1 : Fin 2) r j)) (h1 : ∀ r j, p1 (ix3 (0 : Fin 1) r j) = G (ix3 (0 : Fin 2) r j)) :
    View.canon (Val := Elt Ideal) ([⟨r0_9, p0⟩, ⟨r0_5, p1⟩] : List (View.Piece (Elt Ideal) S2x2880x128 .bf16)) = G := by
  funext y
  refine (congrFun (congrArg View.canon (List.append_nil _).symm) y).trans
    (View.canon_append_of_pieces (Val := Elt Ideal) G [] ([⟨r0_9, p0⟩, ⟨r0_5, p1⟩] : List (View.Piece (Elt Ideal) S2x2880x128 .bf16)) ?_ y (cover0_7 p0 p1 y))
  simp only [List.forall_mem_cons]
  refine ⟨fun x => ?_, fun x => ?_, fun p hp => absurd hp List.not_mem_nil⟩
  · obtain ⟨z, r, j, rfl⟩ : ∃ (z : Fin 1) (r : Fin 2880) (j : Fin 128), x = ix3 z r j := ⟨x 0, x 1, x 2, eq_ix3 x⟩
    obtain rfl : z = 0 := Subsingleton.elim _ _
    refine (h0 r j).trans (congrArg G (funext fun a => Fin.ext ?_))
    match a with
    | ⟨0, _⟩ => rfl
    | ⟨1, _⟩ => show r.val = 0 + 1 * r.val; omega
    | ⟨2, _⟩ => show j.val = 0 + 1 * j.val; omega
  · obtain ⟨z, r, j, rfl⟩ : ∃ (z : Fin 1) (r : Fin 2880) (j : Fin 128), x = ix3 z r j := ⟨x 0, x 1, x 2, eq_ix3 x⟩
    obtain rfl : z = 0 := Subsingleton.elim _ _
    refine (h1 r j).trans (congrArg G (funext fun a => Fin.ext ?_))
    match a with
    | ⟨0, _⟩ => rfl
    | ⟨1, _⟩ => show r.val = 0 + 1 * r.val; omega
    | ⟨2, _⟩ => show j.val = 0 + 1 * j.val; omega

/-- One entry of a stack of two. -/
theorem ld3 {e : EltTy} {A B : ℕ} (X : (⟨3, ![2, A, B]⟩ : Shape).Idx → Elt Ideal e) (i : Fin 2) (inb) (a : Fin A) (b : Fin B) :
    View.ld X (Rect.unit (s := ⟨3, ![2, A, B]⟩) ![i.val, 0, 0] ![1, A, B] inb) (ix3 (0 : Fin 1) a b) = X (ix3 i a b) :=
  View.ld_unit_apply_of X _ _ inb _ _ (fun k => match k with
    | ⟨0, _⟩ => by show i.val = i.val + 0; omega
    | ⟨1, _⟩ => by show a.val = 0 + a.val; omega
    | ⟨2, _⟩ => by show b.val = 0 + b.val; omega)

/-- One row of two. -/
theorem ld2 {e : EltTy} (X : S2x128.Idx → Elt Ideal e) (i : Fin 2) (inb) (b : Fin 128) :
    View.ld X (Rect.unit (s := S2x128) ![i.val, 0] ![1, 128] inb) (ix2 (0 : Fin 1) b) = X (ix2 i b) :=
  View.ld_unit_apply_of X _ _ inb _ _ (fun k => match k with
    | ⟨0, _⟩ => by show i.val = i.val + 0; omega
    | ⟨1, _⟩ => by show b.val = 0 + b.val; omega)

/-- The value of one entry's payload. -/
theorem pay_eq (x0 : Vec Ideal S2x128x7680 .fp8e4m3) (x1 : Vec Ideal S2x128 .f32) (x2 : Vec Ideal S2x128x2880 .f32) (x3 : Vec Ideal S2x128 .i32)
    (x4 : Vec Ideal S7680x2880 .fp8e4m3) (x5 x6 : Vec Ideal S2880 .f32) (i : Fin 2) (ia ib ic id) (r : Fin 2880) (j : Fin 128) :
    k0_pay2 (F := Ideal) (View.ld x0 (Rect.unit (s := S2x128x7680) ![i.val, 0, 0] ![1, 128, 7680] ia)) x4 (View.ld x2 (Rect.unit (s := S2x128x2880) ![i.val, 0, 0] ![1, 128, 2880] ib))
      (View.ld x1 (Rect.unit (s := S2x128) ![i.val, 0] ![1, 128] ic)) x5 x6 (View.ld x3 (Rect.unit (s := S2x128) ![i.val, 0] ![1, 128] id)) (ix3 (0 : Fin 1) r j)
      = ff2Arr x0 x1 x2 x3 x4 x5 x6 (ix3 i r j) := by
  refine (pay2_apply _ _ _ _ _ _ _ 0 r j).trans ?_
  have e : ∀ e : Fin 7680, View.ld x0 (Rect.unit (s := S2x128x7680) ![i.val, 0, 0] ![1, 128, 7680] ia) (ix3 (0 : Fin 1) j e) = x0 (ix3 i j e) := fun e => ld3 (A := 128) (B := 7680) x0 i ia j e
  have eh := ld3 (A := 128) (B := 2880) x2 i ib j r
  rw [ld2, ld2]
  simp only [e, eh]
  rfl

/-- What the body leaves in the result's buffer. -/
theorem out_eq (x0 : Vec Ideal S2x128x7680 .fp8e4m3) (x1 : Vec Ideal S2x128 .f32) (x2 : Vec Ideal S2x128x2880 .f32) (x3 : Vec Ideal S2x128 .i32)
    (x4 : Vec Ideal S7680x2880 .fp8e4m3) (x5 x6 : Vec Ideal S2880 .f32) : out0_7 (F := Ideal) x0 x1 x2 x3 x4 x5 x6 = ff2Arr x0 x1 x2 x3 x4 x5 x6 := by
  have hw : View.ld x4 r0_1 = x4 := View.ld_unit_zero (funext fun a => by fin_cases a <;> rfl) _ _
  have hs : ∀ x : Vec Ideal S2880 .f32, View.ld x r0_4 = x := fun x => View.ld_unit_zero (funext fun a => by fin_cases a; rfl) _ _
  unfold out0_7
  rw [hw, hs, hs]
  exact canon_two _ _ _ (fun r j => pay_eq x0 x1 x2 x3 x4 x5 x6 1 _ _ _ _ r j) (fun r j => pay_eq x0 x1 x2 x3 x4 x5 x6 0 _ _ _ _ r j)

/-! ## The run -/

variable (m : (ℓ : Loc nD τ sig) → Buf (Elt Ideal) ℓ) (ρ : Dev nD → PrngReg)

/-- The one grid point. -/
def t₀ : Fin cfg0.N := ⟨0, by decide⟩

/-- The result after the run, read through its one block, is what was written back. -/
theorem final_out (c : Dev nD) : ((cfg0.win (7 : Fin 8)).blk t₀).view.read (Elt Ideal) ((dats m 0 c).arrAt (7 : Fin 8) cfg0.N) = (dats m 0 c).flushed (7 : Fin 8) t₀ := by
  rw [show cfg0.N = (t₀ : Fin cfg0.N).val + 1 from rfl, (dats m 0 c).arrAt_succ (7 : Fin 8) t₀]
  rw [show (cfg0.win (7 : Fin 8)).flush t₀ = true from by decide, if_pos rfl]
  exact View.read_write_univ _ _

/-- The result after the run. -/
theorem final_value (c : Dev nD) : (dats m 0 c).arrAt (7 : Fin 8) cfg0.N
    = ff2Arr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  have ho := final_out m c
  have hz0 : (fun a => (win0_0.index t₀) a * main_arg0.ty.shape.size a) = fun _ => 0 :=
    funext fun a => by fin_cases a <;> decide
  have hr0 := fun f => Memref.read_access_unit_zero (Elt Ideal) main_arg0 hz0 (fun a => by fin_cases a <;> decide) f
  have hz1 : (fun a => (win0_1.index t₀) a * main_arg1.ty.shape.size a) = fun _ => 0 :=
    funext fun a => by fin_cases a <;> decide
  have hr1 := fun f => Memref.read_access_unit_zero (Elt Ideal) main_arg1 hz1 (fun a => by fin_cases a <;> decide) f
  have hz2 : (fun a => (win0_2.index t₀) a * main_arg2.ty.shape.size a) = fun _ => 0 :=
    funext fun a => by fin_cases a <;> decide
  have hr2 := fun f => Memref.read_access_unit_zero (Elt Ideal) main_arg2 hz2 (fun a => by fin_cases a <;> decide) f
  have hz3 : (fun a => (win0_3.index t₀) a * main_arg3.ty.shape.size a) = fun _ => 0 :=
    funext fun a => by fin_cases a <;> decide
  have hr3 := fun f => Memref.read_access_unit_zero (Elt Ideal) main_arg3 hz3 (fun a => by fin_cases a <;> decide) f
  have hz4 : (fun a => (win0_4.index t₀) a * main_arg4.ty.shape.size a) = fun _ => 0 :=
    funext fun a => by fin_cases a <;> decide
  have hr4 := fun f => Memref.read_access_unit_zero (Elt Ideal) main_arg4 hz4 (fun a => by fin_cases a <;> decide) f
  have hz5 : (fun a => (win0_5.index t₀) a * main_arg5.ty.shape.size a) = fun _ => 0 :=
    funext fun a => by fin_cases a <;> decide
  have hr5 := fun f => Memref.read_access_unit_zero (Elt Ideal) main_arg5 hz5 (fun a => by fin_cases a <;> decide) f
  have hz6 : (fun a => (win0_6.index t₀) a * main_arg6.ty.shape.size a) = fun _ => 0 :=
    funext fun a => by fin_cases a <;> decide
  have hr6 := fun f => Memref.read_access_unit_zero (Elt Ideal) main_arg6 hz6 (fun a => by fin_cases a <;> decide) f
  have hz7 : (fun a => (win0_7.index t₀) a * main_v0.ty.shape.size a) = fun _ => 0 :=
    funext fun a => by fin_cases a <;> decide
  have hr7 := fun f => Memref.read_access_unit_zero (Elt Ideal) main_v0 hz7 (fun a => by fin_cases a <;> decide) f
  rw [hr7] at ho
  rw [ho]
  show (cfg0.win (7 : Fin 8)).cut _ ((dats m 0 c).after 7 t₀) = _
  rw [after0_7, out_eq]
  unfold iblk
  rw [hr0, hr1, hr2, hr3, hr4, hr5, hr6]
  rfl

/-- The run: the result holds the value, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0)
      = ff2Arr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run defs _ _).mono (fun r h c => ?_) (run_main (F := Ideal) m ρ)
  exact ⟨((h c).1 7).trans (final_value m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩

end Cert.ReferenceIdeal.Hand

end
-- ==== Proof.Algebraic.lean ====
module

public import proofs.«01_k».proof.Defs
public import proofs.«01_k».proof.Proof.Out
public import proofs.«01_k».proof.Proof.LaunchIdeal
public import proofs.«01_k».proof.Proof.RefValue

/-!
The kernel's result and the reference's are one array: a sum over 7680 columns, taken by the kernel in five groups of
six panels of 256 columns and by the reference at once.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx

/-! ## The sum -/

/-- A sum over `30 * 256` numbers, by panels. -/
theorem sum_panels (f : ℕ → EReal) : ∑ e : Fin 7680, f e.val = ∑ n : Fin 30, ∑ k : Fin 256, f (256 * n.val + k.val) := by
  rw [← Fintype.sum_prod_type']
  refine (Fintype.sum_equiv (finProdFinEquiv (m := 30) (n := 256)) _ _ fun p => ?_).symm
  show f (256 * p.1.val + p.2.val) = f (p.2.val + 256 * p.1.val)
  rw [add_comm]

/-- The five groups of six panels are the whole sum. -/
theorem groups_eq (W : S2880x7680.Idx → EReal) (G : S256x7680.Idx → EReal) (r t : ℕ) :
    groups W G r t 5 = ∑ e : Fin 7680, nat2 W r e.val * nat2 G t e.val := by
  rw [sum_panels (fun e => nat2 W r e * nat2 G t e)]
  show groups W G r t 5 = ∑ n : Fin 30, part W G n.val r t
  rw [Fin.sum_univ_eq_sum_range (fun n => part W G n r t) 30]
  simp only [groups, six, Finset.sum_range_succ, Finset.sum_range_zero, zero_add, add_assoc, Nat.reduceMul, Nat.reduceAdd, Nat.mul_zero, Nat.mul_one]

/-! ## The arrays the launch finds -/

variable (m : (ℓ : Loc nD τ sig) → Buf (Elt Ideal) ℓ)

theorem V_main_v0 (c : Dev nD) : V m c main_v0 = shapeCast S256x7680 (m ((c : Thread nD τ).loc main_arg0) : Vec Ideal S2x128x7680 .fp8e4m3) shapeCasts_S2x128x7680_S256x7680 := by
  show StableHlo.after hostOps0 _ (Proc.devRef .tc main_v0) = _
  after_results
  rfl

theorem V_main_v2 (c : Dev nD) : V m c main_v2 = transpose S2880x256 [1, 0] (shapeCast S256x2880 (m ((c : Thread nD τ).loc main_arg2) : Vec Ideal S2x128x2880 .f32) shapeCasts_S2x128x2880_S256x2880) transposes_S256x2880_S2880x256_1_0 := by
  show StableHlo.after hostOps0 _ (Proc.devRef .tc main_v2) = _
  after_results
  rfl

theorem V_main_v3 (c : Dev nD) : V m c main_v3 = transpose S2880x7680 [1, 0] (m ((c : Thread nD τ).loc main_arg4) : Vec Ideal S7680x2880 .fp8e4m3) transposes_S7680x2880_S2880x7680_1_0 := by
  show StableHlo.after hostOps0 _ (Proc.devRef .tc main_v3) = _
  after_results

/-- The staged tokens: entry `b`'s token `j` is row `128 * b + j`. -/
theorem blk0_apply (c : Dev nD) (b : Fin 2) (j : Fin 128) (e : Fin 7680) (t : Fin 256) (ht : t.val = 128 * b.val + j.val) :
    blk0 m c (ix2 t e) = (m ((c : Thread nD τ).loc main_arg0) : Vec Ideal S2x128x7680 .fp8e4m3) (ix3 b j e) := by
  have hz : (fun a => (win0_0.index t0_0) a * main_v0.ty.shape.size a) = fun _ => 0 := funext fun a => by fin_cases a <;> decide
  refine (congrFun (Memref.read_access_unit_zero (Elt Ideal) main_v0 hz (fun a => by fin_cases a <;> decide) (V m c main_v0)) (ix2 t e)).trans ?_
  rw [V_main_v0]
  exact shapeCast_apply _ shapeCasts_S2x128x7680_S256x7680 (ix2 t e) (ix3 b j e) (by
    rw [Shape.rowMajor_val_three, Shape.rowMajor_val_two]; show (b.val * 128 + j.val) * 7680 + e.val = t.val * 7680 + e.val; omega)

/-- The staged scales are the argument's. -/
theorem blk1_eq (c : Dev nD) : blk1 m c = (m ((c : Thread nD τ).loc main_arg1) : Vec Ideal S2x128 .f32) := by
  have hz : (fun a => (win0_1.index t0_0) a * main_arg1.ty.shape.size a) = fun _ => 0 := funext fun a => by fin_cases a <;> decide
  exact (Memref.read_access_unit_zero (Elt Ideal) main_arg1 hz (fun a => by fin_cases a <;> decide) (V m c main_arg1)).trans (V_main_arg1 m c)

/-- The staged residual, transposed. -/
theorem blk2_apply (c : Dev nD) (b : Fin 2) (j : Fin 128) (r : Fin 2880) (t : Fin 256) (ht : t.val = 128 * b.val + j.val) :
    blk2 m c (ix2 r t) = (m ((c : Thread nD τ).loc main_arg2) : Vec Ideal S2x128x2880 .f32) (ix3 b j r) := by
  have hz : (fun a => (win0_2.index t0_0) a * main_v2.ty.shape.size a) = fun _ => 0 := funext fun a => by fin_cases a <;> decide
  refine (congrFun (Memref.read_access_unit_zero (Elt Ideal) main_v2 hz (fun a => by fin_cases a <;> decide) (V m c main_v2)) (ix2 r t)).trans ?_
  rw [V_main_v2, transpose_apply [1, 0] _ transposes_S256x2880_S2880x256_1_0 (ix2 r t) (ix2 t r) (fun b => match b with | ⟨0, _⟩ => rfl | ⟨1, _⟩ => rfl)]
  exact shapeCast_apply _ shapeCasts_S2x128x2880_S256x2880 (ix2 t r) (ix3 b j r) (by
    rw [Shape.rowMajor_val_three, Shape.rowMajor_val_two]; show (b.val * 128 + j.val) * 2880 + r.val = t.val * 2880 + r.val; omega)

/-- The weight, transposed. -/
theorem weight_apply (c : Dev nD) (r : Fin 2880) (e : Fin 7680) :
    (V m c main_v3 : Vec Ideal S2880x7680 .fp8e4m3) (ix2 r e) = (m ((c : Thread nD τ).loc main_arg4) : Vec Ideal S7680x2880 .fp8e4m3) (ix2 e r) := by
  rw [V_main_v3]
  exact transpose_apply [1, 0] _ transposes_S7680x2880_S2880x7680_1_0 (ix2 r e) (ix2 e r) (fun b => match b with | ⟨0, _⟩ => rfl | ⟨1, _⟩ => rfl)

/-! ## The result -/

/-- The array that both programs leave. -/
abbrev Y (c : Dev nD) : S2x2880x128.Idx → EReal :=
  Cert.ReferenceIdeal.Hand.ff2Arr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem nat2_lt {a b : ℕ} (f : (⟨2, ![a, b]⟩ : Shape).Idx → EReal) (i : Fin a) (j : Fin b) : nat2 f i.val j.val = f (ix2 i j) :=
  (nat2_idx f (ix2 i j) _ _ rfl rfl).symm

/-- The tokens and the weight as given. -/
abbrev A0 (c : Dev nD) : S2x128x7680.Idx → EReal := m ((c : Thread nD τ).loc main_arg0)
abbrev A4 (c : Dev nD) : S7680x2880.Idx → EReal := m ((c : Thread nD τ).loc main_arg4)

theorem sum_eq (c : Dev nD) (b : Fin 2) (r : Fin 2880) (j : Fin 128) (t : Fin 256) (ht : t.val = 128 * b.val + j.val) :
    groups (V m c main_v3) (blk0 m c) r.val t.val 5 = ∑ e : Fin 7680, A0 m c (ix3 b j e) * A4 m c (ix2 e r) := by
  rw [groups_eq]
  refine Finset.sum_congr rfl fun e _ => ?_
  rw [nat2_lt, nat2_lt, blk0_apply m c b j e t ht, weight_apply]
  exact mul_comm _ _

/-- The value at row `r` and column `t`, which is entry `b`'s token `j`. -/
theorem xarr_eq (c : Dev nD) (b : Fin 2) (r : Fin 2880) (j : Fin 128) (t : Fin 256) (ht : t.val = 128 * b.val + j.val) :
    xarr (V m c main_arg3) (blk1 m c) (blk2 m c) (V m c main_arg5) (V m c main_arg6) (V m c main_v3) (blk0 m c) (ix2 r t) = Y m c (ix3 b r j) := by
  have hb : colB (ix2 r t) = b := Fin.ext (by show t.val / 128 = b.val; have := j.isLt; omega)
  have hj : colJ (ix2 r t) = j := Fin.ext (by show t.val % 128 = j.val; have := j.isLt; omega)
  unfold xarr xval fval
  rw [hb, hj, blk1_eq, blk2_apply m c b j r t ht, V_main_arg3, V_main_arg5, V_main_arg6]
  have hs := sum_eq m c b r j t ht
  change Scalar.select _ (_ + (groups (V m c main_v3) (blk0 m c) r.val t.val 5 * _ * _ + _)) _ = _
  rw [hs]
  unfold Y Cert.ReferenceIdeal.Hand.ff2Arr Cert.ReferenceIdeal.Hand.ff2
  with_reducible rfl

/-- Whatever the scratch held, the body leaves this array. -/
theorem left_eq (c : Dev nD) (W : (b : Ref sig .tc) → Buf (Elt Ideal) ((c : Thread nD τ).loc b)) (h : left m c W) : W main_v4 = Y m c := by
  obtain ⟨x, x9, x10, x11, f0, u, sr, hW⟩ := h
  rw [hW]
  funext y
  obtain ⟨b, r, j, rfl⟩ : ∃ (b : Fin 2) (r : Fin 2880) (j : Fin 128), y = ix3 b r j := ⟨y 0, y 1, y 2, eq_ix3 y⟩
  have hr := fun h0 h1 h2 h3 h4 h5 h6 h7 h8 h9 h10 h11 h12 h13 h14 => body_read c (Memref.whole cc0_stg0_0) h0 (Memref.whole cc0_stg1_0) h1
    (Memref.whole cc0_stg2_0) h2 (Memref.whole main_arg3) h3 (Memref.whole main_v3) h4
    (Memref.whole main_arg5) h5 (Memref.whole main_arg6) h6 (Memref.whole main_v4) h7
    (Memref.whole cc0_scratch0) h8 (Memref.whole cc0_scratch1) h9 (Memref.whole cc0_scratch2) h10
    (Memref.whole cc0_scratch3) h11 (Memref.whole cc0_scratch4) h12 (Memref.whole cc0_scratch5) h13
    (Memref.whole cc0_scratch6) h14 cc0_scoped0 cc0_scoped1 cc0_scoped2
    (blk0 m c) (blk1 m c) (blk2 m c) (V m c main_arg3) (V m c main_v3) (V m c main_arg5) (V m c main_arg6) (V m c main_v4) x x9 x10 x11 f0 u sr r j
  have hr := hr (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  have e7 : ∀ f, (Memref.whole main_v4).view.read (Elt Ideal) f = f := fun _ => rfl
  rw [e7] at hr
  match b with
  | ⟨0, _⟩ => exact hr.1.trans (xarr_eq m c 0 r j _ (by show j.val = 128 * 0 + j.val; omega))
  | ⟨1, _⟩ => exact hr.2.trans (xarr_eq m c 1 r j _ (by show 128 + j.val = 128 * 1 + j.val; omega))

end Cert.KernelIdeal.Hand

namespace Cert.Hand

open Idealize.ShloMosaic Idealize.ShloMosaic.TcCoe Idealize.SL Idealize.SL.Sem

/-- Both programs leave one array. -/
theorem algebraic : @Cert.algebraic_KernelIdeal_ReferenceIdeal Cert.KernelIdeal.Gen.facts Cert.ReferenceIdeal.Gen.facts := by
  intro m g m' g' _ hm
  refine ⟨Cert.KernelIdeal.Hand.Y m, Cert.KernelIdeal.Hand.run_value m g (Cert.KernelIdeal.Hand.Y m) (Cert.KernelIdeal.Hand.left_eq m), ?_⟩
  refine (θ_run Cert.ReferenceIdeal.defs _ _).mono (fun r h c => ⟨?_, (h c).2⟩) (Cert.ReferenceIdeal.Hand.run m' g')
  refine (h c).1.trans ?_
  obtain ⟨e0, e1, e2, e3, e4, e5, e6⟩ := hm c
  show _ = Cert.ReferenceIdeal.Hand.ff2Arr _ _ _ _ _ _ _
  rw [← e0, ← e1, ← e2, ← e3, ← e4, ← e5, ← e6]

end Cert.Hand

end
-- ==== Proof.UpPanels.lean ====
module

public import proofs.«01_k».proof.Proof.Gen.Up.Launch
public import proofs.«01_k».proof.Proof.Gen.Up.Skeleton
public import proofs.«01_k».proof.Proof.Gen.Up.Points
public import Idealize.ShloMosaic.Lib.Pipeline.FrameValue
public import Idealize.ShloMosaic.Lib.Ring
public import Idealize.ShloMosaic.Lib.Tactic

@[expose] public section

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## Big separating conjunctions cut at a number -/

section Cut

variable {M : Type} [URA M] {N : ℕ} (Φ : Fin N → sProp M)

/-- The conjuncts at `n` and above. -/
def Hi (n : ℕ) : sProp M := bigSep (Finset.univ.filter fun i : Fin N => n ≤ i.val) Φ

/-- The conjuncts below `n`. -/
def Lo (n : ℕ) : sProp M := bigSep (Finset.univ.filter fun i : Fin N => i.val < n) Φ

theorem Hi_step (n : ℕ) (h : n < N) : Hi Φ n = iprop(Φ ⟨n, h⟩ ∗ Hi Φ (n + 1)) := by
  have e : (Finset.univ.filter fun i : Fin N => n ≤ i.val) = insert ⟨n, h⟩ (Finset.univ.filter fun i : Fin N => n + 1 ≤ i.val) := by
    ext i; simp only [Finset.mem_filter, Finset.mem_univ, true_and, Finset.mem_insert, Fin.ext_iff]; omega
  unfold Hi
  rw [e, bigSep_insert (by simp)]
  rfl

theorem Lo_step (n : ℕ) (h : n < N) : Lo Φ (n + 1) = iprop(Φ ⟨n, h⟩ ∗ Lo Φ n) := by
  have e : (Finset.univ.filter fun i : Fin N => i.val < n + 1) = insert ⟨n, h⟩ (Finset.univ.filter fun i : Fin N => i.val < n) := by
    ext i; simp only [Finset.mem_filter, Finset.mem_univ, true_and, Finset.mem_insert, Fin.ext_iff]; omega
  unfold Lo
  rw [e, bigSep_insert (by simp)]
  rfl

theorem Hi_zero : Hi Φ 0 = bigSep Finset.univ Φ := by
  unfold Hi; congr 1; ext i; simp

theorem Lo_zero : Lo Φ 0 = iprop(emp) := by
  unfold Lo
  rw [show (Finset.univ.filter fun i : Fin N => i.val < 0) = ∅ from by ext i; simp, bigSep_empty]
  rfl

theorem Hi_top : Hi Φ N = iprop(emp) := by
  unfold Hi
  rw [show (Finset.univ.filter fun i : Fin N => N ≤ i.val) = ∅ from by ext i; simp, bigSep_empty]
  rfl

theorem Lo_top : Lo Φ N = bigSep Finset.univ Φ := by
  unfold Lo; congr 1; ext i; simp

end Cut

/-! ## The cells, the slots of the arena and the panels of the weight -/

/-- A cell of the panels' semaphore array at an offset. -/
abbrev cellO (o : Fin 1 → ℕ) (h : ∀ a, o a + S1.size a ≤ S84.size a) : DmaSem sig :=
  ((v1_r0.slice (Rect.unit (s := S84) o S1.size h)).squeeze S_ squeezes_S1_S_).sem

/-- A slot of the arena at an offset. -/
abbrev slotO (o : Fin 2 → ℕ) (h : ∀ a, o a + S2880x256.size a ≤ S161280x256.size a) : Rect S161280x256 :=
  Rect.unit (s := S161280x256) o S2880x256.size h

/-- A panel of the weight at an offset. -/
abbrev panelO (o : Fin 2 → ℕ) (h : ∀ a, o a + S2880x256.size a ≤ S2880x7680.size a) : Memref sig .tc .hbm S2880x256 .fp8e4m3 :=
  arg2.slice (Rect.unit (s := S2880x7680) o S2880x256.size h) (fun _ => rfl)

section Slots

variable (A : Buf (Elt F) (arg9.view.loc (c : Thread nD τ))) (Wf : Buf (Elt F) (arg2.view.loc (c : Thread nD τ)))
  (o4 : Fin 1 → ℕ) (o5 o6 : Fin 2 → ℕ) (h4 : ∀ a, o4 a + S1.size a ≤ S84.size a)
  (h5 : ∀ a, o5 a + S2880x256.size a ≤ S161280x256.size a) (h6 : ∀ a, o6 a + S2880x256.size a ≤ S2880x7680.size a)

/-- A slot's elements at the arena's contents beside a panel's elements at the weight's. -/
def del : sProp 𝕄 :=
  iprop((arg9.view.loc (c : Thread nD τ) ↦[arg9.view.setOn (slotO o5 h5).set]{fullShare} A)
   ∗ ((panelO arg2 o6 h6).view.loc (c : Thread nD τ) ↦[(panelO arg2 o6 h6).view.set]{fullShare} Wf))

/-- A panel's transfer in flight. -/
def fl : sProp 𝕄 :=
  Transfers.Flight (countersEmb (U := Pipeline.UD sig nD τ)) (c : Thread nD τ) (.dma (cellO v1_r0 o4 h4)) () (arg9.view.ref.dmaCredit S2880x256 .fp8e4m3) (del c arg2 arg9 A Wf o5 o6 h5 h6)

/-- A slot and a panel held by the core, with the cell back at zero. -/
def landed : sProp 𝕄 :=
  iprop(del c arg2 arg9 A Wf o5 o6 h5 h6 ∗ semVal ((c : Thread nD τ), SemLoc.dma (cellO v1_r0 o4 h4)) 0)

variable {o4 o5 o6} in
theorem fl_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    fl c arg2 arg9 v1_r0 A Wf o4 o5 o6 h4 h5 h6 = fl c arg2 arg9 v1_r0 A Wf o4' o5' o6' h4' h5' h6' := by
  subst e4 e5 e6; rfl

variable {o4 o5 o6} in
theorem landed_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    landed c arg2 arg9 v1_r0 A Wf o4 o5 o6 h4 h5 h6 = landed c arg2 arg9 v1_r0 A Wf o4' o5' o6' h4' h5' h6' := by
  subst e4 e5 e6; rfl

end Slots

theorem cell_inb : ∀ i : Fin 30, ∀ a, (![i.val + 24] : Fin 1 → ℕ) a + S1.size a ≤ S84.size a := by decide +kernel
theorem slot_inb : ∀ i : Fin 30, ∀ a, (![2880 * i.val + 74880, 0] : Fin 2 → ℕ) a + S2880x256.size a ≤ S161280x256.size a := by decide +kernel
theorem panel_inb : ∀ i : Fin 30, ∀ a, (![0, 256 * i.val] : Fin 2 → ℕ) a + S2880x256.size a ≤ S2880x7680.size a := by decide +kernel

section Stage

variable (A : Buf (Elt F) (arg9.view.loc (c : Thread nD τ))) (Wf : Buf (Elt F) (arg2.view.loc (c : Thread nD τ)))

/-- Panel `i`'s transfer in flight. -/
def flying (i : Fin 30) : sProp 𝕄 :=
  fl c arg2 arg9 v1_r0 A Wf ![i.val + 24] ![2880 * i.val + 74880, 0] ![0, 256 * i.val] (cell_inb i) (slot_inb i) (panel_inb i)

/-- Slot `i`, panel `i` and cell `i` held by the core. -/
def held (i : Fin 30) : sProp 𝕄 :=
  landed c arg2 arg9 v1_r0 A Wf ![i.val + 24] ![2880 * i.val + 74880, 0] ![0, 256 * i.val] (cell_inb i) (slot_inb i) (panel_inb i)

end Stage

/-- What the arena holds once every panel has landed: each slot is the panel of its number, and above the slots the old contents. -/
def arenaOf (f0 : Buf (Elt F) (arg9.view.loc (c : Thread nD τ))) (Wf : Buf (Elt F) (arg2.view.loc (c : Thread nD τ))) :
    Buf (Elt F) (arg9.view.loc (c : Thread nD τ)) :=
  arg9.view.write (Elt F) f0 (fun y => if h : 74880 ≤ (y 0).val then
      arg2.view.read (Elt F) Wf (fun a => Fin.cases (motive := fun a => Fin (S2880x7680.size a)) (⟨((y 0).val - 74880) % 2880, Nat.mod_lt _ (by decide)⟩ : Fin 2880)
        (fun b => Fin.cases (motive := fun b => Fin (S2880x7680.size b.succ)) (⟨256 * (((y 0).val - 74880) / 2880) + (y 1).val, by
          have := (y 1).isLt; change (y 1).val < 256 at this; have h0 := (y 0).isLt; change (y 0).val < 161280 at h0; omega⟩ : Fin 7680) (fun z => z.elim0) b) a)
    else arg9.view.read (Elt F) f0 y) Finset.univ

section ArenaRead

variable (f0 : Buf (Elt F) (arg9.view.loc (c : Thread nD τ))) (Wf : Buf (Elt F) (arg2.view.loc (c : Thread nD τ)))

/-- The arena's element under an index: the weight's in a slot. -/
theorem arenaOf_read (y : S161280x256.Idx) (h : 74880 ≤ (y 0).val) (z : S2880x7680.Idx)
    (h0 : (z 0).val = ((y 0).val - 74880) % 2880) (h1 : (z 1).val = 256 * (((y 0).val - 74880) / 2880) + (y 1).val) :
    arg9.view.read (Elt F) (arenaOf c arg2 arg9 f0 Wf) y = arg2.view.read (Elt F) Wf z := by
  unfold arenaOf
  rw [View.read_apply, View.write_emb_of_mem _ _ (Finset.mem_univ _), cast_cast, cast_eq, dif_pos h]
  congr 1
  funext a
  match a with
  | ⟨0, _⟩ => exact Fin.ext h0.symm
  | ⟨1, _⟩ => exact Fin.ext h1.symm

/-- Above the slots the arena keeps its old contents. -/
theorem arenaOf_below (y : S161280x256.Idx) (h : (y 0).val < 74880) :
    arenaOf c arg2 arg9 f0 Wf (arg9.view.emb y) = f0 (arg9.view.emb y) := by
  unfold arenaOf
  rw [View.write_emb_of_mem _ _ (Finset.mem_univ _), dif_neg (by omega), View.read_apply, cast_cast, cast_eq]

/-- A slot reads as its panel. -/
theorem arenaOf_slot (i : Fin 30) :
    (arg9.view.slice (slotO ![2880 * i.val + 74880, 0] (slot_inb i))).read (Elt F) (arenaOf c arg2 arg9 f0 Wf)
      = (panelO arg2 ![0, 256 * i.val] (panel_inb i)).view.read (Elt F) Wf := by
  funext x
  have hx0 : (x 0).val < 2880 := (x 0).isLt
  have hx1 : (x 1).val < 256 := (x 1).isLt
  have hi := i.isLt
  show arg9.view.read (Elt F) (arenaOf c arg2 arg9 f0 Wf) ((slotO ![2880 * i.val + 74880, 0] (slot_inb i)).emb x)
    = arg2.view.read (Elt F) Wf ((Rect.unit (s := S2880x7680) ![0, 256 * i.val] S2880x256.size (panel_inb i)).emb x)
  have e0 : ((slotO ![2880 * i.val + 74880, 0] (slot_inb i)).emb x 0).val = 2880 * i.val + 74880 + 1 * (x 0).val := rfl
  have e1 : ((slotO ![2880 * i.val + 74880, 0] (slot_inb i)).emb x 1).val = 0 + 1 * (x 1).val := rfl
  have d0 : ((Rect.unit (s := S2880x7680) ![0, 256 * i.val] S2880x256.size (panel_inb i)).emb x 0).val = 0 + 1 * (x 0).val := rfl
  have d1 : ((Rect.unit (s := S2880x7680) ![0, 256 * i.val] S2880x256.size (panel_inb i)).emb x 1).val = 256 * i.val + 1 * (x 1).val := rfl
  refine arenaOf_read c arg2 arg9 f0 Wf _ ?_ _ ?_ ?_
  · rw [e0]; omega
  · rw [e0, d0]; omega
  · rw [e0, e1, d1]; omega

end ArenaRead

/-! ## Issuing the panels -/

section Issue

variable (f0 : Buf (Elt F) (arg9.view.loc (c : Thread nD τ))) (Wf : Buf (Elt F) (arg2.view.loc (c : Thread nD τ)))

/-- Once its panel has landed a slot holds the arena's contents. -/
theorem slot_landed (i : Fin 30) {o5 o6 : Fin 2 → ℕ} (e5 : o5 = ![2880 * i.val + 74880, 0]) (e6 : o6 = ![0, 256 * i.val])
    (h5 : ∀ a, o5 a + S2880x256.size a ≤ S161280x256.size a) (h6 : ∀ a, o6 a + S2880x256.size a ≤ S2880x7680.size a) :
    (arg9.view.loc (c : Thread nD τ) ↦[arg9.view.setOn (slotO o5 h5).set]{fullShare}
        (arg9.view.slice (slotO o5 h5)).write (Elt F) f0 ((panelO arg2 o6 h6).view.read (Elt F) Wf) Finset.univ : sProp 𝕄)
      = (arg9.view.loc (c : Thread nD τ) ↦[arg9.view.setOn (slotO o5 h5).set]{fullShare} arenaOf c arg2 arg9 f0 Wf) := by
  subst e5 e6
  refine pointsTo_congr fun j hj => ?_
  have hj' : j ∈ (arg9.view.slice (slotO ![2880 * i.val + 74880, 0] (slot_inb i))).set := by rw [View.set_slice]; exact hj
  obtain ⟨x, -, rfl⟩ := Finset.mem_map.mp hj'
  rw [View.write_emb_of_mem _ _ (Finset.mem_univ _), ← arenaOf_slot c arg2 arg9 f0 Wf i, View.read_apply, cast_cast, cast_eq]

/-- A transfer that is to write a slot with its panel delivers the slot at the arena's contents. -/
theorem fl_landed (i : Fin 30) {o4 : Fin 1 → ℕ} {o5 o6 : Fin 2 → ℕ} (e5 : o5 = ![2880 * i.val + 74880, 0]) (e6 : o6 = ![0, 256 * i.val])
    (h4 : ∀ a, o4 a + S1.size a ≤ S84.size a)
    (h5 : ∀ a, o5 a + S2880x256.size a ≤ S161280x256.size a) (h6 : ∀ a, o6 a + S2880x256.size a ≤ S2880x7680.size a) :
    (Transfers.Flight (countersEmb (U := Pipeline.UD sig nD τ)) (c : Thread nD τ) (.dma (cellO v1_r0 o4 h4)) () (arg9.view.ref.dmaCredit S2880x256 .fp8e4m3)
      (iprop((arg9.view.loc (c : Thread nD τ) ↦[arg9.view.setOn (slotO o5 h5).set]{fullShare}
          (arg9.view.slice (slotO o5 h5)).write (Elt F) f0 ((panelO arg2 o6 h6).view.read (Elt F) Wf) Finset.univ)
        ∗ ((panelO arg2 o6 h6).view.loc (c : Thread nD τ) ↦[(panelO arg2 o6 h6).view.set]{fullShare} Wf)) : sProp 𝕄) : sProp 𝕄)
      ⊢ fl c arg2 arg9 v1_r0 (arenaOf c arg2 arg9 f0 Wf) Wf o4 o5 o6 h4 h5 h6 :=
  Transfers.Flight_mono _ _ (sep_mono_left (Entails.of_eq (slot_landed c arg2 arg9 f0 Wf i e5 e6 h5 h6)))

set_option maxRecDepth 8192
set_option maxHeartbeats 1000000

/-- One trip of the loop that issues the panels. -/
theorem trip_k0_t1 (k : Fin k0_t1_loop.trips) (K : sProp 𝕄) :
    iprop(held c arg2 arg9 v1_r0 f0 Wf k ∗ (flying c arg2 arg9 v1_r0 (arenaOf c arg2 arg9 f0 Wf) Wf k -∗ K))
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k ())
       (fun _ => K) := by
  unfold held flying k0_t1_body
  rw [landed_congr (e4 := (k0_off1_eq k).symm) (e5 := (k0_off2_eq k).symm) (e6 := (k0_off3_eq k).symm) (h4' := k0_off1_inb k) (h5' := k0_off2_inb k) (h6' := k0_off3_inb k),
    fl_congr (e4 := (k0_off1_eq k).symm) (e5 := (k0_off2_eq k).symm) (e6 := (k0_off3_eq k).symm) (h4' := k0_off1_inb k) (h5' := k0_off2_inb k) (h6' := k0_off3_inb k)]
  unfold landed del
  iintro ⟨⟨⟨Hd, Hs⟩, Hv⟩, HK⟩
  sl_exec
  sl_step
  iapply HK
  iapply (fl_landed c arg2 arg9 v1_r0 f0 Wf k (k0_off2_eq k) (k0_off3_eq k) (k0_off1_inb k) (k0_off2_inb k) (k0_off3_inb k))
  iexact Hv

/-- What the loop that issues the panels holds before trip `n`. -/
def inv1 (n : ℕ) : sProp 𝕄 :=
  iprop(Hi (held c arg2 arg9 v1_r0 f0 Wf) n ∗ Lo (flying c arg2 arg9 v1_r0 (arenaOf c arg2 arg9 f0 Wf) Wf) n)

theorem region_k0_t1 (k : Fin k0_t1_loop.trips) (acc : Unit) :
    inv1 c arg2 arg9 v1_r0 f0 Wf k.val
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k acc)
       (fun _ => inv1 c arg2 arg9 v1_r0 f0 Wf (k.val + 1)) := by
  unfold inv1
  rw [Hi_step _ k.val (show k.val < 30 from k.isLt), Lo_step _ k.val (show k.val < 30 from k.isLt)]
  refine BIBase.Entails.trans ?_ (trip_k0_t1 _ _ _ _ _ _ _ _ _ _ _ _ _ _ _ _ _ _ _ _ _ _ _ _ _ _ _ _ _ _ _ _ _ _ f0 Wf k _)
  iintro ⟨⟨Hk, Hhi⟩, Hlo⟩
  isplitl [Hk]; · iexact Hk
  iintro Hf
  isplitl [Hhi]; · iexact Hhi
  isplitl [Hf]; · iexact Hf
  iexact Hlo

end Issue
/-! ## A trip of the loop over the groups of panels -/

section Trip2

variable (v30 : FVec F S128x128 .f32) (A : Buf (Elt F) (arg9.view.loc (c : Thread nD τ))) (Wf : Buf (Elt F) (arg2.view.loc (c : Thread nD τ)))

set_option maxRecDepth 8192
set_option maxHeartbeats 4000000

@[irreducible] def trip_k0_t2
   (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (k : Fin k0_t2_loop.trips) :
   { L : List (View.Piece (Elt F) S256x7680 .f32) × List (View.Piece (Elt F) S256x128 .f32) // ∀ (W : Waits sig Unit) (v : BufTy.Contents (Elt F) arg10.view.ty),
     iprop((arg0.view.loc (c : Thread nD τ) ↦[arg0.view.set]{fullShare} g) ∗ (arg12.view.loc (c : Thread nD τ) ↦[arg12.view.set]{fullShare} ts) ∗ (arg7.view.loc (c : Thread nD τ) ↦[arg7.view.set]{fullShare} sf) ∗ (arg8.view.loc (c : Thread nD τ) ↦[arg8.view.set]{fullShare} bf) ∗ (arg10.view.loc (c : Thread nD τ) ↦[arg10.view.set]{fullShare} v) ∗ (arg13.view.loc (c : Thread nD τ) ↦[arg13.view.set]{fullShare} u)
       ∗ fl c arg2 arg9 v1_r0 A Wf (k0_off4 k 0#32) (k0_off5 k 0#32) (k0_off6 k 0#32) (k0_off4_inb k 0) (k0_off5_inb k 0) (k0_off6_inb k 0)
       ∗ fl c arg2 arg9 v1_r0 A Wf (k0_off4 k 1#32) (k0_off5 k 1#32) (k0_off6 k 1#32) (k0_off4_inb k 1) (k0_off5_inb k 1) (k0_off6_inb k 1)
       ∗ fl c arg2 arg9 v1_r0 A Wf (k0_off4 k 2#32) (k0_off5 k 2#32) (k0_off6 k 2#32) (k0_off4_inb k 2) (k0_off5_inb k 2) (k0_off6_inb k 2)
       ∗ fl c arg2 arg9 v1_r0 A Wf (k0_off4 k 3#32) (k0_off5 k 3#32) (k0_off6 k 3#32) (k0_off4_inb k 3) (k0_off5_inb k 3) (k0_off6_inb k 3)
       ∗ fl c arg2 arg9 v1_r0 A Wf (k0_off4 k 4#32) (k0_off5 k 4#32) (k0_off6 k 4#32) (k0_off4_inb k 4) (k0_off5_inb k 4) (k0_off6_inb k 4)
       ∗ fl c arg2 arg9 v1_r0 A Wf (k0_off4 k 5#32) (k0_off5 k 5#32) (k0_off6 k 5#32) (k0_off4_inb k 5) (k0_off5_inb k 5) (k0_off6_inb k 5)
       ∗ owes (c : Thread nD τ) 0 W)
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 k PUnit.unit)
       (fun _ => iprop((arg0.view.loc (c : Thread nD τ) ↦[arg0.view.set]{fullShare} g) ∗ (arg12.view.loc (c : Thread nD τ) ↦[arg12.view.set]{fullShare} ts) ∗ (arg7.view.loc (c : Thread nD τ) ↦[arg7.view.set]{fullShare} sf) ∗ (arg8.view.loc (c : Thread nD τ) ↦[arg8.view.set]{fullShare} bf) ∗ (arg10.view.loc (c : Thread nD τ) ↦[arg10.view.set]{fullShare} arg10.view.writes (Elt F) v L.1) ∗ (arg13.view.loc (c : Thread nD τ) ↦[arg13.view.set]{fullShare} arg13.view.writes (Elt F) u L.2)
       ∗ landed c arg2 arg9 v1_r0 A Wf (k0_off4 k 0#32) (k0_off5 k 0#32) (k0_off6 k 0#32) (k0_off4_inb k 0) (k0_off5_inb k 0) (k0_off6_inb k 0)
       ∗ landed c arg2 arg9 v1_r0 A Wf (k0_off4 k 1#32) (k0_off5 k 1#32) (k0_off6 k 1#32) (k0_off4_inb k 1) (k0_off5_inb k 1) (k0_off6_inb k 1)
       ∗ landed c arg2 arg9 v1_r0 A Wf (k0_off4 k 2#32) (k0_off5 k 2#32) (k0_off6 k 2#32) (k0_off4_inb k 2) (k0_off5_inb k 2) (k0_off6_inb k 2)
       ∗ landed c arg2 arg9 v1_r0 A Wf (k0_off4 k 3#32) (k0_off5 k 3#32) (k0_off6 k 3#32) (k0_off4_inb k 3) (k0_off5_inb k 3) (k0_off6_inb k 3)
       ∗ landed c arg2 arg9 v1_r0 A Wf (k0_off4 k 4#32) (k0_off5 k 4#32) (k0_off6 k 4#32) (k0_off4_inb k 4) (k0_off5_inb k 4) (k0_off6_inb k 4)
       ∗ landed c arg2 arg9 v1_r0 A Wf (k0_off4 k 5#32) (k0_off5 k 5#32) (k0_off6 k 5#32) (k0_off4_inb k 5) (k0_off5_inb k 5) (k0_off6_inb k 5)
       ∗ (∃ W, owes (c : Thread nD τ) 0 W))) } := by
  have hk : k.val < 5 := Nat.lt_of_lt_of_le k.isLt k0_t2_abs.2.1
  refine ⟨⟨?_, ?_⟩, fun W v => ?run⟩
  case run =>
    unfold k0_t2_body landed fl del
    iintro ⟨H0, H12, H7, H8, H10, H13, F0, F1, F2, F3, F4, F5, HO⟩
    sl_exec
    sl_step
    sl_close

/-- The running maxima before trip `n`. -/
def uAt (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) : ℕ → BufTy.Contents (Elt F) arg13.view.ty
  | 0 => u
  | n + 1 => if h : n < k0_t2_loop.trips then arg13.view.writes (Elt F) (uAt g ts sf bf u n) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt g ts sf bf u n) ⟨n, h⟩).1.2 else uAt g ts sf bf u n

/-- The values before trip `n`. -/
def vAt (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (v : BufTy.Contents (Elt F) arg10.view.ty) : ℕ → BufTy.Contents (Elt F) arg10.view.ty
  | 0 => v
  | n + 1 => if h : n < k0_t2_loop.trips then arg10.view.writes (Elt F) (vAt g ts sf bf u v n) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u n) ⟨n, h⟩).1.1 else vAt g ts sf bf u v n

/-- What the loop over the groups of panels holds before trip `n`. -/
def inv2 (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (v : BufTy.Contents (Elt F) arg10.view.ty) (n : ℕ) : sProp 𝕄 :=
  iprop((arg0.view.loc (c : Thread nD τ) ↦[arg0.view.set]{fullShare} g) ∗ (arg12.view.loc (c : Thread nD τ) ↦[arg12.view.set]{fullShare} ts) ∗ (arg7.view.loc (c : Thread nD τ) ↦[arg7.view.set]{fullShare} sf) ∗ (arg8.view.loc (c : Thread nD τ) ↦[arg8.view.set]{fullShare} bf)
    ∗ (arg10.view.loc (c : Thread nD τ) ↦[arg10.view.set]{fullShare} vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v n)
    ∗ (arg13.view.loc (c : Thread nD τ) ↦[arg13.view.set]{fullShare} uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u n)
    ∗ Hi (flying c arg2 arg9 v1_r0 A Wf) (6 * n) ∗ Lo (held c arg2 arg9 v1_r0 A Wf) (6 * n)
    ∗ (∃ W, owes (c : Thread nD τ) 0 W))

/-- Panel `6 k + r` at the offsets of the loop. -/
theorem flying_eq (k : Fin k0_t2_loop.trips) (r : Fin 6) (i : Fin 30) (hi : i.val = 6 * k.val + r.val) :
    flying c arg2 arg9 v1_r0 A Wf i
      = fl c arg2 arg9 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold flying
  refine fl_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem held_eq (k : Fin k0_t2_loop.trips) (r : Fin 6) (i : Fin 30) (hi : i.val = 6 * k.val + r.val) :
    held c arg2 arg9 v1_r0 A Wf i
      = landed c arg2 arg9 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold held
  refine landed_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem region_k0_t2 (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (v : BufTy.Contents (Elt F) arg10.view.ty) (k : Fin k0_t2_loop.trips) (acc : Unit) :
    inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v k.val
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 k acc)
       (fun _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v (k.val + 1)) := by
  have hk : k.val < 5 := Nat.lt_of_lt_of_le k.isLt k0_t2_abs.2.1
  unfold inv2
  rw [show uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u (k.val + 1) = arg13.view.writes (Elt F) (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val) k).1.2 from dif_pos k.isLt,
    show vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v (k.val + 1) = arg10.view.writes (Elt F) (vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v k.val) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val) k).1.1 from dif_pos k.isLt,
    show 6 * (k.val + 1) = 6 * k.val + 1 + 1 + 1 + 1 + 1 + 1 by omega]
  generalize uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val = uk
  generalize vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v k.val = vk
  rw [Hi_step _ (6 * k.val) (by omega), Hi_step _ (6 * k.val + 1) (by omega), Hi_step _ (6 * k.val + 1 + 1) (by omega),
    Hi_step _ (6 * k.val + 1 + 1 + 1) (by omega), Hi_step _ (6 * k.val + 1 + 1 + 1 + 1) (by omega), Hi_step _ (6 * k.val + 1 + 1 + 1 + 1 + 1) (by omega),
    Lo_step _ (6 * k.val + 1 + 1 + 1 + 1 + 1) (by omega), Lo_step _ (6 * k.val + 1 + 1 + 1 + 1) (by omega), Lo_step _ (6 * k.val + 1 + 1 + 1) (by omega),
    Lo_step _ (6 * k.val + 1 + 1) (by omega), Lo_step _ (6 * k.val + 1) (by omega), Lo_step _ (6 * k.val) (by omega)]
  rw [flying_eq (k := k) (r := 0) (i := ⟨6 * k.val, _⟩) (hi := rfl), flying_eq (k := k) (r := 1) (i := ⟨6 * k.val + 1, _⟩) (hi := rfl),
    flying_eq (k := k) (r := 2) (i := ⟨6 * k.val + 1 + 1, _⟩) (hi := rfl), flying_eq (k := k) (r := 3) (i := ⟨6 * k.val + 1 + 1 + 1, _⟩) (hi := rfl),
    flying_eq (k := k) (r := 4) (i := ⟨6 * k.val + 1 + 1 + 1 + 1, _⟩) (hi := rfl), flying_eq (k := k) (r := 5) (i := ⟨6 * k.val + 1 + 1 + 1 + 1 + 1, _⟩) (hi := rfl),
    held_eq (k := k) (r := 0) (i := ⟨6 * k.val, _⟩) (hi := rfl), held_eq (k := k) (r := 1) (i := ⟨6 * k.val + 1, _⟩) (hi := rfl),
    held_eq (k := k) (r := 2) (i := ⟨6 * k.val + 1 + 1, _⟩) (hi := rfl), held_eq (k := k) (r := 3) (i := ⟨6 * k.val + 1 + 1 + 1, _⟩) (hi := rfl),
    held_eq (k := k) (r := 4) (i := ⟨6 * k.val + 1 + 1 + 1 + 1, _⟩) (hi := rfl), held_eq (k := k) (r := 5) (i := ⟨6 * k.val + 1 + 1 + 1 + 1 + 1, _⟩) (hi := rfl)]
  iintro ⟨H0, H12, H7, H8, H10, H13, ⟨F0, F1, F2, F3, F4, F5, HF⟩, HD, %W, HO⟩
  iapply (wp_wand frame (wpE (defs₀ (F := F)) Variants.none (c : Thread nD τ) none) Set.univ) $$ [H0 H12 H7 H8 H10 H13 F0 F1 F2 F3 F4 F5 HO]
  · iapply ((trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf uk k).2 W vk)
    isplitl [H0]; · iexact H0
    isplitl [H12]; · iexact H12
    isplitl [H7]; · iexact H7
    isplitl [H8]; · iexact H8
    isplitl [H10]; · iexact H10
    isplitl [H13]; · iexact H13
    isplitl [F0]; · iexact F0
    isplitl [F1]; · iexact F1
    isplitl [F2]; · iexact F2
    isplitl [F3]; · iexact F3
    isplitl [F4]; · iexact F4
    isplitl [F5]; · iexact F5
    iexact HO
  iintro %a ⟨H0, H12, H7, H8, H10, H13, F0, F1, F2, F3, F4, F5, HO⟩
  isplitl [H0]; · iexact H0
  isplitl [H12]; · iexact H12
  isplitl [H7]; · iexact H7
  isplitl [H8]; · iexact H8
  isplitl [H10]; · iexact H10
  isplitl [H13]; · iexact H13
  isplitl [HF]; · iexact HF
  isplitr [HO]
  · isplitl [F5]; · iexact F5
    isplitl [F4]; · iexact F4
    isplitl [F3]; · iexact F3
    isplitl [F2]; · iexact F2
    isplitl [F1]; · iexact F1
    isplitl [F0]; · iexact F0
    iexact HD
  iexact HO

end Trip2
/-- The panels' cells, each at zero. -/
def cellsP : sProp 𝕄 := bigSep Finset.univ fun i : Fin 30 => semVal ((c : Thread nD τ), SemLoc.dma (cellO v1_r0 ![i.val + 24] (cell_inb i))) 0

/-! ## Cutting the arena and the weight, and putting them together -/

section CutArena

variable (f0 A : Buf (Elt F) (arg9.view.loc (c : Thread nD τ))) (Wf : Buf (Elt F) (arg2.view.loc (c : Thread nD τ)))

/-- The elements of slot `i`. -/
abbrev slotSet (i : Fin 30) : Finset (Idx (arg9.view.loc (c : Thread nD τ))) := arg9.view.setOn (slotO ![2880 * i.val + 74880, 0] (slot_inb i)).set

/-- The elements of panel `i`. -/
abbrev panelSet (i : Fin 30) : Finset (Idx (arg2.view.loc (c : Thread nD τ))) := (panelO arg2 ![0, 256 * i.val] (panel_inb i)).view.set

theorem slotSet_disjoint (i j : Fin 30) (h : i ≠ j) : Disjoint (slotSet c arg9 i) (slotSet c arg9 j) := by
  refine View.disjoint_setOn _ (Finset.disjoint_left.mpr fun y hi hj => h (Fin.ext ?_))
  have a := Rect.mem_set_unit.mp hi 0
  have b := Rect.mem_set_unit.mp hj 0
  have a1 : 2880 * i.val + 74880 ≤ (y 0).val := a.1
  have a2 : (y 0).val < 2880 * i.val + 74880 + 2880 := a.2
  have b1 : 2880 * j.val + 74880 ≤ (y 0).val := b.1
  have b2 : (y 0).val < 2880 * j.val + 74880 + 2880 := b.2
  omega

theorem panelSet_eq (i : Fin 30) : panelSet c arg2 i = arg2.view.setOn (Rect.unit (s := S2880x7680) ![0, 256 * i.val] S2880x256.size (panel_inb i)).set :=
  View.set_slice _ _

theorem panelSet_disjoint (i j : Fin 30) (h : i ≠ j) : Disjoint (panelSet c arg2 i) (panelSet c arg2 j) := by
  rw [panelSet_eq, panelSet_eq]
  refine View.disjoint_setOn _ (Finset.disjoint_left.mpr fun y hi hj => h (Fin.ext ?_))
  have a := Rect.mem_set_unit.mp hi 1
  have b := Rect.mem_set_unit.mp hj 1
  have a1 : 256 * i.val ≤ (y 1).val := a.1
  have a2 : (y 1).val < 256 * i.val + 256 := a.2
  have b1 : 256 * j.val ≤ (y 1).val := b.1
  have b2 : (y 1).val < 256 * j.val + 256 := b.2
  omega

/-- The arena above the slots. -/
def restSet : Finset (Idx (arg9.view.loc (c : Thread nD τ))) := arg9.view.set \ Finset.univ.biUnion (slotSet c arg9)

theorem slots_subset : Finset.univ.biUnion (slotSet c arg9) ⊆ arg9.view.set :=
  Finset.biUnion_subset.mpr fun i _ => View.setOn_subset_set _ _

theorem panels_subset : Finset.univ.biUnion (panelSet c arg2) ⊆ arg2.view.set :=
  Finset.biUnion_subset.mpr fun i _ => by rw [panelSet_eq]; exact View.setOn_subset_set _ _

theorem arena_cut :
    (arg9.view.loc (c : Thread nD τ) ↦[arg9.view.set]{fullShare} f0 : sProp 𝕄)
      ⊣⊢ iprop((bigSep Finset.univ fun i => arg9.view.loc (c : Thread nD τ) ↦[slotSet c arg9 i]{fullShare} f0)
        ∗ (arg9.view.loc (c : Thread nD τ) ↦[restSet c arg9]{fullShare} f0)) := by
  rw [← pointsTo_biUnion _ _ fun i _ j _ h => slotSet_disjoint c arg9 i j h]
  exact pointsTo_split_subset (slots_subset c arg9)

theorem weight_cut :
    (arg2.view.loc (c : Thread nD τ) ↦[arg2.view.set]{fullShare} Wf : sProp 𝕄)
      ⊣⊢ iprop((bigSep Finset.univ fun i => arg2.view.loc (c : Thread nD τ) ↦[panelSet c arg2 i]{fullShare} Wf)
        ∗ (arg2.view.loc (c : Thread nD τ) ↦[arg2.view.set \ Finset.univ.biUnion (panelSet c arg2)]{fullShare} Wf)) := by
  rw [← pointsTo_biUnion _ _ fun i _ j _ h => panelSet_disjoint c arg2 i j h]
  exact pointsTo_split_subset (panels_subset c arg2)

/-- Above the slots the old contents are the arena's. -/
theorem rest_eq :
    (arg9.view.loc (c : Thread nD τ) ↦[restSet c arg9]{fullShare} f0 : sProp 𝕄)
      = (arg9.view.loc (c : Thread nD τ) ↦[restSet c arg9]{fullShare} arenaOf c arg2 arg9 f0 Wf) := by
  refine pointsTo_congr fun j hj => ?_
  obtain ⟨hj1, hj2⟩ := Finset.mem_sdiff.mp hj
  obtain ⟨y, -, rfl⟩ := Finset.mem_map.mp hj1
  refine (arenaOf_below c arg2 arg9 f0 Wf y ?_).symm
  by_contra hlt
  have h0 : (y 0).val < 161280 := (y 0).isLt
  refine hj2 (Finset.mem_biUnion.mpr ⟨⟨((y 0).val - 74880) / 2880, by omega⟩, Finset.mem_univ _, Finset.mem_map_of_mem _ (Rect.mem_set_unit.mpr fun a => ?_)⟩)
  have h1 : (y 1).val < 256 := (y 1).isLt
  match a with
  | ⟨0, _⟩ =>
    show 2880 * (((y 0).val - 74880) / 2880) + 74880 ≤ (y 0).val ∧ (y 0).val < 2880 * (((y 0).val - 74880) / 2880) + 74880 + 2880
    omega
  | ⟨1, _⟩ =>
    show 0 ≤ (y 1).val ∧ (y 1).val < 0 + 256
    omega

/-- The slots, panels and cells of the core, apart. -/
theorem held_apart :
    bigSep Finset.univ (held c arg2 arg9 v1_r0 A Wf)
      = (iprop(((bigSep Finset.univ fun i => arg9.view.loc (c : Thread nD τ) ↦[slotSet c arg9 i]{fullShare} A)
          ∗ (bigSep Finset.univ fun i => arg2.view.loc (c : Thread nD τ) ↦[panelSet c arg2 i]{fullShare} Wf))
          ∗ cellsP c v1_r0) : sProp 𝕄) := by
  rw [show held c arg2 arg9 v1_r0 A Wf = fun i => iprop(((arg9.view.loc (c : Thread nD τ) ↦[slotSet c arg9 i]{fullShare} A)
          ∗ (arg2.view.loc (c : Thread nD τ) ↦[panelSet c arg2 i]{fullShare} Wf)) ∗ semVal ((c : Thread nD τ), SemLoc.dma (cellO v1_r0 ![i.val + 24] (cell_inb i))) 0) from rfl]
  rw [bigSep_sep', bigSep_sep']
  rfl

/-- What the core holds of the arena, the weight and the cells, cut for the transfers. -/
theorem stage_enter :
    iprop((arg9.view.loc (c : Thread nD τ) ↦[arg9.view.set]{fullShare} f0) ∗ (arg2.view.loc (c : Thread nD τ) ↦[arg2.view.set]{fullShare} Wf)
      ∗ cellsP c v1_r0)
      ⊢ (iprop(inv1 c arg2 arg9 v1_r0 f0 Wf 0 ∗ (arg9.view.loc (c : Thread nD τ) ↦[restSet c arg9]{fullShare} f0)
        ∗ (arg2.view.loc (c : Thread nD τ) ↦[arg2.view.set \ Finset.univ.biUnion (panelSet c arg2)]{fullShare} Wf)) : sProp 𝕄) := by
  unfold inv1
  rw [Hi_zero, Lo_zero, held_apart]
  iintro ⟨H12, H4, HS⟩
  ihave H12 := (arena_cut c arg9 f0).1 $$ H12
  ihave H4 := (weight_cut c arg2 Wf).1 $$ H4
  icases H12 with ⟨Ha, Hr⟩
  icases H4 with ⟨Hp, Hq⟩
  isplitr [Hr Hq]
  · isplitl
    · isplitr [HS]
      · isplitl [Ha]; · iexact Ha
        iexact Hp
      · iexact HS
    · iempintro
  isplitl [Hr]; · iexact Hr
  iexact Hq

/-- After the last wait the arena, the weight and the cells are whole again. -/
theorem stage_leave :
    iprop(Lo (held c arg2 arg9 v1_r0 (arenaOf c arg2 arg9 f0 Wf) Wf) 30 ∗ (arg9.view.loc (c : Thread nD τ) ↦[restSet c arg9]{fullShare} f0)
        ∗ (arg2.view.loc (c : Thread nD τ) ↦[arg2.view.set \ Finset.univ.biUnion (panelSet c arg2)]{fullShare} Wf))
      ⊢ (iprop((arg9.view.loc (c : Thread nD τ) ↦[arg9.view.set]{fullShare} arenaOf c arg2 arg9 f0 Wf) ∗ (arg2.view.loc (c : Thread nD τ) ↦[arg2.view.set]{fullShare} Wf)
      ∗ cellsP c v1_r0) : sProp 𝕄) := by
  rw [Lo_top, held_apart, rest_eq c arg2 arg9 f0 Wf]
  iintro ⟨⟨⟨Ha, Hp⟩, HS⟩, Hr, Hq⟩
  isplitl [Ha Hr]
  · iapply (arena_cut c arg9 (arenaOf c arg2 arg9 f0 Wf)).2
    isplitl [Ha]; · iexact Ha
    iexact Hr
  isplitl [Hp Hq]
  · iapply (weight_cut c arg2 Wf).2
    isplitl [Hp]; · iexact Hp
    iexact Hq
  iexact HS

end CutArena
/-! ## A trip of the loop over the columns -/

section Trip3

variable (v68 : FVec F S256x128 .f32) (gv : BufTy.Contents (Elt F) arg10.view.ty) (iv : BufTy.Contents (Elt F) arg13.view.ty)

/-- What the loop over the columns holds, the codes at `x`. -/
def colsAt (x : BufTy.Contents (Elt F) arg11.view.ty) : sProp 𝕄 :=
  iprop((arg10.view.loc (c : Thread nD τ) ↦[arg10.view.set]{fullShare} gv) ∗ (arg13.view.loc (c : Thread nD τ) ↦[arg13.view.set]{fullShare} iv) ∗ (arg11.view.loc (c : Thread nD τ) ↦[arg11.view.set]{fullShare} x))

set_option maxRecDepth 8192
set_option maxHeartbeats 4000000

@[irreducible] def trip_k0_t3 (k : Fin k0_t3_loop.trips) :
   { L : List (View.Piece (Elt F) S256x7680 .fp8e4m3) // ∀ x : BufTy.Contents (Elt F) arg11.view.ty,
     colsAt c arg10 arg11 arg13 gv iv x
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 k PUnit.unit)
       (fun _ => colsAt c arg10 arg11 arg13 gv iv (arg11.view.writes (Elt F) x L)) } := by
  have hk : k.val < 60 := Nat.lt_of_lt_of_le k.isLt k0_t3_abs.2.1
  refine ⟨?_, fun x => ?run⟩
  case run =>
    unfold k0_t3_body colsAt
    iintro ⟨H10, H13, H11⟩
    sl_exec
    sl_step
    sl_close

/-- The codes before trip `n`. -/
def xAt (x : BufTy.Contents (Elt F) arg11.view.ty) : ℕ → BufTy.Contents (Elt F) arg11.view.ty
  | 0 => x
  | n + 1 => if hn : n < k0_t3_loop.trips then arg11.view.writes (Elt F) (xAt x n) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv ⟨n, hn⟩).1 else xAt x n

theorem region_k0_t3 (x : BufTy.Contents (Elt F) arg11.view.ty) (k : Fin k0_t3_loop.trips) (acc : Unit) :
    colsAt c arg10 arg11 arg13 gv iv (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x k.val)
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 k acc)
       (fun _ => colsAt c arg10 arg11 arg13 gv iv (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x (k.val + 1))) := by
  rw [show xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x (k.val + 1)
      = arg11.view.writes (Elt F) (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x k.val) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv k).1 from dif_pos k.isLt]
  exact (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv k).2 _

end Trip3
/-! ## Between the loops -/

section Between

variable (f0 A : Buf (Elt F) (arg9.view.loc (c : Thread nD τ))) (Wf : Buf (Elt F) (arg2.view.loc (c : Thread nD τ)))

/-- Every panel is in flight once the issuing loop is through. -/
theorem stage_issued :
    inv1 c arg2 arg9 v1_r0 f0 Wf (Scf.trips k0_t1_loop.lb k0_t1_loop.ub k0_t1_loop.st) ⊢ Hi (flying c arg2 arg9 v1_r0 (arenaOf c arg2 arg9 f0 Wf) Wf) (6 * 0) := by
  show inv1 c arg2 arg9 v1_r0 f0 Wf 30 ⊢ _
  unfold inv1
  rw [Hi_top, Lo_top, Nat.mul_zero, Hi_zero]
  iintro ⟨-, H⟩
  iexact H

theorem lo_start : (iprop(emp) : sProp 𝕄) ⊢ Lo (held c arg2 arg9 v1_r0 A Wf) (6 * 0) := by
  rw [Nat.mul_zero, Lo_zero]

/-- Every panel has landed once the loop over the groups is through. -/
theorem stage_landed :
    Lo (held c arg2 arg9 v1_r0 A Wf) (6 * Scf.trips k0_t2_loop.lb k0_t2_loop.ub k0_t2_loop.st) ⊢ Lo (held c arg2 arg9 v1_r0 A Wf) 30 := by
  show Lo (held c arg2 arg9 v1_r0 A Wf) (6 * 5) ⊢ _
  exact BIBase.Entails.rfl

end Between

end Cert.Up.Hand
-- ==== Proof.UpBody.lean ====
module

public import proofs.«01_k».proof.Proof.Gen.Up.Launch
public import proofs.«01_k».proof.Proof.Gen.Up.Skeleton
public import proofs.«01_k».proof.Proof.Gen.Up.Points
public import proofs.«01_k».proof.Proof.UpPanels
public import Idealize.ShloMosaic.Lib.Pipeline.FrameValue
public import Idealize.ShloMosaic.Lib.Ring
public import Idealize.ShloMosaic.Lib.Tactic

@[expose] public section

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

/-- The cell of a transfer in. -/
abbrev cellI (o : Fin 1 → ℕ) (h : ∀ a, o a + S1.size a ≤ S15.size a) : DmaSem sig :=
  ((v0_r0.slice (Rect.unit (s := S15) o S1.size h)).squeeze S_ squeezes_S1_S_).sem

/-- The cell of a transfer out. -/
abbrev cellY (o : Fin 1 → ℕ) (h : ∀ a, o a + S1.size a ≤ S14.size a) : DmaSem sig :=
  ((v2_r0.slice (Rect.unit (s := S14) o S1.size h)).squeeze S_ squeezes_S1_S_).sem

/-- Batch entry 0 of the codes. -/
abbrev outM0 : Memref sig .tc .hbm S128x7680 .fp8e4m3 :=
  (arg5.slice (Rect.unit (s := S2x128x7680) ![0, 0, 0] S1x128x7680.size inb_S2x128x7680_S1x128x7680_0_0_0) (fun _ => rfl)).squeeze S128x7680 squeezes_S1x128x7680_S128x7680

/-- Batch entry 1 of the codes. -/
abbrev outM1 : Memref sig .tc .hbm S128x7680 .fp8e4m3 :=
  (arg5.slice (Rect.unit (s := S2x128x7680) ![1, 0, 0] S1x128x7680.size inb_S2x128x7680_S1x128x7680_1_0_0) (fun _ => rfl)).squeeze S128x7680 squeezes_S1x128x7680_S128x7680

theorem outM0_set : (outM0 arg5).view.set = arg5.view.setOn (Rect.unit (s := S2x128x7680) ![0, 0, 0] S1x128x7680.size inb_S2x128x7680_S1x128x7680_0_0_0).set := by
  exact (View.set_reshape _ _).trans (View.set_slice _ _)

theorem outM1_set : (outM1 arg5).view.set = arg5.view.setOn (Rect.unit (s := S2x128x7680) ![1, 0, 0] S1x128x7680.size inb_S2x128x7680_S1x128x7680_1_0_0).set := by
  exact (View.set_reshape _ _).trans (View.set_slice _ _)

theorem out_union : (outM0 arg5).view.set ∪ (outM1 arg5).view.set = arg5.view.set := by
  rw [outM0_set, outM1_set]
  ext j
  constructor
  · intro hj
    rcases Finset.mem_union.mp hj with hj | hj <;> exact View.setOn_subset_set _ _ hj
  · intro hj
    obtain ⟨y, -, rfl⟩ := Finset.mem_map.mp hj
    have h0 : (y 0).val < 2 := (y 0).isLt
    have h1 : (y 1).val < 128 := (y 1).isLt
    have h2 : (y 2).val < 7680 := (y 2).isLt
    rcases Nat.lt_or_ge (y 0).val 1 with hy | hy
    · refine Finset.mem_union_left _ (Finset.mem_map_of_mem _ (Rect.mem_set_unit.mpr fun a => ?_))
      match a with
      | ⟨0, _⟩ => show 0 ≤ (y 0).val ∧ (y 0).val < 0 + 1; omega
      | ⟨1, _⟩ => show 0 ≤ (y 1).val ∧ (y 1).val < 0 + 128; omega
      | ⟨2, _⟩ => show 0 ≤ (y 2).val ∧ (y 2).val < 0 + 7680; omega
    · refine Finset.mem_union_right _ (Finset.mem_map_of_mem _ (Rect.mem_set_unit.mpr fun a => ?_))
      match a with
      | ⟨0, _⟩ => show 1 ≤ (y 0).val ∧ (y 0).val < 1 + 1; omega
      | ⟨1, _⟩ => show 0 ≤ (y 1).val ∧ (y 1).val < 0 + 128; omega
      | ⟨2, _⟩ => show 0 ≤ (y 2).val ∧ (y 2).val < 0 + 7680; omega

theorem out_disjoint : Disjoint (outM0 arg5).view.set (outM1 arg5).view.set := by
  rw [outM0_set, outM1_set]
  refine View.disjoint_setOn _ (Finset.disjoint_left.mpr fun y hi hj => ?_)
  have a := (Rect.mem_set_unit.mp hi 0).2
  have b := (Rect.mem_set_unit.mp hj 0).1
  have a2 : (y 0).val < 0 + 1 := a
  have b1 : 1 ≤ (y 0).val := b
  omega

/-- The codes, entry by entry. -/
theorem out_cut (y : BufTy.Contents (Elt F) arg5.view.ty) :
    (arg5.view.loc (c : Thread nD τ) ↦[arg5.view.set]{fullShare} y : sProp 𝕄)
      ⊣⊢ iprop((arg5.view.loc (c : Thread nD τ) ↦[arg5.view.setOn (Rect.unit (s := S2x128x7680) ![0, 0, 0] S1x128x7680.size inb_S2x128x7680_S1x128x7680_0_0_0).set]{fullShare} y)
        ∗ (arg5.view.loc (c : Thread nD τ) ↦[arg5.view.setOn (Rect.unit (s := S2x128x7680) ![1, 0, 0] S1x128x7680.size inb_S2x128x7680_S1x128x7680_1_0_0).set]{fullShare} y)) := by
  rw [← out_union, ← outM0_set, ← outM1_set]
  exact pointsTo_union (out_disjoint arg5)

/-- The two entries written, one after the other, give the codes. -/
theorem out_join (y : BufTy.Contents (Elt F) arg5.view.ty) (A B : S128x7680.Idx → Elt F .fp8e4m3) :
    (iprop((arg5.view.loc (c : Thread nD τ) ↦[arg5.view.setOn (Rect.unit (s := S2x128x7680) ![0, 0, 0] S1x128x7680.size inb_S2x128x7680_S1x128x7680_0_0_0).set]{fullShare} (outM0 arg5).view.write (Elt F) y A Finset.univ)
        ∗ (arg5.view.loc (c : Thread nD τ) ↦[arg5.view.setOn (Rect.unit (s := S2x128x7680) ![1, 0, 0] S1x128x7680.size inb_S2x128x7680_S1x128x7680_1_0_0).set]{fullShare} (outM1 arg5).view.write (Elt F) y B Finset.univ)) : sProp 𝕄)
      ⊢ (arg5.view.loc (c : Thread nD τ) ↦[arg5.view.set]{fullShare} (outM1 arg5).view.write (Elt F) ((outM0 arg5).view.write (Elt F) y A Finset.univ) B Finset.univ) := by
  have h0 := pointsTo_congr (nD := nD) (τ := τ) (sig := sig) (Ix := Unit) (Val := Elt F) (Name := ℕ) (U := Pipeline.UD sig nD τ) (Lvl := ℕ)
    (ℓ := arg5.view.loc (c : Thread nD τ)) (q := fullShare) (I := arg5.view.setOn (Rect.unit (s := S2x128x7680) ![0, 0, 0] S1x128x7680.size inb_S2x128x7680_S1x128x7680_0_0_0).set)
    (f := (outM0 arg5).view.write (Elt F) y A Finset.univ)
    (g := (outM1 arg5).view.write (Elt F) ((outM0 arg5).view.write (Elt F) y A Finset.univ) B Finset.univ) (fun i hi => by
      refine (View.write_of_not_mem (v := (outM1 arg5).view) ((outM0 arg5).view.write (Elt F) y A Finset.univ) B Finset.univ (i := i) (fun hm => ?_)).symm
      rw [View.setOn_univ] at hm
      rw [← outM0_set] at hi
      exact Finset.disjoint_left.mp (out_disjoint arg5) hi hm)
  have h1 := pointsTo_congr (nD := nD) (τ := τ) (sig := sig) (Ix := Unit) (Val := Elt F) (Name := ℕ) (U := Pipeline.UD sig nD τ) (Lvl := ℕ)
    (ℓ := arg5.view.loc (c : Thread nD τ)) (q := fullShare) (I := arg5.view.setOn (Rect.unit (s := S2x128x7680) ![1, 0, 0] S1x128x7680.size inb_S2x128x7680_S1x128x7680_1_0_0).set)
    (f := (outM1 arg5).view.write (Elt F) y B Finset.univ)
    (g := (outM1 arg5).view.write (Elt F) ((outM0 arg5).view.write (Elt F) y A Finset.univ) B Finset.univ) (fun i hi => by
      rw [← outM1_set] at hi
      obtain ⟨z, -, rfl⟩ := Finset.mem_map.mp hi
      exact (View.write_emb_of_mem (v := (outM1 arg5).view) y B (Finset.mem_univ z)).trans
        (View.write_emb_of_mem (v := (outM1 arg5).view) ((outM0 arg5).view.write (Elt F) y A Finset.univ) B (Finset.mem_univ z)).symm)
  rw [h0, h1]
  exact (out_cut c arg5 _).2

section Body

variable (g : BufTy.Contents (Elt F) arg0.view.ty)
  (a2s : BufTy.Contents (Elt F) arg1.view.ty)
  (Wf : BufTy.Contents (Elt F) arg2.view.ty)
  (sf : BufTy.Contents (Elt F) arg3.view.ty)
  (bf : BufTy.Contents (Elt F) arg4.view.ty)
  (yc : BufTy.Contents (Elt F) arg5.view.ty)
  (ys : BufTy.Contents (Elt F) arg6.view.ty)
  (x7 : BufTy.Contents (Elt F) arg7.view.ty)
  (x8 : BufTy.Contents (Elt F) arg8.view.ty)
  (f0 : BufTy.Contents (Elt F) arg9.view.ty)
  (v : BufTy.Contents (Elt F) arg10.view.ty)
  (xc : BufTy.Contents (Elt F) arg11.view.ty)
  (t : BufTy.Contents (Elt F) arg12.view.ty)
  (u : BufTy.Contents (Elt F) arg13.view.ty)
  (sr : BufTy.Contents (Elt F) arg14.view.ty)

set_option maxRecDepth 16384
set_option maxHeartbeats 8000000

/-- The body's run: what it leaves in the codes and in the scales, and that it leaves it. -/
@[irreducible] def body_run :
   { Y : BufTy.Contents (Elt F) arg5.view.ty × BufTy.Contents (Elt F) arg6.view.ty // ∀ W : Waits sig Unit,
     (iprop((arg0.view.loc (c : Thread nD τ) ↦[arg0.view.set]{fullShare} g)
       ∗ (arg1.view.loc (c : Thread nD τ) ↦[arg1.view.set]{fullShare} a2s)
       ∗ (arg2.view.loc (c : Thread nD τ) ↦[arg2.view.set]{fullShare} Wf)
       ∗ (arg3.view.loc (c : Thread nD τ) ↦[arg3.view.set]{fullShare} sf)
       ∗ (arg4.view.loc (c : Thread nD τ) ↦[arg4.view.set]{fullShare} bf)
       ∗ (arg5.view.loc (c : Thread nD τ) ↦[arg5.view.set]{fullShare} yc)
       ∗ (arg6.view.loc (c : Thread nD τ) ↦[arg6.view.set]{fullShare} ys)
       ∗ (arg7.view.loc (c : Thread nD τ) ↦[arg7.view.set]{fullShare} x7)
       ∗ (arg8.view.loc (c : Thread nD τ) ↦[arg8.view.set]{fullShare} x8)
       ∗ (arg9.view.loc (c : Thread nD τ) ↦[arg9.view.set]{fullShare} f0)
       ∗ (arg10.view.loc (c : Thread nD τ) ↦[arg10.view.set]{fullShare} v)
       ∗ (arg11.view.loc (c : Thread nD τ) ↦[arg11.view.set]{fullShare} xc)
       ∗ (arg12.view.loc (c : Thread nD τ) ↦[arg12.view.set]{fullShare} t)
       ∗ (arg13.view.loc (c : Thread nD τ) ↦[arg13.view.set]{fullShare} u)
       ∗ (arg14.view.loc (c : Thread nD τ) ↦[arg14.view.set]{fullShare} sr)
       ∗ semVal ((c : Thread nD τ), SemLoc.dma (cellI v0_r0 ![11] inb_S15_S1_11)) 0 ∗ semVal ((c : Thread nD τ), SemLoc.dma (cellI v0_r0 ![12] inb_S15_S1_12)) 0
       ∗ cellsP c v1_r0
       ∗ semVal ((c : Thread nD τ), SemLoc.dma (cellY v2_r0 ![9] inb_S14_S1_9)) 0 ∗ semVal ((c : Thread nD τ), SemLoc.dma (cellY v2_r0 ![10] inb_S14_S1_10)) 0
       ∗ semVal ((c : Thread nD τ), SemLoc.dma (cellY v2_r0 ![11] inb_S14_S1_11)) 0
       ∗ owes (c : Thread nD τ) 0 W) : sProp 𝕄)
     ⊢ wp frame (wpE (defs₀ (F := F)) Variants.none (c : Thread nD τ) none) Set.univ (cc0_vit_layer_up (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0)
       (fun _ => iprop((arg0.view.loc (c : Thread nD τ) ↦[arg0.view.set]{fullShare} g)
       ∗ (arg1.view.loc (c : Thread nD τ) ↦[arg1.view.set]{fullShare} a2s)
       ∗ (arg2.view.loc (c : Thread nD τ) ↦[arg2.view.set]{fullShare} Wf)
       ∗ (arg3.view.loc (c : Thread nD τ) ↦[arg3.view.set]{fullShare} sf)
       ∗ (arg4.view.loc (c : Thread nD τ) ↦[arg4.view.set]{fullShare} bf)
       ∗ (arg5.view.loc (c : Thread nD τ) ↦[arg5.view.set]{fullShare} Y.1)
       ∗ (arg6.view.loc (c : Thread nD τ) ↦[arg6.view.set]{fullShare} Y.2)
       ∗ (∃ x, arg7.view.loc (c : Thread nD τ) ↦[arg7.view.set]{fullShare} x)
       ∗ (∃ x, arg8.view.loc (c : Thread nD τ) ↦[arg8.view.set]{fullShare} x)
       ∗ (∃ x, arg9.view.loc (c : Thread nD τ) ↦[arg9.view.set]{fullShare} x)
       ∗ (∃ x, arg10.view.loc (c : Thread nD τ) ↦[arg10.view.set]{fullShare} x)
       ∗ (∃ x, arg11.view.loc (c : Thread nD τ) ↦[arg11.view.set]{fullShare} x)
       ∗ (∃ x, arg12.view.loc (c : Thread nD τ) ↦[arg12.view.set]{fullShare} x)
       ∗ (∃ x, arg13.view.loc (c : Thread nD τ) ↦[arg13.view.set]{fullShare} x)
       ∗ (∃ x, arg14.view.loc (c : Thread nD τ) ↦[arg14.view.set]{fullShare} x)
       ∗ semVal ((c : Thread nD τ), SemLoc.dma (cellI v0_r0 ![11] inb_S15_S1_11)) 0 ∗ semVal ((c : Thread nD τ), SemLoc.dma (cellI v0_r0 ![12] inb_S15_S1_12)) 0
       ∗ cellsP c v1_r0
       ∗ semVal ((c : Thread nD τ), SemLoc.dma (cellY v2_r0 ![9] inb_S14_S1_9)) 0 ∗ semVal ((c : Thread nD τ), SemLoc.dma (cellY v2_r0 ![10] inb_S14_S1_10)) 0
       ∗ semVal ((c : Thread nD τ), SemLoc.dma (cellY v2_r0 ![11] inb_S14_S1_11)) 0
       ∗ ∃ W, owes (c : Thread nD τ) 0 W)) } := by
  refine ⟨⟨?_, ?_⟩, fun W => ?run⟩
  case run =>
    unfold cc0_vit_layer_up
    iintro ⟨H0, H1, H2, H3, H4, H5, H6, H7, H8, H9, H10, H11, H12, H13, H14, S11, S12, SP, T9, T10, T11, HO⟩
    ihave HI := (stage_enter c arg2 arg9 v1_r0 f0 Wf) $$ [H9 H2 SP]
    · isplitl [H9]; · iexact H9
      isplitl [H2]; · iexact H2
      iexact SP
    icases HI with ⟨HI, HR, HQ⟩
    sl_exec
    sl_for (fun n _ => inv1 c arg2 arg9 v1_r0 f0 Wf n) $$ [HI]
    · intro k acc; exact region_k0_t1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 f0 Wf k acc
    · exact BIBase.Entails.rfl
    iintro %acc HI
    ihave HF := (stage_issued c arg2 arg9 v1_r0 f0 Wf) $$ HI
    sl_exec
    sl_for (fun n _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 arg1 arg14 a2s) (arenaOf c arg2 arg9 f0 Wf) Wf g
        (arg12.view.writes (Elt F) arg12.view.junk (body_run.sl.H12_2 arg1 arg14 a2s))
        (arg7.view.writes (Elt F) arg7.view.junk [⟨Rect.whole S7680, body_run.sl.dma0 arg3 sf⟩])
        (arg8.view.writes (Elt F) arg8.view.junk [⟨Rect.whole S7680, body_run.sl.dma0_1 arg4 bf⟩])
        (arg13.view.writes (Elt F) arg13.view.junk body_run.sl.H13_1) v n) $$ [H0 H12 H7 H8 H10 H13 HF HO]
    · intro k acc; exact region_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 _ _ Wf g _ _ _ _ v k acc
    · unfold inv2
      isplitl [H0]; · iexact H0
      isplitl [H12]; · iexact H12
      isplitl [H7]; · iexact H7
      isplitl [H8]; · iexact H8
      isplitl [H10]; · iexact H10
      isplitl [H13]; · iexact H13
      isplitl [HF]; · iexact HF
      isplitr
      · iapply (lo_start c arg2 arg9 v1_r0 (arenaOf c arg2 arg9 f0 Wf) Wf)
        iempintro
      iexists _; iexact HO
    iintro %acc2 HI
    unfold inv2
    icases HI with ⟨H0, H12, H7, H8, H10, H13, -, HL, %W2, HO⟩
    ihave HL := (stage_landed c arg2 arg9 v1_r0 (arenaOf c arg2 arg9 f0 Wf) Wf) $$ HL
    ihave HE := (stage_leave c arg2 arg9 v1_r0 f0 Wf) $$ [HL HR HQ]
    · isplitl [HL]; · iexact HL
      isplitl [HR]; · iexact HR
      iexact HQ
    icases HE with ⟨H9, H2, SP⟩
    sl_exec
    sl_for (fun n _ => colsAt c arg10 arg11 arg13
        (vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 arg1 arg14 a2s) (arenaOf c arg2 arg9 f0 Wf) Wf g (arg12.view.writes (Elt F) arg12.view.junk (body_run.sl.H12_2 arg1 arg14 a2s)) (arg7.view.writes (Elt F) arg7.view.junk [⟨Rect.whole S7680, body_run.sl.dma0 arg3 sf⟩]) (arg8.view.writes (Elt F) arg8.view.junk [⟨Rect.whole S7680, body_run.sl.dma0_1 arg4 bf⟩]) (arg13.view.writes (Elt F) arg13.view.junk body_run.sl.H13_1) v (Scf.trips k0_t2_loop.lb k0_t2_loop.ub k0_t2_loop.st))
        (arg13.view.writes (Elt F) arg13.view.junk (body_run.sl.H13_1_1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0))
        (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0
          (body_run.sl.r c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)
          (vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 arg1 arg14 a2s) (arenaOf c arg2 arg9 f0 Wf) Wf g (arg12.view.writes (Elt F) arg12.view.junk (body_run.sl.H12_2 arg1 arg14 a2s)) (arg7.view.writes (Elt F) arg7.view.junk [⟨Rect.whole S7680, body_run.sl.dma0 arg3 sf⟩]) (arg8.view.writes (Elt F) arg8.view.junk [⟨Rect.whole S7680, body_run.sl.dma0_1 arg4 bf⟩]) (arg13.view.writes (Elt F) arg13.view.junk body_run.sl.H13_1) v (Scf.trips k0_t2_loop.lb k0_t2_loop.ub k0_t2_loop.st))
          (arg13.view.writes (Elt F) arg13.view.junk (body_run.sl.H13_1_1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) xc n)) $$ [H10 H13 H11]
    · intro k acc; exact region_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 _ _ _ xc k acc
    · unfold colsAt
      isplitl [H10]; · iexact H10
      isplitl [H13]; · iexact H13
      iexact H11
    iintro %acc3 HI
    unfold colsAt
    icases HI with ⟨H10, H13, H11⟩
    ihave H5 := (out_cut c arg5 yc).1 $$ H5
    icases H5 with ⟨H5, H5'⟩
    sl_exec
    ihave H5 := (out_join c arg5 yc _ _) $$ [H5 H5']
    · isplitl [H5]; · iexact H5
      iexact H5'
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [S11]; · iexact S11
    isplitl [S12]; · iexact S12
    isplitl [SP]; · iexact SP
    isplitl [T9]; · iexact T9
    isplitl [T10]; · iexact T10
    isplitl [T11]; · iexact T11
    iexists _; iexact HO

end Body

end Cert.Up.Hand
-- ==== Proof.UpLaunch.lean ====
module

public import proofs.«01_k».proof.Proof.UpBody
public import proofs.«01_k».proof.Proof.Gen.Up.Frame

/-!
The launch of the kernel: the one pipeline stages its two windows, the body runs once (`body_run`), and what it
leaves in the two results is kept as the contents that the run computes.
-/

@[expose] public section

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The operands -/

/-- The arrays that the body writes by its own copies: the two results. -/
def R0 : Finset (Ref sig .tc) := {main_v1_0, main_v1_1}
/-- The arrays that the body's copies read. -/
def H0 : Finset (Ref sig .tc) := {main_arg2, main_arg3, main_arg4}
theorem H0_sub : H0 ⊆ Pipeline.restRefs sig spec0 := by decide
theorem R0_sub : R0 ⊆ Pipeline.restRefs sig spec0 \ H0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The copies' semaphores: two of the first array, three of the third, thirty of the second. -/
abbrev osem0 : Fin 35 → SemLoc sig := fun j => (![SemLoc.dma 13, SemLoc.dma 14, SemLoc.dma 110, SemLoc.dma 111, SemLoc.dma 112, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70] : Fin 35 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellI cc0_scoped0 ![11] inb_S15_S1_11)) 0
          ∗ semVal ((c : Thread nD τ), SemLoc.dma (cellI cc0_scoped0 ![12] inb_S15_S1_12)) 0
          ∗ semVal ((c : Thread nD τ), SemLoc.dma (cellY cc0_scoped2 ![9] inb_S14_S1_9)) 0
          ∗ semVal ((c : Thread nD τ), SemLoc.dma (cellY cc0_scoped2 ![10] inb_S14_S1_10)) 0
          ∗ semVal ((c : Thread nD τ), SemLoc.dma (cellY cc0_scoped2 ![11] inb_S14_S1_11)) 0
          ∗ cellsP (F := F) c cc0_scoped1) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]
  unfold cellsP
  rw [BI.bigSep_univ_eq_bigSepL [0, 1, 2, 3, 4, 5, 6, 7, 8, 9, 10, 11, 12, 13, 14, 15, 16, 17, 18, 19, 20, 21, 22, 23, 24, 25, 26, 27, 28, 29] (by decide) (by decide)]
  rfl

theorem hbmPts0_eq (c : Dev nD) :
    (bigSep H0 (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3)
          ∗ (((c : Thread nD τ).loc main_arg4) ↦{fullShare} V m c main_arg4)) := by
  rw [BI.bigSep_eq_bigSepL_of_eq [main_arg2, main_arg3, main_arg4] (by decide) (by decide)]; rfl

theorem routed0_eq (c : Dev nD) (W : (b : Ref sig .tc) → Buf (Elt F) ((c : Thread nD τ).loc b)) :
    (Pipeline.routed R0 c W : sProp 𝕄)
      = iprop((((c : Thread nD τ).loc main_v1_0) ↦{fullShare} W main_v1_0) ∗ (((c : Thread nD τ).loc main_v1_1) ↦{fullShare} W main_v1_1)) := by
  unfold Pipeline.routed
  rw [BI.bigSep_eq_bigSepL_of_eq [main_v1_0, main_v1_1] (by decide) (by decide)]; rfl

/-! ## What the body leaves -/

/-- The two windows' blocks. -/
abbrev blk0 (c : Dev nD) : Vec F S256x2880 .fp8e4m3 := iblk m c 0 t0_0
abbrev blk1 (c : Dev nD) : Vec F S2x128 .f32 := iblk m c 1 t0_0

/-- The body's run at the kernel's own operands: the staged windows, the arrays left in main memory, and the scratch
    at what it held before. -/
abbrev ran (c : Dev nD) (x7 : Buf (Elt F) ((c : Thread nD τ).loc cc0_scratch0))
    (x8 : Buf (Elt F) ((c : Thread nD τ).loc cc0_scratch1))
    (f0 : Buf (Elt F) ((c : Thread nD τ).loc cc0_scratch2))
    (v : Buf (Elt F) ((c : Thread nD τ).loc cc0_scratch3))
    (xc : Buf (Elt F) ((c : Thread nD τ).loc cc0_scratch4))
    (t : Buf (Elt F) ((c : Thread nD τ).loc cc0_scratch5))
    (u : Buf (Elt F) ((c : Thread nD τ).loc cc0_scratch6))
    (sr : Buf (Elt F) ((c : Thread nD τ).loc cc0_scratch7)) :=
  body_run (F := F) c (Memref.whole cc0_stg0_0) (Memref.isWhole_whole _) (Memref.whole cc0_stg1_0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2
    (blk0 m c) (blk1 m c) (V m c main_arg2) (V m c main_arg3) (V m c main_arg4) (V m c main_v1_0) (V m c main_v1_1) x7 x8 f0 v xc t u sr

/-- The results hold what the run writes, from some scratch. -/
def left (c : Dev nD) (W : (b : Ref sig .tc) → Buf (Elt F) ((c : Thread nD τ).loc b)) : Prop :=
  ∃ x7 x8 f0 v xc t u sr, W main_v1_0 = (ran m c x7 x8 f0 v xc t u sr).1.1 ∧ W main_v1_1 = (ran m c x7 x8 f0 v xc t u sr).1.2

/-! ## The proof data and the body's obligation -/

/-- Before the body: the scratch, the generator, the semaphores at zero, the arrays read and the results as found. After
    it: the same with the results as the run leaves it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRG osem0 spec0 H0 R0 (V m) (V m) c
    else iprop(Pipeline.ΦD osem0 spec0 H0 (V m) c ∗ Pipeline.routedSat R0 c (left m c))
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after0 (c : Dev nD) (t : Fin cfg0.N) : (dats m 0 c).after 0 t = iblk m c 0 t := by dsimp only [dats]
theorem before1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after1 (c : Dev nD) (t : Fin cfg0.N) : (dats m 0 c).after 1 t = iblk m c 1 t := by dsimp only [dats]

abbrev ms0_0 (t : Fin cfg0.N) : Memref sig .tc .vmem S256x2880 .fp8e4m3 := win0_0.stage (cfg0.slots t 0)
abbrev ms0_1 (t : Fin cfg0.N) : Memref sig .tc .vmem S2x128 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0, before1, after0, after1]
  rw [show (dats m 0 c).Φ (Fin.castSucc t0_0) = Pipeline.ΦDRG osem0 spec0 H0 R0 (V m) (V m) c from rfl,
    show (dats m 0 c).Φ (Fin.succ t0_0) = iprop(Pipeline.ΦD osem0 spec0 H0 (V m) c ∗ Pipeline.routedSat R0 c (left m c)) from rfl]
  rw [Pipeline.ΦDRG_eq, Pipeline.ΦD_eq, scopedRest0_eq, ownSems00_eq, hbmPts0_eq, routed0_eq]
  unfold Dat.owesAt Pipeline.owesWithin
  rw [show (dats m 0 c).owed (Fin.castSucc t0_0) = 0 from rfl, show (dats m 0 c).owed (Fin.succ t0_0) = 0 from rfl]
  rw [show ms0_0 t0_0 = Memref.whole cc0_stg0_0 from rfl, show ms0_1 t0_0 = Memref.whole cc0_stg1_0 from rfl]
  simp only [owns_whole]
  iintro ⟨⟨⟨⟨%x7, H7⟩, ⟨%x8, H8⟩, ⟨%f0, H9⟩, ⟨%v, H10⟩, ⟨%xc, H11⟩, ⟨%t, H12⟩, ⟨%u, H13⟩, ⟨%sr, H14⟩⟩, Hg, ⟨S11, S12, T9, T10, T11, SP⟩, ⟨H2, H3, H4⟩, H5, H6⟩,
    ⟨%W, -, HO⟩, ⟨%d0, H0⟩, ⟨%d1, H1⟩⟩
  have hr := (ran m c x7 x8 f0 v xc t u sr).2 W
  simp only [Memref.view_whole, View.set_whole] at hr
  iapply (wp_wand frame (wpE (defs₀ (F := F)) Variants.none (c : Thread nD τ) none) Set.univ) $$ [H0 H1 H2 H3 H4 H5 H6 H7 H8 H9 H10 H11 H12 H13 H14 S11 S12 SP T9 T10 T11 HO]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S11]; · iexact S11
    isplitl [S12]; · iexact S12
    isplitl [SP]; · iexact SP
    isplitl [T9]; · iexact T9
    isplitl [T10]; · iexact T10
    isplitl [T11]; · iexact T11
    iexact HO
  iintro %_ ⟨H0, H1, H2, H3, H4, H5, H6, H7, H8, H9, H10, H11, H12, H13, H14, S11, S12, SP, T9, T10, T11, ⟨%W', HO⟩⟩
  isplitl [H2 H3 H4 H5 H6 H7 H8 H9 H10 H11 H12 H13 H14 S11 S12 SP T9 T10 T11 Hg]
  · isplitl [H2 H3 H4 H7 H8 H9 H10 H11 H12 H13 H14 S11 S12 SP T9 T10 T11 Hg]
    · isplitl [H7 H8 H9 H10 H11 H12 H13 H14]
      · isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      isplitl [Hg]; · iexact Hg
      isplitl [S11 S12 SP T9 T10 T11]
      · isplitl [S11]; · iexact S11
        isplitl [S12]; · iexact S12
        isplitl [T9]; · iexact T9
        isplitl [T10]; · iexact T10
        isplitl [T11]; · iexact T11
        iexact SP
      isplitl [H2]; · iexact H2
      isplitl [H3]; · iexact H3
      iexact H4
    unfold Pipeline.routedSat
    iexists (Function.update (Function.update (V m c) main_v1_0 (ran m c x7 x8 f0 v xc t u sr).1.1) main_v1_1 (ran m c x7 x8 f0 v xc t u sr).1.2)
    isplitr
    · ipureintro
      exact ⟨x7, x8, f0, v, xc, t, u, sr, (Function.update_of_ne (by decide) _ _).trans (Function.update_self _ _ _), Function.update_self _ _ _⟩
    rw [routed0_eq, Function.update_self, Function.update_of_ne (by decide), Function.update_self]
    isplitl [H5]; · iexact H5
    iexact H6
  isplitl [HO]
  · iexists W'; isplitr; · ipureintro; exact fun _ _ => Or.inl trivial
    iexact HO
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the run ends with: every array but the results as the region found it, the results at what the body leaves. -/
def Post (r : PUnit × MemSt nD τ sig (Elt F)) : Prop :=
  (RDat.FramePostR cfg0 (fun c => (dats m 0 c).toR) R0 (V m) r
    ∧ ∀ c : Dev nD, ∃ W : (b : Ref sig .tc) → Buf (Elt F) ((c.tc : Thread nD τ).loc b), left m c W ∧ ∀ b ∈ R0, r.2.mem ((c.tc : Thread nD τ).loc b) = W b)
  ∧ r.2.sem = fun _ => 0

set_option backward.isDefEq.respectTransparency.types false in
theorem run_main : θ_run defs (onTc (τ := τ) (main (F := F))) (s₀ m ρ) (Post m) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (dats m 0 c).toR) ownSemFacts0 H0 R0 (H0_sub.trans hrest) (R0_sub.trans (Finset.sdiff_subset_sdiff hrest subset_rfl)) m ρ main
    (hbody := fun c => (body_obligation m c).loose.toR)
    (hq := fun c w hw => (dats m 0 c).toR.q_eq_shareOf_of_share_full winFacts0.arr_inj (fun w => (dats m 0 c).share_full (fun _ => rfl) w) w hw)
    (howed := fun _ _ => rfl) (V := V m) (hmain := hmainD m Variants.none) (hA := A_eq m) (hpf := fun _ k => k.elim0)
    (PG := left m)
    (hin := fun c => (show _ ⊢ Pipeline.ΦDRG osem0 spec0 H0 R0 (V m) (V m) c from by iintro ⟨H, -⟩; iexact H))
    (hout := fun c => .rfl)
    (Q' := Post m) (hQ' := fun _ h => h)

/-- The program terminates, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c) ⟩, h.2⟩)
    (run_main m ρ)

/-- The run read at the arguments and the results. -/
theorem run_value (Y0 : (c : Dev nD) → Buf (Elt F) ((c : Thread nD τ).loc main_v1_0)) (Y1 : (c : Dev nD) → Buf (Elt F) ((c : Thread nD τ).loc main_v1_1))
    (hY : ∀ c W, left m c W → W main_v1_0 = Y0 c ∧ W main_v1_1 = Y1 c) :
    θ_run defs (onTc (τ := τ) (main (F := F))) ⟨m, fun _ => 0, ρ⟩ (fun r => ∀ c : Dev nD,
      r.2.mem ((c.tc : Thread nD τ).loc main_v1_0) = Y0 c
      ∧ r.2.mem ((c.tc : Thread nD τ).loc main_v1_1) = Y1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨by
        obtain ⟨W, hW, hm⟩ := h.1.2 c
        exact (hm main_v1_0 (by decide)).trans (hY c W hW).1, by
        obtain ⟨W, hW, hm⟩ := h.1.2 c
        exact (hm main_v1_1 (by decide)).trans (hY c W hW).2,
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c) ⟩)
    (run_main m ρ)

end Cert.Up.Hand

end
-- ==== Proof.UpPanelsIdeal.lean ====
module

public import proofs.«01_k».proof.Proof.Gen.UpIdeal.Launch
public import proofs.«01_k».proof.Proof.Gen.UpIdeal.Skeleton
public import proofs.«01_k».proof.Proof.Gen.UpIdeal.Points
public import Idealize.ShloMosaic.Lib.Pipeline.FrameValue
public import Idealize.ShloMosaic.Lib.Ring
public import Idealize.ShloMosaic.Lib.Tactic

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## Big separating conjunctions cut at a number -/

section Cut

variable {M : Type} [URA M] {N : ℕ} (Φ : Fin N → sProp M)

/-- The conjuncts at `n` and above. -/
def Hi (n : ℕ) : sProp M := bigSep (Finset.univ.filter fun i : Fin N => n ≤ i.val) Φ

/-- The conjuncts below `n`. -/
def Lo (n : ℕ) : sProp M := bigSep (Finset.univ.filter fun i : Fin N => i.val < n) Φ

theorem Hi_step (n : ℕ) (h : n < N) : Hi Φ n = iprop(Φ ⟨n, h⟩ ∗ Hi Φ (n + 1)) := by
  have e : (Finset.univ.filter fun i : Fin N => n ≤ i.val) = insert ⟨n, h⟩ (Finset.univ.filter fun i : Fin N => n + 1 ≤ i.val) := by
    ext i; simp only [Finset.mem_filter, Finset.mem_univ, true_and, Finset.mem_insert, Fin.ext_iff]; omega
  unfold Hi
  rw [e, bigSep_insert (by simp)]
  rfl

theorem Lo_step (n : ℕ) (h : n < N) : Lo Φ (n + 1) = iprop(Φ ⟨n, h⟩ ∗ Lo Φ n) := by
  have e : (Finset.univ.filter fun i : Fin N => i.val < n + 1) = insert ⟨n, h⟩ (Finset.univ.filter fun i : Fin N => i.val < n) := by
    ext i; simp only [Finset.mem_filter, Finset.mem_univ, true_and, Finset.mem_insert, Fin.ext_iff]; omega
  unfold Lo
  rw [e, bigSep_insert (by simp)]
  rfl

theorem Hi_zero : Hi Φ 0 = bigSep Finset.univ Φ := by
  unfold Hi; congr 1; ext i; simp

theorem Lo_zero : Lo Φ 0 = iprop(emp) := by
  unfold Lo
  rw [show (Finset.univ.filter fun i : Fin N => i.val < 0) = ∅ from by ext i; simp, bigSep_empty]
  rfl

theorem Hi_top : Hi Φ N = iprop(emp) := by
  unfold Hi
  rw [show (Finset.univ.filter fun i : Fin N => N ≤ i.val) = ∅ from by ext i; simp, bigSep_empty]
  rfl

theorem Lo_top : Lo Φ N = bigSep Finset.univ Φ := by
  unfold Lo; congr 1; ext i; simp

end Cut

/-! ## The cells, the slots of the arena and the panels of the weight -/

/-- A cell of the panels' semaphore array at an offset. -/
abbrev cellO (o : Fin 1 → ℕ) (h : ∀ a, o a + S1.size a ≤ S84.size a) : DmaSem sig :=
  ((v1_r0.slice (Rect.unit (s := S84) o S1.size h)).squeeze S_ squeezes_S1_S_).sem

/-- A slot of the arena at an offset. -/
abbrev slotO (o : Fin 2 → ℕ) (h : ∀ a, o a + S2880x256.size a ≤ S161280x256.size a) : Rect S161280x256 :=
  Rect.unit (s := S161280x256) o S2880x256.size h

/-- A panel of the weight at an offset. -/
abbrev panelO (o : Fin 2 → ℕ) (h : ∀ a, o a + S2880x256.size a ≤ S2880x7680.size a) : Memref sig .tc .hbm S2880x256 .fp8e4m3 :=
  arg2.slice (Rect.unit (s := S2880x7680) o S2880x256.size h) (fun _ => rfl)

section Slots

variable (A : Buf (Elt F) (arg9.view.loc (c : Thread nD τ))) (Wf : Buf (Elt F) (arg2.view.loc (c : Thread nD τ)))
  (o4 : Fin 1 → ℕ) (o5 o6 : Fin 2 → ℕ) (h4 : ∀ a, o4 a + S1.size a ≤ S84.size a)
  (h5 : ∀ a, o5 a + S2880x256.size a ≤ S161280x256.size a) (h6 : ∀ a, o6 a + S2880x256.size a ≤ S2880x7680.size a)

/-- A slot's elements at the arena's contents beside a panel's elements at the weight's. -/
def del : sProp 𝕄 :=
  iprop((arg9.view.loc (c : Thread nD τ) ↦[arg9.view.setOn (slotO o5 h5).set]{fullShare} A)
   ∗ ((panelO arg2 o6 h6).view.loc (c : Thread nD τ) ↦[(panelO arg2 o6 h6).view.set]{fullShare} Wf))

/-- A panel's transfer in flight. -/
def fl : sProp 𝕄 :=
  Transfers.Flight (countersEmb (U := Pipeline.UD sig nD τ)) (c : Thread nD τ) (.dma (cellO v1_r0 o4 h4)) () (arg9.view.ref.dmaCredit S2880x256 .fp8e4m3) (del c arg2 arg9 A Wf o5 o6 h5 h6)

/-- A slot and a panel held by the core, with the cell back at zero. -/
def landed : sProp 𝕄 :=
  iprop(del c arg2 arg9 A Wf o5 o6 h5 h6 ∗ semVal ((c : Thread nD τ), SemLoc.dma (cellO v1_r0 o4 h4)) 0)

variable {o4 o5 o6} in
theorem fl_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    fl c arg2 arg9 v1_r0 A Wf o4 o5 o6 h4 h5 h6 = fl c arg2 arg9 v1_r0 A Wf o4' o5' o6' h4' h5' h6' := by
  subst e4 e5 e6; rfl

variable {o4 o5 o6} in
theorem landed_congr {o4' : Fin 1 → ℕ} {o5' o6' : Fin 2 → ℕ} (e4 : o4 = o4') (e5 : o5 = o5') (e6 : o6 = o6')
    (h4' : ∀ a, o4' a + S1.size a ≤ S84.size a)
    (h5' : ∀ a, o5' a + S2880x256.size a ≤ S161280x256.size a) (h6' : ∀ a, o6' a + S2880x256.size a ≤ S2880x7680.size a) :
    landed c arg2 arg9 v1_r0 A Wf o4 o5 o6 h4 h5 h6 = landed c arg2 arg9 v1_r0 A Wf o4' o5' o6' h4' h5' h6' := by
  subst e4 e5 e6; rfl

end Slots

theorem cell_inb : ∀ i : Fin 30, ∀ a, (![i.val + 24] : Fin 1 → ℕ) a + S1.size a ≤ S84.size a := by decide +kernel
theorem slot_inb : ∀ i : Fin 30, ∀ a, (![2880 * i.val + 74880, 0] : Fin 2 → ℕ) a + S2880x256.size a ≤ S161280x256.size a := by decide +kernel
theorem panel_inb : ∀ i : Fin 30, ∀ a, (![0, 256 * i.val] : Fin 2 → ℕ) a + S2880x256.size a ≤ S2880x7680.size a := by decide +kernel

section Stage

variable (A : Buf (Elt F) (arg9.view.loc (c : Thread nD τ))) (Wf : Buf (Elt F) (arg2.view.loc (c : Thread nD τ)))

/-- Panel `i`'s transfer in flight. -/
def flying (i : Fin 30) : sProp 𝕄 :=
  fl c arg2 arg9 v1_r0 A Wf ![i.val + 24] ![2880 * i.val + 74880, 0] ![0, 256 * i.val] (cell_inb i) (slot_inb i) (panel_inb i)

/-- Slot `i`, panel `i` and cell `i` held by the core. -/
def held (i : Fin 30) : sProp 𝕄 :=
  landed c arg2 arg9 v1_r0 A Wf ![i.val + 24] ![2880 * i.val + 74880, 0] ![0, 256 * i.val] (cell_inb i) (slot_inb i) (panel_inb i)

end Stage

/-- What the arena holds once every panel has landed: each slot is the panel of its number, and above the slots the old contents. -/
def arenaOf (f0 : Buf (Elt F) (arg9.view.loc (c : Thread nD τ))) (Wf : Buf (Elt F) (arg2.view.loc (c : Thread nD τ))) :
    Buf (Elt F) (arg9.view.loc (c : Thread nD τ)) :=
  arg9.view.write (Elt F) f0 (fun y => if h : 74880 ≤ (y 0).val then
      arg2.view.read (Elt F) Wf (fun a => Fin.cases (motive := fun a => Fin (S2880x7680.size a)) (⟨((y 0).val - 74880) % 2880, Nat.mod_lt _ (by decide)⟩ : Fin 2880)
        (fun b => Fin.cases (motive := fun b => Fin (S2880x7680.size b.succ)) (⟨256 * (((y 0).val - 74880) / 2880) + (y 1).val, by
          have := (y 1).isLt; change (y 1).val < 256 at this; have h0 := (y 0).isLt; change (y 0).val < 161280 at h0; omega⟩ : Fin 7680) (fun z => z.elim0) b) a)
    else arg9.view.read (Elt F) f0 y) Finset.univ

section ArenaRead

variable (f0 : Buf (Elt F) (arg9.view.loc (c : Thread nD τ))) (Wf : Buf (Elt F) (arg2.view.loc (c : Thread nD τ)))

/-- The arena's element under an index: the weight's in a slot. -/
theorem arenaOf_read (y : S161280x256.Idx) (h : 74880 ≤ (y 0).val) (z : S2880x7680.Idx)
    (h0 : (z 0).val = ((y 0).val - 74880) % 2880) (h1 : (z 1).val = 256 * (((y 0).val - 74880) / 2880) + (y 1).val) :
    arg9.view.read (Elt F) (arenaOf c arg2 arg9 f0 Wf) y = arg2.view.read (Elt F) Wf z := by
  unfold arenaOf
  rw [View.read_apply, View.write_emb_of_mem _ _ (Finset.mem_univ _), cast_cast, cast_eq, dif_pos h]
  congr 1
  funext a
  match a with
  | ⟨0, _⟩ => exact Fin.ext h0.symm
  | ⟨1, _⟩ => exact Fin.ext h1.symm

/-- Above the slots the arena keeps its old contents. -/
theorem arenaOf_below (y : S161280x256.Idx) (h : (y 0).val < 74880) :
    arenaOf c arg2 arg9 f0 Wf (arg9.view.emb y) = f0 (arg9.view.emb y) := by
  unfold arenaOf
  rw [View.write_emb_of_mem _ _ (Finset.mem_univ _), dif_neg (by omega), View.read_apply, cast_cast, cast_eq]

/-- A slot reads as its panel. -/
theorem arenaOf_slot (i : Fin 30) :
    (arg9.view.slice (slotO ![2880 * i.val + 74880, 0] (slot_inb i))).read (Elt F) (arenaOf c arg2 arg9 f0 Wf)
      = (panelO arg2 ![0, 256 * i.val] (panel_inb i)).view.read (Elt F) Wf := by
  funext x
  have hx0 : (x 0).val < 2880 := (x 0).isLt
  have hx1 : (x 1).val < 256 := (x 1).isLt
  have hi := i.isLt
  show arg9.view.read (Elt F) (arenaOf c arg2 arg9 f0 Wf) ((slotO ![2880 * i.val + 74880, 0] (slot_inb i)).emb x)
    = arg2.view.read (Elt F) Wf ((Rect.unit (s := S2880x7680) ![0, 256 * i.val] S2880x256.size (panel_inb i)).emb x)
  have e0 : ((slotO ![2880 * i.val + 74880, 0] (slot_inb i)).emb x 0).val = 2880 * i.val + 74880 + 1 * (x 0).val := rfl
  have e1 : ((slotO ![2880 * i.val + 74880, 0] (slot_inb i)).emb x 1).val = 0 + 1 * (x 1).val := rfl
  have d0 : ((Rect.unit (s := S2880x7680) ![0, 256 * i.val] S2880x256.size (panel_inb i)).emb x 0).val = 0 + 1 * (x 0).val := rfl
  have d1 : ((Rect.unit (s := S2880x7680) ![0, 256 * i.val] S2880x256.size (panel_inb i)).emb x 1).val = 256 * i.val + 1 * (x 1).val := rfl
  refine arenaOf_read c arg2 arg9 f0 Wf _ ?_ _ ?_ ?_
  · rw [e0]; omega
  · rw [e0, d0]; omega
  · rw [e0, e1, d1]; omega

end ArenaRead

/-! ## Issuing the panels -/

section Issue

variable (f0 : Buf (Elt F) (arg9.view.loc (c : Thread nD τ))) (Wf : Buf (Elt F) (arg2.view.loc (c : Thread nD τ)))

/-- Once its panel has landed a slot holds the arena's contents. -/
theorem slot_landed (i : Fin 30) {o5 o6 : Fin 2 → ℕ} (e5 : o5 = ![2880 * i.val + 74880, 0]) (e6 : o6 = ![0, 256 * i.val])
    (h5 : ∀ a, o5 a + S2880x256.size a ≤ S161280x256.size a) (h6 : ∀ a, o6 a + S2880x256.size a ≤ S2880x7680.size a) :
    (arg9.view.loc (c : Thread nD τ) ↦[arg9.view.setOn (slotO o5 h5).set]{fullShare}
        (arg9.view.slice (slotO o5 h5)).write (Elt F) f0 ((panelO arg2 o6 h6).view.read (Elt F) Wf) Finset.univ : sProp 𝕄)
      = (arg9.view.loc (c : Thread nD τ) ↦[arg9.view.setOn (slotO o5 h5).set]{fullShare} arenaOf c arg2 arg9 f0 Wf) := by
  subst e5 e6
  refine pointsTo_congr fun j hj => ?_
  have hj' : j ∈ (arg9.view.slice (slotO ![2880 * i.val + 74880, 0] (slot_inb i))).set := by rw [View.set_slice]; exact hj
  obtain ⟨x, -, rfl⟩ := Finset.mem_map.mp hj'
  rw [View.write_emb_of_mem _ _ (Finset.mem_univ _), ← arenaOf_slot c arg2 arg9 f0 Wf i, View.read_apply, cast_cast, cast_eq]

/-- A transfer that is to write a slot with its panel delivers the slot at the arena's contents. -/
theorem fl_landed (i : Fin 30) {o4 : Fin 1 → ℕ} {o5 o6 : Fin 2 → ℕ} (e5 : o5 = ![2880 * i.val + 74880, 0]) (e6 : o6 = ![0, 256 * i.val])
    (h4 : ∀ a, o4 a + S1.size a ≤ S84.size a)
    (h5 : ∀ a, o5 a + S2880x256.size a ≤ S161280x256.size a) (h6 : ∀ a, o6 a + S2880x256.size a ≤ S2880x7680.size a) :
    (Transfers.Flight (countersEmb (U := Pipeline.UD sig nD τ)) (c : Thread nD τ) (.dma (cellO v1_r0 o4 h4)) () (arg9.view.ref.dmaCredit S2880x256 .fp8e4m3)
      (iprop((arg9.view.loc (c : Thread nD τ) ↦[arg9.view.setOn (slotO o5 h5).set]{fullShare}
          (arg9.view.slice (slotO o5 h5)).write (Elt F) f0 ((panelO arg2 o6 h6).view.read (Elt F) Wf) Finset.univ)
        ∗ ((panelO arg2 o6 h6).view.loc (c : Thread nD τ) ↦[(panelO arg2 o6 h6).view.set]{fullShare} Wf)) : sProp 𝕄) : sProp 𝕄)
      ⊢ fl c arg2 arg9 v1_r0 (arenaOf c arg2 arg9 f0 Wf) Wf o4 o5 o6 h4 h5 h6 :=
  Transfers.Flight_mono _ _ (sep_mono_left (Entails.of_eq (slot_landed c arg2 arg9 f0 Wf i e5 e6 h5 h6)))

set_option maxRecDepth 8192
set_option maxHeartbeats 1000000

/-- One trip of the loop that issues the panels. -/
theorem trip_k0_t1 (k : Fin k0_t1_loop.trips) (K : sProp 𝕄) :
    iprop(held c arg2 arg9 v1_r0 f0 Wf k ∗ (flying c arg2 arg9 v1_r0 (arenaOf c arg2 arg9 f0 Wf) Wf k -∗ K))
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k ())
       (fun _ => K) := by
  unfold held flying k0_t1_body
  rw [landed_congr (e4 := (k0_off1_eq k).symm) (e5 := (k0_off2_eq k).symm) (e6 := (k0_off3_eq k).symm) (h4' := k0_off1_inb k) (h5' := k0_off2_inb k) (h6' := k0_off3_inb k),
    fl_congr (e4 := (k0_off1_eq k).symm) (e5 := (k0_off2_eq k).symm) (e6 := (k0_off3_eq k).symm) (h4' := k0_off1_inb k) (h5' := k0_off2_inb k) (h6' := k0_off3_inb k)]
  unfold landed del
  iintro ⟨⟨⟨Hd, Hs⟩, Hv⟩, HK⟩
  sl_exec
  sl_step
  iapply HK
  iapply (fl_landed c arg2 arg9 v1_r0 f0 Wf k (k0_off2_eq k) (k0_off3_eq k) (k0_off1_inb k) (k0_off2_inb k) (k0_off3_inb k))
  iexact Hv

/-- What the loop that issues the panels holds before trip `n`. -/
def inv1 (n : ℕ) : sProp 𝕄 :=
  iprop(Hi (held c arg2 arg9 v1_r0 f0 Wf) n ∗ Lo (flying c arg2 arg9 v1_r0 (arenaOf c arg2 arg9 f0 Wf) Wf) n)

theorem region_k0_t1 (k : Fin k0_t1_loop.trips) (acc : Unit) :
    inv1 c arg2 arg9 v1_r0 f0 Wf k.val
     ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 k acc)
       (fun _ => inv1 c arg2 arg9 v1_r0 f0 Wf (k.val + 1)) := by
  unfold inv1
  rw [Hi_step _ k.val (show k.val < 30 from k.isLt), Lo_step _ k.val (show k.val < 30 from k.isLt)]
  refine BIBase.Entails.trans ?_ (trip_k0_t1 _ _ _ _ _ _ _ _ _ _ _ _ _ _ _ _ _ _ _ _ _ _ _ _ _ _ _ _ _ _ _ _ _ _ f0 Wf k _)
  iintro ⟨⟨Hk, Hhi⟩, Hlo⟩
  isplitl [Hk]; · iexact Hk
  iintro Hf
  isplitl [Hhi]; · iexact Hhi
  isplitl [Hf]; · iexact Hf
  iexact Hlo

end Issue
/-! ## A trip of the loop over the groups of panels -/

section Trip2

variable (v30 : FVec F S128x128 .f32) (A : Buf (Elt F) (arg9.view.loc (c : Thread nD τ))) (Wf : Buf (Elt F) (arg2.view.loc (c : Thread nD τ)))

set_option maxRecDepth 8192
set_option maxHeartbeats 4000000

@[irreducible] def trip_k0_t2
   (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (k : Fin k0_t2_loop.trips) :
   { L : List (View.Piece (Elt F) S256x7680 .f32) × List (View.Piece (Elt F) S256x128 .f32) // ∀ (W : Waits sig Unit) (v : BufTy.Contents (Elt F) arg10.view.ty),
     iprop((arg0.view.loc (c : Thread nD τ) ↦[arg0.view.set]{fullShare} g) ∗ (arg12.view.loc (c : Thread nD τ) ↦[arg12.view.set]{fullShare} ts) ∗ (arg7.view.loc (c : Thread nD τ) ↦[arg7.view.set]{fullShare} sf) ∗ (arg8.view.loc (c : Thread nD τ) ↦[arg8.view.set]{fullShare} bf) ∗ (arg10.view.loc (c : Thread nD τ) ↦[arg10.view.set]{fullShare} v) ∗ (arg13.view.loc (c : Thread nD τ) ↦[arg13.view.set]{fullShare} u)
       ∗ fl c arg2 arg9 v1_r0 A Wf (k0_off4 k 0#32) (k0_off5 k 0#32) (k0_off6 k 0#32) (k0_off4_inb k 0) (k0_off5_inb k 0) (k0_off6_inb k 0)
       ∗ fl c arg2 arg9 v1_r0 A Wf (k0_off4 k 1#32) (k0_off5 k 1#32) (k0_off6 k 1#32) (k0_off4_inb k 1) (k0_off5_inb k 1) (k0_off6_inb k 1)
       ∗ fl c arg2 arg9 v1_r0 A Wf (k0_off4 k 2#32) (k0_off5 k 2#32) (k0_off6 k 2#32) (k0_off4_inb k 2) (k0_off5_inb k 2) (k0_off6_inb k 2)
       ∗ fl c arg2 arg9 v1_r0 A Wf (k0_off4 k 3#32) (k0_off5 k 3#32) (k0_off6 k 3#32) (k0_off4_inb k 3) (k0_off5_inb k 3) (k0_off6_inb k 3)
       ∗ fl c arg2 arg9 v1_r0 A Wf (k0_off4 k 4#32) (k0_off5 k 4#32) (k0_off6 k 4#32) (k0_off4_inb k 4) (k0_off5_inb k 4) (k0_off6_inb k 4)
       ∗ fl c arg2 arg9 v1_r0 A Wf (k0_off4 k 5#32) (k0_off5 k 5#32) (k0_off6 k 5#32) (k0_off4_inb k 5) (k0_off5_inb k 5) (k0_off6_inb k 5)
       ∗ owes (c : Thread nD τ) 0 W)
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 k PUnit.unit)
       (fun _ => iprop((arg0.view.loc (c : Thread nD τ) ↦[arg0.view.set]{fullShare} g) ∗ (arg12.view.loc (c : Thread nD τ) ↦[arg12.view.set]{fullShare} ts) ∗ (arg7.view.loc (c : Thread nD τ) ↦[arg7.view.set]{fullShare} sf) ∗ (arg8.view.loc (c : Thread nD τ) ↦[arg8.view.set]{fullShare} bf) ∗ (arg10.view.loc (c : Thread nD τ) ↦[arg10.view.set]{fullShare} arg10.view.writes (Elt F) v L.1) ∗ (arg13.view.loc (c : Thread nD τ) ↦[arg13.view.set]{fullShare} arg13.view.writes (Elt F) u L.2)
       ∗ landed c arg2 arg9 v1_r0 A Wf (k0_off4 k 0#32) (k0_off5 k 0#32) (k0_off6 k 0#32) (k0_off4_inb k 0) (k0_off5_inb k 0) (k0_off6_inb k 0)
       ∗ landed c arg2 arg9 v1_r0 A Wf (k0_off4 k 1#32) (k0_off5 k 1#32) (k0_off6 k 1#32) (k0_off4_inb k 1) (k0_off5_inb k 1) (k0_off6_inb k 1)
       ∗ landed c arg2 arg9 v1_r0 A Wf (k0_off4 k 2#32) (k0_off5 k 2#32) (k0_off6 k 2#32) (k0_off4_inb k 2) (k0_off5_inb k 2) (k0_off6_inb k 2)
       ∗ landed c arg2 arg9 v1_r0 A Wf (k0_off4 k 3#32) (k0_off5 k 3#32) (k0_off6 k 3#32) (k0_off4_inb k 3) (k0_off5_inb k 3) (k0_off6_inb k 3)
       ∗ landed c arg2 arg9 v1_r0 A Wf (k0_off4 k 4#32) (k0_off5 k 4#32) (k0_off6 k 4#32) (k0_off4_inb k 4) (k0_off5_inb k 4) (k0_off6_inb k 4)
       ∗ landed c arg2 arg9 v1_r0 A Wf (k0_off4 k 5#32) (k0_off5 k 5#32) (k0_off6 k 5#32) (k0_off4_inb k 5) (k0_off5_inb k 5) (k0_off6_inb k 5)
       ∗ (∃ W, owes (c : Thread nD τ) 0 W))) } := by
  have hk : k.val < 5 := Nat.lt_of_lt_of_le k.isLt k0_t2_abs.2.1
  refine ⟨⟨?_, ?_⟩, fun W v => ?run⟩
  case run =>
    unfold k0_t2_body landed fl del
    iintro ⟨H0, H12, H7, H8, H10, H13, F0, F1, F2, F3, F4, F5, HO⟩
    sl_exec
    sl_step
    sl_close

/-- The running maxima before trip `n`. -/
def uAt (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) : ℕ → BufTy.Contents (Elt F) arg13.view.ty
  | 0 => u
  | n + 1 => if h : n < k0_t2_loop.trips then arg13.view.writes (Elt F) (uAt g ts sf bf u n) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt g ts sf bf u n) ⟨n, h⟩).1.2 else uAt g ts sf bf u n

/-- The values before trip `n`. -/
def vAt (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (v : BufTy.Contents (Elt F) arg10.view.ty) : ℕ → BufTy.Contents (Elt F) arg10.view.ty
  | 0 => v
  | n + 1 => if h : n < k0_t2_loop.trips then arg10.view.writes (Elt F) (vAt g ts sf bf u v n) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u n) ⟨n, h⟩).1.1 else vAt g ts sf bf u v n

/-- What the loop over the groups of panels holds before trip `n`. -/
def inv2 (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (v : BufTy.Contents (Elt F) arg10.view.ty) (n : ℕ) : sProp 𝕄 :=
  iprop((arg0.view.loc (c : Thread nD τ) ↦[arg0.view.set]{fullShare} g) ∗ (arg12.view.loc (c : Thread nD τ) ↦[arg12.view.set]{fullShare} ts) ∗ (arg7.view.loc (c : Thread nD τ) ↦[arg7.view.set]{fullShare} sf) ∗ (arg8.view.loc (c : Thread nD τ) ↦[arg8.view.set]{fullShare} bf)
    ∗ (arg10.view.loc (c : Thread nD τ) ↦[arg10.view.set]{fullShare} vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v n)
    ∗ (arg13.view.loc (c : Thread nD τ) ↦[arg13.view.set]{fullShare} uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u n)
    ∗ Hi (flying c arg2 arg9 v1_r0 A Wf) (6 * n) ∗ Lo (held c arg2 arg9 v1_r0 A Wf) (6 * n)
    ∗ (∃ W, owes (c : Thread nD τ) 0 W))

/-- Panel `6 k + r` at the offsets of the loop. -/
theorem flying_eq (k : Fin k0_t2_loop.trips) (r : Fin 6) (i : Fin 30) (hi : i.val = 6 * k.val + r.val) :
    flying c arg2 arg9 v1_r0 A Wf i
      = fl c arg2 arg9 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold flying
  refine fl_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem held_eq (k : Fin k0_t2_loop.trips) (r : Fin 6) (i : Fin 30) (hi : i.val = 6 * k.val + r.val) :
    held c arg2 arg9 v1_r0 A Wf i
      = landed c arg2 arg9 v1_r0 A Wf (k0_off4 k (BitVec.ofNat 32 r.val)) (k0_off5 k (BitVec.ofNat 32 r.val)) (k0_off6 k (BitVec.ofNat 32 r.val)) (k0_off4_inb k r) (k0_off5_inb k r) (k0_off6_inb k r) := by
  unfold held
  refine landed_congr _ _ _ _ _ _ _ _ _ ?_ ?_ ?_ _ _ _
  · rw [k0_off4_eq k r, hi]
  · rw [k0_off5_eq k r, hi, show 2880 * (6 * k.val + r.val) = 17280 * k.val + 2880 * r.val by omega]
  · rw [k0_off6_eq k r, hi, show 256 * (6 * k.val + r.val) = 1536 * k.val + 256 * r.val by omega]

theorem region_k0_t2 (g : BufTy.Contents (Elt F) arg0.view.ty) (ts : BufTy.Contents (Elt F) arg12.view.ty) (sf : BufTy.Contents (Elt F) arg7.view.ty) (bf : BufTy.Contents (Elt F) arg8.view.ty) (u : BufTy.Contents (Elt F) arg13.view.ty) (v : BufTy.Contents (Elt F) arg10.view.ty) (k : Fin k0_t2_loop.trips) (acc : Unit) :
    inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v k.val
     ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 k acc)
       (fun _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v (k.val + 1)) := by
  have hk : k.val < 5 := Nat.lt_of_lt_of_le k.isLt k0_t2_abs.2.1
  unfold inv2
  rw [show uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u (k.val + 1) = arg13.view.writes (Elt F) (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val) k).1.2 from dif_pos k.isLt,
    show vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v (k.val + 1) = arg10.view.writes (Elt F) (vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v k.val) (trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf (uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val) k).1.1 from dif_pos k.isLt,
    show 6 * (k.val + 1) = 6 * k.val + 1 + 1 + 1 + 1 + 1 + 1 by omega]
  generalize uAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u k.val = uk
  generalize vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf u v k.val = vk
  rw [Hi_step _ (6 * k.val) (by omega), Hi_step _ (6 * k.val + 1) (by omega), Hi_step _ (6 * k.val + 1 + 1) (by omega),
    Hi_step _ (6 * k.val + 1 + 1 + 1) (by omega), Hi_step _ (6 * k.val + 1 + 1 + 1 + 1) (by omega), Hi_step _ (6 * k.val + 1 + 1 + 1 + 1 + 1) (by omega),
    Lo_step _ (6 * k.val + 1 + 1 + 1 + 1 + 1) (by omega), Lo_step _ (6 * k.val + 1 + 1 + 1 + 1) (by omega), Lo_step _ (6 * k.val + 1 + 1 + 1) (by omega),
    Lo_step _ (6 * k.val + 1 + 1) (by omega), Lo_step _ (6 * k.val + 1) (by omega), Lo_step _ (6 * k.val) (by omega)]
  rw [flying_eq (k := k) (r := 0) (i := ⟨6 * k.val, _⟩) (hi := rfl), flying_eq (k := k) (r := 1) (i := ⟨6 * k.val + 1, _⟩) (hi := rfl),
    flying_eq (k := k) (r := 2) (i := ⟨6 * k.val + 1 + 1, _⟩) (hi := rfl), flying_eq (k := k) (r := 3) (i := ⟨6 * k.val + 1 + 1 + 1, _⟩) (hi := rfl),
    flying_eq (k := k) (r := 4) (i := ⟨6 * k.val + 1 + 1 + 1 + 1, _⟩) (hi := rfl), flying_eq (k := k) (r := 5) (i := ⟨6 * k.val + 1 + 1 + 1 + 1 + 1, _⟩) (hi := rfl),
    held_eq (k := k) (r := 0) (i := ⟨6 * k.val, _⟩) (hi := rfl), held_eq (k := k) (r := 1) (i := ⟨6 * k.val + 1, _⟩) (hi := rfl),
    held_eq (k := k) (r := 2) (i := ⟨6 * k.val + 1 + 1, _⟩) (hi := rfl), held_eq (k := k) (r := 3) (i := ⟨6 * k.val + 1 + 1 + 1, _⟩) (hi := rfl),
    held_eq (k := k) (r := 4) (i := ⟨6 * k.val + 1 + 1 + 1 + 1, _⟩) (hi := rfl), held_eq (k := k) (r := 5) (i := ⟨6 * k.val + 1 + 1 + 1 + 1 + 1, _⟩) (hi := rfl)]
  iintro ⟨H0, H12, H7, H8, H10, H13, ⟨F0, F1, F2, F3, F4, F5, HF⟩, HD, %W, HO⟩
  iapply (wp_wand frame (wpE (defs₀ (F := F)) Variants.none (c : Thread nD τ) none) Set.univ) $$ [H0 H12 H7 H8 H10 H13 F0 F1 F2 F3 F4 F5 HO]
  · iapply ((trip_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 A Wf g ts sf bf uk k).2 W vk)
    isplitl [H0]; · iexact H0
    isplitl [H12]; · iexact H12
    isplitl [H7]; · iexact H7
    isplitl [H8]; · iexact H8
    isplitl [H10]; · iexact H10
    isplitl [H13]; · iexact H13
    isplitl [F0]; · iexact F0
    isplitl [F1]; · iexact F1
    isplitl [F2]; · iexact F2
    isplitl [F3]; · iexact F3
    isplitl [F4]; · iexact F4
    isplitl [F5]; · iexact F5
    iexact HO
  iintro %a ⟨H0, H12, H7, H8, H10, H13, F0, F1, F2, F3, F4, F5, HO⟩
  isplitl [H0]; · iexact H0
  isplitl [H12]; · iexact H12
  isplitl [H7]; · iexact H7
  isplitl [H8]; · iexact H8
  isplitl [H10]; · iexact H10
  isplitl [H13]; · iexact H13
  isplitl [HF]; · iexact HF
  isplitr [HO]
  · isplitl [F5]; · iexact F5
    isplitl [F4]; · iexact F4
    isplitl [F3]; · iexact F3
    isplitl [F2]; · iexact F2
    isplitl [F1]; · iexact F1
    isplitl [F0]; · iexact F0
    iexact HD
  iexact HO

end Trip2
/-- The panels' cells, each at zero. -/
def cellsP : sProp 𝕄 := bigSep Finset.univ fun i : Fin 30 => semVal ((c : Thread nD τ), SemLoc.dma (cellO v1_r0 ![i.val + 24] (cell_inb i))) 0

/-! ## Cutting the arena and the weight, and putting them together -/

section CutArena

variable (f0 A : Buf (Elt F) (arg9.view.loc (c : Thread nD τ))) (Wf : Buf (Elt F) (arg2.view.loc (c : Thread nD τ)))

/-- The elements of slot `i`. -/
abbrev slotSet (i : Fin 30) : Finset (Idx (arg9.view.loc (c : Thread nD τ))) := arg9.view.setOn (slotO ![2880 * i.val + 74880, 0] (slot_inb i)).set

/-- The elements of panel `i`. -/
abbrev panelSet (i : Fin 30) : Finset (Idx (arg2.view.loc (c : Thread nD τ))) := (panelO arg2 ![0, 256 * i.val] (panel_inb i)).view.set

theorem slotSet_disjoint (i j : Fin 30) (h : i ≠ j) : Disjoint (slotSet c arg9 i) (slotSet c arg9 j) := by
  refine View.disjoint_setOn _ (Finset.disjoint_left.mpr fun y hi hj => h (Fin.ext ?_))
  have a := Rect.mem_set_unit.mp hi 0
  have b := Rect.mem_set_unit.mp hj 0
  have a1 : 2880 * i.val + 74880 ≤ (y 0).val := a.1
  have a2 : (y 0).val < 2880 * i.val + 74880 + 2880 := a.2
  have b1 : 2880 * j.val + 74880 ≤ (y 0).val := b.1
  have b2 : (y 0).val < 2880 * j.val + 74880 + 2880 := b.2
  omega

theorem panelSet_eq (i : Fin 30) : panelSet c arg2 i = arg2.view.setOn (Rect.unit (s := S2880x7680) ![0, 256 * i.val] S2880x256.size (panel_inb i)).set :=
  View.set_slice _ _

theorem panelSet_disjoint (i j : Fin 30) (h : i ≠ j) : Disjoint (panelSet c arg2 i) (panelSet c arg2 j) := by
  rw [panelSet_eq, panelSet_eq]
  refine View.disjoint_setOn _ (Finset.disjoint_left.mpr fun y hi hj => h (Fin.ext ?_))
  have a := Rect.mem_set_unit.mp hi 1
  have b := Rect.mem_set_unit.mp hj 1
  have a1 : 256 * i.val ≤ (y 1).val := a.1
  have a2 : (y 1).val < 256 * i.val + 256 := a.2
  have b1 : 256 * j.val ≤ (y 1).val := b.1
  have b2 : (y 1).val < 256 * j.val + 256 := b.2
  omega

/-- The arena above the slots. -/
def restSet : Finset (Idx (arg9.view.loc (c : Thread nD τ))) := arg9.view.set \ Finset.univ.biUnion (slotSet c arg9)

theorem slots_subset : Finset.univ.biUnion (slotSet c arg9) ⊆ arg9.view.set :=
  Finset.biUnion_subset.mpr fun i _ => View.setOn_subset_set _ _

theorem panels_subset : Finset.univ.biUnion (panelSet c arg2) ⊆ arg2.view.set :=
  Finset.biUnion_subset.mpr fun i _ => by rw [panelSet_eq]; exact View.setOn_subset_set _ _

theorem arena_cut :
    (arg9.view.loc (c : Thread nD τ) ↦[arg9.view.set]{fullShare} f0 : sProp 𝕄)
      ⊣⊢ iprop((bigSep Finset.univ fun i => arg9.view.loc (c : Thread nD τ) ↦[slotSet c arg9 i]{fullShare} f0)
        ∗ (arg9.view.loc (c : Thread nD τ) ↦[restSet c arg9]{fullShare} f0)) := by
  rw [← pointsTo_biUnion _ _ fun i _ j _ h => slotSet_disjoint c arg9 i j h]
  exact pointsTo_split_subset (slots_subset c arg9)

theorem weight_cut :
    (arg2.view.loc (c : Thread nD τ) ↦[arg2.view.set]{fullShare} Wf : sProp 𝕄)
      ⊣⊢ iprop((bigSep Finset.univ fun i => arg2.view.loc (c : Thread nD τ) ↦[panelSet c arg2 i]{fullShare} Wf)
        ∗ (arg2.view.loc (c : Thread nD τ) ↦[arg2.view.set \ Finset.univ.biUnion (panelSet c arg2)]{fullShare} Wf)) := by
  rw [← pointsTo_biUnion _ _ fun i _ j _ h => panelSet_disjoint c arg2 i j h]
  exact pointsTo_split_subset (panels_subset c arg2)

/-- Above the slots the old contents are the arena's. -/
theorem rest_eq :
    (arg9.view.loc (c : Thread nD τ) ↦[restSet c arg9]{fullShare} f0 : sProp 𝕄)
      = (arg9.view.loc (c : Thread nD τ) ↦[restSet c arg9]{fullShare} arenaOf c arg2 arg9 f0 Wf) := by
  refine pointsTo_congr fun j hj => ?_
  obtain ⟨hj1, hj2⟩ := Finset.mem_sdiff.mp hj
  obtain ⟨y, -, rfl⟩ := Finset.mem_map.mp hj1
  refine (arenaOf_below c arg2 arg9 f0 Wf y ?_).symm
  by_contra hlt
  have h0 : (y 0).val < 161280 := (y 0).isLt
  refine hj2 (Finset.mem_biUnion.mpr ⟨⟨((y 0).val - 74880) / 2880, by omega⟩, Finset.mem_univ _, Finset.mem_map_of_mem _ (Rect.mem_set_unit.mpr fun a => ?_)⟩)
  have h1 : (y 1).val < 256 := (y 1).isLt
  match a with
  | ⟨0, _⟩ =>
    show 2880 * (((y 0).val - 74880) / 2880) + 74880 ≤ (y 0).val ∧ (y 0).val < 2880 * (((y 0).val - 74880) / 2880) + 74880 + 2880
    omega
  | ⟨1, _⟩ =>
    show 0 ≤ (y 1).val ∧ (y 1).val < 0 + 256
    omega

/-- The slots, panels and cells of the core, apart. -/
theorem held_apart :
    bigSep Finset.univ (held c arg2 arg9 v1_r0 A Wf)
      = (iprop(((bigSep Finset.univ fun i => arg9.view.loc (c : Thread nD τ) ↦[slotSet c arg9 i]{fullShare} A)
          ∗ (bigSep Finset.univ fun i => arg2.view.loc (c : Thread nD τ) ↦[panelSet c arg2 i]{fullShare} Wf))
          ∗ cellsP c v1_r0) : sProp 𝕄) := by
  rw [show held c arg2 arg9 v1_r0 A Wf = fun i => iprop(((arg9.view.loc (c : Thread nD τ) ↦[slotSet c arg9 i]{fullShare} A)
          ∗ (arg2.view.loc (c : Thread nD τ) ↦[panelSet c arg2 i]{fullShare} Wf)) ∗ semVal ((c : Thread nD τ), SemLoc.dma (cellO v1_r0 ![i.val + 24] (cell_inb i))) 0) from rfl]
  rw [bigSep_sep', bigSep_sep']
  rfl

/-- What the core holds of the arena, the weight and the cells, cut for the transfers. -/
theorem stage_enter :
    iprop((arg9.view.loc (c : Thread nD τ) ↦[arg9.view.set]{fullShare} f0) ∗ (arg2.view.loc (c : Thread nD τ) ↦[arg2.view.set]{fullShare} Wf)
      ∗ cellsP c v1_r0)
      ⊢ (iprop(inv1 c arg2 arg9 v1_r0 f0 Wf 0 ∗ (arg9.view.loc (c : Thread nD τ) ↦[restSet c arg9]{fullShare} f0)
        ∗ (arg2.view.loc (c : Thread nD τ) ↦[arg2.view.set \ Finset.univ.biUnion (panelSet c arg2)]{fullShare} Wf)) : sProp 𝕄) := by
  unfold inv1
  rw [Hi_zero, Lo_zero, held_apart]
  iintro ⟨H12, H4, HS⟩
  ihave H12 := (arena_cut c arg9 f0).1 $$ H12
  ihave H4 := (weight_cut c arg2 Wf).1 $$ H4
  icases H12 with ⟨Ha, Hr⟩
  icases H4 with ⟨Hp, Hq⟩
  isplitr [Hr Hq]
  · isplitl
    · isplitr [HS]
      · isplitl [Ha]; · iexact Ha
        iexact Hp
      · iexact HS
    · iempintro
  isplitl [Hr]; · iexact Hr
  iexact Hq

/-- After the last wait the arena, the weight and the cells are whole again. -/
theorem stage_leave :
    iprop(Lo (held c arg2 arg9 v1_r0 (arenaOf c arg2 arg9 f0 Wf) Wf) 30 ∗ (arg9.view.loc (c : Thread nD τ) ↦[restSet c arg9]{fullShare} f0)
        ∗ (arg2.view.loc (c : Thread nD τ) ↦[arg2.view.set \ Finset.univ.biUnion (panelSet c arg2)]{fullShare} Wf))
      ⊢ (iprop((arg9.view.loc (c : Thread nD τ) ↦[arg9.view.set]{fullShare} arenaOf c arg2 arg9 f0 Wf) ∗ (arg2.view.loc (c : Thread nD τ) ↦[arg2.view.set]{fullShare} Wf)
      ∗ cellsP c v1_r0) : sProp 𝕄) := by
  rw [Lo_top, held_apart, rest_eq c arg2 arg9 f0 Wf]
  iintro ⟨⟨⟨Ha, Hp⟩, HS⟩, Hr, Hq⟩
  isplitl [Ha Hr]
  · iapply (arena_cut c arg9 (arenaOf c arg2 arg9 f0 Wf)).2
    isplitl [Ha]; · iexact Ha
    iexact Hr
  isplitl [Hp Hq]
  · iapply (weight_cut c arg2 Wf).2
    isplitl [Hp]; · iexact Hp
    iexact Hq
  iexact HS

end CutArena
/-! ## A trip of the loop over the columns -/

section Trip3

variable (v68 : FVec F S256x128 .f32) (gv : BufTy.Contents (Elt F) arg10.view.ty) (iv : BufTy.Contents (Elt F) arg13.view.ty)

/-- What the loop over the columns holds, the codes at `x`. -/
def colsAt (x : BufTy.Contents (Elt F) arg11.view.ty) : sProp 𝕄 :=
  iprop((arg10.view.loc (c : Thread nD τ) ↦[arg10.view.set]{fullShare} gv) ∗ (arg13.view.loc (c : Thread nD τ) ↦[arg13.view.set]{fullShare} iv) ∗ (arg11.view.loc (c : Thread nD τ) ↦[arg11.view.set]{fullShare} x))

set_option maxRecDepth 8192
set_option maxHeartbeats 4000000

@[irreducible] def trip_k0_t3 (k : Fin k0_t3_loop.trips) :
   { L : List (View.Piece (Elt F) S256x7680 .fp8e4m3) // ∀ x : BufTy.Contents (Elt F) arg11.view.ty,
     colsAt c arg10 arg11 arg13 gv iv x
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 k PUnit.unit)
       (fun _ => colsAt c arg10 arg11 arg13 gv iv (arg11.view.writes (Elt F) x L)) } := by
  have hk : k.val < 60 := Nat.lt_of_lt_of_le k.isLt k0_t3_abs.2.1
  refine ⟨?_, fun x => ?run⟩
  case run =>
    unfold k0_t3_body colsAt
    iintro ⟨H10, H13, H11⟩
    sl_exec
    sl_step
    sl_close

/-- The codes before trip `n`. -/
def xAt (x : BufTy.Contents (Elt F) arg11.view.ty) : ℕ → BufTy.Contents (Elt F) arg11.view.ty
  | 0 => x
  | n + 1 => if hn : n < k0_t3_loop.trips then arg11.view.writes (Elt F) (xAt x n) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv ⟨n, hn⟩).1 else xAt x n

theorem region_k0_t3 (x : BufTy.Contents (Elt F) arg11.view.ty) (k : Fin k0_t3_loop.trips) (acc : Unit) :
    colsAt c arg10 arg11 arg13 gv iv (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x k.val)
     ⊢ wp frame (wpE (defs₀ (F := F)) Variants.none (c : Thread nD τ) none) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 k acc)
       (fun _ => colsAt c arg10 arg11 arg13 gv iv (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x (k.val + 1))) := by
  rw [show xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x (k.val + 1)
      = arg11.view.writes (Elt F) (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv x k.val) (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv k).1 from dif_pos k.isLt]
  exact (trip_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iv k).2 _

end Trip3
/-! ## Between the loops -/

section Between

variable (f0 A : Buf (Elt F) (arg9.view.loc (c : Thread nD τ))) (Wf : Buf (Elt F) (arg2.view.loc (c : Thread nD τ)))

/-- Every panel is in flight once the issuing loop is through. -/
theorem stage_issued :
    inv1 c arg2 arg9 v1_r0 f0 Wf (Scf.trips k0_t1_loop.lb k0_t1_loop.ub k0_t1_loop.st) ⊢ Hi (flying c arg2 arg9 v1_r0 (arenaOf c arg2 arg9 f0 Wf) Wf) (6 * 0) := by
  show inv1 c arg2 arg9 v1_r0 f0 Wf 30 ⊢ _
  unfold inv1
  rw [Hi_top, Lo_top, Nat.mul_zero, Hi_zero]
  iintro ⟨-, H⟩
  iexact H

theorem lo_start : (iprop(emp) : sProp 𝕄) ⊢ Lo (held c arg2 arg9 v1_r0 A Wf) (6 * 0) := by
  rw [Nat.mul_zero, Lo_zero]

/-- Every panel has landed once the loop over the groups is through. -/
theorem stage_landed :
    Lo (held c arg2 arg9 v1_r0 A Wf) (6 * Scf.trips k0_t2_loop.lb k0_t2_loop.ub k0_t2_loop.st) ⊢ Lo (held c arg2 arg9 v1_r0 A Wf) 30 := by
  show Lo (held c arg2 arg9 v1_r0 A Wf) (6 * 5) ⊢ _
  exact BIBase.Entails.rfl

end Between

end Cert.UpIdeal.Hand
-- ==== Proof.UpBodyIdeal.lean ====
module

public import proofs.«01_k».proof.Proof.Gen.UpIdeal.Launch
public import proofs.«01_k».proof.Proof.Gen.UpIdeal.Skeleton
public import proofs.«01_k».proof.Proof.Gen.UpIdeal.Points
public import proofs.«01_k».proof.Proof.UpPanelsIdeal
public import Idealize.ShloMosaic.Lib.Pipeline.FrameValue
public import Idealize.ShloMosaic.Lib.Ring
public import Idealize.ShloMosaic.Lib.Tactic

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

/-- The cell of a transfer in. -/
abbrev cellI (o : Fin 1 → ℕ) (h : ∀ a, o a + S1.size a ≤ S15.size a) : DmaSem sig :=
  ((v0_r0.slice (Rect.unit (s := S15) o S1.size h)).squeeze S_ squeezes_S1_S_).sem

/-- The cell of a transfer out. -/
abbrev cellY (o : Fin 1 → ℕ) (h : ∀ a, o a + S1.size a ≤ S14.size a) : DmaSem sig :=
  ((v2_r0.slice (Rect.unit (s := S14) o S1.size h)).squeeze S_ squeezes_S1_S_).sem

/-- Batch entry 0 of the codes. -/
abbrev outM0 : Memref sig .tc .hbm S128x7680 .fp8e4m3 :=
  (arg5.slice (Rect.unit (s := S2x128x7680) ![0, 0, 0] S1x128x7680.size inb_S2x128x7680_S1x128x7680_0_0_0) (fun _ => rfl)).squeeze S128x7680 squeezes_S1x128x7680_S128x7680

/-- Batch entry 1 of the codes. -/
abbrev outM1 : Memref sig .tc .hbm S128x7680 .fp8e4m3 :=
  (arg5.slice (Rect.unit (s := S2x128x7680) ![1, 0, 0] S1x128x7680.size inb_S2x128x7680_S1x128x7680_1_0_0) (fun _ => rfl)).squeeze S128x7680 squeezes_S1x128x7680_S128x7680

theorem outM0_set : (outM0 arg5).view.set = arg5.view.setOn (Rect.unit (s := S2x128x7680) ![0, 0, 0] S1x128x7680.size inb_S2x128x7680_S1x128x7680_0_0_0).set := by
  exact (View.set_reshape _ _).trans (View.set_slice _ _)

theorem outM1_set : (outM1 arg5).view.set = arg5.view.setOn (Rect.unit (s := S2x128x7680) ![1, 0, 0] S1x128x7680.size inb_S2x128x7680_S1x128x7680_1_0_0).set := by
  exact (View.set_reshape _ _).trans (View.set_slice _ _)

theorem out_union : (outM0 arg5).view.set ∪ (outM1 arg5).view.set = arg5.view.set := by
  rw [outM0_set, outM1_set]
  ext j
  constructor
  · intro hj
    rcases Finset.mem_union.mp hj with hj | hj <;> exact View.setOn_subset_set _ _ hj
  · intro hj
    obtain ⟨y, -, rfl⟩ := Finset.mem_map.mp hj
    have h0 : (y 0).val < 2 := (y 0).isLt
    have h1 : (y 1).val < 128 := (y 1).isLt
    have h2 : (y 2).val < 7680 := (y 2).isLt
    rcases Nat.lt_or_ge (y 0).val 1 with hy | hy
    · refine Finset.mem_union_left _ (Finset.mem_map_of_mem _ (Rect.mem_set_unit.mpr fun a => ?_))
      match a with
      | ⟨0, _⟩ => show 0 ≤ (y 0).val ∧ (y 0).val < 0 + 1; omega
      | ⟨1, _⟩ => show 0 ≤ (y 1).val ∧ (y 1).val < 0 + 128; omega
      | ⟨2, _⟩ => show 0 ≤ (y 2).val ∧ (y 2).val < 0 + 7680; omega
    · refine Finset.mem_union_right _ (Finset.mem_map_of_mem _ (Rect.mem_set_unit.mpr fun a => ?_))
      match a with
      | ⟨0, _⟩ => show 1 ≤ (y 0).val ∧ (y 0).val < 1 + 1; omega
      | ⟨1, _⟩ => show 0 ≤ (y 1).val ∧ (y 1).val < 0 + 128; omega
      | ⟨2, _⟩ => show 0 ≤ (y 2).val ∧ (y 2).val < 0 + 7680; omega

theorem out_disjoint : Disjoint (outM0 arg5).view.set (outM1 arg5).view.set := by
  rw [outM0_set, outM1_set]
  refine View.disjoint_setOn _ (Finset.disjoint_left.mpr fun y hi hj => ?_)
  have a := (Rect.mem_set_unit.mp hi 0).2
  have b := (Rect.mem_set_unit.mp hj 0).1
  have a2 : (y 0).val < 0 + 1 := a
  have b1 : 1 ≤ (y 0).val := b
  omega

/-- The codes, entry by entry. -/
theorem out_cut (y : BufTy.Contents (Elt F) arg5.view.ty) :
    (arg5.view.loc (c : Thread nD τ) ↦[arg5.view.set]{fullShare} y : sProp 𝕄)
      ⊣⊢ iprop((arg5.view.loc (c : Thread nD τ) ↦[arg5.view.setOn (Rect.unit (s := S2x128x7680) ![0, 0, 0] S1x128x7680.size inb_S2x128x7680_S1x128x7680_0_0_0).set]{fullShare} y)
        ∗ (arg5.view.loc (c : Thread nD τ) ↦[arg5.view.setOn (Rect.unit (s := S2x128x7680) ![1, 0, 0] S1x128x7680.size inb_S2x128x7680_S1x128x7680_1_0_0).set]{fullShare} y)) := by
  rw [← out_union, ← outM0_set, ← outM1_set]
  exact pointsTo_union (out_disjoint arg5)

/-- The two entries written, one after the other, give the codes. -/
theorem out_join (y : BufTy.Contents (Elt F) arg5.view.ty) (A B : S128x7680.Idx → Elt F .fp8e4m3) :
    (iprop((arg5.view.loc (c : Thread nD τ) ↦[arg5.view.setOn (Rect.unit (s := S2x128x7680) ![0, 0, 0] S1x128x7680.size inb_S2x128x7680_S1x128x7680_0_0_0).set]{fullShare} (outM0 arg5).view.write (Elt F) y A Finset.univ)
        ∗ (arg5.view.loc (c : Thread nD τ) ↦[arg5.view.setOn (Rect.unit (s := S2x128x7680) ![1, 0, 0] S1x128x7680.size inb_S2x128x7680_S1x128x7680_1_0_0).set]{fullShare} (outM1 arg5).view.write (Elt F) y B Finset.univ)) : sProp 𝕄)
      ⊢ (arg5.view.loc (c : Thread nD τ) ↦[arg5.view.set]{fullShare} (outM1 arg5).view.write (Elt F) ((outM0 arg5).view.write (Elt F) y A Finset.univ) B Finset.univ) := by
  have h0 := pointsTo_congr (nD := nD) (τ := τ) (sig := sig) (Ix := Unit) (Val := Elt F) (Name := ℕ) (U := Pipeline.UD sig nD τ) (Lvl := ℕ)
    (ℓ := arg5.view.loc (c : Thread nD τ)) (q := fullShare) (I := arg5.view.setOn (Rect.unit (s := S2x128x7680) ![0, 0, 0] S1x128x7680.size inb_S2x128x7680_S1x128x7680_0_0_0).set)
    (f := (outM0 arg5).view.write (Elt F) y A Finset.univ)
    (g := (outM1 arg5).view.write (Elt F) ((outM0 arg5).view.write (Elt F) y A Finset.univ) B Finset.univ) (fun i hi => by
      refine (View.write_of_not_mem (v := (outM1 arg5).view) ((outM0 arg5).view.write (Elt F) y A Finset.univ) B Finset.univ (i := i) (fun hm => ?_)).symm
      rw [View.setOn_univ] at hm
      rw [← outM0_set] at hi
      exact Finset.disjoint_left.mp (out_disjoint arg5) hi hm)
  have h1 := pointsTo_congr (nD := nD) (τ := τ) (sig := sig) (Ix := Unit) (Val := Elt F) (Name := ℕ) (U := Pipeline.UD sig nD τ) (Lvl := ℕ)
    (ℓ := arg5.view.loc (c : Thread nD τ)) (q := fullShare) (I := arg5.view.setOn (Rect.unit (s := S2x128x7680) ![1, 0, 0] S1x128x7680.size inb_S2x128x7680_S1x128x7680_1_0_0).set)
    (f := (outM1 arg5).view.write (Elt F) y B Finset.univ)
    (g := (outM1 arg5).view.write (Elt F) ((outM0 arg5).view.write (Elt F) y A Finset.univ) B Finset.univ) (fun i hi => by
      rw [← outM1_set] at hi
      obtain ⟨z, -, rfl⟩ := Finset.mem_map.mp hi
      exact (View.write_emb_of_mem (v := (outM1 arg5).view) y B (Finset.mem_univ z)).trans
        (View.write_emb_of_mem (v := (outM1 arg5).view) ((outM0 arg5).view.write (Elt F) y A Finset.univ) B (Finset.mem_univ z)).symm)
  rw [h0, h1]
  exact (out_cut c arg5 _).2

section Body

variable (g : BufTy.Contents (Elt F) arg0.view.ty)
  (a2s : BufTy.Contents (Elt F) arg1.view.ty)
  (Wf : BufTy.Contents (Elt F) arg2.view.ty)
  (sf : BufTy.Contents (Elt F) arg3.view.ty)
  (bf : BufTy.Contents (Elt F) arg4.view.ty)
  (yc : BufTy.Contents (Elt F) arg5.view.ty)
  (ys : BufTy.Contents (Elt F) arg6.view.ty)
  (x7 : BufTy.Contents (Elt F) arg7.view.ty)
  (x8 : BufTy.Contents (Elt F) arg8.view.ty)
  (f0 : BufTy.Contents (Elt F) arg9.view.ty)
  (v : BufTy.Contents (Elt F) arg10.view.ty)
  (xc : BufTy.Contents (Elt F) arg11.view.ty)
  (t : BufTy.Contents (Elt F) arg12.view.ty)
  (u : BufTy.Contents (Elt F) arg13.view.ty)
  (sr : BufTy.Contents (Elt F) arg14.view.ty)

set_option maxRecDepth 16384
set_option maxHeartbeats 8000000

/-- The body's run: what it leaves in the codes and in the scales, and that it leaves it. -/
@[irreducible] def body_run :
   { Y : BufTy.Contents (Elt F) arg5.view.ty × BufTy.Contents (Elt F) arg6.view.ty // ∀ W : Waits sig Unit,
     (iprop((arg0.view.loc (c : Thread nD τ) ↦[arg0.view.set]{fullShare} g)
       ∗ (arg1.view.loc (c : Thread nD τ) ↦[arg1.view.set]{fullShare} a2s)
       ∗ (arg2.view.loc (c : Thread nD τ) ↦[arg2.view.set]{fullShare} Wf)
       ∗ (arg3.view.loc (c : Thread nD τ) ↦[arg3.view.set]{fullShare} sf)
       ∗ (arg4.view.loc (c : Thread nD τ) ↦[arg4.view.set]{fullShare} bf)
       ∗ (arg5.view.loc (c : Thread nD τ) ↦[arg5.view.set]{fullShare} yc)
       ∗ (arg6.view.loc (c : Thread nD τ) ↦[arg6.view.set]{fullShare} ys)
       ∗ (arg7.view.loc (c : Thread nD τ) ↦[arg7.view.set]{fullShare} x7)
       ∗ (arg8.view.loc (c : Thread nD τ) ↦[arg8.view.set]{fullShare} x8)
       ∗ (arg9.view.loc (c : Thread nD τ) ↦[arg9.view.set]{fullShare} f0)
       ∗ (arg10.view.loc (c : Thread nD τ) ↦[arg10.view.set]{fullShare} v)
       ∗ (arg11.view.loc (c : Thread nD τ) ↦[arg11.view.set]{fullShare} xc)
       ∗ (arg12.view.loc (c : Thread nD τ) ↦[arg12.view.set]{fullShare} t)
       ∗ (arg13.view.loc (c : Thread nD τ) ↦[arg13.view.set]{fullShare} u)
       ∗ (arg14.view.loc (c : Thread nD τ) ↦[arg14.view.set]{fullShare} sr)
       ∗ semVal ((c : Thread nD τ), SemLoc.dma (cellI v0_r0 ![11] inb_S15_S1_11)) 0 ∗ semVal ((c : Thread nD τ), SemLoc.dma (cellI v0_r0 ![12] inb_S15_S1_12)) 0
       ∗ cellsP c v1_r0
       ∗ semVal ((c : Thread nD τ), SemLoc.dma (cellY v2_r0 ![9] inb_S14_S1_9)) 0 ∗ semVal ((c : Thread nD τ), SemLoc.dma (cellY v2_r0 ![10] inb_S14_S1_10)) 0
       ∗ semVal ((c : Thread nD τ), SemLoc.dma (cellY v2_r0 ![11] inb_S14_S1_11)) 0
       ∗ owes (c : Thread nD τ) 0 W) : sProp 𝕄)
     ⊢ wp frame (wpE (defs₀ (F := F)) Variants.none (c : Thread nD τ) none) Set.univ (cc0_vit_layer_up (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0)
       (fun _ => iprop((arg0.view.loc (c : Thread nD τ) ↦[arg0.view.set]{fullShare} g)
       ∗ (arg1.view.loc (c : Thread nD τ) ↦[arg1.view.set]{fullShare} a2s)
       ∗ (arg2.view.loc (c : Thread nD τ) ↦[arg2.view.set]{fullShare} Wf)
       ∗ (arg3.view.loc (c : Thread nD τ) ↦[arg3.view.set]{fullShare} sf)
       ∗ (arg4.view.loc (c : Thread nD τ) ↦[arg4.view.set]{fullShare} bf)
       ∗ (arg5.view.loc (c : Thread nD τ) ↦[arg5.view.set]{fullShare} Y.1)
       ∗ (arg6.view.loc (c : Thread nD τ) ↦[arg6.view.set]{fullShare} Y.2)
       ∗ (∃ x, arg7.view.loc (c : Thread nD τ) ↦[arg7.view.set]{fullShare} x)
       ∗ (∃ x, arg8.view.loc (c : Thread nD τ) ↦[arg8.view.set]{fullShare} x)
       ∗ (∃ x, arg9.view.loc (c : Thread nD τ) ↦[arg9.view.set]{fullShare} x)
       ∗ (∃ x, arg10.view.loc (c : Thread nD τ) ↦[arg10.view.set]{fullShare} x)
       ∗ (∃ x, arg11.view.loc (c : Thread nD τ) ↦[arg11.view.set]{fullShare} x)
       ∗ (∃ x, arg12.view.loc (c : Thread nD τ) ↦[arg12.view.set]{fullShare} x)
       ∗ (∃ x, arg13.view.loc (c : Thread nD τ) ↦[arg13.view.set]{fullShare} x)
       ∗ (∃ x, arg14.view.loc (c : Thread nD τ) ↦[arg14.view.set]{fullShare} x)
       ∗ semVal ((c : Thread nD τ), SemLoc.dma (cellI v0_r0 ![11] inb_S15_S1_11)) 0 ∗ semVal ((c : Thread nD τ), SemLoc.dma (cellI v0_r0 ![12] inb_S15_S1_12)) 0
       ∗ cellsP c v1_r0
       ∗ semVal ((c : Thread nD τ), SemLoc.dma (cellY v2_r0 ![9] inb_S14_S1_9)) 0 ∗ semVal ((c : Thread nD τ), SemLoc.dma (cellY v2_r0 ![10] inb_S14_S1_10)) 0
       ∗ semVal ((c : Thread nD τ), SemLoc.dma (cellY v2_r0 ![11] inb_S14_S1_11)) 0
       ∗ ∃ W, owes (c : Thread nD τ) 0 W)) } := by
  refine ⟨⟨?_, ?_⟩, fun W => ?run⟩
  case run =>
    unfold cc0_vit_layer_up
    iintro ⟨H0, H1, H2, H3, H4, H5, H6, H7, H8, H9, H10, H11, H12, H13, H14, S11, S12, SP, T9, T10, T11, HO⟩
    ihave HI := (stage_enter c arg2 arg9 v1_r0 f0 Wf) $$ [H9 H2 SP]
    · isplitl [H9]; · iexact H9
      isplitl [H2]; · iexact H2
      iexact SP
    icases HI with ⟨HI, HR, HQ⟩
    sl_exec
    sl_for (fun n _ => inv1 c arg2 arg9 v1_r0 f0 Wf n) $$ [HI]
    · intro k acc; exact region_k0_t1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 f0 Wf k acc
    · exact BIBase.Entails.rfl
    iintro %acc HI
    ihave HF := (stage_issued c arg2 arg9 v1_r0 f0 Wf) $$ HI
    sl_exec
    sl_for (fun n _ => inv2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 arg1 arg14 a2s) (arenaOf c arg2 arg9 f0 Wf) Wf g
        (arg12.view.writes (Elt F) arg12.view.junk (body_run.sl.H12_2 arg1 arg14 a2s))
        (arg7.view.writes (Elt F) arg7.view.junk [⟨Rect.whole S7680, body_run.sl.dma0 arg3 sf⟩])
        (arg8.view.writes (Elt F) arg8.view.junk [⟨Rect.whole S7680, body_run.sl.dma0_1 arg4 bf⟩])
        (arg13.view.writes (Elt F) arg13.view.junk body_run.sl.H13_1) v n) $$ [H0 H12 H7 H8 H10 H13 HF HO]
    · intro k acc; exact region_k0_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 _ _ Wf g _ _ _ _ v k acc
    · unfold inv2
      isplitl [H0]; · iexact H0
      isplitl [H12]; · iexact H12
      isplitl [H7]; · iexact H7
      isplitl [H8]; · iexact H8
      isplitl [H10]; · iexact H10
      isplitl [H13]; · iexact H13
      isplitl [HF]; · iexact HF
      isplitr
      · iapply (lo_start c arg2 arg9 v1_r0 (arenaOf c arg2 arg9 f0 Wf) Wf)
        iempintro
      iexists _; iexact HO
    iintro %acc2 HI
    unfold inv2
    icases HI with ⟨H0, H12, H7, H8, H10, H13, -, HL, %W2, HO⟩
    ihave HL := (stage_landed c arg2 arg9 v1_r0 (arenaOf c arg2 arg9 f0 Wf) Wf) $$ HL
    ihave HE := (stage_leave c arg2 arg9 v1_r0 f0 Wf) $$ [HL HR HQ]
    · isplitl [HL]; · iexact HL
      isplitl [HR]; · iexact HR
      iexact HQ
    icases HE with ⟨H9, H2, SP⟩
    sl_exec
    sl_for (fun n _ => colsAt c arg10 arg11 arg13
        (vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 arg1 arg14 a2s) (arenaOf c arg2 arg9 f0 Wf) Wf g (arg12.view.writes (Elt F) arg12.view.junk (body_run.sl.H12_2 arg1 arg14 a2s)) (arg7.view.writes (Elt F) arg7.view.junk [⟨Rect.whole S7680, body_run.sl.dma0 arg3 sf⟩]) (arg8.view.writes (Elt F) arg8.view.junk [⟨Rect.whole S7680, body_run.sl.dma0_1 arg4 bf⟩]) (arg13.view.writes (Elt F) arg13.view.junk body_run.sl.H13_1) v (Scf.trips k0_t2_loop.lb k0_t2_loop.ub k0_t2_loop.st))
        (arg13.view.writes (Elt F) arg13.view.junk (body_run.sl.H13_1_1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0))
        (xAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0
          (body_run.sl.r c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)
          (vAt c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 arg1 arg14 a2s) (arenaOf c arg2 arg9 f0 Wf) Wf g (arg12.view.writes (Elt F) arg12.view.junk (body_run.sl.H12_2 arg1 arg14 a2s)) (arg7.view.writes (Elt F) arg7.view.junk [⟨Rect.whole S7680, body_run.sl.dma0 arg3 sf⟩]) (arg8.view.writes (Elt F) arg8.view.junk [⟨Rect.whole S7680, body_run.sl.dma0_1 arg4 bf⟩]) (arg13.view.writes (Elt F) arg13.view.junk body_run.sl.H13_1) v (Scf.trips k0_t2_loop.lb k0_t2_loop.ub k0_t2_loop.st))
          (arg13.view.writes (Elt F) arg13.view.junk (body_run.sl.H13_1_1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) xc n)) $$ [H10 H13 H11]
    · intro k acc; exact region_k0_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 _ _ _ xc k acc
    · unfold colsAt
      isplitl [H10]; · iexact H10
      isplitl [H13]; · iexact H13
      iexact H11
    iintro %acc3 HI
    unfold colsAt
    icases HI with ⟨H10, H13, H11⟩
    ihave H5 := (out_cut c arg5 yc).1 $$ H5
    icases H5 with ⟨H5, H5'⟩
    sl_exec
    ihave H5 := (out_join c arg5 yc _ _) $$ [H5 H5']
    · isplitl [H5]; · iexact H5
      iexact H5'
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [S11]; · iexact S11
    isplitl [S12]; · iexact S12
    isplitl [SP]; · iexact SP
    isplitl [T9]; · iexact T9
    isplitl [T10]; · iexact T10
    isplitl [T11]; · iexact T11
    iexists _; iexact HO

end Body

end Cert.UpIdeal.Hand
-- ==== Proof.UpLaunchIdeal.lean ====
module

public import proofs.«01_k».proof.Proof.UpBodyIdeal
public import proofs.«01_k».proof.Proof.Gen.UpIdeal.Frame

/-!
The launch of the kernel: the one pipeline stages its two windows, the body runs once (`body_run`), and what it
leaves in the two results is kept as the contents that the run computes.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The operands -/

/-- The arrays that the body writes by its own copies: the two results. -/
def R0 : Finset (Ref sig .tc) := {main_v1_0, main_v1_1}
/-- The arrays that the body's copies read. -/
def H0 : Finset (Ref sig .tc) := {main_arg2, main_arg3, main_arg4}
theorem H0_sub : H0 ⊆ Pipeline.restRefs sig spec0 := by decide
theorem R0_sub : R0 ⊆ Pipeline.restRefs sig spec0 \ H0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The copies' semaphores: two of the first array, three of the third, thirty of the second. -/
abbrev osem0 : Fin 35 → SemLoc sig := fun j => (![SemLoc.dma 13, SemLoc.dma 14, SemLoc.dma 110, SemLoc.dma 111, SemLoc.dma 112, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70] : Fin 35 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellI cc0_scoped0 ![11] inb_S15_S1_11)) 0
          ∗ semVal ((c : Thread nD τ), SemLoc.dma (cellI cc0_scoped0 ![12] inb_S15_S1_12)) 0
          ∗ semVal ((c : Thread nD τ), SemLoc.dma (cellY cc0_scoped2 ![9] inb_S14_S1_9)) 0
          ∗ semVal ((c : Thread nD τ), SemLoc.dma (cellY cc0_scoped2 ![10] inb_S14_S1_10)) 0
          ∗ semVal ((c : Thread nD τ), SemLoc.dma (cellY cc0_scoped2 ![11] inb_S14_S1_11)) 0
          ∗ cellsP (F := F) c cc0_scoped1) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34] (by decide) (by decide)]
  unfold cellsP
  rw [BI.bigSep_univ_eq_bigSepL [0, 1, 2, 3, 4, 5, 6, 7, 8, 9, 10, 11, 12, 13, 14, 15, 16, 17, 18, 19, 20, 21, 22, 23, 24, 25, 26, 27, 28, 29] (by decide) (by decide)]
  rfl

theorem hbmPts0_eq (c : Dev nD) :
    (bigSep H0 (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3)
          ∗ (((c : Thread nD τ).loc main_arg4) ↦{fullShare} V m c main_arg4)) := by
  rw [BI.bigSep_eq_bigSepL_of_eq [main_arg2, main_arg3, main_arg4] (by decide) (by decide)]; rfl

theorem routed0_eq (c : Dev nD) (W : (b : Ref sig .tc) → Buf (Elt F) ((c : Thread nD τ).loc b)) :
    (Pipeline.routed R0 c W : sProp 𝕄)
      = iprop((((c : Thread nD τ).loc main_v1_0) ↦{fullShare} W main_v1_0) ∗ (((c : Thread nD τ).loc main_v1_1) ↦{fullShare} W main_v1_1)) := by
  unfold Pipeline.routed
  rw [BI.bigSep_eq_bigSepL_of_eq [main_v1_0, main_v1_1] (by decide) (by decide)]; rfl

/-! ## What the body leaves -/

/-- The two windows' blocks. -/
abbrev blk0 (c : Dev nD) : Vec F S256x2880 .fp8e4m3 := iblk m c 0 t0_0
abbrev blk1 (c : Dev nD) : Vec F S2x128 .f32 := iblk m c 1 t0_0

/-- The body's run at the kernel's own operands: the staged windows, the arrays left in main memory, and the scratch
    at what it held before. -/
abbrev ran (c : Dev nD) (x7 : Buf (Elt F) ((c : Thread nD τ).loc cc0_scratch0))
    (x8 : Buf (Elt F) ((c : Thread nD τ).loc cc0_scratch1))
    (f0 : Buf (Elt F) ((c : Thread nD τ).loc cc0_scratch2))
    (v : Buf (Elt F) ((c : Thread nD τ).loc cc0_scratch3))
    (xc : Buf (Elt F) ((c : Thread nD τ).loc cc0_scratch4))
    (t : Buf (Elt F) ((c : Thread nD τ).loc cc0_scratch5))
    (u : Buf (Elt F) ((c : Thread nD τ).loc cc0_scratch6))
    (sr : Buf (Elt F) ((c : Thread nD τ).loc cc0_scratch7)) :=
  body_run (F := F) c (Memref.whole cc0_stg0_0) (Memref.isWhole_whole _) (Memref.whole cc0_stg1_0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scoped0 cc0_scoped1 cc0_scoped2
    (blk0 m c) (blk1 m c) (V m c main_arg2) (V m c main_arg3) (V m c main_arg4) (V m c main_v1_0) (V m c main_v1_1) x7 x8 f0 v xc t u sr

/-- The results hold what the run writes, from some scratch. -/
def left (c : Dev nD) (W : (b : Ref sig .tc) → Buf (Elt F) ((c : Thread nD τ).loc b)) : Prop :=
  ∃ x7 x8 f0 v xc t u sr, W main_v1_0 = (ran m c x7 x8 f0 v xc t u sr).1.1 ∧ W main_v1_1 = (ran m c x7 x8 f0 v xc t u sr).1.2

/-! ## The proof data and the body's obligation -/

/-- Before the body: the scratch, the generator, the semaphores at zero, the arrays read and the results as found. After
    it: the same with the results as the run leaves it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRG osem0 spec0 H0 R0 (V m) (V m) c
    else iprop(Pipeline.ΦD osem0 spec0 H0 (V m) c ∗ Pipeline.routedSat R0 c (left m c))
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after0 (c : Dev nD) (t : Fin cfg0.N) : (dats m 0 c).after 0 t = iblk m c 0 t := by dsimp only [dats]
theorem before1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; dsimp only [dats]; try rfl) t d).trans
    (by unfold Dat.fetched Dat.blockOf iblk; dsimp only [dats]; try rfl)
theorem after1 (c : Dev nD) (t : Fin cfg0.N) : (dats m 0 c).after 1 t = iblk m c 1 t := by dsimp only [dats]

abbrev ms0_0 (t : Fin cfg0.N) : Memref sig .tc .vmem S256x2880 .fp8e4m3 := win0_0.stage (cfg0.slots t 0)
abbrev ms0_1 (t : Fin cfg0.N) : Memref sig .tc .vmem S2x128 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0, before1, after0, after1]
  rw [show (dats m 0 c).Φ (Fin.castSucc t0_0) = Pipeline.ΦDRG osem0 spec0 H0 R0 (V m) (V m) c from rfl,
    show (dats m 0 c).Φ (Fin.succ t0_0) = iprop(Pipeline.ΦD osem0 spec0 H0 (V m) c ∗ Pipeline.routedSat R0 c (left m c)) from rfl]
  rw [Pipeline.ΦDRG_eq, Pipeline.ΦD_eq, scopedRest0_eq, ownSems00_eq, hbmPts0_eq, routed0_eq]
  unfold Dat.owesAt Pipeline.owesWithin
  rw [show (dats m 0 c).owed (Fin.castSucc t0_0) = 0 from rfl, show (dats m 0 c).owed (Fin.succ t0_0) = 0 from rfl]
  rw [show ms0_0 t0_0 = Memref.whole cc0_stg0_0 from rfl, show ms0_1 t0_0 = Memref.whole cc0_stg1_0 from rfl]
  simp only [owns_whole]
  iintro ⟨⟨⟨⟨%x7, H7⟩, ⟨%x8, H8⟩, ⟨%f0, H9⟩, ⟨%v, H10⟩, ⟨%xc, H11⟩, ⟨%t, H12⟩, ⟨%u, H13⟩, ⟨%sr, H14⟩⟩, Hg, ⟨S11, S12, T9, T10, T11, SP⟩, ⟨H2, H3, H4⟩, H5, H6⟩,
    ⟨%W, -, HO⟩, ⟨%d0, H0⟩, ⟨%d1, H1⟩⟩
  have hr := (ran m c x7 x8 f0 v xc t u sr).2 W
  simp only [Memref.view_whole, View.set_whole] at hr
  iapply (wp_wand frame (wpE (defs₀ (F := F)) Variants.none (c : Thread nD τ) none) Set.univ) $$ [H0 H1 H2 H3 H4 H5 H6 H7 H8 H9 H10 H11 H12 H13 H14 S11 S12 SP T9 T10 T11 HO]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S11]; · iexact S11
    isplitl [S12]; · iexact S12
    isplitl [SP]; · iexact SP
    isplitl [T9]; · iexact T9
    isplitl [T10]; · iexact T10
    isplitl [T11]; · iexact T11
    iexact HO
  iintro %_ ⟨H0, H1, H2, H3, H4, H5, H6, H7, H8, H9, H10, H11, H12, H13, H14, S11, S12, SP, T9, T10, T11, ⟨%W', HO⟩⟩
  isplitl [H2 H3 H4 H5 H6 H7 H8 H9 H10 H11 H12 H13 H14 S11 S12 SP T9 T10 T11 Hg]
  · isplitl [H2 H3 H4 H7 H8 H9 H10 H11 H12 H13 H14 S11 S12 SP T9 T10 T11 Hg]
    · isplitl [H7 H8 H9 H10 H11 H12 H13 H14]
      · isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      isplitl [Hg]; · iexact Hg
      isplitl [S11 S12 SP T9 T10 T11]
      · isplitl [S11]; · iexact S11
        isplitl [S12]; · iexact S12
        isplitl [T9]; · iexact T9
        isplitl [T10]; · iexact T10
        isplitl [T11]; · iexact T11
        iexact SP
      isplitl [H2]; · iexact H2
      isplitl [H3]; · iexact H3
      iexact H4
    unfold Pipeline.routedSat
    iexists (Function.update (Function.update (V m c) main_v1_0 (ran m c x7 x8 f0 v xc t u sr).1.1) main_v1_1 (ran m c x7 x8 f0 v xc t u sr).1.2)
    isplitr
    · ipureintro
      exact ⟨x7, x8, f0, v, xc, t, u, sr, (Function.update_of_ne (by decide) _ _).trans (Function.update_self _ _ _), Function.update_self _ _ _⟩
    rw [routed0_eq, Function.update_self, Function.update_of_ne (by decide), Function.update_self]
    isplitl [H5]; · iexact H5
    iexact H6
  isplitl [HO]
  · iexists W'; isplitr; · ipureintro; exact fun _ _ => Or.inl trivial
    iexact HO
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the run ends with: every array but the results as the region found it, the results at what the body leaves. -/
def Post (r : PUnit × MemSt nD τ sig (Elt F)) : Prop :=
  (RDat.FramePostR cfg0 (fun c => (dats m 0 c).toR) R0 (V m) r
    ∧ ∀ c : Dev nD, ∃ W : (b : Ref sig .tc) → Buf (Elt F) ((c.tc : Thread nD τ).loc b), left m c W ∧ ∀ b ∈ R0, r.2.mem ((c.tc : Thread nD τ).loc b) = W b)
  ∧ r.2.sem = fun _ => 0

set_option backward.isDefEq.respectTransparency.types false in
theorem run_main : θ_run defs (onTc (τ := τ) (main (F := F))) (s₀ m ρ) (Post m) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (dats m 0 c).toR) ownSemFacts0 H0 R0 (H0_sub.trans hrest) (R0_sub.trans (Finset.sdiff_subset_sdiff hrest subset_rfl)) m ρ main
    (hbody := fun c => (body_obligation m c).loose.toR)
    (hq := fun c w hw => (dats m 0 c).toR.q_eq_shareOf_of_share_full winFacts0.arr_inj (fun w => (dats m 0 c).share_full (fun _ => rfl) w) w hw)
    (howed := fun _ _ => rfl) (V := V m) (hmain := hmainD m Variants.none) (hA := A_eq m) (hpf := fun _ k => k.elim0)
    (PG := left m)
    (hin := fun c => (show _ ⊢ Pipeline.ΦDRG osem0 spec0 H0 R0 (V m) (V m) c from by iintro ⟨H, -⟩; iexact H))
    (hout := fun c => .rfl)
    (Q' := Post m) (hQ' := fun _ h => h)

/-- The program terminates, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c) ⟩, h.2⟩)
    (run_main m ρ)

/-- The run read at the arguments and the results. -/
theorem run_value (Y0 : (c : Dev nD) → Buf (Elt F) ((c : Thread nD τ).loc main_v1_0)) (Y1 : (c : Dev nD) → Buf (Elt F) ((c : Thread nD τ).loc main_v1_1))
    (hY : ∀ c W, left m c W → W main_v1_0 = Y0 c ∧ W main_v1_1 = Y1 c) :
    θ_run defs (onTc (τ := τ) (main (F := F))) ⟨m, fun _ => 0, ρ⟩ (fun r => ∀ c : Dev nD,
      r.2.mem ((c.tc : Thread nD τ).loc main_v1_0) = Y0 c
      ∧ r.2.mem ((c.tc : Thread nD τ).loc main_v1_1) = Y1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨by
        obtain ⟨W, hW, hm⟩ := h.1.2 c
        exact (hm main_v1_0 (by decide)).trans (hY c W hW).1, by
        obtain ⟨W, hW, hm⟩ := h.1.2 c
        exact (hm main_v1_1 (by decide)).trans (hY c W hW).2,
      ((h.1.1 c).2 main_arg0 (Finset.mem_sdiff.mpr ⟨Pipeline.mem_restRefs_of main_arg0 (by decide) (by decide), by decide⟩)).trans (V_main_arg0 m c),
      (RDat.FramePostR.arr_in h.1.1 c 1 rfl).trans ((A_eq m c 1).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c) ⟩)
    (run_main m ρ)

end Cert.UpIdeal.Hand

end
-- ==== Proof.UpSums.lean ====
module

public import proofs.«01_k».proof.Proof.UpBodyIdeal
public import Idealize.ShloMosaic.Lib.MatmulPlain
public import Idealize.ShloMosaic.Lib.ValueIdx
public import Idealize.ShloMosaic.Lib.Pipeline.Value
public import Idealize.ShloMosaic.Lib.WritesUnit
public import Mathlib.Algebra.BigOperators.Intervals

/-!
The counted loop's values. A trip takes six panels of the weight, 256 columns each, multiplies the tokens against
each in blocks of rows, and passes the scaled, shifted products through the activation, 128 columns at a time; beside the
array it keeps, lane by lane, the greatest magnitude so far. Sums and maxima are stated over numbers, so that blocks
meet.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

/-! ## The sums and maxima, over numbers -/

/-- An array of two axes read at any two numbers, zero outside it. -/
def nat2 {a b : ℕ} (f : (⟨2, ![a, b]⟩ : Shape).Idx → EReal) (i j : ℕ) : EReal :=
  if h : i < a ∧ j < b then f (ix2 ⟨i, h.1⟩ ⟨j, h.2⟩) else 0

theorem nat2_idx {a b : ℕ} (f : (⟨2, ![a, b]⟩ : Shape).Idx → EReal) (x : (⟨2, ![a, b]⟩ : Shape).Idx) (i j : ℕ)
    (h0 : (x 0).val = i) (h1 : (x 1).val = j) : f x = nat2 f i j := by
  subst h0; subst h1
  unfold nat2
  rw [dif_pos ⟨(x 0).isLt, (x 1).isLt⟩]
  exact congrArg f (eq_ix2 x)

/-- An array of one axis read at any number, zero outside it. -/
def nat1 {a : ℕ} (f : (⟨1, ![a]⟩ : Shape).Idx → EReal) (i : ℕ) : EReal := if h : i < a then f (ix1 ⟨i, h⟩) else 0

theorem nat1_idx {a : ℕ} (f : (⟨1, ![a]⟩ : Shape).Idx → EReal) (x : (⟨1, ![a]⟩ : Shape).Idx) (i : ℕ)
    (h0 : (x 0).val = i) : f x = nat1 f i := by
  subst h0
  unfold nat1
  rw [dif_pos (show (x 0).val < a from (x 0).isLt)]
  exact congrArg f (funext fun b => match b with | ⟨0, _⟩ => rfl)

/-- The first `n` terms of a token's product with a column of the weight. -/
def dotN (A : S256x2880.Idx → EReal) (W : S2880x7680.Idx → EReal) (t f n : ℕ) : EReal :=
  ∑ e ∈ Finset.range n, nat2 A t e * nat2 W e f

/-- The activation. -/
def gelu (t : EReal) : EReal :=
  (Scalar.ofBits (F := Ideal) .f32 0x3F000000#32 * t) * (Scalar.ofBits (F := Ideal) .f32 0x3F800000#32 + Ideal.erf (t * Scalar.ofBits (F := Ideal) .f32 0x3F3504F3#32))

/-- The activation of one token and one column. -/
def gel (A : S256x2880.Idx → EReal) (W : S2880x7680.Idx → EReal) (TS : ℕ → EReal) (SF BF : S7680.Idx → EReal) (t f : ℕ) : EReal :=
  gelu (dotN A W t f 2880 * TS t * nat1 SF f + nat1 BF f)

/-- The greatest magnitude of row `i` among the columns `l`, `128 + l`, …, the first `n` of them; zero of none. -/
def mx (G : ℕ → ℕ → EReal) (i l : ℕ) : ℕ → EReal
  | 0 => 0
  | n + 1 => max (mx G i l n) (max (G i (128 * n + l)) (-G i (128 * n + l)))

/-! ## One panel -/

/-- A block of the tokens' columns against a block of a panel's rows. -/
def dp {F : FTy → Type} [FloatOps F] (R : ℕ) (L : FVec F ⟨2, ![256, R]⟩ .fp8e4m3) (B : FVec F ⟨2, ![R, 256]⟩ .fp8e4m3) : FVec F S256x256 .f32 :=
  matmul (DotDims.plain 256 R 256) none L B (constant S256x256 .f32 0x00000000#32)

theorem dp_apply (A : S256x2880.Idx → EReal) (W : S2880x7680.Idx → EReal) (R n p : ℕ) (L : FVec Ideal ⟨2, ![256, R]⟩ .fp8e4m3) (B : FVec Ideal ⟨2, ![R, 256]⟩ .fp8e4m3)
    (hL : ∀ x, L x = nat2 A (x 0).val (n + (x 1).val)) (hB : ∀ x, B x = nat2 W (n + (x 0).val) (p + (x 1).val)) (x : S256x256.Idx) :
    dp R L B x = ∑ e ∈ Finset.range R, nat2 A (x 0).val (n + e) * nat2 W (n + e) (p + (x 1).val) := by
  obtain ⟨r, t, rfl⟩ : ∃ (r : Fin 256) (t : Fin 256), x = ix2 r t := ⟨x 0, x 1, eq_ix2 x⟩
  unfold dp
  refine (Ideal.matmul_plain_apply none L B _ r t).trans ?_
  rw [constant_apply, Ideal.ofBits_zero_f32, zero_add, Finset.sum_range]
  refine Finset.sum_congr rfl fun e _ => ?_
  rw [hL, hB]
  rfl

/-- A further block of terms. -/
theorem dp_step (A : S256x2880.Idx → EReal) (W : S2880x7680.Idx → EReal) (R n p N : ℕ) (hN : N = n + R) (u : FVec Ideal S256x256 .f32) (L : FVec Ideal ⟨2, ![256, R]⟩ .fp8e4m3) (B : FVec Ideal ⟨2, ![R, 256]⟩ .fp8e4m3)
    (hL : ∀ x, L x = nat2 A (x 0).val (n + (x 1).val)) (hB : ∀ x, B x = nat2 W (n + (x 0).val) (p + (x 1).val))
    (hu : ∀ x : S256x256.Idx, u x = dotN A W (x 0).val (p + (x 1).val) n) (x : S256x256.Idx) :
    addf u (dp R L B) x = dotN A W (x 0).val (p + (x 1).val) N := by
  subst hN
  rw [addf_apply, hu, dp_apply A W R n p L B hL hB]
  unfold dotN
  rw [Finset.sum_range_add]

/-- A panel's product: eleven blocks of 256 terms and one of 64, added from the left. -/
def chain {F : FTy → Type} [FloatOps F] (L0 L1 L2 L3 L4 L5 L6 L7 L8 L9 L10 : FVec F S256x256 .fp8e4m3) (L11 : FVec F S256x64 .fp8e4m3) (B0 B1 B2 B3 B4 B5 B6 B7 B8 B9 B10 : FVec F S256x256 .fp8e4m3) (B11 : FVec F S64x256 .fp8e4m3) : FVec F S256x256 .f32 :=
  addf (addf (addf (addf (addf (addf (addf (addf (addf (addf (addf (dp 256 L0 B0) (dp 256 L1 B1)) (dp 256 L2 B2)) (dp 256 L3 B3)) (dp 256 L4 B4)) (dp 256 L5 B5)) (dp 256 L6 B6)) (dp 256 L7 B7)) (dp 256 L8 B8)) (dp 256 L9 B9)) (dp 256 L10 B10)) (dp 64 L11 B11)

/-- 128 columns of a product, scaled, shifted and activated. -/
def gelB {F : FTy → Type} [FloatOps F] (o1 : ℕ) (acc : FVec F S256x256 .f32) (ts : FVec F S256x128 .f32) (s b : FVec F S128 .f32) (h1 : S256x256.Slices ![0, o1] S256x128)
    (h2 : S128.ShapeCasts S1x128) (h3 : S1x128.Broadcasts S256x128) : FVec F S256x128 .f32 :=
  mulf (mulf (broadcast S256x128 (Scalar.ofBits .f32 0x3F000000#32))
      (addf (mulf (mulf (extractStridedSlice S256x128 ![0, o1] acc h1) ts) (broadcastTo S256x128 (shapeCast S1x128 s h2) h3)) (broadcastTo S256x128 (shapeCast S1x128 b h2) h3)))
    (addf (broadcast S256x128 (Scalar.ofBits .f32 0x3F800000#32))
      (erf (mulf (addf (mulf (mulf (extractStridedSlice S256x128 ![0, o1] acc h1) ts) (broadcastTo S256x128 (shapeCast S1x128 s h2) h3)) (broadcastTo S256x128 (shapeCast S1x128 b h2) h3))
        (broadcast S256x128 (Scalar.ofBits .f32 0x3F3504F3#32)))))

theorem row_apply (v : FVec Ideal S128 .f32) (h2 : S128.ShapeCasts S1x128) (h3 : S1x128.Broadcasts S256x128) (i : Fin 256) (l : Fin 128) :
    broadcastTo S256x128 (shapeCast S1x128 v h2) h3 (ix2 i l) = v (ix1 l) := by
  refine (broadcastTo_apply _ h3 (ix2 i l) (ix2 (0 : Fin 1) l) (fun a => match a with | ⟨0, _⟩ => rfl | ⟨1, _⟩ => rfl)).trans ?_
  refine shapeCast_apply v h2 _ (ix1 l) ?_
  rw [Shape.rowMajor_val_one, Shape.rowMajor_val_two]
  show l.val = 0 * _ + l.val
  omega

theorem act_apply {s : Shape} (v : FVec Ideal s .f32) (i : s.Idx) :
    mulf (mulf (broadcast s (Scalar.ofBits .f32 0x3F000000#32)) v)
      (addf (broadcast s (Scalar.ofBits .f32 0x3F800000#32)) (erf (mulf v (broadcast s (Scalar.ofBits .f32 0x3F3504F3#32))))) i = gelu (v i) := rfl

theorem gelB_apply (A : S256x2880.Idx → EReal) (W : S2880x7680.Idx → EReal) (TS : ℕ → EReal) (SF BF : S7680.Idx → EReal) (o1 p : ℕ) (ho : o1 + 128 ≤ 256)
    (acc : FVec Ideal S256x256 .f32) (ts : FVec Ideal S256x128 .f32) (s b : FVec Ideal S128 .f32) (h1 h2 h3)
    (hacc : ∀ z : S256x256.Idx, acc z = dotN A W (z 0).val (p + (z 1).val) 2880) (hts : ∀ z : S256x128.Idx, ts z = TS (z 0).val)
    (hs : ∀ i : Fin 128, s (ix1 i) = nat1 SF (p + o1 + i.val)) (hb : ∀ i : Fin 128, b (ix1 i) = nat1 BF (p + o1 + i.val)) (x : S256x128.Idx) :
    gelB o1 acc ts s b h1 h2 h3 x = gel A W TS SF BF (x 0).val (p + o1 + (x 1).val) := by
  obtain ⟨i, l, rfl⟩ : ∃ (i : Fin 256) (l : Fin 128), x = ix2 i l := ⟨x 0, x 1, eq_ix2 x⟩
  have e := extractStridedSlice_apply ![0, o1] acc h1 (ix2 i l) (ix2 i (⟨o1 + l.val, by omega⟩ : Fin 256)) (fun a => match a with
    | ⟨0, _⟩ => (Nat.zero_add _).symm
    | ⟨1, _⟩ => rfl)
  have ha : acc (ix2 i (⟨o1 + l.val, by omega⟩ : Fin 256)) = dotN A W i.val (p + (o1 + l.val)) 2880 := hacc _
  have ht : ts (ix2 i l) = TS i.val := hts _
  have et : addf (mulf (mulf (extractStridedSlice S256x128 ![0, o1] acc h1) ts) (broadcastTo S256x128 (shapeCast S1x128 s h2) h3)) (broadcastTo S256x128 (shapeCast S1x128 b h2) h3) (ix2 i l)
      = dotN A W i.val (p + o1 + l.val) 2880 * TS i.val * nat1 SF (p + o1 + l.val) + nat1 BF (p + o1 + l.val) := by
    rw [addf_apply, mulf_apply, mulf_apply, e, row_apply, row_apply, ha, ht, hs, hb, Nat.add_assoc]
  exact (act_apply _ _).trans (congrArg gelu et)

/-- One more block of 128 columns in the running maximum. -/
theorem mx_step (G : ℕ → ℕ → EReal) (n : ℕ) (r v : FVec Ideal S256x128 .f32) (hr : ∀ x : S256x128.Idx, r x = mx G (x 0).val (x 1).val n)
    (hv : ∀ x : S256x128.Idx, v x = G (x 0).val (128 * n + (x 1).val)) (x : S256x128.Idx) : maximumf r (absf v) x = mx G (x 0).val (x 1).val (n + 1) := by
  rw [maximumf_apply, hr]
  show max _ (max (v x) (-v x)) = _
  rw [hv]
  rfl

section Reads

variable (g : BufTy.Contents (Elt Ideal) arg0.view.ty) (f0 : Buf (Elt Ideal) (arg9.view.loc (c : Thread nD τ))) (Wf : Buf (Elt Ideal) (arg2.view.loc (c : Thread nD τ)))

/-- The weight's array. -/
abbrev Wr : S2880x7680.Idx → EReal := arg2.view.read (Elt Ideal) Wf
/-- The tokens' array. -/
abbrev Ar : S256x2880.Idx → EReal := arg0.view.read (Elt Ideal) g

/-- A block of rows of slot `n` reads those rows of panel `n`. -/
theorem slot_read (R n r0 : ℕ) (hn : n < 30) (hr : r0 + R ≤ 2880) (o : Fin 2 → ℕ) (ho : o = ![2880 * n + r0 + 74880, 0])
    (inb : ∀ a, o a + (![R, 256] : Fin 2 → ℕ) a ≤ S161280x256.size a) (x : (⟨2, ![R, 256]⟩ : Shape).Idx) :
    arg9.view.readAt (Elt Ideal) (Rect.unit (s := S161280x256) o ![R, 256] inb).toLoadRect (arenaOf c arg2 arg9 f0 Wf) x
      = nat2 (Wr c arg2 Wf) (r0 + (x 0).val) (256 * n + (x 1).val) := by
  subst ho
  have hx0 : (x 0).val < R := (x 0).isLt
  have hx1 : (x 1).val < 256 := (x 1).isLt
  have hp : r0 + (x 0).val < 2880 ∧ 256 * n + (x 1).val < 7680 := ⟨by omega, by omega⟩
  rw [View.readAt_apply]
  unfold nat2
  rw [dif_pos hp]
  have e0 : ((Rect.unit (s := S161280x256) ![2880 * n + r0 + 74880, 0] ![R, 256] inb).toLoadRect.idx x 0).val = 2880 * n + r0 + 74880 + 1 * (x 0).val := rfl
  have e1 : ((Rect.unit (s := S161280x256) ![2880 * n + r0 + 74880, 0] ![R, 256] inb).toLoadRect.idx x 1).val = 0 + 1 * (x 1).val := rfl
  refine arenaOf_read c arg2 arg9 f0 Wf _ ?_ _ ?_ ?_
  · rw [e0]; omega
  · rw [e0]; change r0 + (x 0).val = _; omega
  · rw [e0, e1]; change 256 * n + (x 1).val = _; omega

/-- A block of the tokens' columns. -/
theorem tok_read (R a : ℕ) (h0 : a + R ≤ 2880)
    (inb : ∀ i, (![0, a] : Fin 2 → ℕ) i + (![256, R] : Fin 2 → ℕ) i ≤ S256x2880.size i) (h : (⟨2, ![256, R]⟩ : Shape).ShapeCasts ⟨2, ![256, R]⟩) (x : (⟨2, ![256, R]⟩ : Shape).Idx) :
    shapeCast ⟨2, ![256, R]⟩ (arg0.view.readAt (Elt Ideal) (Rect.unit (s := S256x2880) ![0, a] ![256, R] inb).toLoadRect g) h x
      = nat2 (Ar arg0 g) (x 0).val (a + (x 1).val) := by
  refine (congrFun (shapeCast_self _ h) x).trans ?_
  rw [View.readAt_apply]
  refine nat2_idx (Ar arg0 g) _ _ _ ?_ ?_
  · show 0 + 1 * (x 0).val = _; omega
  · show a + 1 * (x 1).val = _; omega

/-- A panel's product, at an index. -/
theorem chain_apply (n : ℕ) (hn : n < 30) {o0 o1 o2 o3 o4 o5 o6 o7 o8 o9 o10 o11 : Fin 2 → ℕ}
    (ho0 : o0 = ![2880 * n + 0 + 74880, 0]) (ho1 : o1 = ![2880 * n + 256 + 74880, 0]) (ho2 : o2 = ![2880 * n + 512 + 74880, 0]) (ho3 : o3 = ![2880 * n + 768 + 74880, 0]) (ho4 : o4 = ![2880 * n + 1024 + 74880, 0]) (ho5 : o5 = ![2880 * n + 1280 + 74880, 0]) (ho6 : o6 = ![2880 * n + 1536 + 74880, 0]) (ho7 : o7 = ![2880 * n + 1792 + 74880, 0]) (ho8 : o8 = ![2880 * n + 2048 + 74880, 0]) (ho9 : o9 = ![2880 * n + 2304 + 74880, 0]) (ho10 : o10 = ![2880 * n + 2560 + 74880, 0]) (ho11 : o11 = ![2880 * n + 2816 + 74880, 0])
    (i0 : ∀ a, (![0, 0] : Fin 2 → ℕ) a + (![256, 256] : Fin 2 → ℕ) a ≤ S256x2880.size a) (i1 : ∀ a, (![0, 256] : Fin 2 → ℕ) a + (![256, 256] : Fin 2 → ℕ) a ≤ S256x2880.size a) (i2 : ∀ a, (![0, 512] : Fin 2 → ℕ) a + (![256, 256] : Fin 2 → ℕ) a ≤ S256x2880.size a) (i3 : ∀ a, (![0, 768] : Fin 2 → ℕ) a + (![256, 256] : Fin 2 → ℕ) a ≤ S256x2880.size a) (i4 : ∀ a, (![0, 1024] : Fin 2 → ℕ) a + (![256, 256] : Fin 2 → ℕ) a ≤ S256x2880.size a) (i5 : ∀ a, (![0, 1280] : Fin 2 → ℕ) a + (![256, 256] : Fin 2 → ℕ) a ≤ S256x2880.size a) (i6 : ∀ a, (![0, 1536] : Fin 2 → ℕ) a + (![256, 256] : Fin 2 → ℕ) a ≤ S256x2880.size a) (i7 : ∀ a, (![0, 1792] : Fin 2 → ℕ) a + (![256, 256] : Fin 2 → ℕ) a ≤ S256x2880.size a) (i8 : ∀ a, (![0, 2048] : Fin 2 → ℕ) a + (![256, 256] : Fin 2 → ℕ) a ≤ S256x2880.size a) (i9 : ∀ a, (![0, 2304] : Fin 2 → ℕ) a + (![256, 256] : Fin 2 → ℕ) a ≤ S256x2880.size a) (i10 : ∀ a, (![0, 2560] : Fin 2 → ℕ) a + (![256, 256] : Fin 2 → ℕ) a ≤ S256x2880.size a) (i11 : ∀ a, (![0, 2816] : Fin 2 → ℕ) a + (![256, 64] : Fin 2 → ℕ) a ≤ S256x2880.size a)
    (j0 : ∀ a, o0 a + (![256, 256] : Fin 2 → ℕ) a ≤ S161280x256.size a) (j1 : ∀ a, o1 a + (![256, 256] : Fin 2 → ℕ) a ≤ S161280x256.size a) (j2 : ∀ a, o2 a + (![256, 256] : Fin 2 → ℕ) a ≤ S161280x256.size a) (j3 : ∀ a, o3 a + (![256, 256] : Fin 2 → ℕ) a ≤ S161280x256.size a) (j4 : ∀ a, o4 a + (![256, 256] : Fin 2 → ℕ) a ≤ S161280x256.size a) (j5 : ∀ a, o5 a + (![256, 256] : Fin 2 → ℕ) a ≤ S161280x256.size a) (j6 : ∀ a, o6 a + (![256, 256] : Fin 2 → ℕ) a ≤ S161280x256.size a) (j7 : ∀ a, o7 a + (![256, 256] : Fin 2 → ℕ) a ≤ S161280x256.size a) (j8 : ∀ a, o8 a + (![256, 256] : Fin 2 → ℕ) a ≤ S161280x256.size a) (j9 : ∀ a, o9 a + (![256, 256] : Fin 2 → ℕ) a ≤ S161280x256.size a) (j10 : ∀ a, o10 a + (![256, 256] : Fin 2 → ℕ) a ≤ S161280x256.size a) (j11 : ∀ a, o11 a + (![64, 256] : Fin 2 → ℕ) a ≤ S161280x256.size a)
    (h : S256x256.ShapeCasts S256x256) (h' : S256x64.ShapeCasts S256x64) (x : S256x256.Idx) :
    chain (F := Ideal) (shapeCast S256x256 (arg0.view.readAt (Elt Ideal) (Rect.unit (s := S256x2880) ![0, 0] ![256, 256] i0).toLoadRect g) h) (shapeCast S256x256 (arg0.view.readAt (Elt Ideal) (Rect.unit (s := S256x2880) ![0, 256] ![256, 256] i1).toLoadRect g) h) (shapeCast S256x256 (arg0.view.readAt (Elt Ideal) (Rect.unit (s := S256x2880) ![0, 512] ![256, 256] i2).toLoadRect g) h) (shapeCast S256x256 (arg0.view.readAt (Elt Ideal) (Rect.unit (s := S256x2880) ![0, 768] ![256, 256] i3).toLoadRect g) h) (shapeCast S256x256 (arg0.view.readAt (Elt Ideal) (Rect.unit (s := S256x2880) ![0, 1024] ![256, 256] i4).toLoadRect g) h) (shapeCast S256x256 (arg0.view.readAt (Elt Ideal) (Rect.unit (s := S256x2880) ![0, 1280] ![256, 256] i5).toLoadRect g) h) (shapeCast S256x256 (arg0.view.readAt (Elt Ideal) (Rect.unit (s := S256x2880) ![0, 1536] ![256, 256] i6).toLoadRect g) h) (shapeCast S256x256 (arg0.view.readAt (Elt Ideal) (Rect.unit (s := S256x2880) ![0, 1792] ![256, 256] i7).toLoadRect g) h) (shapeCast S256x256 (arg0.view.readAt (Elt Ideal) (Rect.unit (s := S256x2880) ![0, 2048] ![256, 256] i8).toLoadRect g) h) (shapeCast S256x256 (arg0.view.readAt (Elt Ideal) (Rect.unit (s := S256x2880) ![0, 2304] ![256, 256] i9).toLoadRect g) h) (shapeCast S256x256 (arg0.view.readAt (Elt Ideal) (Rect.unit (s := S256x2880) ![0, 2560] ![256, 256] i10).toLoadRect g) h)
      (shapeCast S256x64 (arg0.view.readAt (Elt Ideal) (Rect.unit (s := S256x2880) ![0, 2816] ![256, 64] i11).toLoadRect g) h')
      (arg9.view.readAt (Elt Ideal) (Rect.unit (s := S161280x256) o0 ![256, 256] j0).toLoadRect (arenaOf c arg2 arg9 f0 Wf)) (arg9.view.readAt (Elt Ideal) (Rect.unit (s := S161280x256) o1 ![256, 256] j1).toLoadRect (arenaOf c arg2 arg9 f0 Wf)) (arg9.view.readAt (Elt Ideal) (Rect.unit (s := S161280x256) o2 ![256, 256] j2).toLoadRect (arenaOf c arg2 arg9 f0 Wf)) (arg9.view.readAt (Elt Ideal) (Rect.unit (s := S161280x256) o3 ![256, 256] j3).toLoadRect (arenaOf c arg2 arg9 f0 Wf)) (arg9.view.readAt (Elt Ideal) (Rect.unit (s := S161280x256) o4 ![256, 256] j4).toLoadRect (arenaOf c arg2 arg9 f0 Wf)) (arg9.view.readAt (Elt Ideal) (Rect.unit (s := S161280x256) o5 ![256, 256] j5).toLoadRect (arenaOf c arg2 arg9 f0 Wf)) (arg9.view.readAt (Elt Ideal) (Rect.unit (s := S161280x256) o6 ![256, 256] j6).toLoadRect (arenaOf c arg2 arg9 f0 Wf)) (arg9.view.readAt (Elt Ideal) (Rect.unit (s := S161280x256) o7 ![256, 256] j7).toLoadRect (arenaOf c arg2 arg9 f0 Wf)) (arg9.view.readAt (Elt Ideal) (Rect.unit (s := S161280x256) o8 ![256, 256] j8).toLoadRect (arenaOf c arg2 arg9 f0 Wf)) (arg9.view.readAt (Elt Ideal) (Rect.unit (s := S161280x256) o9 ![256, 256] j9).toLoadRect (arenaOf c arg2 arg9 f0 Wf)) (arg9.view.readAt (Elt Ideal) (Rect.unit (s := S161280x256) o10 ![256, 256] j10).toLoadRect (arenaOf c arg2 arg9 f0 Wf))
      (arg9.view.readAt (Elt Ideal) (Rect.unit (s := S161280x256) o11 ![64, 256] j11).toLoadRect (arenaOf c arg2 arg9 f0 Wf)) x
      = dotN (Ar arg0 g) (Wr c arg2 Wf) (x 0).val (256 * n + (x 1).val) 2880 := by
  unfold chain
  refine dp_step (Ar arg0 g) (Wr c arg2 Wf) 64 2816 (256 * n) 2880 rfl _ _ _ (tok_read arg0 g 64 2816 (by decide) i11 h') (slot_read c arg2 arg9 f0 Wf 64 n 2816 hn (by decide) _ ho11 j11) (fun x => ?_) x
  refine dp_step (Ar arg0 g) (Wr c arg2 Wf) 256 2560 (256 * n) 2816 rfl _ _ _ (tok_read arg0 g 256 2560 (by decide) i10 h) (slot_read c arg2 arg9 f0 Wf 256 n 2560 hn (by decide) _ ho10 j10) (fun x => ?_) x
  refine dp_step (Ar arg0 g) (Wr c arg2 Wf) 256 2304 (256 * n) 2560 rfl _ _ _ (tok_read arg0 g 256 2304 (by decide) i9 h) (slot_read c arg2 arg9 f0 Wf 256 n 2304 hn (by decide) _ ho9 j9) (fun x => ?_) x
  refine dp_step (Ar arg0 g) (Wr c arg2 Wf) 256 2048 (256 * n) 2304 rfl _ _ _ (tok_read arg0 g 256 2048 (by decide) i8 h) (slot_read c arg2 arg9 f0 Wf 256 n 2048 hn (by decide) _ ho8 j8) (fun x => ?_) x
  refine dp_step (Ar arg0 g) (Wr c arg2 Wf) 256 1792 (256 * n) 2048 rfl _ _ _ (tok_read arg0 g 256 1792 (by decide) i7 h) (slot_read c arg2 arg9 f0 Wf 256 n 1792 hn (by decide) _ ho7 j7) (fun x => ?_) x
  refine dp_step (Ar arg0 g) (Wr c arg2 Wf) 256 1536 (256 * n) 1792 rfl _ _ _ (tok_read arg0 g 256 1536 (by decide) i6 h) (slot_read c arg2 arg9 f0 Wf 256 n 1536 hn (by decide) _ ho6 j6) (fun x => ?_) x
  refine dp_step (Ar arg0 g) (Wr c arg2 Wf) 256 1280 (256 * n) 1536 rfl _ _ _ (tok_read arg0 g 256 1280 (by decide) i5 h) (slot_read c arg2 arg9 f0 Wf 256 n 1280 hn (by decide) _ ho5 j5) (fun x => ?_) x
  refine dp_step (Ar arg0 g) (Wr c arg2 Wf) 256 1024 (256 * n) 1280 rfl _ _ _ (tok_read arg0 g 256 1024 (by decide) i4 h) (slot_read c arg2 arg9 f0 Wf 256 n 1024 hn (by decide) _ ho4 j4) (fun x => ?_) x
  refine dp_step (Ar arg0 g) (Wr c arg2 Wf) 256 768 (256 * n) 1024 rfl _ _ _ (tok_read arg0 g 256 768 (by decide) i3 h) (slot_read c arg2 arg9 f0 Wf 256 n 768 hn (by decide) _ ho3 j3) (fun x => ?_) x
  refine dp_step (Ar arg0 g) (Wr c arg2 Wf) 256 512 (256 * n) 768 rfl _ _ _ (tok_read arg0 g 256 512 (by decide) i2 h) (slot_read c arg2 arg9 f0 Wf 256 n 512 hn (by decide) _ ho2 j2) (fun x => ?_) x
  refine dp_step (Ar arg0 g) (Wr c arg2 Wf) 256 256 (256 * n) 512 rfl _ _ _ (tok_read arg0 g 256 256 (by decide) i1 h) (slot_read c arg2 arg9 f0 Wf 256 n 256 hn (by decide) _ ho1 j1) (fun x => ?_) x
  refine (dp_apply (Ar arg0 g) (Wr c arg2 Wf) 256 0 (256 * n) _ _ (tok_read arg0 g 256 0 (by decide) i0 h) (slot_read c arg2 arg9 f0 Wf 256 n 0 hn (by decide) _ ho0 j0) x).trans ?_
  unfold dotN
  simp only [Nat.zero_add]

/-- A block of a vector. -/
theorem vec_read {κ : Kind} {sp : Space} (v : View sig κ sp S7680 .f32) (f : v.ty.Contents (Elt Ideal)) (o : Fin 1 → ℕ) (a : ℕ) (h : o = ![a])
    (inb : ∀ i, o i + (![128] : Fin 1 → ℕ) i ≤ S7680.size i) (i : Fin 128) :
    v.readAt (Elt Ideal) (Rect.unit (s := S7680) o ![128] inb).toLoadRect f (ix1 i) = nat1 (v.read (Elt Ideal) f) (a + i.val) := by
  subst h
  rw [View.readAt_apply]
  refine nat1_idx (v.read (Elt Ideal) f) _ _ ?_
  show a + 1 * i.val = a + i.val
  omega

/-- The whole of an array of 256 rows and 128 lanes. -/
theorem lanes_read {κ : Kind} {sp : Space} (v : View sig κ sp S256x128 .f32) (f : v.ty.Contents (Elt Ideal))
    (inb : ∀ i, (![0, 0] : Fin 2 → ℕ) i + (![256, 128] : Fin 2 → ℕ) i ≤ S256x128.size i) (x : S256x128.Idx) :
    v.readAt (Elt Ideal) (Rect.unit (s := S256x128) ![0, 0] ![256, 128] inb).toLoadRect f x = v.read (Elt Ideal) f x := by
  rw [View.readAt_apply]
  refine congrArg _ (funext fun i => Fin.ext ?_)
  match i with
  | ⟨0, _⟩ => show 0 + 1 * (x 0).val = (x 0).val; omega
  | ⟨1, _⟩ => show 0 + 1 * (x 1).val = (x 1).val; omega

end Reads

end Cert.UpIdeal.Hand

end
-- ==== Proof.UpTripA.lean ====
module

public import proofs.«01_k».proof.Proof.UpSums
public import Idealize.ShloMosaic.Lib.MatmulPlain
public import Idealize.ShloMosaic.Lib.ValueIdx
public import Idealize.ShloMosaic.Lib.Pipeline.Value
public import Idealize.ShloMosaic.Lib.WritesUnit

/-!
A trip of the counted loop: twelve blocks of 128 columns stored, and the running maximum carried through them. After
`n` trips the stored columns hold the activations and the maximum holds `mx … (12 n)`.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

theorem off7_slot (k : Fin k0_t2_loop.trips) (j : Fin 6) (r : Fin 11) :
    k0_off7 k (BitVec.ofNat 32 j.val) (BitVec.ofNat 32 (256 * r.val)) = ![2880 * (6 * k.val + j.val) + 256 * r.val + 74880, 0] := by
  rw [k0_off7_eq]; congr 1; omega
theorem off8_slot (k : Fin k0_t2_loop.trips) (j : Fin 6) : k0_off8 k (BitVec.ofNat 32 j.val) = ![2880 * (6 * k.val + j.val) + 2816 + 74880, 0] := by
  rw [k0_off8_eq]; congr 1; omega
theorem off9_col (k : Fin k0_t2_loop.trips) (j : Fin 6) (r : Fin 2) : k0_off9 k (BitVec.ofNat 32 j.val) (BitVec.ofNat 32 (128 * r.val)) = ![256 * (6 * k.val + j.val) + 128 * r.val] := by
  rw [k0_off9_eq]; congr 1; omega
theorem off10_col (k : Fin k0_t2_loop.trips) (j : Fin 6) (r : Fin 2) : k0_off10 k (BitVec.ofNat 32 j.val) (BitVec.ofNat 32 (128 * r.val)) = ![0, 128 * (12 * k.val + 2 * j.val + r.val)] := by
  rw [k0_off10_eq]; congr 2; omega

section Trip2

variable (v30 : FVec Ideal S128x128 .f32) (g : BufTy.Contents (Elt Ideal) arg0.view.ty) (f0 : Buf (Elt Ideal) (arg9.view.loc (c : Thread nD τ))) (Wf : Buf (Elt Ideal) (arg2.view.loc (c : Thread nD τ)))
  (ts : BufTy.Contents (Elt Ideal) arg12.view.ty) (sf : BufTy.Contents (Elt Ideal) arg7.view.ty) (bf : BufTy.Contents (Elt Ideal) arg8.view.ty) (u : BufTy.Contents (Elt Ideal) arg13.view.ty)
  (v : BufTy.Contents (Elt Ideal) arg10.view.ty) (TS : ℕ → EReal)

/-- The activations. -/
abbrev Gf : ℕ → ℕ → EReal := gel (Ar arg0 g) (Wr c arg2 Wf) TS (arg7.view.read (Elt Ideal) sf) (arg8.view.read (Elt Ideal) bf)

theorem cut (r : Fin 2) : S256x256.Slices ![0, 128 * r.val] S256x128 := by
  match r with
  | 0 => exact (by decide : S256x256.Slices ![0, 0] S256x128)
  | 1 => exact (by decide : S256x256.Slices ![0, 128] S256x128)

/-- A stored block of a trip. -/
abbrev gelAt (k : Fin k0_t2_loop.trips) (j : Fin 6) (r : Fin 2) : FVec Ideal S256x128 .f32 :=
    gelB (F := Ideal) (128 * r.val) (chain (F := Ideal) (shapeCast S256x256 (arg0.view.readAt (Elt Ideal) (Rect.unit (s := S256x2880) ![0, 0] ![256, 256] inb_S256x2880_S256x256_0_0).toLoadRect g) rfl)
      (shapeCast S256x256 (arg0.view.readAt (Elt Ideal) (Rect.unit (s := S256x2880) ![0, 256] ![256, 256] inb_S256x2880_S256x256_0_256).toLoadRect g) rfl)
      (shapeCast S256x256 (arg0.view.readAt (Elt Ideal) (Rect.unit (s := S256x2880) ![0, 512] ![256, 256] inb_S256x2880_S256x256_0_512).toLoadRect g) rfl)
      (shapeCast S256x256 (arg0.view.readAt (Elt Ideal) (Rect.unit (s := S256x2880) ![0, 768] ![256, 256] inb_S256x2880_S256x256_0_768).toLoadRect g) rfl)
      (shapeCast S256x256 (arg0.view.readAt (Elt Ideal) (Rect.unit (s := S256x2880) ![0, 1024] ![256, 256] inb_S256x2880_S256x256_0_1024).toLoadRect g) rfl)
      (shapeCast S256x256 (arg0.view.readAt (Elt Ideal) (Rect.unit (s := S256x2880) ![0, 1280] ![256, 256] inb_S256x2880_S256x256_0_1280).toLoadRect g) rfl)
      (shapeCast S256x256 (arg0.view.readAt (Elt Ideal) (Rect.unit (s := S256x2880) ![0, 1536] ![256, 256] inb_S256x2880_S256x256_0_1536).toLoadRect g) rfl)
      (shapeCast S256x256 (arg0.view.readAt (Elt Ideal) (Rect.unit (s := S256x2880) ![0, 1792] ![256, 256] inb_S256x2880_S256x256_0_1792).toLoadRect g) rfl)
      (shapeCast S256x256 (arg0.view.readAt (Elt Ideal) (Rect.unit (s := S256x2880) ![0, 2048] ![256, 256] inb_S256x2880_S256x256_0_2048).toLoadRect g) rfl)
      (shapeCast S256x256 (arg0.view.readAt (Elt Ideal) (Rect.unit (s := S256x2880) ![0, 2304] ![256, 256] inb_S256x2880_S256x256_0_2304).toLoadRect g) rfl)
      (shapeCast S256x256 (arg0.view.readAt (Elt Ideal) (Rect.unit (s := S256x2880) ![0, 2560] ![256, 256] inb_S256x2880_S256x256_0_2560).toLoadRect g) rfl)
      (shapeCast S256x64 (arg0.view.readAt (Elt Ideal) (Rect.unit (s := S256x2880) ![0, 2816] ![256, 64] inb_S256x2880_S256x64_0_2816).toLoadRect g) rfl)
      (arg9.view.readAt (Elt Ideal) (Rect.unit (s := S161280x256) (k0_off7 k (BitVec.ofNat 32 j.val) (BitVec.ofNat 32 (256 * (0 : Fin 11).val))) ![256, 256] (k0_off7_inb k j 0)).toLoadRect (arenaOf c arg2 arg9 f0 Wf))
      (arg9.view.readAt (Elt Ideal) (Rect.unit (s := S161280x256) (k0_off7 k (BitVec.ofNat 32 j.val) (BitVec.ofNat 32 (256 * (1 : Fin 11).val))) ![256, 256] (k0_off7_inb k j 1)).toLoadRect (arenaOf c arg2 arg9 f0 Wf))
      (arg9.view.readAt (Elt Ideal) (Rect.unit (s := S161280x256) (k0_off7 k (BitVec.ofNat 32 j.val) (BitVec.ofNat 32 (256 * (2 : Fin 11).val))) ![256, 256] (k0_off7_inb k j 2)).toLoadRect (arenaOf c arg2 arg9 f0 Wf))
      (arg9.view.readAt (Elt Ideal) (Rect.unit (s := S161280x256) (k0_off7 k (BitVec.ofNat 32 j.val) (BitVec.ofNat 32 (256 * (3 : Fin 11).val))) ![256, 256] (k0_off7_inb k j 3)).toLoadRect (arenaOf c arg2 arg9 f0 Wf))
      (arg9.view.readAt (Elt Ideal) (Rect.unit (s := S161280x256) (k0_off7 k (BitVec.ofNat 32 j.val) (BitVec.ofNat 32 (256 * (4 : Fin 11).val))) ![256, 256] (k0_off7_inb k j 4)).toLoadRect (arenaOf c arg2 arg9 f0 Wf))
      (arg9.view.readAt (Elt Ideal) (Rect.unit (s := S161280x256) (k0_off7 k (BitVec.ofNat 32 j.val) (BitVec.ofNat 32 (256 * (5 : Fin 11).val))) ![256, 256] (k0_off7_inb k j 5)).toLoadRect (arenaOf c arg2 arg9 f0 Wf))
      (arg9.view.readAt (Elt Ideal) (Rect.unit (s := S161280x256) (k0_off7 k (BitVec.ofNat 32 j.val) (BitVec.ofNat 32 (256 * (6 : Fin 11).val))) ![256, 256] (k0_off7_inb k j 6)).toLoadRect (arenaOf c arg2 arg9 f0 Wf))
      (arg9.view.readAt (Elt Ideal) (Rect.unit (s := S161280x256) (k0_off7 k (BitVec.ofNat 32 j.val) (BitVec.ofNat 32 (256 * (7 : Fin 11).val))) ![256, 256] (k0_off7_inb k j 7)).toLoadRect (arenaOf c arg2 arg9 f0 Wf))
      (arg9.view.readAt (Elt Ideal) (Rect.unit (s := S161280x256) (k0_off7 k (BitVec.ofNat 32 j.val) (BitVec.ofNat 32 (256 * (8 : Fin 11).val))) ![256, 256] (k0_off7_inb k j 8)).toLoadRect (arenaOf c arg2 arg9 f0 Wf))
      (arg9.view.readAt (Elt Ideal) (Rect.unit (s := S161280x256) (k0_off7 k (BitVec.ofNat 32 j.val) (BitVec.ofNat 32 (256 * (9 : Fin 11).val))) ![256, 256] (k0_off7_inb k j 9)).toLoadRect (arenaOf c arg2 arg9 f0 Wf))
      (arg9.view.readAt (Elt Ideal) (Rect.unit (s := S161280x256) (k0_off7 k (BitVec.ofNat 32 j.val) (BitVec.ofNat 32 (256 * (10 : Fin 11).val))) ![256, 256] (k0_off7_inb k j 10)).toLoadRect (arenaOf c arg2 arg9 f0 Wf))
      (arg9.view.readAt (Elt Ideal) (Rect.unit (s := S161280x256) (k0_off8 k (BitVec.ofNat 32 j.val)) ![64, 256] (k0_off8_inb k j)).toLoadRect (arenaOf c arg2 arg9 f0 Wf)))
      (arg12.view.readAt (Elt Ideal) (Rect.unit (s := S256x128) ![0, 0] ![256, 128] inb_S256x128_S256x128_0_0).toLoadRect ts)
      (arg7.view.readAt (Elt Ideal) (Rect.unit (s := S7680) (k0_off9 k (BitVec.ofNat 32 j.val) (BitVec.ofNat 32 (128 * r.val))) ![128] (k0_off9_inb k j r)).toLoadRect sf)
      (arg8.view.readAt (Elt Ideal) (Rect.unit (s := S7680) (k0_off9 k (BitVec.ofNat 32 j.val) (BitVec.ofNat 32 (128 * r.val))) ![128] (k0_off9_inb k j r)).toLoadRect bf) (cut r) (by decide) (by decide)

set_option maxRecDepth 8192 in
/-- A stored block of a trip, at an index. -/
theorem blk_at (hts : ∀ x : S256x128.Idx, arg12.view.read (Elt Ideal) ts x = TS (x 0).val) (k : Fin k0_t2_loop.trips) (j : Fin 6) (r : Fin 2) (x : S256x128.Idx) :
    gelAt c arg0 arg2 arg7 arg8 arg9 arg12 g f0 Wf ts sf bf k j r x
      = Gf c arg0 arg2 arg7 arg8 g Wf sf bf TS (x 0).val (128 * (12 * k.val + 2 * j.val + r.val) + (x 1).val) := by
  have hk : k.val < 5 := lt_of_lt_of_le k.isLt (by decide +kernel)
  have hj : j.val < 6 := j.isLt
  have hr : r.val < 2 := r.isLt
  refine (gelB_apply (Ar arg0 g) (Wr c arg2 Wf) TS (arg7.view.read (Elt Ideal) sf) (arg8.view.read (Elt Ideal) bf) (128 * r.val) (256 * (6 * k.val + j.val)) (by omega) _ _ _ _ _ _ _
    (fun z => chain_apply c arg0 arg2 arg9 g f0 Wf (6 * k.val + j.val) (by omega) (off7_slot k j 0) (off7_slot k j 1) (off7_slot k j 2) (off7_slot k j 3) (off7_slot k j 4) (off7_slot k j 5) (off7_slot k j 6) (off7_slot k j 7) (off7_slot k j 8) (off7_slot k j 9) (off7_slot k j 10) (off8_slot k j)
      _ _ _ _ _ _ _ _ _ _ _ _ _ _ _ _ _ _ _ _ _ _ _ _ _ _ z)
    (fun z => (lanes_read arg12.view ts _ z).trans (hts z)) (vec_read arg7.view sf _ _ (off9_col k j r) _) (vec_read arg8.view bf _ _ (off9_col k j r) _) x).trans ?_
  exact congrArg (gel _ _ _ _ _ _) (by omega)

theorem put_row {sz : Fin 2 → ℕ} (o : Fin 2 → ℕ) (a : ℕ) (h : o = ![0, a]) (inb : ∀ i, o i + sz i ≤ S256x7680.size i) (x : (Rect.unit (s := S256x7680) o sz inb).shape.Idx) :
    ((Rect.unit (s := S256x7680) o sz inb).emb x 0).val = (x 0).val := by
  subst h; show 0 + 1 * (x 0).val = _; omega
theorem put_col {sz : Fin 2 → ℕ} (o : Fin 2 → ℕ) (a : ℕ) (h : o = ![0, a]) (inb : ∀ i, o i + sz i ≤ S256x7680.size i) (x : (Rect.unit (s := S256x7680) o sz inb).shape.Idx) :
    ((Rect.unit (s := S256x7680) o sz inb).emb x 1).val = a + (x 1).val := by
  subst h; show a + 1 * (x 1).val = _; omega

/-- A stored block of a trip, at its place in the array. -/
theorem piece_at (hts : ∀ x : S256x128.Idx, arg12.view.read (Elt Ideal) ts x = TS (x 0).val) (k : Fin k0_t2_loop.trips) (j : Fin 6) (r : Fin 2) (h : S256x128.ShapeCasts S256x128) (x : S256x128.Idx) :
    shapeCast S256x128 (gelAt c arg0 arg2 arg7 arg8 arg9 arg12 g f0 Wf ts sf bf k j r) h x
      = (fun y : S256x7680.Idx => Gf c arg0 arg2 arg7 arg8 g Wf sf bf TS (y 0).val (y 1).val)
          ((Rect.unit (s := S256x7680) (k0_off10 k (BitVec.ofNat 32 j.val) (BitVec.ofNat 32 (128 * r.val))) ![256, 128] (k0_off10_inb k j r)).emb x) :=
  (congrFun (shapeCast_self _ _) x).trans ((blk_at c arg0 arg2 arg7 arg8 arg9 arg12 g f0 Wf ts sf bf TS hts k j r x).trans
    (congrArg₂ (Gf c arg0 arg2 arg7 arg8 g Wf sf bf TS) (put_row _ _ (off10_col k j r) (k0_off10_inb k j r) x).symm (put_col _ _ (off10_col k j r) (k0_off10_inb k j r) x).symm))

end Trip2

end Cert.UpIdeal.Hand

end
-- ==== Proof.UpTripB.lean ====
module

public import proofs.«01_k».proof.Proof.UpTripA
public import Idealize.ShloMosaic.Lib.MatmulPlain
public import Idealize.ShloMosaic.Lib.ValueIdx
public import Idealize.ShloMosaic.Lib.Pipeline.Value
public import Idealize.ShloMosaic.Lib.WritesUnit

/-!
The blocks that a trip stores, and the columns that they cover.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

section Trip2

variable (v30 : FVec Ideal S128x128 .f32) (g : BufTy.Contents (Elt Ideal) arg0.view.ty) (f0 : Buf (Elt Ideal) (arg9.view.loc (c : Thread nD τ))) (Wf : Buf (Elt Ideal) (arg2.view.loc (c : Thread nD τ)))
  (ts : BufTy.Contents (Elt Ideal) arg12.view.ty) (sf : BufTy.Contents (Elt Ideal) arg7.view.ty) (bf : BufTy.Contents (Elt Ideal) arg8.view.ty) (u : BufTy.Contents (Elt Ideal) arg13.view.ty)
  (v : BufTy.Contents (Elt Ideal) arg10.view.ty) (TS : ℕ → EReal)

set_option maxRecDepth 8192 in
set_option maxHeartbeats 4000000 in
/-- Each block a trip stores holds the activations. -/
theorem trip2_pieces (hts : ∀ x : S256x128.Idx, arg12.view.read (Elt Ideal) ts x = TS (x 0).val) (k : Fin k0_t2_loop.trips) : ∀ p ∈ (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u k).1.1, ∀ x : p.1.shape.Idx,
    p.2 x = (fun y : S256x7680.Idx => Gf c arg0 arg2 arg7 arg8 g Wf sf bf TS (y 0).val (y 1).val) (p.1.emb x) := by
  unfold trip_k0_t2
  dsimp only
  simp only [List.forall_mem_cons]
  refine ⟨fun x => ?_, fun x => ?_, fun x => ?_, fun x => ?_, fun x => ?_, fun x => ?_, fun x => ?_, fun x => ?_, fun x => ?_, fun x => ?_, fun x => ?_, fun x => ?_, fun p hp => absurd hp List.not_mem_nil⟩
  · exact piece_at c arg0 arg2 arg7 arg8 arg9 arg12 g f0 Wf ts sf bf TS hts k 5 1 (by decide) x
  · exact piece_at c arg0 arg2 arg7 arg8 arg9 arg12 g f0 Wf ts sf bf TS hts k 5 0 (by decide) x
  · exact piece_at c arg0 arg2 arg7 arg8 arg9 arg12 g f0 Wf ts sf bf TS hts k 4 1 (by decide) x
  · exact piece_at c arg0 arg2 arg7 arg8 arg9 arg12 g f0 Wf ts sf bf TS hts k 4 0 (by decide) x
  · exact piece_at c arg0 arg2 arg7 arg8 arg9 arg12 g f0 Wf ts sf bf TS hts k 3 1 (by decide) x
  · exact piece_at c arg0 arg2 arg7 arg8 arg9 arg12 g f0 Wf ts sf bf TS hts k 3 0 (by decide) x
  · exact piece_at c arg0 arg2 arg7 arg8 arg9 arg12 g f0 Wf ts sf bf TS hts k 2 1 (by decide) x
  · exact piece_at c arg0 arg2 arg7 arg8 arg9 arg12 g f0 Wf ts sf bf TS hts k 2 0 (by decide) x
  · exact piece_at c arg0 arg2 arg7 arg8 arg9 arg12 g f0 Wf ts sf bf TS hts k 1 1 (by decide) x
  · exact piece_at c arg0 arg2 arg7 arg8 arg9 arg12 g f0 Wf ts sf bf TS hts k 1 0 (by decide) x
  · exact piece_at c arg0 arg2 arg7 arg8 arg9 arg12 g f0 Wf ts sf bf TS hts k 0 1 (by decide) x
  · exact piece_at c arg0 arg2 arg7 arg8 arg9 arg12 g f0 Wf ts sf bf TS hts k 0 0 (by decide) x

set_option maxRecDepth 8192 in
set_option maxHeartbeats 4000000 in
/-- A trip stores its own 1536 columns. -/
theorem trip2_cover (k : Fin k0_t2_loop.trips) (y : S256x7680.Idx) (h0 : 1536 * k.val ≤ (y 1).val) (h1 : (y 1).val < 1536 * k.val + 1536) :
    ∃ p ∈ (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u k).1.1, y ∈ p.1.set := by
  have hy : (y 0).val < 256 := (y 0).isLt
  have key (j : Fin 6) (r : Fin 2) (ha : 128 * (12 * k.val + 2 * j.val + r.val) ≤ (y 1).val) (hb : (y 1).val < 128 * (12 * k.val + 2 * j.val + r.val) + 128) :
      y ∈ (Rect.unit (s := S256x7680) (k0_off10 k (BitVec.ofNat 32 j.val) (BitVec.ofNat 32 (128 * r.val))) ![256, 128] (k0_off10_inb k j r)).set := by
    rw [Rect.mem_set_unit]
    intro i
    rw [off10_col k j r]
    match i with
    | ⟨0, _⟩ => exact ⟨Nat.zero_le _, by show (y 0).val < 0 + 256; omega⟩
    | ⟨1, _⟩ => exact ⟨ha, hb⟩
  unfold trip_k0_t2
  dsimp only
  simp only [List.exists_mem_cons_iff]
  by_cases c0 : 128 * (12 * k.val + 2 * 5 + 1) ≤ (y 1).val
  · exact Or.inl (key 5 1 c0 (by show (y 1).val < 128 * (12 * k.val + 2 * 5 + 1) + 128; omega))
  refine Or.inr ?_
  by_cases c1 : 128 * (12 * k.val + 2 * 5 + 0) ≤ (y 1).val
  · exact Or.inl (key 5 0 c1 (by show (y 1).val < 128 * (12 * k.val + 2 * 5 + 0) + 128; omega))
  refine Or.inr ?_
  by_cases c2 : 128 * (12 * k.val + 2 * 4 + 1) ≤ (y 1).val
  · exact Or.inl (key 4 1 c2 (by show (y 1).val < 128 * (12 * k.val + 2 * 4 + 1) + 128; omega))
  refine Or.inr ?_
  by_cases c3 : 128 * (12 * k.val + 2 * 4 + 0) ≤ (y 1).val
  · exact Or.inl (key 4 0 c3 (by show (y 1).val < 128 * (12 * k.val + 2 * 4 + 0) + 128; omega))
  refine Or.inr ?_
  by_cases c4 : 128 * (12 * k.val + 2 * 3 + 1) ≤ (y 1).val
  · exact Or.inl (key 3 1 c4 (by show (y 1).val < 128 * (12 * k.val + 2 * 3 + 1) + 128; omega))
  refine Or.inr ?_
  by_cases c5 : 128 * (12 * k.val + 2 * 3 + 0) ≤ (y 1).val
  · exact Or.inl (key 3 0 c5 (by show (y 1).val < 128 * (12 * k.val + 2 * 3 + 0) + 128; omega))
  refine Or.inr ?_
  by_cases c6 : 128 * (12 * k.val + 2 * 2 + 1) ≤ (y 1).val
  · exact Or.inl (key 2 1 c6 (by show (y 1).val < 128 * (12 * k.val + 2 * 2 + 1) + 128; omega))
  refine Or.inr ?_
  by_cases c7 : 128 * (12 * k.val + 2 * 2 + 0) ≤ (y 1).val
  · exact Or.inl (key 2 0 c7 (by show (y 1).val < 128 * (12 * k.val + 2 * 2 + 0) + 128; omega))
  refine Or.inr ?_
  by_cases c8 : 128 * (12 * k.val + 2 * 1 + 1) ≤ (y 1).val
  · exact Or.inl (key 1 1 c8 (by show (y 1).val < 128 * (12 * k.val + 2 * 1 + 1) + 128; omega))
  refine Or.inr ?_
  by_cases c9 : 128 * (12 * k.val + 2 * 1 + 0) ≤ (y 1).val
  · exact Or.inl (key 1 0 c9 (by show (y 1).val < 128 * (12 * k.val + 2 * 1 + 0) + 128; omega))
  refine Or.inr ?_
  by_cases c10 : 128 * (12 * k.val + 2 * 0 + 1) ≤ (y 1).val
  · exact Or.inl (key 0 1 c10 (by show (y 1).val < 128 * (12 * k.val + 2 * 0 + 1) + 128; omega))
  refine Or.inr ?_
  exact Or.inl (key 0 0 (by show 128 * (12 * k.val + 2 * 0 + 0) ≤ (y 1).val; omega) (by show (y 1).val < 128 * (12 * k.val + 2 * 0 + 0) + 128; omega))

end Trip2

end Cert.UpIdeal.Hand

end
-- ==== Proof.UpTripC.lean ====
module

public import proofs.«01_k».proof.Proof.UpTripA
public import Idealize.ShloMosaic.Lib.MatmulPlain
public import Idealize.ShloMosaic.Lib.ValueIdx
public import Idealize.ShloMosaic.Lib.Pipeline.Value
public import Idealize.ShloMosaic.Lib.WritesUnit

/-!
The running maximum through a trip.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

section Trip2

variable (v30 : FVec Ideal S128x128 .f32) (g : BufTy.Contents (Elt Ideal) arg0.view.ty) (f0 : Buf (Elt Ideal) (arg9.view.loc (c : Thread nD τ))) (Wf : Buf (Elt Ideal) (arg2.view.loc (c : Thread nD τ)))
  (ts : BufTy.Contents (Elt Ideal) arg12.view.ty) (sf : BufTy.Contents (Elt Ideal) arg7.view.ty) (bf : BufTy.Contents (Elt Ideal) arg8.view.ty) (u : BufTy.Contents (Elt Ideal) arg13.view.ty)
  (v : BufTy.Contents (Elt Ideal) arg10.view.ty) (TS : ℕ → EReal)

set_option maxRecDepth 8192 in
set_option maxHeartbeats 4000000 in
/-- The running maximum after a trip. -/
theorem trip2_max (hts : ∀ x : S256x128.Idx, arg12.view.read (Elt Ideal) ts x = TS (x 0).val) (k : Fin k0_t2_loop.trips)
    (hu : ∀ x : S256x128.Idx, arg13.view.read (Elt Ideal) u x = mx (Gf c arg0 arg2 arg7 arg8 g Wf sf bf TS) (x 0).val (x 1).val (12 * k.val)) (x : S256x128.Idx) :
    arg13.view.read (Elt Ideal) (arg13.view.writes (Elt Ideal) u (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u k).1.2) x = mx (Gf c arg0 arg2 arg7 arg8 g Wf sf bf TS) (x 0).val (x 1).val (12 * k.val + 12) := by
  have st (n : ℕ) (r w : FVec Ideal S256x128 .f32) (hr : ∀ x : S256x128.Idx, r x = mx (Gf c arg0 arg2 arg7 arg8 g Wf sf bf TS) (x 0).val (x 1).val n)
      (hv : ∀ x : S256x128.Idx, w x = Gf c arg0 arg2 arg7 arg8 g Wf sf bf TS (x 0).val (128 * n + (x 1).val)) (h : S256x128.ShapeCasts S256x128) (x : S256x128.Idx) :
      shapeCast S256x128 (maximumf r (absf w)) h x = mx (Gf c arg0 arg2 arg7 arg8 g Wf sf bf TS) (x 0).val (x 1).val (n + 1) :=
    (congrFun (shapeCast_self _ _) x).trans (mx_step _ n r w hr hv x)
  have b (j : Fin 6) (r : Fin 2) (x : S256x128.Idx) := blk_at c arg0 arg2 arg7 arg8 arg9 arg12 g f0 Wf ts sf bf TS hts k j r x
  have m1 (x : S256x128.Idx) : arg13.view.readCov (trip_k0_t2.sl.H13_1 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 1) := by
    unfold trip_k0_t2.sl.H13_1
    refine (congrFun (View.readCov_cons_toLoadRect arg13.view (Rect.unit (s := S256x128) ![0, 0] ![256, 128] inb_S256x128_S256x128_0_0) _ _) x).trans ?_
    exact st (12 * k.val + 0) _ _ (fun z => (lanes_read arg13.view u _ z).trans (hu z)) (b 0 0) _ x
  have m2 (x : S256x128.Idx) : arg13.view.readCov (trip_k0_t2.sl.H13_2 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 2) := by
    unfold trip_k0_t2.sl.H13_2
    refine (congrFun (View.readCov_cons_toLoadRect arg13.view (Rect.unit (s := S256x128) ![0, 0] ![256, 128] inb_S256x128_S256x128_0_0) _ _) x).trans ?_
    exact st (12 * k.val + 1) _ _ m1 (b 0 1) _ x
  have m3 (x : S256x128.Idx) : arg13.view.readCov (trip_k0_t2.sl.H13_3 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 3) := by
    unfold trip_k0_t2.sl.H13_3
    refine (congrFun (View.readCov_cons_toLoadRect arg13.view (Rect.unit (s := S256x128) ![0, 0] ![256, 128] inb_S256x128_S256x128_0_0) _ _) x).trans ?_
    exact st (12 * k.val + 2) _ _ m2 (b 1 0) _ x
  have m4 (x : S256x128.Idx) : arg13.view.readCov (trip_k0_t2.sl.H13_4 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 4) := by
    unfold trip_k0_t2.sl.H13_4
    refine (congrFun (View.readCov_cons_toLoadRect arg13.view (Rect.unit (s := S256x128) ![0, 0] ![256, 128] inb_S256x128_S256x128_0_0) _ _) x).trans ?_
    exact st (12 * k.val + 3) _ _ m3 (b 1 1) _ x
  have m5 (x : S256x128.Idx) : arg13.view.readCov (trip_k0_t2.sl.H13_5 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 5) := by
    unfold trip_k0_t2.sl.H13_5
    refine (congrFun (View.readCov_cons_toLoadRect arg13.view (Rect.unit (s := S256x128) ![0, 0] ![256, 128] inb_S256x128_S256x128_0_0) _ _) x).trans ?_
    exact st (12 * k.val + 4) _ _ m4 (b 2 0) _ x
  have m6 (x : S256x128.Idx) : arg13.view.readCov (trip_k0_t2.sl.H13_6 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 6) := by
    unfold trip_k0_t2.sl.H13_6
    refine (congrFun (View.readCov_cons_toLoadRect arg13.view (Rect.unit (s := S256x128) ![0, 0] ![256, 128] inb_S256x128_S256x128_0_0) _ _) x).trans ?_
    exact st (12 * k.val + 5) _ _ m5 (b 2 1) _ x
  have m7 (x : S256x128.Idx) : arg13.view.readCov (trip_k0_t2.sl.H13_7 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 7) := by
    unfold trip_k0_t2.sl.H13_7
    refine (congrFun (View.readCov_cons_toLoadRect arg13.view (Rect.unit (s := S256x128) ![0, 0] ![256, 128] inb_S256x128_S256x128_0_0) _ _) x).trans ?_
    exact st (12 * k.val + 6) _ _ m6 (b 3 0) _ x
  have m8 (x : S256x128.Idx) : arg13.view.readCov (trip_k0_t2.sl.H13_8 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 8) := by
    unfold trip_k0_t2.sl.H13_8
    refine (congrFun (View.readCov_cons_toLoadRect arg13.view (Rect.unit (s := S256x128) ![0, 0] ![256, 128] inb_S256x128_S256x128_0_0) _ _) x).trans ?_
    exact st (12 * k.val + 7) _ _ m7 (b 3 1) _ x
  have m9 (x : S256x128.Idx) : arg13.view.readCov (trip_k0_t2.sl.H13_9 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 9) := by
    unfold trip_k0_t2.sl.H13_9
    refine (congrFun (View.readCov_cons_toLoadRect arg13.view (Rect.unit (s := S256x128) ![0, 0] ![256, 128] inb_S256x128_S256x128_0_0) _ _) x).trans ?_
    exact st (12 * k.val + 8) _ _ m8 (b 4 0) _ x
  have m10 (x : S256x128.Idx) : arg13.view.readCov (trip_k0_t2.sl.H13_10 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 10) := by
    unfold trip_k0_t2.sl.H13_10
    refine (congrFun (View.readCov_cons_toLoadRect arg13.view (Rect.unit (s := S256x128) ![0, 0] ![256, 128] inb_S256x128_S256x128_0_0) _ _) x).trans ?_
    exact st (12 * k.val + 9) _ _ m9 (b 4 1) _ x
  have m11 (x : S256x128.Idx) : arg13.view.readCov (trip_k0_t2.sl.H13_11 (F := Ideal) c arg0 arg7 arg8 arg9 arg12 arg13 (arenaOf c arg2 arg9 f0 Wf) g ts sf bf u k) (Rect.unit (s := S256x128) ![0, 0] ![256, 128] inb_S256x128_S256x128_0_0).toLoadRect x = mx (Gf c arg0 arg2 arg7 arg8 g Wf sf bf TS) (x 0).val (x 1).val (12 * k.val + 11) := by
    unfold trip_k0_t2.sl.H13_11
    refine (congrFun (View.readCov_cons_toLoadRect arg13.view (Rect.unit (s := S256x128) ![0, 0] ![256, 128] inb_S256x128_S256x128_0_0) _ _) x).trans ?_
    exact st (12 * k.val + 10) _ _ m10 (b 5 0) _ x
  have e (L : List (View.Piece (Elt Ideal) S256x128 .f32)) (w : S256x128.Idx → Elt Ideal .f32) :
      arg13.view.read (Elt Ideal) (arg13.view.writes (Elt Ideal) u (⟨Rect.unit (s := S256x128) ![0, 0] ![256, 128] inb_S256x128_S256x128_0_0, w⟩ :: L)) x = w x :=
    View.read_writes_cons_hit arg13.view u (Rect.unit (s := S256x128) ![0, 0] ![256, 128] inb_S256x128_S256x128_0_0) w L x x (funext fun i => Fin.ext (match i with
      | ⟨0, _⟩ => by show 0 + 1 * (x 0).val = (x 0).val; omega
      | ⟨1, _⟩ => by show 0 + 1 * (x 1).val = (x 1).val; omega))
  unfold trip_k0_t2
  dsimp only
  refine (e _ _).trans ?_
  exact st (12 * k.val + 11) _ _ m11 (b 5 1) _ x

end Trip2

end Cert.UpIdeal.Hand

end
-- ==== Proof.UpTrips.lean ====
module

public import proofs.«01_k».proof.Proof.UpTripB
public import proofs.«01_k».proof.Proof.UpTripC
public import Idealize.ShloMosaic.Lib.MatmulPlain
public import Idealize.ShloMosaic.Lib.ValueIdx
public import Idealize.ShloMosaic.Lib.Pipeline.Value
public import Idealize.ShloMosaic.Lib.WritesUnit

/-!
The stored columns and the running maximum after all the trips.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

section Trip2

variable (v30 : FVec Ideal S128x128 .f32) (g : BufTy.Contents (Elt Ideal) arg0.view.ty) (f0 : Buf (Elt Ideal) (arg9.view.loc (c : Thread nD τ))) (Wf : Buf (Elt Ideal) (arg2.view.loc (c : Thread nD τ)))
  (ts : BufTy.Contents (Elt Ideal) arg12.view.ty) (sf : BufTy.Contents (Elt Ideal) arg7.view.ty) (bf : BufTy.Contents (Elt Ideal) arg8.view.ty) (u : BufTy.Contents (Elt Ideal) arg13.view.ty)
  (v : BufTy.Contents (Elt Ideal) arg10.view.ty) (TS : ℕ → EReal)

set_option maxRecDepth 8192 in
/-- The running maximum after `n` trips, from zero. -/
theorem uAt_read (hts : ∀ x : S256x128.Idx, arg12.view.read (Elt Ideal) ts x = TS (x 0).val) (hu : ∀ y : S256x128.Idx, arg13.view.read (Elt Ideal) u y = (0 : EReal)) : ∀ n, n ≤ 5 → ∀ y : S256x128.Idx,
    arg13.view.read (Elt Ideal) (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) y = mx (Gf c arg0 arg2 arg7 arg8 g Wf sf bf TS) (y 0).val (y 1).val (12 * n)
  | 0, _, y => hu y
  | n + 1, hn, y => by
    have hlt : n < k0_t2_loop.trips := lt_of_lt_of_le (Nat.lt_of_succ_le hn) (by decide +kernel)
    have e : (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u (n + 1)) = arg13.view.writes (Elt Ideal) (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) ⟨n, hlt⟩).1.2 := dif_pos hlt
    rw [e]
    exact trip2_max c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 g f0 Wf ts sf bf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) TS hts ⟨n, hlt⟩ (uAt_read hts hu n (Nat.le_of_succ_le hn)) y

set_option maxRecDepth 8192 in
/-- The stored columns after `n` trips. -/
theorem vAt_read (hts : ∀ x : S256x128.Idx, arg12.view.read (Elt Ideal) ts x = TS (x 0).val) : ∀ n, n ≤ 5 → ∀ y : S256x7680.Idx, (y 1).val < 1536 * n →
    arg10.view.read (Elt Ideal) (vAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u v n) y = Gf c arg0 arg2 arg7 arg8 g Wf sf bf TS (y 0).val (y 1).val
  | 0, _, y, h => absurd h (by omega)
  | n + 1, hn, y, h => by
    have hlt : n < k0_t2_loop.trips := lt_of_lt_of_le (Nat.lt_of_succ_le hn) (by decide +kernel)
    have e : (vAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u v (n + 1)) = arg10.view.writes (Elt Ideal) (vAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u v n) (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) ⟨n, hlt⟩).1.1 := dif_pos hlt
    rw [e]
    have hp := trip2_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 g f0 Wf ts sf bf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) TS hts ⟨n, hlt⟩
    by_cases hc : ∃ p ∈ (trip_k0_t2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) ⟨n, hlt⟩).1.1, y ∈ p.1.set
    · exact View.read_writes_apply_of_pieces arg10.view _ (fun y : S256x7680.Idx => Gf c arg0 arg2 arg7 arg8 g Wf sf bf TS (y 0).val (y 1).val) _ hp y hc
    · have hlo : (y 1).val < 1536 * n := by
        by_contra hge
        exact hc (trip2_cover c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 g f0 Wf ts sf bf (uAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v30 (arenaOf c arg2 arg9 f0 Wf) Wf g ts sf bf u n) ⟨n, hlt⟩ y (Nat.le_of_not_lt hge) (by show (y 1).val < 1536 * n + 1536; omega))
      rw [View.read_writes_apply_of_forall_not_mem arg10.view _ y _ (fun p hp hy => hc ⟨p, hp, hy⟩)]
      exact vAt_read hts n (Nat.le_of_succ_le hn) y hlo

end Trip2

end Cert.UpIdeal.Hand

end
-- ==== Proof.UpQuant.lean ====
module

public import proofs.«01_k».proof.Proof.UpSums

/-!
The quantiser over numbers: the exponent of the scale from the greatest magnitude of a row, the scale, its inverse and
the clipped code, and the greatest magnitude as the largest of the running maxima over 128 lanes.
-/

@[expose] public section

noncomputable section

namespace Cert.UpQuant

open Idealize.ShloMosaic Idealize.ShloMosaic.ValueIdx
open Cert.UpIdeal.Hand (mx gelu)

/-- The exponent of each row's scale, from its greatest magnitude. -/
def expo {s : Shape} (v : FVec Ideal s .f32) : FVec Ideal s .f32 :=
  select (cmpf .oeq v (broadcast s (Scalar.ofBits .f32 0x00000000#32))) (broadcast s (Scalar.ofBits .f32 0x00000000#32))
    (addf (floor (divf (log (mulf v (broadcast s (Scalar.ofBits .f32 0x3B124925#32)))) (log (broadcast s (Scalar.ofBits .f32 0x40000000#32)))))
      (broadcast s (Scalar.ofBits .f32 0x3F800000#32)))

/-- The scale of exponent `e`. -/
def up2 {s : Shape} (e : FVec Ideal s .f32) : FVec Ideal s .f32 := exp2 e

/-- The inverse of the scale of exponent `e`. -/
def dn2 {s : Shape} (e : FVec Ideal s .f32) : FVec Ideal s .f32 := exp2 (subf (broadcast s (Scalar.ofBits .f32 0x00000000#32)) e)

/-- The clipped product of a value and the inverse scale. -/
def clip {s : Shape} (v d : FVec Ideal s .f32) : FVec Ideal s .f32 :=
  minimumf (broadcast s (Scalar.ofBits .f32 0x43E00000#32)) (maximumf (broadcast s (Scalar.ofBits .f32 0xC3E00000#32)) (mulf v d))

/-- The shape of one number. -/
abbrev S0 : Shape := ⟨0, ![]⟩
/-- A number as an array. -/
abbrev pt (x : EReal) : FVec Ideal S0 .f32 := fun _ => x
/-- The index of one number. -/
abbrev z0 : S0.Idx := fun a => a.elim0

/-- The scale of a row of greatest magnitude `m`. -/
def sc (m : EReal) : EReal := up2 (expo (pt m)) z0
/-- Its inverse. -/
def iv (m : EReal) : EReal := dn2 (expo (pt m)) z0
/-- The code of `x` in a row of greatest magnitude `m`. -/
def code (x m : EReal) : EReal := clip (pt x) (pt (iv m)) z0

theorem up2_apply {s : Shape} (v : FVec Ideal s .f32) (i : s.Idx) (m : EReal) (h : v i = m) : up2 (expo v) i = sc m := by subst h; rfl
theorem dn2_apply {s : Shape} (v : FVec Ideal s .f32) (i : s.Idx) (m : EReal) (h : v i = m) : dn2 (expo v) i = iv m := by subst h; rfl
theorem clip_apply {s : Shape} (v d : FVec Ideal s .f32) (i : s.Idx) (x m : EReal) (h : v i = x) (hd : d i = iv m) : clip v d i = code x m := by
  subst h; unfold code; rw [← hd]; rfl

/-- The greatest magnitude of row `i`. -/
def rm (G : ℕ → ℕ → EReal) (i : ℕ) : EReal :=
  (Finset.univ : Finset (Fin 7680)).fold max (FloatOps.ofBits (F := Ideal) .f32 0xFF800000#32 : EReal) (fun f => max (G i f.val) (-G i f.val))

theorem abs_nonneg (x : EReal) : (0 : EReal) ≤ max x (-x) := by
  rcases le_total 0 x with h | h
  · exact le_max_of_le_left h
  · exact le_max_of_le_right (by
      have := EReal.neg_le_neg_iff.mpr h
      rwa [neg_zero] at this)

theorem mx_le (G : ℕ → ℕ → EReal) (i l : ℕ) (z : EReal) : ∀ n, mx G i l n ≤ z ↔ 0 ≤ z ∧ ∀ k < n, max (G i (128 * k + l)) (-G i (128 * k + l)) ≤ z
  | 0 => ⟨fun h => ⟨h, fun k hk => absurd hk (Nat.not_lt_zero k)⟩, fun h => h.1⟩
  | n + 1 => by
    show max (mx G i l n) _ ≤ z ↔ _
    rw [max_le_iff, mx_le G i l z n]
    constructor
    · rintro ⟨⟨h0, h1⟩, h2⟩
      refine ⟨h0, fun k hk => ?_⟩
      rcases Nat.lt_succ_iff_lt_or_eq.mp hk with hk | rfl
      · exact h1 k hk
      · exact h2
    · rintro ⟨h0, h1⟩
      exact ⟨⟨h0, fun k hk => h1 k (Nat.lt_succ_of_lt hk)⟩, h1 n (Nat.lt_succ_self n)⟩

/-- The largest of the lanes' maxima is the row's. -/
theorem rm_lanes (G : ℕ → ℕ → EReal) (i : ℕ) :
    (Finset.univ : Finset (Fin 128)).fold max (FloatOps.ofBits (F := Ideal) .f32 0xFF800000#32 : EReal) (fun l => mx G i l.val 60) = rm G i := by
  refine eq_of_forall_ge_iff fun z => ?_
  unfold rm
  rw [Finset.fold_max_le, Finset.fold_max_le]
  refine and_congr_right fun _ => ⟨fun h f _ => ?_, fun h l _ => ?_⟩
  · have hf : f.val < 7680 := f.isLt
    have := ((mx_le G i (f.val % 128) z 60).mp (h ⟨f.val % 128, Nat.mod_lt _ (by decide)⟩ (Finset.mem_univ _))).2 (f.val / 128) (by omega)
    rwa [show 128 * (f.val / 128) + f.val % 128 = f.val from Nat.div_add_mod _ _] at this
  · have hl : l.val < 128 := l.isLt
    refine (mx_le G i l.val z 60).mpr ⟨?_, fun k hk => ?_⟩
    · exact (abs_nonneg (G i 0)).trans (h (⟨0, by decide⟩ : Fin 7680) (Finset.mem_univ _))
    · exact h (⟨128 * k + l.val, by omega⟩ : Fin 7680) (Finset.mem_univ _)

/-- Rows that agree have the same greatest magnitude. -/
theorem rm_eq (G : ℕ → ℕ → EReal) (i : ℕ) (a : Fin 7680 → EReal) (h : ∀ f, G i f.val = a f) :
    rm G i = (Finset.univ : Finset (Fin 7680)).fold max (FloatOps.ofBits (F := Ideal) .f32 0xFF800000#32 : EReal) (fun f => max (a f) (-a f)) := by
  unfold rm
  exact congrArg (fun t => (Finset.univ : Finset (Fin 7680)).fold max (FloatOps.ofBits (F := Ideal) .f32 0xFF800000#32 : EReal) t) (funext fun f => by rw [h f])

/-! ## What the two results are -/

variable (g : (⟨3, ![2, 128, 2880]⟩ : Shape).Idx → EReal) (a : (⟨2, ![2, 128]⟩ : Shape).Idx → EReal) (w : (⟨2, ![2880, 7680]⟩ : Shape).Idx → EReal)
    (s b : (⟨1, ![7680]⟩ : Shape).Idx → EReal)

/-- The activation of one token and one column. -/
def act (i : Fin 2) (j : Fin 128) (f : Fin 7680) : EReal :=
  gelu ((∑ e : Fin 2880, g (ix3 i j e) * w (ix2 e f)) * a (ix2 i j) * s (ix1 f) + b (ix1 f))

/-- A token's greatest magnitude. -/
def amax (i : Fin 2) (j : Fin 128) : EReal :=
  (Finset.univ : Finset (Fin 7680)).fold max (FloatOps.ofBits (F := Ideal) .f32 0xFF800000#32 : EReal) (fun f => max (act g a w s b i j f) (-act g a w s b i j f))

/-- The scales. -/
def scales (y : (⟨2, ![2, 128]⟩ : Shape).Idx) : EReal := sc (amax g a w s b (y 0) (y 1))

/-- The codes. -/
def codes (y : (⟨3, ![2, 128, 7680]⟩ : Shape).Idx) : EReal := code (act g a w s b (y 0) (y 1) (y 2)) (amax g a w s b (y 0) (y 1))

end Cert.UpQuant

end
-- ==== Proof.UpTail.lean ====
module

public import proofs.«01_k».proof.Proof.UpTrips
public import proofs.«01_k».proof.Proof.UpQuant
public import Idealize.ShloMosaic.Lib.MatmulPlain
public import Idealize.ShloMosaic.Lib.ValueIdx
public import Idealize.ShloMosaic.Lib.Pipeline.Value
public import Idealize.ShloMosaic.Lib.WritesUnit

/-!
What the loops start from and what follows them: the token scales spread along the lanes, the greatest magnitudes, the
scales and their inverses, and the codes.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.UpQuant

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

section Codes

variable (v68 : FVec Ideal S256x128 .f32) (gv : BufTy.Contents (Elt Ideal) arg10.view.ty) (iw : BufTy.Contents (Elt Ideal) arg13.view.ty) (x : BufTy.Contents (Elt Ideal) arg11.view.ty)
  (G : ℕ → ℕ → EReal) (M : ℕ → EReal)

/-- The columns a trip of the quantiser reads. -/
theorem cols_read (n : ℕ) (o : Fin 2 → ℕ) (h : o = ![0, 128 * n]) (inb : ∀ i, o i + (![256, 128] : Fin 2 → ℕ) i ≤ S256x7680.size i)
    (hg : ∀ y : S256x7680.Idx, arg10.view.read (Elt Ideal) gv y = G (y 0).val (y 1).val) (z : S256x128.Idx) :
    arg10.view.readAt (Elt Ideal) (Rect.unit (s := S256x7680) o ![256, 128] inb).toLoadRect gv z = G (z 0).val (128 * n + (z 1).val) := by
  rw [View.readAt_apply]
  exact (hg _).trans (congrArg₂ G (put_row o _ h inb z) (put_col o _ h inb z))

set_option maxRecDepth 8192 in
/-- The codes after `n` trips. -/
theorem xAt_read (hg : ∀ y : S256x7680.Idx, arg10.view.read (Elt Ideal) gv y = G (y 0).val (y 1).val)
    (hi : ∀ z : S256x128.Idx, arg13.view.read (Elt Ideal) iw z = Cert.UpQuant.iv (M (z 0).val)) : ∀ n, n ≤ 60 → ∀ y : S256x7680.Idx, (y 1).val < 128 * n →
    arg11.view.read (Elt Ideal) (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iw x n) y = code (G (y 0).val (y 1).val) (M (y 0).val)
  | 0, _, y, h => absurd h (by omega)
  | n + 1, hn, y, h => by
    have hlt : n < k0_t3_loop.trips := lt_of_lt_of_le (Nat.lt_of_succ_le hn) (by decide +kernel)
    have ho : k0_off11 ⟨n, hlt⟩ = ![0, 128 * n] := k0_off11_eq ⟨n, hlt⟩
    have hy : (y 0).val < 256 := (y 0).isLt
    have e : (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iw x (n + 1)) = arg11.view.writes (Elt Ideal) (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iw x n) (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iw ⟨n, hlt⟩).1 := dif_pos hlt
    rw [e]
    have hp : ∀ p ∈ (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iw ⟨n, hlt⟩).1, ∀ z : p.1.shape.Idx, p.2 z = (fun y : S256x7680.Idx => code (G (y 0).val (y 1).val) (M (y 0).val)) (p.1.emb z) := by
      unfold trip_k0_t3
      dsimp only
      simp only [List.forall_mem_cons]
      refine ⟨fun z => ?_, fun p hp => absurd hp List.not_mem_nil⟩
      exact (congrFun (shapeCast_self _ _) z).trans ((clip_apply _ _ z _ _ (cols_read arg10 gv G n _ ho (k0_off11_inb ⟨n, hlt⟩) hg z) ((lanes_read arg13.view iw _ z).trans (hi z))).trans
        (congrArg₂ code (congrArg₂ G (put_row _ _ ho (k0_off11_inb ⟨n, hlt⟩) z).symm (put_col _ _ ho (k0_off11_inb ⟨n, hlt⟩) z).symm) (congrArg M (put_row _ _ ho (k0_off11_inb ⟨n, hlt⟩) z).symm)))
    by_cases hc : 128 * n ≤ (y 1).val
    · refine View.read_writes_apply_of_pieces (Val := Elt Ideal) arg11.view _ (fun y : S256x7680.Idx => code (G (y 0).val (y 1).val) (M (y 0).val)) _ hp y ?_
      unfold trip_k0_t3
      dsimp only
      simp only [List.exists_mem_cons_iff]
      refine Or.inl ?_
      rw [Rect.mem_set_unit]
      intro i
      rw [ho]
      match i with
      | ⟨0, _⟩ => exact ⟨Nat.zero_le _, by show (y 0).val < 0 + 256; omega⟩
      | ⟨1, _⟩ => exact ⟨hc, by show (y 1).val < 128 * n + 128; omega⟩
    · by_cases hd : ∃ p ∈ (trip_k0_t3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 v68 gv iw ⟨n, hlt⟩).1, y ∈ p.1.set
      · exact View.read_writes_apply_of_pieces (Val := Elt Ideal) arg11.view _ (fun y : S256x7680.Idx => code (G (y 0).val (y 1).val) (M (y 0).val)) _ hp y hd
      · rw [View.read_writes_apply_of_forall_not_mem arg11.view _ y _ (fun p hp hy => hd ⟨p, hp, hy⟩)]
        exact xAt_read hg hi n (Nat.le_of_succ_le hn) y (Nat.lt_of_not_le hc)

end Codes

section Rest

variable (g : BufTy.Contents (Elt Ideal) arg0.view.ty) (a2s : BufTy.Contents (Elt Ideal) arg1.view.ty) (Wf : Buf (Elt Ideal) (arg2.view.loc (c : Thread nD τ)))
  (sf : BufTy.Contents (Elt Ideal) arg3.view.ty) (bf : BufTy.Contents (Elt Ideal) arg4.view.ty) (f0 : Buf (Elt Ideal) (arg9.view.loc (c : Thread nD τ)))
  (v : BufTy.Contents (Elt Ideal) arg10.view.ty) (xc : BufTy.Contents (Elt Ideal) arg11.view.ty)

/-- The scale of a token, the tokens of both entries counted together. -/
def TSf (A : S2x128.Idx → EReal) (t : ℕ) : EReal := if h : t < 256 then A (ix2 (⟨t / 128, by omega⟩ : Fin 2) (⟨t % 128, Nat.mod_lt _ (by decide)⟩ : Fin 128)) else 0

theorem TSf_at (A : S2x128.Idx → EReal) (b : Fin 2) (j : Fin 128) : TSf A (128 * b.val + j.val) = A (ix2 b j) := by
  have hb : b.val < 2 := b.isLt
  have hj : j.val < 128 := j.isLt
  unfold TSf
  rw [dif_pos (show 128 * b.val + j.val < 256 by omega)]
  exact congrArg₂ (fun b j => A (ix2 b j)) (Fin.ext (by show (128 * b.val + j.val) / 128 = b.val; omega)) (Fin.ext (by show (128 * b.val + j.val) % 128 = j.val; omega))

/-- The activations, of the arrays the body is given. -/
abbrev GG : ℕ → ℕ → EReal := gel (Ar arg0 g) (Wr c arg2 Wf) (TSf (arg1.view.read (Elt Ideal) a2s)) (arg3.view.read (Elt Ideal) sf) (arg4.view.read (Elt Ideal) bf)

/-- A row of the token scales as it is loaded. -/
theorem row_cov (b : Fin 2) (inb) (z : S1x1x128.Idx) :
    arg14.view.readCov (body_run.sl.H14_1 (F := Ideal) arg1 a2s) (Rect.unit (s := S4x2x128) ![2, b.val, 0] S1x1x128.size inb).toLoadRect z = arg1.view.read (Elt Ideal) a2s (ix2 b (z 2)) := by
  unfold body_run.sl.H14_1
  refine (View.read_writes_cons_hit (Val := Elt Ideal) arg14.view _ (Rect.unit (s := S4x2x128) ![2, 0, 0] S1x2x128.size _) (body_run.sl.v15_r0 (F := Ideal) arg1 a2s) [] (ix3 (0 : Fin 1) b (z 2)) _ (funext fun i => Fin.ext ?_)).trans ?_
  · have h0 : (z 0).val < 1 := (z 0).isLt
    have h1 : (z 1).val < 1 := (z 1).isLt
    match i with
    | ⟨0, _⟩ => show 2 + 1 * 0 = 2 + 1 * (z 0).val; omega
    | ⟨1, _⟩ => show 0 + 1 * b.val = b.val + 1 * (z 1).val; omega
    | ⟨2, _⟩ => rfl
  · unfold body_run.sl.v15_r0
    refine (shapeCast_apply _ _ (ix3 (0 : Fin 1) b (z 2)) (ix2 b (z 2)) ?_).trans ?_
    · rw [Shape.rowMajor_val_two, Shape.rowMajor_val_three]
      show b.val * 128 + (z 2).val = (0 * 2 + b.val) * 128 + (z 2).val
      omega
    · refine congrArg (arg1.view.read (Elt Ideal) a2s) (funext fun i => Fin.ext ?_)
      match i with
      | ⟨0, _⟩ => show 0 + 1 * b.val = b.val; omega
      | ⟨1, _⟩ => show 0 + 1 * (z 2).val = (z 2).val; omega

/-- A row spread down the lanes. -/
theorem spread_at (r : FVec Ideal S1x1x128 .f32) (h1 : S1x1x128.ShapeCasts S128) (h2 : S128.ShapeCasts S1x128) (h3 : S1x128.ShapeCasts S1x128) (h4 : S1x128.Broadcasts S128x128) (h5 : S128x128.Transposes [1, 0] S128x128) (z : S128x128.Idx) :
    transpose S128x128 [1, 0] (broadcastTo S128x128 (shapeCast S1x128 (shapeCast S1x128 (shapeCast S128 r h1) h2) h3) h4) h5 z = r (ix3 (0 : Fin 1) (0 : Fin 1) (z 0)) := by
  rw [transpose_apply [1, 0] _ h5 z (ix2 (z 1) (z 0)) (fun b => match b with | ⟨0, _⟩ => rfl | ⟨1, _⟩ => rfl),
    broadcastTo_apply _ h4 (ix2 (z 1) (z 0)) (ix2 (0 : Fin 1) (z 0)) (fun a => match a with | ⟨0, _⟩ => rfl | ⟨1, _⟩ => rfl), shapeCast_self]
  refine (shapeCast_apply _ h2 (ix2 (0 : Fin 1) (z 0)) (ix1 (z 0)) ?_).trans (shapeCast_apply r h1 (ix1 (z 0)) (ix3 (0 : Fin 1) (0 : Fin 1) (z 0)) ?_)
  · rw [Shape.rowMajor_val_one, Shape.rowMajor_val_two]; show (z 0).val = 0 * _ + (z 0).val; omega
  · rw [Shape.rowMajor_val_one, Shape.rowMajor_val_three]; show (0 * 1 + 0) * 128 + (z 0).val = (z 0).val; omega

/-- The token scales along the lanes. -/
theorem ts_read (x : S256x128.Idx) : arg12.view.read (Elt Ideal) (arg12.view.writes (Elt Ideal) arg12.view.junk (body_run.sl.H12_2 (F := Ideal) arg1 arg14 a2s)) x = TSf (arg1.view.read (Elt Ideal) a2s) (x 0).val := by
  have h0 : (x 0).val < 256 := (x 0).isLt
  have h1 : (x 1).val < 128 := (x 1).isLt
  unfold body_run.sl.H12_2
  refine View.read_writes_apply_of_pieces (Val := Elt Ideal) arg12.view _ (fun x : S256x128.Idx => TSf (arg1.view.read (Elt Ideal) a2s) (x 0).val) _ ?_ x ?_
  · simp only [List.forall_mem_cons]
    refine ⟨fun z => ?_, fun z => ?_, fun p hp => absurd hp List.not_mem_nil⟩
    · refine (congrFun (shapeCast_self _ _) z).trans ((spread_at _ _ _ _ broadcasts_S1x128_S128x128 _ z).trans ((row_cov arg1 arg14 a2s 1 _ _).trans ((TSf_at _ 1 (z 0)).symm.trans (congrArg (TSf _) ?_))))
      show 128 * 1 + (z 0).val = 128 + 1 * (z 0).val; omega
    · refine (congrFun (shapeCast_self _ _) z).trans ((spread_at _ _ _ _ broadcasts_S1x128_S128x128 _ z).trans ((row_cov arg1 arg14 a2s 0 _ _).trans ((TSf_at _ 0 (z 0)).symm.trans (congrArg (TSf _) ?_))))
      show 128 * 0 + (z 0).val = 0 + 1 * (z 0).val; omega
  · simp only [List.exists_mem_cons_iff]
    by_cases hc : 128 ≤ (x 0).val
    · refine Or.inl ?_
      rw [Rect.mem_set_unit]
      exact fun i => match i with
        | ⟨0, _⟩ => ⟨hc, by show (x 0).val < 128 + 128; omega⟩
        | ⟨1, _⟩ => ⟨Nat.zero_le _, by show (x 1).val < 0 + 128; omega⟩
    · refine Or.inr (Or.inl ?_)
      rw [Rect.mem_set_unit]
      exact fun i => match i with
        | ⟨0, _⟩ => ⟨Nat.zero_le _, by show (x 0).val < 0 + 128; omega⟩
        | ⟨1, _⟩ => ⟨Nat.zero_le _, by show (x 1).val < 0 + 128; omega⟩

/-- A whole vector written, read back. -/
theorem whole_read {s : Shape} {e : EltTy} {κ : Kind} {sp : Space} (w : View sig κ sp s e) (f : w.ty.Contents (Elt Ideal)) (p : s.Idx → Elt Ideal e) :
    w.read (Elt Ideal) (w.writes (Elt Ideal) f [⟨Rect.whole s, p⟩]) = p := by
  funext y
  exact View.read_writes_cons_hit w f (Rect.whole s) p [] y y (funext fun i => Fin.ext (by show 0 + 1 * (y i).val = (y i).val; omega))

theorem Gf_eq : Gf c arg0 arg2 arg7 arg8 g Wf (arg7.view.writes (Elt Ideal) arg7.view.junk [⟨Rect.whole S7680, body_run.sl.dma0 (F := Ideal) arg3 sf⟩]) (arg8.view.writes (Elt Ideal) arg8.view.junk [⟨Rect.whole S7680, body_run.sl.dma0_1 (F := Ideal) arg4 bf⟩]) (TSf (arg1.view.read (Elt Ideal) a2s)) = (GG c arg0 arg1 arg2 arg3 arg4 g a2s Wf sf bf) := by
  have h1 : arg7.view.read (Elt Ideal) (arg7.view.writes (Elt Ideal) arg7.view.junk [⟨Rect.whole S7680, body_run.sl.dma0 (F := Ideal) arg3 sf⟩]) = arg3.view.read (Elt Ideal) sf := (whole_read arg7.view _ _).trans rfl
  have h2 : arg8.view.read (Elt Ideal) (arg8.view.writes (Elt Ideal) arg8.view.junk [⟨Rect.whole S7680, body_run.sl.dma0_1 (F := Ideal) arg4 bf⟩]) = arg4.view.read (Elt Ideal) bf := (whole_read arg8.view _ _).trans rfl
  unfold Gf GG
  rw [h1, h2]

/-- The running maxima start at zero. -/
theorem zero_read (y : S256x128.Idx) : arg13.view.read (Elt Ideal) (arg13.view.writes (Elt Ideal) arg13.view.junk (body_run.sl.H13_1 (F := Ideal))) y = (0 : EReal) := by
  unfold body_run.sl.H13_1
  refine (View.read_writes_cons_hit arg13.view _ _ _ [] y y (funext fun i => Fin.ext (match i with
      | ⟨0, _⟩ => by show 0 + 1 * (y 0).val = (y 0).val; omega
      | ⟨1, _⟩ => by show 0 + 1 * (y 1).val = (y 1).val; omega))).trans ?_
  exact (congrFun (shapeCast_self (broadcast S256x128 (Scalar.ofBits (F := Ideal) .f32 0x00000000#32)) _) y).trans Ideal.ofBits_zero_f32

set_option maxRecDepth 8192 in
/-- The maxima after the loop. -/
theorem max_read (y : S256x128.Idx) : (body_run.sl.v39_r0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) y = mx (GG c arg0 arg1 arg2 arg3 arg4 g a2s Wf sf bf) (y 0).val (y 1).val 60 := by
  have e5 : Scf.trips k0_t2_loop.lb k0_t2_loop.ub k0_t2_loop.st = 5 := by decide +kernel
  have h := uAt_read c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 (F := Ideal) arg1 arg14 a2s) g f0 Wf (arg12.view.writes (Elt Ideal) arg12.view.junk (body_run.sl.H12_2 (F := Ideal) arg1 arg14 a2s)) (arg7.view.writes (Elt Ideal) arg7.view.junk [⟨Rect.whole S7680, body_run.sl.dma0 (F := Ideal) arg3 sf⟩]) (arg8.view.writes (Elt Ideal) arg8.view.junk [⟨Rect.whole S7680, body_run.sl.dma0_1 (F := Ideal) arg4 bf⟩]) (arg13.view.writes (Elt Ideal) arg13.view.junk (body_run.sl.H13_1 (F := Ideal))) (TSf (arg1.view.read (Elt Ideal) a2s)) (ts_read arg1 arg12 arg14 a2s) (zero_read arg13) 5 (le_refl 5) y
  rw [Gf_eq] at h
  unfold body_run.sl.v39_r0
  rw [e5]
  exact (lanes_read arg13.view _ _ y).trans h

set_option maxRecDepth 8192 in
/-- The activations after the loop. -/
theorem act_read (y : S256x7680.Idx) : arg10.view.read (Elt Ideal) (vAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 (F := Ideal) arg1 arg14 a2s) (arenaOf c arg2 arg9 f0 Wf) Wf g (arg12.view.writes (Elt Ideal) arg12.view.junk (body_run.sl.H12_2 (F := Ideal) arg1 arg14 a2s)) (arg7.view.writes (Elt Ideal) arg7.view.junk [⟨Rect.whole S7680, body_run.sl.dma0 (F := Ideal) arg3 sf⟩]) (arg8.view.writes (Elt Ideal) arg8.view.junk [⟨Rect.whole S7680, body_run.sl.dma0_1 (F := Ideal) arg4 bf⟩]) (arg13.view.writes (Elt Ideal) arg13.view.junk (body_run.sl.H13_1 (F := Ideal))) v (Scf.trips k0_t2_loop.lb k0_t2_loop.ub k0_t2_loop.st)) y = (GG c arg0 arg1 arg2 arg3 arg4 g a2s Wf sf bf) (y 0).val (y 1).val := by
  have e5 : Scf.trips k0_t2_loop.lb k0_t2_loop.ub k0_t2_loop.st = 5 := by decide +kernel
  have h := vAt_read c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 (F := Ideal) arg1 arg14 a2s) g f0 Wf (arg12.view.writes (Elt Ideal) arg12.view.junk (body_run.sl.H12_2 (F := Ideal) arg1 arg14 a2s)) (arg7.view.writes (Elt Ideal) arg7.view.junk [⟨Rect.whole S7680, body_run.sl.dma0 (F := Ideal) arg3 sf⟩]) (arg8.view.writes (Elt Ideal) arg8.view.junk [⟨Rect.whole S7680, body_run.sl.dma0_1 (F := Ideal) arg4 bf⟩]) (arg13.view.writes (Elt Ideal) arg13.view.junk (body_run.sl.H13_1 (F := Ideal))) v (TSf (arg1.view.read (Elt Ideal) a2s)) (ts_read arg1 arg12 arg14 a2s) 5 (le_refl 5) y (y 1).isLt
  rw [Gf_eq] at h
  rw [e5]
  exact h

/-- The greatest lane of each row. -/
abbrev rowmax (w : FVec Ideal S256x128 .f32) : FVec Ideal S256x1 .f32 :=
  shapeCast S256x1 (multiReduction .maximumf [1] S256 w 0xFF800000#32 reduces_S256x128_S256 (.inl rfl) rfl) shapeCasts_S256_S256x1

theorem rowmax_apply (w : FVec Ideal S256x128 .f32) (G : ℕ → ℕ → EReal) (hw : ∀ y : S256x128.Idx, w y = mx G (y 0).val (y 1).val 60) (i : Fin 256) (z : Fin 1) : rowmax w (ix2 i z) = rm G i.val := by
  have hz : z.val < 1 := z.isLt
  refine (shapeCast_apply _ _ (ix2 i z) (ix1 i) ?_).trans ?_
  · rw [Shape.rowMajor_val_one, Shape.rowMajor_val_two]; show i.val = i.val * 1 + z.val; omega
  · refine (Ideal.multiReduction_maximumf_single w _ reduces_S256x128_S256 _ _ (ix1 i)).trans (Eq.trans ?_ (rm_lanes G i.val))
    refine congrArg (Finset.fold max _ · Finset.univ) (funext fun l => ?_)
    exact hw _

/-- One value a row, along the lanes. -/
theorem lanes_apply (e : FVec Ideal S256x1 .f32) (h1 : S256x1.ShapeCasts S256x1) (h2 : S256x1.Broadcasts S256x128) (h3 : S256x128.ShapeCasts S256x128) (x : S256x128.Idx) :
    shapeCast S256x128 (broadcastTo S256x128 (shapeCast S256x1 e h1) h2) h3 x = e (ix2 (x 0) (0 : Fin 1)) := by
  rw [shapeCast_self, broadcastTo_apply _ h2 x (ix2 (x 0) (0 : Fin 1)) (fun a => match a with | ⟨0, _⟩ => rfl | ⟨1, _⟩ => rfl), shapeCast_self]

/-- The inverse scales along the lanes. -/
theorem inv_read (x : S256x128.Idx) : arg13.view.read (Elt Ideal) (arg13.view.writes (Elt Ideal) arg13.view.junk (body_run.sl.H13_1_1 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) x = Cert.UpQuant.iv (rm (GG c arg0 arg1 arg2 arg3 arg4 g a2s Wf sf bf) (x 0).val) := by
  unfold body_run.sl.H13_1_1
  refine (View.read_writes_cons_hit arg13.view _ _ _ [] x x (funext fun i => Fin.ext (match i with
      | ⟨0, _⟩ => by show 0 + 1 * (x 0).val = (x 0).val; omega
      | ⟨1, _⟩ => by show 0 + 1 * (x 1).val = (x 1).val; omega))).trans ?_
  exact (lanes_apply _ _ _ _ x).trans (dn2_apply (rowmax (body_run.sl.v39_r0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) (ix2 (x 0) (0 : Fin 1)) _ (rowmax_apply _ _ (fun _ => max_read ..) (x 0) 0))

/-- The scales along the lanes. -/
theorem scale_apply (x : S256x128.Idx) : (body_run.sl.r (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) x = sc (rm (GG c arg0 arg1 arg2 arg3 arg4 g a2s Wf sf bf) (x 0).val) := by
  unfold body_run.sl.r
  exact (lanes_apply _ _ _ _ x).trans (up2_apply (rowmax (body_run.sl.v39_r0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) (ix2 (x 0) (0 : Fin 1)) _ (rowmax_apply _ _ (fun _ => max_read ..) (x 0) 0))

set_option maxRecDepth 8192 in
/-- The codes as the body leaves them in its scratch. -/
theorem codes_read (y : S256x7680.Idx) : arg11.view.read (Elt Ideal) (xAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.r (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) (vAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 (F := Ideal) arg1 arg14 a2s) (arenaOf c arg2 arg9 f0 Wf) Wf g (arg12.view.writes (Elt Ideal) arg12.view.junk (body_run.sl.H12_2 (F := Ideal) arg1 arg14 a2s)) (arg7.view.writes (Elt Ideal) arg7.view.junk [⟨Rect.whole S7680, body_run.sl.dma0 (F := Ideal) arg3 sf⟩]) (arg8.view.writes (Elt Ideal) arg8.view.junk [⟨Rect.whole S7680, body_run.sl.dma0_1 (F := Ideal) arg4 bf⟩]) (arg13.view.writes (Elt Ideal) arg13.view.junk (body_run.sl.H13_1 (F := Ideal))) v (Scf.trips k0_t2_loop.lb k0_t2_loop.ub k0_t2_loop.st)) (arg13.view.writes (Elt Ideal) arg13.view.junk (body_run.sl.H13_1_1 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) xc (Scf.trips k0_t3_loop.lb k0_t3_loop.ub k0_t3_loop.st)) y = code ((GG c arg0 arg1 arg2 arg3 arg4 g a2s Wf sf bf) (y 0).val (y 1).val) (rm (GG c arg0 arg1 arg2 arg3 arg4 g a2s Wf sf bf) (y 0).val) := by
  have e60 : Scf.trips k0_t3_loop.lb k0_t3_loop.ub k0_t3_loop.st = 60 := by decide +kernel
  rw [e60]
  exact xAt_read c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.r (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) (vAt (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 (body_run.sl.v30_r0 (F := Ideal) arg1 arg14 a2s) (arenaOf c arg2 arg9 f0 Wf) Wf g (arg12.view.writes (Elt Ideal) arg12.view.junk (body_run.sl.H12_2 (F := Ideal) arg1 arg14 a2s)) (arg7.view.writes (Elt Ideal) arg7.view.junk [⟨Rect.whole S7680, body_run.sl.dma0 (F := Ideal) arg3 sf⟩]) (arg8.view.writes (Elt Ideal) arg8.view.junk [⟨Rect.whole S7680, body_run.sl.dma0_1 (F := Ideal) arg4 bf⟩]) (arg13.view.writes (Elt Ideal) arg13.view.junk (body_run.sl.H13_1 (F := Ideal))) v (Scf.trips k0_t2_loop.lb k0_t2_loop.ub k0_t2_loop.st)) (arg13.view.writes (Elt Ideal) arg13.view.junk (body_run.sl.H13_1_1 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) xc (GG c arg0 arg1 arg2 arg3 arg4 g a2s Wf sf bf) (fun t => rm (GG c arg0 arg1 arg2 arg3 arg4 g a2s Wf sf bf) t) (act_read c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0 v) (inv_read c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) 60 (le_refl 60) y (y 1).isLt

end Rest

end Cert.UpIdeal.Hand

end
-- ==== Proof.UpOut.lean ====
module

public import proofs.«01_k».proof.Proof.UpTail
public import Idealize.ShloMosaic.Lib.MatmulPlain
public import Idealize.ShloMosaic.Lib.ValueIdx
public import Idealize.ShloMosaic.Lib.Pipeline.Value
public import Idealize.ShloMosaic.Lib.WritesUnit

/-!
The two results: the codes, copied out an entry at a time, and the scales, copied out of the fourth row of the scratch.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.UpQuant

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S256x2880 .fp8e4m3) (harg0 : arg0.IsWhole) (arg1 : Memref sig .tc .vmem S2x128 .f32) (harg1 : arg1.IsWhole) (arg2 : Memref sig .tc .hbm S2880x7680 .fp8e4m3) (harg2 : arg2.IsWhole) (arg3 : Memref sig .tc .hbm S7680 .f32) (harg3 : arg3.IsWhole) (arg4 : Memref sig .tc .hbm S7680 .f32) (harg4 : arg4.IsWhole) (arg5 : Memref sig .tc .hbm S2x128x7680 .fp8e4m3) (harg5 : arg5.IsWhole) (arg6 : Memref sig .tc .hbm S2x128 .f32) (harg6 : arg6.IsWhole) (arg7 : Memref sig .tc .vmem S7680 .f32) (harg7 : arg7.IsWhole) (arg8 : Memref sig .tc .vmem S7680 .f32) (harg8 : arg8.IsWhole) (arg9 : Memref sig .tc .vmem S161280x256 .fp8e4m3) (harg9 : arg9.IsWhole) (arg10 : Memref sig .tc .vmem S256x7680 .f32) (harg10 : arg10.IsWhole) (arg11 : Memref sig .tc .vmem S256x7680 .fp8e4m3) (harg11 : arg11.IsWhole) (arg12 : Memref sig .tc .vmem S256x128 .f32) (harg12 : arg12.IsWhole) (arg13 : Memref sig .tc .vmem S256x128 .f32) (harg13 : arg13.IsWhole) (arg14 : Memref sig .tc .vmem S4x2x128 .f32) (harg14 : arg14.IsWhole) (v0_r0 : DmaSems sig S15) (v1_r0 : DmaSems sig S84) (v2_r0 : DmaSems sig S14)

theorem outM0_emb (r : Fin 128) (j : Fin 7680) : (outM0 arg5).view.emb (ix2 r j) = arg5.view.emb (ix3 (0 : Fin 2) r j) := by
  have e : Shape.reshapeEquiv (s := S1x128x7680) (s' := S128x7680) (by decide) (ix2 r j) = (ix3 (0 : Fin 1) r j : S1x128x7680.Idx) :=
    Shape.reshapeEquiv_eq_of_rowMajor _ (by
      rw [Shape.rowMajor_val_three, Shape.rowMajor_val_two]
      show (0 * 128 + r.val) * 7680 + j.val = r.val * 7680 + j.val
      omega)
  refine (congrArg (fun z => (arg5.view.slice (Rect.unit (s := S2x128x7680) ![0, 0, 0] S1x128x7680.size inb_S2x128x7680_S1x128x7680_0_0_0)).emb z) e).trans (congrArg arg5.view.emb (funext fun i => Fin.ext ?_))
  match i with
  | ⟨0, _⟩ => rfl
  | ⟨1, _⟩ => show 0 + 1 * r.val = r.val; omega
  | ⟨2, _⟩ => show 0 + 1 * j.val = j.val; omega

theorem outM1_emb (r : Fin 128) (j : Fin 7680) : (outM1 arg5).view.emb (ix2 r j) = arg5.view.emb (ix3 (1 : Fin 2) r j) := by
  have e : Shape.reshapeEquiv (s := S1x128x7680) (s' := S128x7680) (by decide) (ix2 r j) = (ix3 (0 : Fin 1) r j : S1x128x7680.Idx) :=
    Shape.reshapeEquiv_eq_of_rowMajor _ (by
      rw [Shape.rowMajor_val_three, Shape.rowMajor_val_two]
      show (0 * 128 + r.val) * 7680 + j.val = r.val * 7680 + j.val
      omega)
  refine (congrArg (fun z => (arg5.view.slice (Rect.unit (s := S2x128x7680) ![1, 0, 0] S1x128x7680.size inb_S2x128x7680_S1x128x7680_1_0_0)).emb z) e).trans (congrArg arg5.view.emb (funext fun i => Fin.ext ?_))
  match i with
  | ⟨0, _⟩ => rfl
  | ⟨1, _⟩ => show 0 + 1 * r.val = r.val; omega
  | ⟨2, _⟩ => show 0 + 1 * j.val = j.val; omega

/-- The two entries written, read back. -/
theorem out_read (y : BufTy.Contents (Elt Ideal) arg5.view.ty) (A B : S128x7680.Idx → Elt Ideal .fp8e4m3) (r : Fin 128) (j : Fin 7680) :
    arg5.view.read (Elt Ideal) ((outM1 arg5).view.write (Elt Ideal) ((outM0 arg5).view.write (Elt Ideal) y A Finset.univ) B Finset.univ) (ix3 (0 : Fin 2) r j) = A (ix2 r j)
    ∧ arg5.view.read (Elt Ideal) ((outM1 arg5).view.write (Elt Ideal) ((outM0 arg5).view.write (Elt Ideal) y A Finset.univ) B Finset.univ) (ix3 (1 : Fin 2) r j) = B (ix2 r j) := by
  constructor
  · refine Eq.trans ?_ (congrFun (View.read_write_univ (v := (outM0 arg5).view) (Val := Elt Ideal) y A) (ix2 r j))
    rw [View.read_apply, View.read_apply]
    refine congrArg (_root_.cast _) (?_ : _ = _)
    rw [outM0_emb]
    refine View.write_of_not_mem (v := (outM1 arg5).view) _ B Finset.univ (fun hm => ?_)
    rw [View.setOn_univ] at hm
    exact Finset.disjoint_left.mp (out_disjoint arg5) (outM0_emb arg5 r j ▸ View.emb_mem_set (outM0 arg5).view (ix2 r j)) hm
  · refine Eq.trans ?_ (congrFun (View.read_write_univ (v := (outM1 arg5).view) (Val := Elt Ideal) ((outM0 arg5).view.write (Elt Ideal) y A Finset.univ) B) (ix2 r j))
    rw [View.read_apply, View.read_apply]
    refine congrArg (_root_.cast _) (?_ : _ = _)
    rw [outM1_emb]

section Out

variable (g : BufTy.Contents (Elt Ideal) arg0.view.ty) (a2s : BufTy.Contents (Elt Ideal) arg1.view.ty) (Wf : Buf (Elt Ideal) (arg2.view.loc (c : Thread nD τ)))
  (sf : BufTy.Contents (Elt Ideal) arg3.view.ty) (bf : BufTy.Contents (Elt Ideal) arg4.view.ty) (gc : BufTy.Contents (Elt Ideal) arg5.view.ty) (gs : BufTy.Contents (Elt Ideal) arg6.view.ty)
  (x7 : BufTy.Contents (Elt Ideal) arg7.view.ty) (x8 : BufTy.Contents (Elt Ideal) arg8.view.ty) (f0 : Buf (Elt Ideal) (arg9.view.loc (c : Thread nD τ)))
  (v : BufTy.Contents (Elt Ideal) arg10.view.ty) (xc : BufTy.Contents (Elt Ideal) arg11.view.ty) (t : BufTy.Contents (Elt Ideal) arg12.view.ty) (u : BufTy.Contents (Elt Ideal) arg13.view.ty) (sr : BufTy.Contents (Elt Ideal) arg14.view.ty)

/-- The scales of an entry, along the lanes, as they are loaded. -/
theorem scale_cov (b : Fin 2) (inb) (z : S128x128.Idx) :
    arg12.view.readCov (body_run.sl.H12_3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) (Rect.unit (s := S256x128) ![128 * b.val, 0] S128x128.size inb).toLoadRect z = sc (rm (GG c arg0 arg1 arg2 arg3 arg4 g a2s Wf sf bf) (128 * b.val + (z 0).val)) := by
  have hb : b.val < 2 := b.isLt
  have h0 : (z 0).val < 128 := (z 0).isLt
  unfold body_run.sl.H12_3
  refine (View.read_writes_cons_hit (Val := Elt Ideal) arg12.view _ (Rect.unit (s := S256x128) ![0, 0] S256x128.size inb_S256x128_S256x128_0_0) (body_run.sl.r (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0) _ (ix2 (⟨128 * b.val + (z 0).val, by omega⟩ : Fin 256) (z 1)) _ (funext fun i => Fin.ext ?_)).trans
    (scale_apply ..)
  match i with
  | ⟨0, _⟩ => show 0 + 1 * (128 * b.val + (z 0).val) = 128 * b.val + 1 * (z 0).val; omega
  | ⟨1, _⟩ => show 0 + 1 * (z 1).val = 0 + 1 * (z 1).val; rfl

/-- The first lane of a block, as a row. -/
theorem lane_row (w : FVec Ideal S128x128 .f32) (h1 : S128x128.Transposes [1, 0] S128x128) (h2 : S128x128.Slices ![0, 0] S1x128) (h3 : S1x128.ShapeCasts S1x1x128) (j : Fin 128) :
    shapeCast S1x1x128 (extractStridedSlice S1x128 ![0, 0] (transpose S128x128 [1, 0] w h1) h2) h3 (ix3 (0 : Fin 1) (0 : Fin 1) j) = w (ix2 j (0 : Fin 128)) := by
  refine (shapeCast_apply _ h3 _ (ix2 (0 : Fin 1) j) ?_).trans ((extractStridedSlice_apply _ _ h2 (ix2 (0 : Fin 1) j) (ix2 (0 : Fin 128) j) (fun a => match a with
    | ⟨0, _⟩ => rfl
    | ⟨1, _⟩ => by show j.val = 0 + j.val; omega)).trans (transpose_apply [1, 0] w h1 (ix2 (0 : Fin 128) j) (ix2 j (0 : Fin 128)) (fun b => match b with | ⟨0, _⟩ => rfl | ⟨1, _⟩ => rfl)))
  rw [Shape.rowMajor_val_two, Shape.rowMajor_val_three]; show 0 * 128 + j.val = (0 * 1 + 0) * 128 + j.val; omega

theorem lane0 (j : Fin 128) : (k0_pay91 (F := Ideal) (body_run.sl.v69_r0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) (ix3 (0 : Fin 1) (0 : Fin 1) j) = sc (rm (GG c arg0 arg1 arg2 arg3 arg4 g a2s Wf sf bf) (128 * 0 + j.val)) :=
  (lane_row _ _ _ _ j).trans (scale_cov _ _ _ _ _ _ _ _ _ _ _ _ _ _ _ _ _ _ _ _ _ _ _ _ _ _ _ _ _ _ _ _ _ _ g a2s Wf sf bf f0 0 _ (ix2 j (0 : Fin 128)))
theorem lane1 (j : Fin 128) : (k0_pay92 (F := Ideal) (body_run.sl.v75_r0 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0)) (ix3 (0 : Fin 1) (0 : Fin 1) j) = sc (rm (GG c arg0 arg1 arg2 arg3 arg4 g a2s Wf sf bf) (128 * 1 + j.val)) :=
  (lane_row _ _ _ _ j).trans (scale_cov _ _ _ _ _ _ _ _ _ _ _ _ _ _ _ _ _ _ _ _ _ _ _ _ _ _ _ _ _ _ _ _ _ _ g a2s Wf sf bf f0 1 _ (ix2 j (0 : Fin 128)))

/-- The fourth row of the scratch. -/
abbrev rowM : Memref sig .tc .vmem S2x128 .f32 := (arg14.slice (Rect.unit (s := S4x2x128) ![3, 0, 0] S1x2x128.size inb_S4x2x128_S1x2x128_3_0_0) (fun _ => rfl)).squeeze S2x128 squeezes_S1x2x128_S2x128

theorem rowM_emb (b : Fin 2) (j : Fin 128) : (rowM arg14).view.emb (ix2 b j) = arg14.view.emb (ix3 (3 : Fin 4) b j) := by
  have e : Shape.reshapeEquiv (s := S1x2x128) (s' := S2x128) (by decide) (ix2 b j) = (ix3 (0 : Fin 1) b j : S1x2x128.Idx) :=
    Shape.reshapeEquiv_eq_of_rowMajor _ (by
      rw [Shape.rowMajor_val_three, Shape.rowMajor_val_two]
      show (0 * 2 + b.val) * 128 + j.val = b.val * 128 + j.val
      omega)
  refine (congrArg (fun z => (arg14.view.slice (Rect.unit (s := S4x2x128) ![3, 0, 0] S1x2x128.size inb_S4x2x128_S1x2x128_3_0_0)).emb z) e).trans (congrArg arg14.view.emb (funext fun i => Fin.ext ?_))
  match i with
  | ⟨0, _⟩ => rfl
  | ⟨1, _⟩ => show 0 + 1 * b.val = b.val; omega
  | ⟨2, _⟩ => show 0 + 1 * j.val = j.val; omega

theorem rowM_read (f : BufTy.Contents (Elt Ideal) arg14.view.ty) (b : Fin 2) (j : Fin 128) : (rowM arg14).view.read (Elt Ideal) f (ix2 b j) = arg14.view.read (Elt Ideal) f (ix3 (3 : Fin 4) b j) := by
  rw [View.read_apply, View.read_apply]
  refine congrArg (_root_.cast _) (?_ : _ = _)
  rw [rowM_emb]

/-- The two rows stored, read back. -/
theorem rows_read (L : List (View.Piece (Elt Ideal) S4x2x128 .f32)) (p0 p1 : S1x1x128.Idx → Elt Ideal .f32) (b : Fin 2) (j : Fin 128) :
    (rowM arg14).view.read (Elt Ideal) (arg14.view.writes (Elt Ideal) sr (⟨Rect.unit (s := S4x2x128) ![3, 1, 0] S1x1x128.size inb_S4x2x128_S1x1x128_3_1_0, p1⟩ :: ⟨Rect.unit (s := S4x2x128) ![3, 0, 0] S1x1x128.size inb_S4x2x128_S1x1x128_3_0_0, p0⟩ :: L)) (ix2 b j)
      = if b.val = 0 then p0 (ix3 (0 : Fin 1) (0 : Fin 1) j) else p1 (ix3 (0 : Fin 1) (0 : Fin 1) j) := by
  refine (rowM_read arg14 _ b j).trans ?_
  match b with
  | ⟨0, _⟩ =>
    refine Eq.trans ?_ (if_pos rfl).symm
    refine (View.read_writes_cons_miss (Val := Elt Ideal) arg14.view sr _ _ _ (fun hm => ?_)).trans ?_
    · rw [Rect.mem_set_unit] at hm
      have h := (hm (1 : Fin 3)).1
      have h' : 1 ≤ 0 := h
      omega
    · refine View.read_writes_cons_hit (Val := Elt Ideal) arg14.view sr (Rect.unit (s := S4x2x128) ![3, 0, 0] S1x1x128.size inb_S4x2x128_S1x1x128_3_0_0) p0 L (ix3 (0 : Fin 1) (0 : Fin 1) j) _ (funext fun i => Fin.ext ?_)
      match i with
      | ⟨0, _⟩ => rfl
      | ⟨1, _⟩ => rfl
      | ⟨2, _⟩ => show 0 + 1 * j.val = j.val; omega
  | ⟨1, _⟩ =>
    refine Eq.trans ?_ (if_neg (show ¬ (1 : ℕ) = 0 by decide)).symm
    refine View.read_writes_cons_hit (Val := Elt Ideal) arg14.view sr (Rect.unit (s := S4x2x128) ![3, 1, 0] S1x1x128.size inb_S4x2x128_S1x1x128_3_1_0) p1 _ (ix3 (0 : Fin 1) (0 : Fin 1) j) _ (funext fun i => Fin.ext ?_)
    match i with
    | ⟨0, _⟩ => rfl
    | ⟨1, _⟩ => rfl
    | ⟨2, _⟩ => show 0 + 1 * j.val = j.val; omega

/-- The scales as they are copied out. -/
theorem scales_out (b : Fin 2) (j : Fin 128) : body_run.sl.dma0_4 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0 sr (ix2 b j) = sc (rm (GG c arg0 arg1 arg2 arg3 arg4 g a2s Wf sf bf) (128 * b.val + j.val)) := by
  unfold body_run.sl.dma0_4
  refine (rows_read arg14 sr _ _ _ b j).trans ?_
  match b with
  | ⟨0, _⟩ => exact (if_pos rfl).trans (lane0 ..)
  | ⟨1, _⟩ => exact (if_neg (show ¬ (1 : ℕ) = 0 by decide)).trans (lane1 ..)

/-- The codes as they are copied out. -/
theorem codes_out0 (j : Fin 128) (f : Fin 7680) : body_run.sl.dma0_2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0 v xc (ix2 j f) = code ((GG c arg0 arg1 arg2 arg3 arg4 g a2s Wf sf bf) (128 * 0 + j.val) f.val) (rm (GG c arg0 arg1 arg2 arg3 arg4 g a2s Wf sf bf) (128 * 0 + j.val)) := by
  have hj : j.val < 128 := j.isLt
  unfold body_run.sl.dma0_2
  refine Eq.trans (congrArg (arg11.view.read (Elt Ideal) _) (funext fun i => Fin.ext ?_)) ((codes_read _ _ _ _ _ _ _ _ _ _ _ _ _ _ _ _ _ _ _ _ _ _ _ _ _ _ _ _ _ _ _ _ _ _ g a2s Wf sf bf f0 v xc (ix2 (⟨128 * 0 + j.val, by omega⟩ : Fin 256) f)).trans rfl)
  match i with
  | ⟨0, _⟩ => show 0 + 1 * j.val = 128 * 0 + j.val; omega
  | ⟨1, _⟩ => show 0 + 1 * f.val = f.val; omega
theorem codes_out1 (j : Fin 128) (f : Fin 7680) : body_run.sl.dma0_3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf f0 v xc (ix2 j f) = code ((GG c arg0 arg1 arg2 arg3 arg4 g a2s Wf sf bf) (128 * 1 + j.val) f.val) (rm (GG c arg0 arg1 arg2 arg3 arg4 g a2s Wf sf bf) (128 * 1 + j.val)) := by
  have hj : j.val < 128 := j.isLt
  unfold body_run.sl.dma0_3
  refine Eq.trans (congrArg (arg11.view.read (Elt Ideal) _) (funext fun i => Fin.ext ?_)) ((codes_read _ _ _ _ _ _ _ _ _ _ _ _ _ _ _ _ _ _ _ _ _ _ _ _ _ _ _ _ _ _ _ _ _ _ g a2s Wf sf bf f0 v xc (ix2 (⟨128 * 1 + j.val, by omega⟩ : Fin 256) f)).trans rfl)
  match i with
  | ⟨0, _⟩ => show 128 + 1 * j.val = 128 * 1 + j.val; omega
  | ⟨1, _⟩ => show 0 + 1 * f.val = f.val; omega

set_option maxRecDepth 8192 in
/-- What the body leaves in the codes. -/
theorem body_codes (b : Fin 2) (j : Fin 128) (f : Fin 7680) :
    arg5.view.read (Elt Ideal) (body_run (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf gc gs x7 x8 f0 v xc t u sr).1.1 (ix3 b j f) = code ((GG c arg0 arg1 arg2 arg3 arg4 g a2s Wf sf bf) (128 * b.val + j.val) f.val) (rm (GG c arg0 arg1 arg2 arg3 arg4 g a2s Wf sf bf) (128 * b.val + j.val)) := by
  unfold body_run
  dsimp only
  match b with
  | ⟨0, _⟩ => exact (out_read arg5 gc _ _ j f).1.trans (codes_out0 ..)
  | ⟨1, _⟩ => exact (out_read arg5 gc _ _ j f).2.trans (codes_out1 ..)

set_option maxRecDepth 8192 in
/-- What the body leaves in the scales. -/
theorem body_scales (b : Fin 2) (j : Fin 128) :
    arg6.view.read (Elt Ideal) (body_run (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 v0_r0 v1_r0 v2_r0 g a2s Wf sf bf gc gs x7 x8 f0 v xc t u sr).1.2 (ix2 b j) = sc (rm (GG c arg0 arg1 arg2 arg3 arg4 g a2s Wf sf bf) (128 * b.val + j.val)) := by
  unfold body_run
  dsimp only
  exact (congrFun (whole_read arg6.view gs _) (ix2 b j)).trans (scales_out ..)

end Out

end Cert.UpIdeal.Hand

end
-- ==== Proof.UpRefValue.lean ====
/-
  Hand-written. The run of the first feed-forward projection's reference with its values: each token's codes and scale are
  those of its activations and of their greatest magnitude.
-/
module

public import proofs.«01_k».proof.Defs
public import proofs.«01_k».proof.Proof.Gen.UpReferenceIdeal.Frame
public import proofs.«01_k».proof.Proof.UpQuant
public import Idealize.ShloMosaic.Lib.Pipeline.Value
public import Idealize.ShloMosaic.Lib.ValueIdx
public import Idealize.ShloMosaic.Lib.Pipeline.CanonAppend
public import Idealize.ShloMosaic.Lib.Pipeline.ValueKit.Tiles
public import Idealize.ShloMosaic.Lib.MatmulPlain
public import Idealize.ShloMosaic.Lib.Affine

@[expose] public section

noncomputable section

namespace Cert.UpReferenceIdeal.Hand

open Idealize.ShloMosaic Idealize.SL.Sem Cert.UpReferenceIdeal
open Cert.UpReferenceIdeal.Gen Idealize.ShloMosaic.TcCoe Idealize.ShloMosaic.ValueIdx
open Idealize.ShloMosaic.Pipeline (Dat Cfg Window)
open Cert.UpQuant
open Cert.UpIdeal.Hand (gelu)

/-! ## The payloads at an index -/

/-- A row of one value a token, along the rows. -/
theorem down_apply {α : Type} (v : S1x128.Idx → α) (j : Fin 128) (r : Fin 7680) :
    broadcastTo S128x7680 (shapeCast S128x1 (shapeCast S128 v shapeCasts_S1x128_S128) shapeCasts_S128_S128x1) broadcasts_S128x1_S128x7680 (ix2 j r) = v (ix2 (0 : Fin 1) j) := by
  rw [broadcastTo_apply _ broadcasts_S128x1_S128x7680 (ix2 j r) (ix2 j (0 : Fin 1)) (fun a => match a with
      | ⟨0, _⟩ => rfl
      | ⟨1, _⟩ => rfl),
    shapeCast_apply _ shapeCasts_S128_S128x1 (ix2 j (0 : Fin 1)) (ix1 j) (by
      rw [Shape.rowMajor_val_one, Shape.rowMajor_val_two]; show j.val = j.val * 1 + 0; omega)]
  exact shapeCast_apply v shapeCasts_S1x128_S128 (ix1 j) (ix2 (0 : Fin 1) j) (by
      rw [Shape.rowMajor_val_one, Shape.rowMajor_val_two]; show 0 * 128 + j.val = j.val; omega)

/-- A row of one value a column, along the columns. -/
theorem across_apply {α : Type} (v : S7680.Idx → α) (j : Fin 128) (r : Fin 7680) :
    broadcastTo S128x7680 (shapeCast S1x7680 v shapeCasts_S7680_S1x7680) broadcasts_S1x7680_S128x7680 (ix2 j r) = v (ix1 r) := by
  rw [broadcastTo_apply _ broadcasts_S1x7680_S128x7680 (ix2 j r) (ix2 (0 : Fin 1) r) (fun a => match a with
      | ⟨0, _⟩ => rfl
      | ⟨1, _⟩ => rfl)]
  exact shapeCast_apply v shapeCasts_S7680_S1x7680 (ix2 (0 : Fin 1) r) (ix1 r) (by
      rw [Shape.rowMajor_val_one, Shape.rowMajor_val_two]; show r.val = 0 * 7680 + r.val; omega)

/-- The product at an index. -/
theorem dot_apply (v1 : FVec Ideal S128x2880 .fp8e4m3) (v2 : FVec Ideal S2880x7680 .fp8e4m3) (j : Fin 128) (r : Fin 7680) :
    matmul dot_S128x2880_S2880x7680_S128x7680_1_0_0_1_n_n none v1 v2 (constant (F := Ideal) S128x7680 .f32 0x00000000#32) (ix2 j r) = ∑ e : Fin 2880, v1 (ix2 j e) * v2 (ix2 e r) := by
  refine (Ideal.matmul_plain_apply none v1 v2 _ j r).trans ?_
  rw [constant_apply, Ideal.ofBits_zero_f32, zero_add]

variable (v0 : Vec Ideal S1x128x2880 .fp8e4m3) (v2 : Vec Ideal S2880x7680 .fp8e4m3) (v4 : Vec Ideal S1x128 .f32) (v9 v13 : Vec Ideal S7680 .f32)

/-- The scaled product with its bias at an index. -/
theorem pay9_apply (j : Fin 128) (f : Fin 7680) :
    k0_pay9 (F := Ideal) v0 v2 v4 v9 v13 (ix2 j f) = (∑ e : Fin 2880, v0 (ix3 (0 : Fin 1) j e) * v2 (ix2 e f)) * v4 (ix2 (0 : Fin 1) j) * v9 (ix1 f) + v13 (ix1 f) := by
  unfold k0_pay9
  rw [addf_apply, mulf_apply, mulf_apply, dot_apply, across_apply, across_apply, down_apply]
  have hg : ∀ e : Fin 2880, shapeCast S128x2880 v0 shapeCasts_S1x128x2880_S128x2880 (ix2 j e) = v0 (ix3 (0 : Fin 1) j e) := fun e =>
    shapeCast_apply _ shapeCasts_S1x128x2880_S128x2880 (ix2 j e) (ix3 (0 : Fin 1) j e) (by
      rw [Shape.rowMajor_val_three, Shape.rowMajor_val_two]; show (0 * 128 + j.val) * 2880 + e.val = j.val * 2880 + e.val; omega)
  simp only [hg]

/-- The activation at an index. -/
theorem pay5_apply (j : Fin 128) (f : Fin 7680) :
    k0_pay5 (F := Ideal) v0 v2 v4 v9 v13 (ix2 j f) = gelu ((∑ e : Fin 2880, v0 (ix3 (0 : Fin 1) j e) * v2 (ix2 e f)) * v4 (ix2 (0 : Fin 1) j) * v9 (ix1 f) + v13 (ix1 f)) :=
  (show k0_pay5 (F := Ideal) v0 v2 v4 v9 v13 (ix2 j f) = gelu (k0_pay9 (F := Ideal) v0 v2 v4 v9 v13 (ix2 j f)) from rfl).trans (congrArg gelu (pay9_apply v0 v2 v4 v9 v13 j f))

/-- The greatest magnitude of each row. -/
abbrev rowmax (P : FVec Ideal S128x7680 .f32) : FVec Ideal S128x1 .f32 :=
  shapeCast S128x1 (multiReduction .maximumf [1] S128 (absf P) 0xFF800000#32 reduces_S128x7680_S128 (.inl rfl) rfl) shapeCasts_S128_S128x1

/-- The same over a row's entries. -/
def fold (a : Fin 7680 → EReal) : EReal := (Finset.univ : Finset (Fin 7680)).fold max (FloatOps.ofBits (F := Ideal) .f32 0xFF800000#32 : EReal) (fun f => max (a f) (-a f))

theorem rowmax_apply (P : FVec Ideal S128x7680 .f32) (a : Fin 7680 → EReal) (j : Fin 128) (z : Fin 1) (h : ∀ f : Fin 7680, P (ix2 j f) = a f) : rowmax P (ix2 j z) = fold a := by
  have hz : z.val < 1 := z.isLt
  refine (shapeCast_apply _ _ (ix2 j z) (ix1 j) ?_).trans ?_
  · rw [Shape.rowMajor_val_one, Shape.rowMajor_val_two]; show j.val = j.val * 1 + z.val; omega
  · refine (Ideal.multiReduction_maximumf_single (absf P) _ reduces_S128x7680_S128 _ _ (ix1 j)).trans ?_
    refine congrArg (Finset.fold max _ · Finset.univ) (funext fun f => ?_)
    have e : reduces_S128x7680_S128.lift (ix1 j) f = (ix2 j f : S128x7680.Idx) := funext fun k => match k with
      | ⟨0, _⟩ => rfl
      | ⟨1, _⟩ => rfl
    show max (P (reduces_S128x7680_S128.lift (ix1 j) f)) (-P (reduces_S128x7680_S128.lift (ix1 j) f)) = max (a f) (-a f)
    rw [e]
    exact congrArg (fun x : EReal => max x (-x)) (h f)

/-- The stored scales of an entry. -/
theorem pay7_apply (P : FVec Ideal S128x7680 .f32) (a : Fin 7680 → EReal) (j : Fin 128) (h : ∀ f : Fin 7680, P (ix2 j f) = a f) :
    k0_pay7 (F := Ideal) (expo (rowmax P)) (ix2 (0 : Fin 1) j) = sc (fold a) := by
  unfold k0_pay7
  refine (shapeCast_apply _ _ (ix2 (0 : Fin 1) j) (ix1 j) ?_).trans ((shapeCast_apply _ _ (ix1 j) (ix2 j (0 : Fin 1)) ?_).trans (up2_apply (rowmax P) (ix2 j (0 : Fin 1)) _ (rowmax_apply P a j 0 h)))
  · rw [Shape.rowMajor_val_one, Shape.rowMajor_val_two]; show j.val = 0 * 128 + j.val; omega
  · rw [Shape.rowMajor_val_one, Shape.rowMajor_val_two]; show j.val * 1 + 0 = j.val; omega

/-- The stored codes of an entry. -/
theorem pay8_apply (P : FVec Ideal S128x7680 .f32) (a : Fin 7680 → EReal) (j : Fin 128) (f : Fin 7680) (h : ∀ f : Fin 7680, P (ix2 j f) = a f) :
    k0_pay8 (F := Ideal) P (expo (rowmax P)) (ix3 (0 : Fin 1) j f) = code (a f) (fold a) := by
  unfold k0_pay8
  refine (shapeCast_apply _ _ (ix3 (0 : Fin 1) j f) (ix2 j f) ?_).trans (clip_apply P _ (ix2 j f) _ _ (h f) ?_)
  · rw [Shape.rowMajor_val_two, Shape.rowMajor_val_three]; show j.val * 7680 + f.val = (0 * 128 + j.val) * 7680 + f.val; omega
  · exact (broadcastTo_apply _ broadcasts_S128x1_S128x7680 (ix2 j f) (ix2 j (0 : Fin 1)) (fun a => match a with
      | ⟨0, _⟩ => rfl
      | ⟨1, _⟩ => rfl)).trans (dn2_apply (rowmax P) (ix2 j (0 : Fin 1)) _ (rowmax_apply P a j 0 h))

/-! ## The two results -/

/-- Two entries of codes stored, read back. -/
theorem canon_codes (G : S2x128x7680.Idx → Elt Ideal .fp8e4m3) (p0 p1 : Vec Ideal S1x128x7680 .fp8e4m3)
    (h0 : ∀ j f, p0 (ix3 (0 : Fin 1) j f) = G (ix3 (1 : Fin 2) j f)) (h1 : ∀ j f, p1 (ix3 (0 : Fin 1) j f) = G (ix3 (0 : Fin 2) j f)) :
    View.canon (Val := Elt Ideal) ([⟨r0_7, p0⟩, ⟨r0_4, p1⟩] : List (View.Piece (Elt Ideal) S2x128x7680 .fp8e4m3)) = G := by
  funext y
  refine (congrFun (congrArg View.canon (List.append_nil _).symm) y).trans
    (View.canon_append_of_pieces (Val := Elt Ideal) G [] ([⟨r0_7, p0⟩, ⟨r0_4, p1⟩] : List (View.Piece (Elt Ideal) S2x128x7680 .fp8e4m3)) ?_ y (cover0_5 p0 p1 y))
  simp only [List.forall_mem_cons]
  refine ⟨fun x => ?_, fun x => ?_, fun p hp => absurd hp List.not_mem_nil⟩
  · obtain ⟨z, r, j, rfl⟩ : ∃ (z : Fin 1) (r : Fin 128) (j : Fin 7680), x = ix3 z r j := ⟨x 0, x 1, x 2, eq_ix3 x⟩
    obtain rfl : z = 0 := Subsingleton.elim _ _
    refine (h0 r j).trans (congrArg G (funext fun a => Fin.ext ?_))
    match a with
    | ⟨0, _⟩ => rfl
    | ⟨1, _⟩ => show r.val = 0 + 1 * r.val; omega
    | ⟨2, _⟩ => show j.val = 0 + 1 * j.val; omega
  · obtain ⟨z, r, j, rfl⟩ : ∃ (z : Fin 1) (r : Fin 128) (j : Fin 7680), x = ix3 z r j := ⟨x 0, x 1, x 2, eq_ix3 x⟩
    obtain rfl : z = 0 := Subsingleton.elim _ _
    refine (h1 r j).trans (congrArg G (funext fun a => Fin.ext ?_))
    match a with
    | ⟨0, _⟩ => rfl
    | ⟨1, _⟩ => show r.val = 0 + 1 * r.val; omega
    | ⟨2, _⟩ => show j.val = 0 + 1 * j.val; omega

/-- Two rows of scales stored, read back. -/
theorem canon_scales (G : S2x128.Idx → Elt Ideal .f32) (p0 p1 : Vec Ideal S1x128 .f32)
    (h0 : ∀ j, p0 (ix2 (0 : Fin 1) j) = G (ix2 (1 : Fin 2) j)) (h1 : ∀ j, p1 (ix2 (0 : Fin 1) j) = G (ix2 (0 : Fin 2) j)) :
    View.canon (Val := Elt Ideal) ([⟨r0_6, p0⟩, ⟨r0_2, p1⟩] : List (View.Piece (Elt Ideal) S2x128 .f32)) = G := by
  funext y
  refine (congrFun (congrArg View.canon (List.append_nil _).symm) y).trans
    (View.canon_append_of_pieces (Val := Elt Ideal) G [] ([⟨r0_6, p0⟩, ⟨r0_2, p1⟩] : List (View.Piece (Elt Ideal) S2x128 .f32)) ?_ y (cover0_6 p0 p1 y))
  simp only [List.forall_mem_cons]
  refine ⟨fun x => ?_, fun x => ?_, fun p hp => absurd hp List.not_mem_nil⟩
  · obtain ⟨z, j, rfl⟩ : ∃ (z : Fin 1) (j : Fin 128), x = ix2 z j := ⟨x 0, x 1, eq_ix2 x⟩
    obtain rfl : z = 0 := Subsingleton.elim _ _
    refine (h0 j).trans (congrArg G (funext fun a => Fin.ext ?_))
    match a with
    | ⟨0, _⟩ => rfl
    | ⟨1, _⟩ => show j.val = 0 + 1 * j.val; omega
  · obtain ⟨z, j, rfl⟩ : ∃ (z : Fin 1) (j : Fin 128), x = ix2 z j := ⟨x 0, x 1, eq_ix2 x⟩
    obtain rfl : z = 0 := Subsingleton.elim _ _
    refine (h1 j).trans (congrArg G (funext fun a => Fin.ext ?_))
    match a with
    | ⟨0, _⟩ => rfl
    | ⟨1, _⟩ => show j.val = 0 + 1 * j.val; omega

/-- One entry of a stack of two. -/
theorem ld3 {e : EltTy} {A B : ℕ} (X : (⟨3, ![2, A, B]⟩ : Shape).Idx → Elt Ideal e) (i : Fin 2) (inb) (a : Fin A) (b : Fin B) :
    View.ld X (Rect.unit (s := ⟨3, ![2, A, B]⟩) ![i.val, 0, 0] ![1, A, B] inb) (ix3 (0 : Fin 1) a b) = X (ix3 i a b) :=
  View.ld_unit_apply_of X _ _ inb _ _ (fun k => match k with
    | ⟨0, _⟩ => by show i.val = i.val + 0; omega
    | ⟨1, _⟩ => by show a.val = 0 + a.val; omega
    | ⟨2, _⟩ => by show b.val = 0 + b.val; omega)

/-- One row of two. -/
theorem ld2 {e : EltTy} (X : S2x128.Idx → Elt Ideal e) (i : Fin 2) (inb) (b : Fin 128) :
    View.ld X (Rect.unit (s := S2x128) ![i.val, 0] ![1, 128] inb) (ix2 (0 : Fin 1) b) = X (ix2 i b) :=
  View.ld_unit_apply_of X _ _ inb _ _ (fun k => match k with
    | ⟨0, _⟩ => by show i.val = i.val + 0; omega
    | ⟨1, _⟩ => by show b.val = 0 + b.val; omega)

variable (x0 : Vec Ideal S2x128x2880 .fp8e4m3) (x1 : Vec Ideal S2x128 .f32) (x2 : Vec Ideal S2880x7680 .fp8e4m3) (x3 x4 : Vec Ideal S7680 .f32)

/-- An entry's activations. -/
abbrev P (i : Fin 2) (ia : ∀ a, (![i.val, 0, 0] : Fin 3 → Nat) a + (![1, 128, 2880] : Fin 3 → Nat) a ≤ S2x128x2880.size a) (ib : ∀ a, (![i.val, 0] : Fin 2 → Nat) a + (![1, 128] : Fin 2 → Nat) a ≤ S2x128.size a) : FVec Ideal S128x7680 .f32 :=
  k0_pay5 (F := Ideal) (View.ld x0 (Rect.unit (s := S2x128x2880) ![i.val, 0, 0] ![1, 128, 2880] ia)) x2 (View.ld x1 (Rect.unit (s := S2x128) ![i.val, 0] ![1, 128] ib)) x3 x4

theorem P_apply (i : Fin 2) (ia : ∀ a, (![i.val, 0, 0] : Fin 3 → Nat) a + (![1, 128, 2880] : Fin 3 → Nat) a ≤ S2x128x2880.size a) (ib : ∀ a, (![i.val, 0] : Fin 2 → Nat) a + (![1, 128] : Fin 2 → Nat) a ≤ S2x128.size a) (j : Fin 128) (f : Fin 7680) :
    P x0 x1 x2 x3 x4 i ia ib (ix2 j f) = act x0 x1 x2 x3 x4 i j f := by
  refine (pay5_apply _ _ _ _ _ j f).trans ?_
  have e : ∀ e : Fin 2880, View.ld x0 (Rect.unit (s := S2x128x2880) ![i.val, 0, 0] ![1, 128, 2880] ia) (ix3 (0 : Fin 1) j e) = x0 (ix3 i j e) := fun e => ld3 (A := 128) (B := 2880) x0 i ia j e
  rw [ld2]
  simp only [e]
  rfl

/-- What the body leaves in the codes' buffer. -/
theorem codes_eq :
    out0_5 (F := Ideal) x0 x1 x2 x3 x4 = codes x0 x1 x2 x3 x4 := by
  have hw : View.ld x2 r0_1 = x2 := View.ld_unit_zero (funext fun a => by fin_cases a <;> rfl) _ _
  have hs : ∀ x : Vec Ideal S7680 .f32, View.ld x r0_3 = x := fun x => View.ld_unit_zero (funext fun a => by fin_cases a; rfl) _ _
  unfold out0_5 k0_pay15 k0_pay14 k0_pay13 k0_pay12
  rw [hw, hs, hs]
  exact canon_codes _ _ _ (fun j f => pay8_apply (P x0 x1 x2 x3 x4 1 inb_S2x128x2880_S1x128x2880_1_0_0 inb_S2x128_S1x128_1_0) _ j f (P_apply x0 x1 x2 x3 x4 1 _ _ j))
    (fun j f => pay8_apply (P x0 x1 x2 x3 x4 0 inb_S2x128x2880_S1x128x2880_0_0_0 inb_S2x128_S1x128_0_0) _ j f (P_apply x0 x1 x2 x3 x4 0 _ _ j))

/-- What the body leaves in the scales' buffer. -/
theorem scales_eq :
    out0_6 (F := Ideal) x0 x1 x2 x3 x4 = scales x0 x1 x2 x3 x4 := by
  have hw : View.ld x2 r0_1 = x2 := View.ld_unit_zero (funext fun a => by fin_cases a <;> rfl) _ _
  have hs : ∀ x : Vec Ideal S7680 .f32, View.ld x r0_3 = x := fun x => View.ld_unit_zero (funext fun a => by fin_cases a; rfl) _ _
  unfold out0_6 k0_pay15 k0_pay14 k0_pay13 k0_pay12
  rw [hw, hs, hs]
  exact canon_scales _ _ _ (fun j => pay7_apply (P x0 x1 x2 x3 x4 1 inb_S2x128x2880_S1x128x2880_1_0_0 inb_S2x128_S1x128_1_0) _ j (P_apply x0 x1 x2 x3 x4 1 _ _ j))
    (fun j => pay7_apply (P x0 x1 x2 x3 x4 0 inb_S2x128x2880_S1x128x2880_0_0_0 inb_S2x128_S1x128_0_0) _ j (P_apply x0 x1 x2 x3 x4 0 _ _ j))

/-! ## The run -/

variable (m : (ℓ : Loc nD τ sig) → Buf (Elt Ideal) ℓ) (ρ : Dev nD → PrngReg)

/-- The one grid point. -/
def t₀ : Fin cfg0.N := ⟨0, by decide⟩

/-- Result 0 after the run, read through its one block, is what was written back. -/
theorem final_codes_out (c : Dev nD) : ((cfg0.win (5 : Fin 7)).blk t₀).view.read (Elt Ideal) ((dats m 0 c).arrAt (5 : Fin 7) cfg0.N) = (dats m 0 c).flushed (5 : Fin 7) t₀ := by
  rw [show cfg0.N = (t₀ : Fin cfg0.N).val + 1 from rfl, (dats m 0 c).arrAt_succ (5 : Fin 7) t₀]
  rw [show (cfg0.win (5 : Fin 7)).flush t₀ = true from by decide, if_pos rfl]
  exact View.read_write_univ _ _

/-- Result 0 after the run. -/
theorem final_codes (c : Dev nD) : (dats m 0 c).arrAt (5 : Fin 7) cfg0.N = codes (m ((c : Thread nD τ).loc main_arg0)) (m ((c : Thread nD τ).loc main_arg1)) (m ((c : Thread nD τ).loc main_arg2)) (m ((c : Thread nD τ).loc main_arg3)) (m ((c : Thread nD τ).loc main_arg4)) := by
  have ho := final_codes_out m c
  have hz0 : (fun a => (win0_0.index t₀) a * main_arg0.ty.shape.size a) = fun _ => 0 :=
    funext fun a => by fin_cases a <;> decide
  have hr0 := fun f => Memref.read_access_unit_zero (Elt Ideal) main_arg0 hz0 (fun a => by fin_cases a <;> decide) f
  have hz1 : (fun a => (win0_1.index t₀) a * main_arg1.ty.shape.size a) = fun _ => 0 :=
    funext fun a => by fin_cases a <;> decide
  have hr1 := fun f => Memref.read_access_unit_zero (Elt Ideal) main_arg1 hz1 (fun a => by fin_cases a <;> decide) f
  have hz2 : (fun a => (win0_2.index t₀) a * main_arg2.ty.shape.size a) = fun _ => 0 :=
    funext fun a => by fin_cases a <;> decide
  have hr2 := fun f => Memref.read_access_unit_zero (Elt Ideal) main_arg2 hz2 (fun a => by fin_cases a <;> decide) f
  have hz3 : (fun a => (win0_3.index t₀) a * main_arg3.ty.shape.size a) = fun _ => 0 :=
    funext fun a => by fin_cases a <;> decide
  have hr3 := fun f => Memref.read_access_unit_zero (Elt Ideal) main_arg3 hz3 (fun a => by fin_cases a <;> decide) f
  have hz4 : (fun a => (win0_4.index t₀) a * main_arg4.ty.shape.size a) = fun _ => 0 :=
    funext fun a => by fin_cases a <;> decide
  have hr4 := fun f => Memref.read_access_unit_zero (Elt Ideal) main_arg4 hz4 (fun a => by fin_cases a <;> decide) f
  have hz5 : (fun a => (win0_5.index t₀) a * main_v0_0.ty.shape.size a) = fun _ => 0 :=
    funext fun a => by fin_cases a <;> decide
  have hr5 := fun f => Memref.read_access_unit_zero (Elt Ideal) main_v0_0 hz5 (fun a => by fin_cases a <;> decide) f
  rw [hr5] at ho
  rw [ho]
  show (cfg0.win (5 : Fin 7)).cut _ ((dats m 0 c).after 5 t₀) = _
  rw [after0_5, codes_eq]
  unfold iblk
  rw [hr0, hr1, hr2, hr3, hr4]
  rfl

/-- Result 1 after the run, read through its one block, is what was written back. -/
theorem final_scales_out (c : Dev nD) : ((cfg0.win (6 : Fin 7)).blk t₀).view.read (Elt Ideal) ((dats m 0 c).arrAt (6 : Fin 7) cfg0.N) = (dats m 0 c).flushed (6 : Fin 7) t₀ := by
  rw [show cfg0.N = (t₀ : Fin cfg0.N).val + 1 from rfl, (dats m 0 c).arrAt_succ (6 : Fin 7) t₀]
  rw [show (cfg0.win (6 : Fin 7)).flush t₀ = true from by decide, if_pos rfl]
  exact View.read_write_univ _ _

/-- Result 1 after the run. -/
theorem final_scales (c : Dev nD) : (dats m 0 c).arrAt (6 : Fin 7) cfg0.N = scales (m ((c : Thread nD τ).loc main_arg0)) (m ((c : Thread nD τ).loc main_arg1)) (m ((c : Thread nD τ).loc main_arg2)) (m ((c : Thread nD τ).loc main_arg3)) (m ((c : Thread nD τ).loc main_arg4)) := by
  have ho := final_scales_out m c
  have hz0 : (fun a => (win0_0.index t₀) a * main_arg0.ty.shape.size a) = fun _ => 0 :=
    funext fun a => by fin_cases a <;> decide
  have hr0 := fun f => Memref.read_access_unit_zero (Elt Ideal) main_arg0 hz0 (fun a => by fin_cases a <;> decide) f
  have hz1 : (fun a => (win0_1.index t₀) a * main_arg1.ty.shape.size a) = fun _ => 0 :=
    funext fun a => by fin_cases a <;> decide
  have hr1 := fun f => Memref.read_access_unit_zero (Elt Ideal) main_arg1 hz1 (fun a => by fin_cases a <;> decide) f
  have hz2 : (fun a => (win0_2.index t₀) a * main_arg2.ty.shape.size a) = fun _ => 0 :=
    funext fun a => by fin_cases a <;> decide
  have hr2 := fun f => Memref.read_access_unit_zero (Elt Ideal) main_arg2 hz2 (fun a => by fin_cases a <;> decide) f
  have hz3 : (fun a => (win0_3.index t₀) a * main_arg3.ty.shape.size a) = fun _ => 0 :=
    funext fun a => by fin_cases a <;> decide
  have hr3 := fun f => Memref.read_access_unit_zero (Elt Ideal) main_arg3 hz3 (fun a => by fin_cases a <;> decide) f
  have hz4 : (fun a => (win0_4.index t₀) a * main_arg4.ty.shape.size a) = fun _ => 0 :=
    funext fun a => by fin_cases a <;> decide
  have hr4 := fun f => Memref.read_access_unit_zero (Elt Ideal) main_arg4 hz4 (fun a => by fin_cases a <;> decide) f
  have hz6 : (fun a => (win0_6.index t₀) a * main_v0_1.ty.shape.size a) = fun _ => 0 :=
    funext fun a => by fin_cases a <;> decide
  have hr6 := fun f => Memref.read_access_unit_zero (Elt Ideal) main_v0_1 hz6 (fun a => by fin_cases a <;> decide) f
  rw [hr6] at ho
  rw [ho]
  show (cfg0.win (6 : Fin 7)).cut _ ((dats m 0 c).after 6 t₀) = _
  rw [after0_6, scales_eq]
  unfold iblk
  rw [hr0, hr1, hr2, hr3, hr4]
  rfl

/-- The run: the results hold the values, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0_0) = codes (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c.tc : Thread nD τ).loc main_v0_1) = scales (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main (F := Ideal) m ρ)
  exact ⟨((h c).1 5).trans (final_codes m c), ((h c).1 6).trans (final_scales m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

end Cert.UpReferenceIdeal.Hand

end
-- ==== Proof.UpAlgebraic.lean ====
module

public import proofs.«01_k».proof.Defs
public import proofs.«01_k».proof.Proof.UpOut
public import proofs.«01_k».proof.Proof.UpLaunchIdeal
public import proofs.«01_k».proof.Proof.UpRefValue

/-!
The first feed-forward projection's results and its reference's are the same two arrays.
-/

@[expose] public section

noncomputable section

namespace Cert.UpIdeal.Hand

open Cert.UpIdeal Cert.UpIdeal.Gen
open Idealize.ShloMosaic Idealize.ShloMosaic.TcCoe Idealize.ShloMosaic.Tactic
open Idealize.SL Idealize.SL.Sem
open Idealize.ShloMosaic.ValueIdx
open Cert.UpQuant

variable (m : (ℓ : Loc nD τ sig) → Buf (Elt Ideal) ℓ)

/-- The arguments. -/
abbrev A0 (c : Dev nD) : S2x128x2880.Idx → EReal := m ((c : Thread nD τ).loc main_arg0)
abbrev A1 (c : Dev nD) : S2x128.Idx → EReal := m ((c : Thread nD τ).loc main_arg1)
abbrev A2 (c : Dev nD) : S2880x7680.Idx → EReal := m ((c : Thread nD τ).loc main_arg2)
abbrev A3 (c : Dev nD) : S7680.Idx → EReal := m ((c : Thread nD τ).loc main_arg3)
abbrev A4 (c : Dev nD) : S7680.Idx → EReal := m ((c : Thread nD τ).loc main_arg4)

/-- The arrays that both programs leave. -/
abbrev Y0 (c : Dev nD) : S2x128x7680.Idx → EReal := codes (A0 m c) (A1 m c) (A2 m c) (A3 m c) (A4 m c)
abbrev Y1 (c : Dev nD) : S2x128.Idx → EReal := scales (A0 m c) (A1 m c) (A2 m c) (A3 m c) (A4 m c)

theorem V_main_v0 (c : Dev nD) : V m c main_v0 = shapeCast S256x2880 (m ((c : Thread nD τ).loc main_arg0) : Vec Ideal S2x128x2880 .fp8e4m3) shapeCasts_S2x128x2880_S256x2880 := by
  show StableHlo.after hostOps0 _ (Proc.devRef .tc main_v0) = _
  after_results
  rfl

/-- The staged tokens: entry `b`'s token `j` is row `128 * b + j`. -/
theorem blk0_apply (c : Dev nD) (b : Fin 2) (j : Fin 128) (e : Fin 2880) (t : Fin 256) (ht : t.val = 128 * b.val + j.val) :
    blk0 m c (ix2 t e) = A0 m c (ix3 b j e) := by
  have hz : (fun a => (win0_0.index t0_0) a * main_v0.ty.shape.size a) = fun _ => 0 := funext fun a => by fin_cases a <;> decide
  refine (congrFun (Memref.read_access_unit_zero (Elt Ideal) main_v0 hz (fun a => by fin_cases a <;> decide) (V m c main_v0)) (ix2 t e)).trans ?_
  rw [V_main_v0]
  exact shapeCast_apply _ shapeCasts_S2x128x2880_S256x2880 (ix2 t e) (ix3 b j e) (by
    rw [Shape.rowMajor_val_three, Shape.rowMajor_val_two]; show (b.val * 128 + j.val) * 2880 + e.val = t.val * 2880 + e.val; omega)

/-- The staged scales are the argument's. -/
theorem blk1_eq (c : Dev nD) : blk1 m c = (m ((c : Thread nD τ).loc main_arg1) : Vec Ideal S2x128 .f32) := by
  have hz : (fun a => (win0_1.index t0_0) a * main_arg1.ty.shape.size a) = fun _ => 0 := funext fun a => by fin_cases a <;> decide
  exact (Memref.read_access_unit_zero (Elt Ideal) main_arg1 hz (fun a => by fin_cases a <;> decide) (V m c main_arg1)).trans (V_main_arg1 m c)

theorem nat2_lt {a b : ℕ} (f : (⟨2, ![a, b]⟩ : Shape).Idx → EReal) (i : Fin a) (j : Fin b) : nat2 f i.val j.val = f (ix2 i j) :=
  (nat2_idx f (ix2 i j) _ _ rfl rfl).symm

/-- The product at row `128 * b + j`. -/
theorem dotN_eq (B : S256x2880.Idx → EReal) (A : S2x128x2880.Idx → EReal) (W : S2880x7680.Idx → EReal) (b : Fin 2) (j : Fin 128) (f : Fin 7680)
    (hB : ∀ (e : Fin 2880) (t : Fin 256), t.val = 128 * b.val + j.val → B (ix2 t e) = A (ix3 b j e)) :
    dotN B W (128 * b.val + j.val) f.val 2880 = ∑ e : Fin 2880, A (ix3 b j e) * W (ix2 e f) := by
  have hb : b.val < 2 := b.isLt
  have hj : j.val < 128 := j.isLt
  unfold dotN
  rw [Finset.sum_range]
  refine Finset.sum_congr rfl fun e _ => ?_
  rw [nat2_lt W e f]
  refine congrArg (· * W (ix2 e f)) ?_
  exact (nat2_lt B (⟨128 * b.val + j.val, by omega⟩ : Fin 256) e).trans (hB e _ rfl)

/-- The activations, from any arrays that agree with the given ones. -/
theorem gel_eq (B : S256x2880.Idx → EReal) (A : S2x128x2880.Idx → EReal) (W : S2880x7680.Idx → EReal) (S : S2x128.Idx → EReal) (SF BF : S7680.Idx → EReal) (b : Fin 2) (j : Fin 128) (f : Fin 7680)
    (hB : ∀ (e : Fin 2880) (t : Fin 256), t.val = 128 * b.val + j.val → B (ix2 t e) = A (ix3 b j e)) :
    gel B W (TSf S) SF BF (128 * b.val + j.val) f.val = act A S W SF BF b j f := by
  unfold gel act
  rw [dotN_eq B A W b j f hB, TSf_at S b j, ← nat1_idx SF (ix1 f) f.val rfl, ← nat1_idx BF (ix1 f) f.val rfl]

/-- The activations that the body computes, at the launch's arrays. -/
abbrev Gin (c : Dev nD) : ℕ → ℕ → EReal := gel (blk0 m c) (V m c main_arg2) (TSf (blk1 m c)) (V m c main_arg3) (V m c main_arg4)

theorem Gin_eq (c : Dev nD) (b : Fin 2) (j : Fin 128) (f : Fin 7680) : Gin m c (128 * b.val + j.val) f.val = act (A0 m c) (A1 m c) (A2 m c) (A3 m c) (A4 m c) b j f := by
  unfold Gin
  rw [blk1_eq, V_main_arg2, V_main_arg3, V_main_arg4]
  exact gel_eq (blk0 m c) (A0 m c) (A2 m c) (A1 m c) (A3 m c) (A4 m c) b j f (fun e t ht => blk0_apply m c b j e t ht)

theorem rm_Gin (c : Dev nD) (b : Fin 2) (j : Fin 128) : rm (Gin m c) (128 * b.val + j.val) = amax (A0 m c) (A1 m c) (A2 m c) (A3 m c) (A4 m c) b j :=
  rm_eq (Gin m c) _ (act (A0 m c) (A1 m c) (A2 m c) (A3 m c) (A4 m c) b j) (Gin_eq m c b j)

/-- Whatever the scratch held, the body leaves these codes. -/
theorem left_codes (c : Dev nD) (W : (b : Ref sig .tc) → Buf (Elt Ideal) ((c : Thread nD τ).loc b)) (h : left m c W) : W main_v1_0 = Y0 m c := by
  obtain ⟨x7, x8, f0, v, xc, t, u, sr, hW, -⟩ := h
  rw [hW]
  funext y
  obtain ⟨b, j, f, rfl⟩ : ∃ (b : Fin 2) (j : Fin 128) (f : Fin 7680), y = ix3 b j f := ⟨y 0, y 1, y 2, eq_ix3 y⟩
  have hr := fun h0 h1 h2 h3 h4 h5 h6 h7 h8 h9 h10 h11 h12 h13 h14 => body_codes c (Memref.whole cc0_stg0_0) h0 (Memref.whole cc0_stg1_0) h1 (Memref.whole main_arg2) h2 (Memref.whole main_arg3) h3 (Memref.whole main_arg4) h4 (Memref.whole main_v1_0) h5 (Memref.whole main_v1_1) h6 (Memref.whole cc0_scratch0) h7 (Memref.whole cc0_scratch1) h8 (Memref.whole cc0_scratch2) h9 (Memref.whole cc0_scratch3) h10 (Memref.whole cc0_scratch4) h11 (Memref.whole cc0_scratch5) h12 (Memref.whole cc0_scratch6) h13 (Memref.whole cc0_scratch7) h14 cc0_scoped0 cc0_scoped1 cc0_scoped2 (blk0 m c) (blk1 m c) (V m c main_arg2) (V m c main_arg3) (V m c main_arg4) (V m c main_v1_0) (V m c main_v1_1) x7 x8 f0 v xc t u sr b j f
  have hr := hr (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  have e5 : ∀ f, (Memref.whole main_v1_0).view.read (Elt Ideal) f = f := fun _ => rfl
  rw [e5] at hr
  have hg : code (Gin m c (128 * b.val + j.val) f.val) (rm (Gin m c) (128 * b.val + j.val)) = Y0 m c (ix3 b j f) := by
    rw [Gin_eq, rm_Gin]
    rfl
  exact hr.trans hg

/-- Whatever the scratch held, the body leaves these scales. -/
theorem left_scales (c : Dev nD) (W : (b : Ref sig .tc) → Buf (Elt Ideal) ((c : Thread nD τ).loc b)) (h : left m c W) : W main_v1_1 = Y1 m c := by
  obtain ⟨x7, x8, f0, v, xc, t, u, sr, -, hW⟩ := h
  rw [hW]
  funext y
  obtain ⟨b, j, rfl⟩ : ∃ (b : Fin 2) (j : Fin 128), y = ix2 b j := ⟨y 0, y 1, eq_ix2 y⟩
  have hr := fun h0 h1 h2 h3 h4 h5 h6 h7 h8 h9 h10 h11 h12 h13 h14 => body_scales c (Memref.whole cc0_stg0_0) h0 (Memref.whole cc0_stg1_0) h1 (Memref.whole main_arg2) h2 (Memref.whole main_arg3) h3 (Memref.whole main_arg4) h4 (Memref.whole main_v1_0) h5 (Memref.whole main_v1_1) h6 (Memref.whole cc0_scratch0) h7 (Memref.whole cc0_scratch1) h8 (Memref.whole cc0_scratch2) h9 (Memref.whole cc0_scratch3) h10 (Memref.whole cc0_scratch4) h11 (Memref.whole cc0_scratch5) h12 (Memref.whole cc0_scratch6) h13 (Memref.whole cc0_scratch7) h14 cc0_scoped0 cc0_scoped1 cc0_scoped2 (blk0 m c) (blk1 m c) (V m c main_arg2) (V m c main_arg3) (V m c main_arg4) (V m c main_v1_0) (V m c main_v1_1) x7 x8 f0 v xc t u sr b j
  have hr := hr (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
  have e6 : ∀ f, (Memref.whole main_v1_1).view.read (Elt Ideal) f = f := fun _ => rfl
  rw [e6] at hr
  have hg : sc (rm (Gin m c) (128 * b.val + j.val)) = Y1 m c (ix2 b j) := by
    rw [rm_Gin]
    rfl
  exact hr.trans hg

end Cert.UpIdeal.Hand

namespace Cert.Hand

open Idealize.ShloMosaic Idealize.ShloMosaic.TcCoe Idealize.SL Idealize.SL.Sem

/-- Both programs leave the same two arrays. -/
theorem algebraicUp : @Cert.algebraic_UpIdeal_UpReferenceIdeal Cert.UpIdeal.Gen.facts Cert.UpReferenceIdeal.Gen.facts := by
  intro m g m' g' _ hm
  refine ⟨Cert.UpIdeal.Hand.Y0 m, Cert.UpIdeal.Hand.Y1 m, Cert.UpIdeal.Hand.run_value m g (Cert.UpIdeal.Hand.Y0 m) (Cert.UpIdeal.Hand.Y1 m)
    (fun c W h => ⟨Cert.UpIdeal.Hand.left_codes m c W h, Cert.UpIdeal.Hand.left_scales m c W h⟩), ?_⟩
  refine (θ_run Cert.UpReferenceIdeal.defs _ _).mono (fun r h c => ⟨?_, ?_, (h c).2.2⟩) (Cert.UpReferenceIdeal.Hand.run m' g')
  · refine (h c).1.trans ?_
    obtain ⟨e0, e1, e2, e3, e4⟩ := hm c
    show _ = Cert.UpQuant.codes _ _ _ _ _
    rw [e0, e1, e2, e3, e4]
  · refine (h c).2.1.trans ?_
    obtain ⟨e0, e1, e2, e3, e4⟩ := hm c
    show _ = Cert.UpQuant.scales _ _ _ _ _
    rw [e0, e1, e2, e3, e4]

end Cert.Hand

end
-- ==== Proof.lean ====
/-
  The proof of `Cert.Claim` (Defs.lean). Two slices: the second feed-forward projection (`Kernel`) and the first
  (`Up`). The six frames, the two `preserves` (no rewrite was taken), and the two `algebraic`: each slice and its
  reference leave the same arrays over the extended reals.

  The second projection:
    Proof/Panels.lean    the weight arena: the thirty transfers that fill it, the three counted loops and their invariants
    Proof/Body.lean      the body from its arguments to the two outgoing copies of the result
    Proof/Launch.lean    the call around the body, and the frame
    Proof/PanelsIdeal.lean, BodyIdeal.lean, LaunchIdeal.lean   the same for the idealized program
    Proof/Trips.lean     what the accumulators hold after a trip over six panels
    Proof/Fin.lean       one stored block: the last panels, the scales, the bias, the residual and the padding mask
    Proof/Rows3.lean     a trip of the last loop, over 768 rows
    Proof/Tail.lean      the remaining rows, and the whole outgoing array
    Proof/Out.lean       the two outgoing copies
    Proof/RefValue.lean  the reference's run and its value
    Proof/Algebraic.lean the equation of the two

  The first projection:
    Proof/UpPanels.lean, UpBody.lean, UpLaunch.lean and their …Ideal   the copies, the body and the frame
    Proof/UpSums.lean    the sums over the row blocks of a panel, and one block of activations
    Proof/UpTripA.lean, UpTripB.lean, UpTripC.lean, UpTrips.lean   a trip over six panels, and all of them
    Proof/UpQuant.lean   the exponent, the scale, the codes, and the two arrays as plain formulas
    Proof/UpTail.lean    the greatest magnitudes, the scales and the codes once every activation is there
    Proof/UpOut.lean     the three outgoing copies
    Proof/UpRefValue.lean  the reference's run and its values
    Proof/UpAlgebraic.lean the equation of the two
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Up.Frame
public import proofs.«01_k».proof.Proof.Gen.Up.Skeleton
public import proofs.«01_k».proof.Proof.Gen.UpIdeal.Skeleton
public import proofs.«01_k».proof.Proof.Gen.UpIdeal.Frame
public import proofs.«01_k».proof.Proof.Gen.UpReferenceIdeal.Frame
public import proofs.«01_k».proof.Proof.Launch
public import proofs.«01_k».proof.Proof.LaunchIdeal
public import proofs.«01_k».proof.Proof.Algebraic
public import proofs.«01_k».proof.Proof.UpLaunch
public import proofs.«01_k».proof.Proof.UpLaunchIdeal
public import proofs.«01_k».proof.Proof.UpAlgebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    fun m g _ => Cert.Kernel.Hand.frame m g, fun m g _ => Cert.KernelIdeal.Hand.frame m g,
    fun m g _ => Cert.ReferenceIdeal.Gen.frame m g,
    fun m g _ => Cert.Up.Hand.frame m g, fun m g _ => Cert.UpIdeal.Hand.frame m g,
    fun m g _ => Cert.UpReferenceIdeal.Gen.frame m g,
    trivial, Cert.Hand.algebraic, trivial, Cert.Hand.algebraicUp⟩

end Cert.Proof

end
